-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)) (v6 : (c : Dev Cert.Kernel2Ideal.nD) → Buf (Elt Ideal) ((c.tc : Thread Cert.Kernel2Ideal.nD Cert.Kernel2Ideal.τ).loc Cert.Kernel2Ideal.main_v2_6)) (v7 : (c : Dev Cert.Kernel2Ideal.nD) → Buf (Elt Ideal) ((c.tc : Thread Cert.Kernel2Ideal.nD Cert.Kernel2Ideal.τ).loc Cert.Kernel2Ideal.main_v2_7)) (v8 : (c : Dev Cert.Kernel2Ideal.nD) → Buf (Elt Ideal) ((c.tc : Thread Cert.Kernel2Ideal.nD Cert.Kernel2Ideal.τ).loc Cert.Kernel2Ideal.main_v2_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_v2_6) = v6 c
          ∧ r.2.mem ((c.tc : Thread Cert.Kernel2Ideal.nD Cert.Kernel2Ideal.τ).loc Cert.Kernel2Ideal.main_v2_7) = v7 c
          ∧ r.2.mem ((c.tc : Thread Cert.Kernel2Ideal.nD Cert.Kernel2Ideal.τ).loc Cert.Kernel2Ideal.main_v2_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_v21) = v7 c
          ∧ r.2.mem ((c.tc : Thread Cert.Reference2Ideal.nD Cert.Reference2Ideal.τ).loc Cert.Reference2Ideal.main_v22) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v148) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S32768x512 : Shape := ⟨2, ![32768, 512]⟩
abbrev S32768x128 : Shape := ⟨2, ![32768, 128]⟩
abbrev S4096x64 : Shape := ⟨2, ![4096, 64]⟩
abbrev S64 : Shape := ⟨1, ![64]⟩
abbrev S_ : Shape := ⟨0, ![]⟩

class Facts : Prop where
  bcast_S_S32768x512 : S_.BroadcastsInDim S32768x512 (![] : Fin 0 → Fin S32768x512.rank)
  bcast_S_S32768x128 : S_.BroadcastsInDim S32768x128 (![] : Fin 0 → Fin S32768x128.rank)
  bcast_S_S4096x64 : S_.BroadcastsInDim S4096x64 (![] : Fin 0 → Fin S4096x64.rank)
  bcast_S_S64 : S_.BroadcastsInDim S64 (![] : Fin 0 → Fin S64.rank)

variable [Facts]

def fn {F : FTy → Type} [FloatOps F] (main_arg0 : FVec F S32768x512 .f32) (main_arg1 : FVec F S32768x128 .f32) (main_arg2 : FVec F S32768x128 .f32) (main_arg3 : FVec F S4096x64 .f32) (main_arg4 : FVec F S4096x64 .f32) (main_arg5 : FVec F S64 .f32) (main_arg6 : FVec F S64 .f32) : IVec S32768x512 1 × IVec S32768x128 1 × IVec S4096x64 1 × IVec S4096x64 1 × IVec S64 1 × IVec S64 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x128 .f32 := Host.absf main_arg1
  let main_cst_0 : FVec F S_ .f32 := constant S_ .f32 0x7F800000#32
  let main_v4 : FVec F S32768x128 .f32 := broadcastInDim S32768x128 ![] bcast_S_S32768x128 main_cst_0
  let main_v5 : IVec S32768x128 1 := cmpf .olt main_v3 main_v4
  let main_v6 : FVec F S4096x64 .f32 := Host.absf main_arg3
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x64 .f32 := Host.absf main_arg4
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg6
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Pre_finite5.lean ====
abbrev S32768x256 : Shape := ⟨2, ![32768, 256]⟩
abbrev S4096x64 : Shape := ⟨2, ![4096, 64]⟩
abbrev S2x4 : Shape := ⟨2, ![2, 4]⟩
abbrev S256 : Shape := ⟨1, ![256]⟩
abbrev S_ : Shape := ⟨0, ![]⟩

class Facts : Prop where
  bcast_S_S32768x256 : S_.BroadcastsInDim S32768x256 (![] : Fin 0 → Fin S32768x256.rank)
  bcast_S_S4096x64 : S_.BroadcastsInDim S4096x64 (![] : Fin 0 → Fin S4096x64.rank)
  bcast_S_S2x4 : S_.BroadcastsInDim S2x4 (![] : Fin 0 → Fin S2x4.rank)

variable [Facts]

def fn {F : FTy → Type} [FloatOps F] (main_arg0 : FVec F S32768x256 .f32) (main_arg1 : FVec F S32768x256 .f32) (main_arg2 : FVec F S32768x256 .f32) (main_arg3 : FVec F S32768x256 .f32) (main_arg4 : FVec F S4096x64 .f32) (main_arg5 : FVec F S4096x64 .f32) (main_arg6 : FVec F S2x4 .f32) (main_arg7 : FVec F S256 .f32) : IVec S32768x256 1 × IVec S32768x256 1 × IVec S32768x256 1 × IVec S4096x64 1 × IVec S4096x64 1 × IVec S2x4 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_v3 : FVec F S32768x256 .f32 := Host.absf main_arg1
  let main_cst_0 : FVec F S_ .f32 := constant S_ .f32 0x7F800000#32
  let main_v4 : FVec F S32768x256 .f32 := broadcastInDim S32768x256 ![] bcast_S_S32768x256 main_cst_0
  let main_v5 : IVec S32768x256 1 := cmpf .olt main_v3 main_v4
  let main_v6 : FVec F S32768x256 .f32 := Host.absf main_arg2
  let main_cst_1 : FVec F S_ .f32 := constant S_ .f32 0x7F800000#32
  let main_v7 : FVec F S32768x256 .f32 := broadcastInDim S32768x256 ![] bcast_S_S32768x256 main_cst_1
  let main_v8 : IVec S32768x256 1 := cmpf .olt main_v6 main_v7
  let main_v9 : FVec F S4096x64 .f32 := Host.absf main_arg4
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x64 .f32 := Host.absf main_arg5
  let main_cst_3 : FVec F S_ .f32 := constant S_ .f32 0x7F800000#32
  let main_v13 : FVec F S4096x64 .f32 := broadcastInDim S4096x64 ![] bcast_S_S4096x64 main_cst_3
  let main_v14 : IVec S4096x64 1 := cmpf .olt main_v12 main_v13
  let main_v15 : FVec F S2x4 .f32 := Host.absf main_arg6
  let main_cst_4 : FVec F S_ .f32 := constant S_ .f32 0x7F800000#32
  let main_v16 : FVec F S2x4 .f32 := broadcastInDim S2x4 ![] bcast_S_S2x4 main_cst_4
  let main_v17 : IVec S2x4 1 := cmpf .olt main_v15 main_v16
  (main_v2, main_v5, main_v8, main_v11, main_v14, main_v17)
-- ==== Kernel.lean ====
abbrev S32768x512 : Shape := ⟨2, ![32768, 512]⟩
abbrev S32768x128 : Shape := ⟨2, ![32768, 128]⟩
abbrev S4096x64 : Shape := ⟨2, ![4096, 64]⟩
abbrev S64 : Shape := ⟨1, ![64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S512 : Shape := ⟨1, ![512]⟩
abbrev S_ : Shape := ⟨0, ![]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S256 : Shape := ⟨1, ![256]⟩
abbrev S1x256 : Shape := ⟨2, ![1, 256]⟩
abbrev S128x256 : Shape := ⟨2, ![128, 256]⟩
abbrev S1x64 : Shape := ⟨2, ![1, 64]⟩
abbrev S8x64 : Shape := ⟨2, ![8, 64]⟩
abbrev S2x64 : Shape := ⟨2, ![2, 64]⟩
abbrev S1x128 : Shape := ⟨2, ![1, 128]⟩
abbrev S512x128 : Shape := ⟨2, ![512, 128]⟩
abbrev S8x512x4096 : Shape := ⟨3, ![8, 512, 4096]⟩
abbrev S32768x256 : Shape := ⟨2, ![32768, 256]⟩
abbrev S512x512 : Shape := ⟨2, ![512, 512]⟩
abbrev S1x512x512 : Shape := ⟨3, ![1, 512, 512]⟩
abbrev S512x256 : Shape := ⟨2, ![512, 256]⟩
abbrev S128x128 : Shape := ⟨2, ![128, 128]⟩
abbrev S256x256 : Shape := ⟨2, ![256, 256]⟩
abbrev S1x256x4096 : Shape := ⟨3, ![1, 256, 4096]⟩
abbrev S4096x128 : Shape := ⟨2, ![4096, 128]⟩
abbrev S1024x256 : Shape := ⟨2, ![1024, 256]⟩
abbrev S1024x1 : Shape := ⟨2, ![1024, 1]⟩
abbrev S1024x128 : Shape := ⟨2, ![1024, 128]⟩
abbrev S1x256x1024 : Shape := ⟨3, ![1, 256, 1024]⟩
abbrev S256x1024 : Shape := ⟨2, ![256, 1024]⟩
abbrev S1024x1024 : Shape := ⟨2, ![1024, 1024]⟩
abbrev S1024 : Shape := ⟨1, ![1024]⟩
abbrev S256x128 : Shape := ⟨2, ![256, 128]⟩

abbrev nBuf : Space → Nat
  | .hbm => 159
  | .vmem => 28
  | .smem => 0
  | _ => 0

abbrev hbmTy0_0 (i : Nat) : BufTy := match i % 128 with
  | 0 => ⟨S32768x512, .f32⟩
  | 1 => ⟨S32768x128, .f32⟩
  | 2 => ⟨S32768x128, .f32⟩
  | 3 => ⟨S4096x64, .f32⟩
  | 4 => ⟨S4096x64, .f32⟩
  | 5 => ⟨S64, .f32⟩
  | 6 => ⟨S64, .f32⟩
  | 7 => ⟨S1x4096x1x64, .f32⟩
  | 8 => ⟨S1x4096x8x64, .f32⟩
  | 9 => ⟨S4096x512, .f32⟩
  | 10 => ⟨S1x4096x1x64, .f32⟩
  | 11 => ⟨S1x4096x8x64, .f32⟩
  | 12 => ⟨S4096x512, .f32⟩
  | 13 => ⟨S512, .i32⟩
  | 14 => ⟨S_, .i32⟩
  | 15 => ⟨S_, .i32⟩
  | 16 => ⟨S512, .i32⟩
  | 17 => ⟨S512, .i32⟩
  | 18 => ⟨S512, .i32⟩
  | 19 => ⟨S_, .i32⟩
  | 20 => ⟨S512, .i32⟩
  | 21 => ⟨S512, .i1⟩
  | 22 => ⟨S512, .i32⟩
  | 23 => ⟨S512, .i32⟩
  | 24 => ⟨S_, .i32⟩
  | 25 => ⟨S512, .i32⟩
  | 26 => ⟨S512, .i1⟩
  | 27 => ⟨S512, .i1⟩
  | 28 => ⟨S_, .i32⟩
  | 29 => ⟨S512, .i32⟩
  | 30 => ⟨S512, .i32⟩
  | 31 => ⟨S512, .i32⟩
  | 32 => ⟨S_, .i32⟩
  | 33 => ⟨S512, .i32⟩
  | 34 => ⟨S512, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S512, .i32⟩
  | 42 => ⟨S512, .i32⟩
  | 43 => ⟨S_, .i32⟩
  | 44 => ⟨S512, .i32⟩
  | 45 => ⟨S512, .i1⟩
  | 46 => ⟨S_, .i32⟩
  | 47 => ⟨S512, .i32⟩
  | 48 => ⟨S512, .i1⟩
  | 49 => ⟨S_, .i32⟩
  | 50 => ⟨S_, .i1⟩
  | 51 => ⟨S512, .i1⟩
  | 52 => ⟨S512, .i1⟩
  | 53 => ⟨S512, .i1⟩
  | 54 => ⟨S512, .i32⟩
  | 55 => ⟨S512, .i32⟩
  | 56 => ⟨S512, .i32⟩
  | 57 => ⟨S512, .i32⟩
  | 58 => ⟨S128, .i32⟩
  | 59 => ⟨S128x1, .i32⟩
  | 60 => ⟨S1x512, .i32⟩
  | 61 => ⟨S128x512, .i32⟩
  | 62 => ⟨S128x512, .i32⟩
  | 63 => ⟨S128x512, .i1⟩
  | 64 => ⟨S128x512, .bf16⟩
  | 65 => ⟨S256, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S256, .i32⟩
  | 73 => ⟨S256, .i32⟩
  | 74 => ⟨S_, .i32⟩
  | 75 => ⟨S256, .i32⟩
  | 76 => ⟨S256, .i1⟩
  | 77 => ⟨S_, .i32⟩
  | 78 => ⟨S256, .i32⟩
  | 79 => ⟨S256, .i1⟩
  | 80 => ⟨S_, .i32⟩
  | 81 => ⟨S_, .i1⟩
  | 82 => ⟨S256, .i1⟩
  | 83 => ⟨S256, .i1⟩
  | 84 => ⟨S256, .i1⟩
  | 85 => ⟨S256, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S_, .i32⟩
  | 93 => ⟨S256, .i32⟩
  | 94 => ⟨S256, .i32⟩
  | 95 => ⟨S256, .i32⟩
  | 96 => ⟨S_, .i32⟩
  | 97 => ⟨S256, .i32⟩
  | 98 => ⟨S256, .i1⟩
  | 99 => ⟨S256, .i32⟩
  | 100 => ⟨S256, .i32⟩
  | 101 => ⟨S_, .i32⟩
  | 102 => ⟨S256, .i32⟩
  | 103 => ⟨S256, .i1⟩
  | 104 => ⟨S256, .i1⟩
  | 105 => ⟨S_, .i32⟩
  | 106 => ⟨S256, .i32⟩
  | 107 => ⟨S256, .i32⟩
  | 108 => ⟨S256, .i32⟩
  | 109 => ⟨S_, .i32⟩
  | 110 => ⟨S256, .i32⟩
  | 111 => ⟨S256, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S256, .i32⟩
  | 119 => ⟨S256, .i32⟩
  | 120 => ⟨S_, .i32⟩
  | 121 => ⟨S256, .i32⟩
  | 122 => ⟨S256, .i1⟩
  | 123 => ⟨S_, .i32⟩
  | 124 => ⟨S256, .i32⟩
  | 125 => ⟨S256, .i1⟩
  | 126 => ⟨S_, .i32⟩
  | 127 => ⟨S_, .i1⟩
  | _ => ⟨S32768x512, .f32⟩

abbrev hbmTy0_1 (i : Nat) : BufTy := match i % 128 with
  | 0 => ⟨S256, .i1⟩
  | 1 => ⟨S256, .i1⟩
  | 2 => ⟨S256, .i1⟩
  | 3 => ⟨S256, .i32⟩
  | 4 => ⟨S256, .i32⟩
  | 5 => ⟨S256, .i32⟩
  | 6 => ⟨S256, .i32⟩
  | 7 => ⟨S_, .i32⟩
  | 8 => ⟨S_, .i32⟩
  | 9 => ⟨S256, .i32⟩
  | 10 => ⟨S256, .i32⟩
  | 11 => ⟨S128, .i32⟩
  | 12 => ⟨S128x1, .i32⟩
  | 13 => ⟨S1x256, .i32⟩
  | 14 => ⟨S128x256, .i32⟩
  | 15 => ⟨S128x256, .i32⟩
  | 16 => ⟨S128x256, .i1⟩
  | 17 => ⟨S128x256, .bf16⟩
  | 18 => ⟨S1x64, .f32⟩
  | 19 => ⟨S8x64, .f32⟩
  | 20 => ⟨S512, .f32⟩
  | 21 => ⟨S1x512, .f32⟩
  | 22 => ⟨S1x64, .f32⟩
  | 23 => ⟨S2x64, .f32⟩
  | 24 => ⟨S128, .f32⟩
  | 25 => ⟨S1x128, .f32⟩
  | 26 => ⟨S512x128, .bf16⟩
  | 27 => ⟨S32768x512, .bf16⟩
  | 28 => ⟨S8x512x4096, .bf16⟩
  | 29 => ⟨S32768x256, .bf16⟩
  | 30 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x128, .f32⟩
  | .local _ .vmem, ⟨12, _⟩ => ⟨S128x256, .bf16⟩
  | .local _ .vmem, ⟨13, _⟩ => ⟨S512x128, .bf16⟩
  | .local _ .vmem, ⟨14, _⟩ => ⟨S512x512, .bf16⟩
  | .local _ .vmem, ⟨15, _⟩ => ⟨S512x512, .bf16⟩
  | .local _ .vmem, ⟨16, _⟩ => ⟨S1x512x512, .bf16⟩
  | .local _ .vmem, ⟨17, _⟩ => ⟨S1x512x512, .bf16⟩
  | .local _ .vmem, ⟨18, _⟩ => ⟨S512x256, .bf16⟩
  | .local _ .vmem, ⟨19, _⟩ => ⟨S512x256, .bf16⟩
  | .local _ .vmem, ⟨20, _⟩ => ⟨S256x256, .bf16⟩
  | .local _ .vmem, ⟨21, _⟩ => ⟨S256x256, .bf16⟩
  | .local _ .vmem, ⟨22, _⟩ => ⟨S1x256x4096, .bf16⟩
  | .local _ .vmem, ⟨23, _⟩ => ⟨S1x256x4096, .bf16⟩
  | .local _ .vmem, ⟨24, _⟩ => ⟨S4096x128, .bf16⟩
  | .local _ .vmem, ⟨25, _⟩ => ⟨S4096x128, .bf16⟩
  | .local _ .vmem, ⟨26, _⟩ => ⟨S256x256, .f32⟩
  | .local _ .vmem, ⟨27, _⟩ => ⟨S256x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_0 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_c_2 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v20 : Ref sig .tc := ⟨.hbm, 87, rfl⟩
abbrev main_c_3 : Ref sig .tc := ⟨.hbm, 88, rfl⟩
abbrev main_v21 : Ref sig .tc := ⟨.hbm, 89, rfl⟩
abbrev main_v22 : Ref sig .tc := ⟨.hbm, 90, rfl⟩
abbrev main_c_4 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_c : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_0 : Ref sig .tc := ⟨.hbm, 105, rfl⟩
abbrev main_call3_v12 : Ref sig .tc := ⟨.hbm, 106, rfl⟩
abbrev main_call3_v13 : Ref sig .tc := ⟨.hbm, 107, rfl⟩
abbrev main_v23 : Ref sig .tc := ⟨.hbm, 108, rfl⟩
abbrev main_c_5 : Ref sig .tc := ⟨.hbm, 109, rfl⟩
abbrev main_v24 : Ref sig .tc := ⟨.hbm, 110, rfl⟩
abbrev main_v25 : Ref sig .tc := ⟨.hbm, 111, rfl⟩
abbrev main_c_6 : Ref sig .tc := ⟨.hbm, 112, rfl⟩
abbrev main_call4_v0 : Ref sig .tc := ⟨.hbm, 113, rfl⟩
abbrev main_call4_c : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_c_1 : Ref sig .tc := ⟨.hbm, 120, rfl⟩
abbrev main_call4_v5 : Ref sig .tc := ⟨.hbm, 121, rfl⟩
abbrev main_call4_v6 : Ref sig .tc := ⟨.hbm, 122, rfl⟩
abbrev main_call4_c_2 : Ref sig .tc := ⟨.hbm, 123, rfl⟩
abbrev main_call4_v7 : Ref sig .tc := ⟨.hbm, 124, rfl⟩
abbrev main_call4_v8 : Ref sig .tc := ⟨.hbm, 125, rfl⟩
abbrev main_call4_c_3 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_v26 : Ref sig .tc := ⟨.hbm, 133, rfl⟩
abbrev main_v27 : Ref sig .tc := ⟨.hbm, 134, rfl⟩
abbrev main_c_7 : Ref sig .tc := ⟨.hbm, 135, rfl⟩
abbrev main_call5_v0 : Ref sig .tc := ⟨.hbm, 136, rfl⟩
abbrev main_call5_v1 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_v41 : Ref sig .tc := ⟨.hbm, 151, rfl⟩
abbrev main_v42 : Ref sig .tc := ⟨.hbm, 152, rfl⟩
abbrev main_v43 : Ref sig .tc := ⟨.hbm, 153, rfl⟩
abbrev main_v44 : Ref sig .tc := ⟨.hbm, 154, rfl⟩
abbrev main_v45_0 : Ref sig .tc := ⟨.hbm, 155, rfl⟩
abbrev main_v45_1 : Ref sig .tc := ⟨.hbm, 156, rfl⟩
abbrev main_v45_2 : Ref sig .tc := ⟨.hbm, 157, rfl⟩
abbrev main_v46 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![8, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S32768x512 : Shape := ⟨2, ![32768, 512]⟩
abbrev S32768x128 : Shape := ⟨2, ![32768, 128]⟩
abbrev S4096x64 : Shape := ⟨2, ![4096, 64]⟩
abbrev S64 : Shape := ⟨1, ![64]⟩
abbrev S8x4096x2x4x64 : Shape := ⟨5, ![8, 4096, 2, 4, 64]⟩
abbrev S_ : Shape := ⟨0, ![]⟩
abbrev S8x4096x2x4 : Shape := ⟨4, ![8, 4096, 2, 4]⟩
abbrev S8x4096x2x4x1 : Shape := ⟨5, ![8, 4096, 2, 4, 1]⟩
abbrev S1x1x1x1x64 : Shape := ⟨5, ![1, 1, 1, 1, 64]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S4096x1x1x64 : Shape := ⟨4, ![4096, 1, 1, 64]⟩
abbrev S1x4096x1x1x64 : Shape := ⟨5, ![1, 4096, 1, 1, 64]⟩
abbrev S8x4096x2x4x32 : Shape := ⟨5, ![8, 4096, 2, 4, 32]⟩
abbrev S8x4096x2x4x16 : Shape := ⟨5, ![8, 4096, 2, 4, 16]⟩
abbrev S4096x1x64 : Shape := ⟨3, ![4096, 1, 64]⟩
abbrev S1x4096x1x64 : Shape := ⟨4, ![1, 4096, 1, 64]⟩
abbrev S8x4096x2x32 : Shape := ⟨4, ![8, 4096, 2, 32]⟩
abbrev S8x4096x2x16 : Shape := ⟨4, ![8, 4096, 2, 16]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 104
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S4096x64, .f32⟩
  | .hbm, ⟨4, _⟩ => ⟨S4096x64, .f32⟩
  | .hbm, ⟨5, _⟩ => ⟨S64, .f32⟩
  | .hbm, ⟨6, _⟩ => ⟨S64, .f32⟩
  | .hbm, ⟨7, _⟩ => ⟨S8x4096x2x4x64, .f32⟩
  | .hbm, ⟨8, _⟩ => ⟨S8x4096x2x4x64, .f32⟩
  | .hbm, ⟨9, _⟩ => ⟨S_, .f32⟩
  | .hbm, ⟨10, _⟩ => ⟨S8x4096x2x4, .f32⟩
  | .hbm, ⟨11, _⟩ => ⟨S8x4096x2x4x1, .f32⟩
  | .hbm, ⟨12, _⟩ => ⟨S_, .f32⟩
  | .hbm, ⟨13, _⟩ => ⟨S8x4096x2x4x1, .f32⟩
  | .hbm, ⟨14, _⟩ => ⟨S8x4096x2x4x1, .f32⟩
  | .hbm, ⟨15, _⟩ => ⟨S_, .f32⟩
  | .hbm, ⟨16, _⟩ => ⟨S8x4096x2x4x1, .f32⟩
  | .hbm, ⟨17, _⟩ => ⟨S8x4096x2x4x1, .f32⟩
  | .hbm, ⟨18, _⟩ => ⟨S8x4096x2x4x1, .f32⟩
  | .hbm, ⟨19, _⟩ => ⟨S8x4096x2x4x64, .f32⟩
  | .hbm, ⟨20, _⟩ => ⟨S8x4096x2x4x64, .f32⟩
  | .hbm, ⟨21, _⟩ => ⟨S1x1x1x1x64, .f32⟩
  | .hbm, ⟨22, _⟩ => ⟨S8x4096x2x4x64, .f32⟩
  | .hbm, ⟨23, _⟩ => ⟨S8x4096x2x4x64, .f32⟩
  | .hbm, ⟨24, _⟩ => ⟨S8x4096x2x64, .f32⟩
  | .hbm, ⟨25, _⟩ => ⟨S8x4096x2x64, .f32⟩
  | .hbm, ⟨26, _⟩ => ⟨S_, .f32⟩
  | .hbm, ⟨27, _⟩ => ⟨S8x4096x2, .f32⟩
  | .hbm, ⟨28, _⟩ => ⟨S8x4096x2x1, .f32⟩
  | .hbm, ⟨29, _⟩ => ⟨S_, .f32⟩
  | .hbm, ⟨30, _⟩ => ⟨S8x4096x2x1, .f32⟩
  | .hbm, ⟨31, _⟩ => ⟨S8x4096x2x1, .f32⟩
  | .hbm, ⟨32, _⟩ => ⟨S_, .f32⟩
  | .hbm, ⟨33, _⟩ => ⟨S8x4096x2x1, .f32⟩
  | .hbm, ⟨34, _⟩ => ⟨S8x4096x2x1, .f32⟩
  | .hbm, ⟨35, _⟩ => ⟨S8x4096x2x1, .f32⟩
  | .hbm, ⟨36, _⟩ => ⟨S8x4096x2x64, .f32⟩
  | .hbm, ⟨37, _⟩ => ⟨S8x4096x2x64, .f32⟩
  | .hbm, ⟨38, _⟩ => ⟨S1x1x1x64, .f32⟩
  | .hbm, ⟨39, _⟩ => ⟨S8x4096x2x64, .f32⟩
  | .hbm, ⟨40, _⟩ => ⟨S8x4096x2x64, .f32⟩
  | .hbm, ⟨41, _⟩ => ⟨S8x4096x2x64, .f32⟩
  | .hbm, ⟨42, _⟩ => ⟨S4096x1x1x64, .f32⟩
  | .hbm, ⟨43, _⟩ => ⟨S1x4096x1x1x64, .f32⟩
  | .hbm, ⟨44, _⟩ => ⟨S8x4096x2x4x64, .f32⟩
  | .hbm, ⟨45, _⟩ => ⟨S8x4096x2x4x64, .f32⟩
  | .hbm, ⟨46, _⟩ => ⟨S8x4096x2x4x32, .f32⟩
  | .hbm, ⟨47, _⟩ => ⟨S8x4096x2x4x32, .f32⟩
  | .hbm, ⟨48, _⟩ => ⟨S8x4096x2x4x16, .f32⟩
  | .hbm, ⟨49, _⟩ => ⟨S8x4096x2x4x16, .f32⟩
  | .hbm, ⟨50, _⟩ => ⟨S8x4096x2x4x16, .f32⟩
  | .hbm, ⟨51, _⟩ => ⟨S8x4096x2x4x32, .f32⟩
  | .hbm, ⟨52, _⟩ => ⟨S8x4096x2x4x16, .f32⟩
  | .hbm, ⟨53, _⟩ => ⟨S8x4096x2x4x16, .f32⟩
  | .hbm, ⟨54, _⟩ => ⟨S8x4096x2x4x16, .f32⟩
  | .hbm, ⟨55, _⟩ => ⟨S8x4096x2x4x32, .f32⟩
  | .hbm, ⟨56, _⟩ => ⟨S8x4096x2x4x64, .f32⟩
  | .hbm, ⟨57, _⟩ => ⟨S4096x1x1x64, .f32⟩
  | .hbm, ⟨58, _⟩ => ⟨S1x4096x1x1x64, .f32⟩
  | .hbm, ⟨59, _⟩ => ⟨S8x4096x2x4x64, .f32⟩
  | .hbm, ⟨60, _⟩ => ⟨S8x4096x2x4x64, .f32⟩
  | .hbm, ⟨61, _⟩ => ⟨S8x4096x2x4x64, .f32⟩
  | .hbm, ⟨62, _⟩ => ⟨S4096x1x64, .f32⟩
  | .hbm, ⟨63, _⟩ => ⟨S1x4096x1x64, .f32⟩
  | .hbm, ⟨64, _⟩ => ⟨S8x4096x2x64, .f32⟩
  | .hbm, ⟨65, _⟩ => ⟨S8x4096x2x64, .f32⟩
  | .hbm, ⟨66, _⟩ => ⟨S8x4096x2x32, .f32⟩
  | .hbm, ⟨67, _⟩ => ⟨S8x4096x2x32, .f32⟩
  | .hbm, ⟨68, _⟩ => ⟨S8x4096x2x16, .f32⟩
  | .hbm, ⟨69, _⟩ => ⟨S8x4096x2x16, .f32⟩
  | .hbm, ⟨70, _⟩ => ⟨S8x4096x2x16, .f32⟩
  | .hbm, ⟨71, _⟩ => ⟨S8x4096x2x32, .f32⟩
  | .hbm, ⟨72, _⟩ => ⟨S8x4096x2x16, .f32⟩
  | .hbm, ⟨73, _⟩ => ⟨S8x4096x2x16, .f32⟩
  | .hbm, ⟨74, _⟩ => ⟨S8x4096x2x16, .f32⟩
  | .hbm, ⟨75, _⟩ => ⟨S8x4096x2x32, .f32⟩
  | .hbm, ⟨76, _⟩ => ⟨S8x4096x2x64, .f32⟩
  | .hbm, ⟨77, _⟩ => ⟨S4096x1x64, .f32⟩
  | .hbm, ⟨78, _⟩ => ⟨S1x4096x1x64, .f32⟩
  | .hbm, ⟨79, _⟩ => ⟨S8x4096x2x64, .f32⟩
  | .hbm, ⟨80, _⟩ => ⟨S8x4096x2x64, .f32⟩
  | .hbm, ⟨81, _⟩ => ⟨S8x4096x2x64, .f32⟩
  | .hbm, ⟨82, _⟩ => ⟨S8x2x4096x4096x4, .f32⟩
  | .hbm, ⟨83, _⟩ => ⟨S8x2x4x4096x4096, .f32⟩
  | .hbm, ⟨84, _⟩ => ⟨S_, .f32⟩
  | .hbm, ⟨85, _⟩ => ⟨S8x2x4x4096x4096, .f32⟩
  | .hbm, ⟨86, _⟩ => ⟨S8x2x4x4096x4096, .f32⟩
  | .hbm, ⟨87, _⟩ => ⟨S_, .f32⟩
  | .hbm, ⟨88, _⟩ => ⟨S8x2x4x4096, .f32⟩
  | .hbm, ⟨89, _⟩ => ⟨S_, .f32⟩
  | .hbm, ⟨90, _⟩ => ⟨S8x2x4x4096, .f32⟩
  | .hbm, ⟨91, _⟩ => ⟨S8x2x4x4096, .f32⟩
  | .hbm, ⟨92, _⟩ => ⟨S8x2x4x4096x1, .f32⟩
  | .hbm, ⟨93, _⟩ => ⟨S8x2x4x4096x4096, .f32⟩
  | .hbm, ⟨94, _⟩ => ⟨S8x2x4x4096x4096, .f32⟩
  | .hbm, ⟨95, _⟩ => ⟨S8x2x4x4096x4096, .f32⟩
  | .hbm, ⟨96, _⟩ => ⟨S_, .f32⟩
  | .hbm, ⟨97, _⟩ => ⟨S8x2x4x4096, .f32⟩
  | .hbm, ⟨98, _⟩ => ⟨S8x2x4x4096x1, .f32⟩
  | .hbm, ⟨99, _⟩ => ⟨S8x2x4x4096x4096, .f32⟩
  | .hbm, ⟨100, _⟩ => ⟨S8x2x4x4096x4096, .f32⟩
  | .hbm, ⟨101, _⟩ => ⟨S8x2x64x4x4096, .f32⟩
  | .hbm, ⟨102, _⟩ => ⟨S8x4096x2x4x64, .f32⟩
  | .hbm, ⟨103, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_5 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2304 : Shape := ⟨2, ![1024, 2304]⟩
abbrev S1x1024 : Shape := ⟨2, ![1, 1024]⟩
abbrev S32768x256 : Shape := ⟨2, ![32768, 256]⟩
abbrev S32768x512 : Shape := ⟨2, ![32768, 512]⟩
abbrev S32768x128 : Shape := ⟨2, ![32768, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S1024x512 : Shape := ⟨2, ![1024, 512]⟩
abbrev S1024x128 : Shape := ⟨2, ![1024, 128]⟩

abbrev nBuf : Space → Nat
  | .hbm => 14
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2304, .f32⟩
  | .hbm, ⟨3, _⟩ => ⟨S1x1024, .f32⟩
  | .hbm, ⟨4, _⟩ => ⟨S1024x2304, .bf16⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x512, .f32⟩
  | .hbm, ⟨12, _⟩ => ⟨S32768x128, .f32⟩
  | .hbm, ⟨13, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32768x1024 : Shape := ⟨2, ![32768, 1024]⟩
abbrev S1024 : Shape := ⟨1, ![1024]⟩
abbrev S1024x2304 : Shape := ⟨2, ![1024, 2304]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2304 : Shape := ⟨2, ![32768, 2304]⟩
abbrev S32768x256 : Shape := ⟨2, ![32768, 256]⟩
abbrev S32768x512 : Shape := ⟨2, ![32768, 512]⟩
abbrev S32768x128 : Shape := ⟨2, ![32768, 128]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2304, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2304, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x512, .f32⟩
  | .hbm, ⟨27, _⟩ => ⟨S32768x128, .f32⟩
  | .hbm, ⟨28, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1024x32768 : Shape := ⟨2, ![1024, 32768]⟩
abbrev S32768x2048 : Shape := ⟨2, ![32768, 2048]⟩
abbrev S512x1024 : Shape := ⟨2, ![512, 1024]⟩
abbrev S512x256 : Shape := ⟨2, ![512, 256]⟩
abbrev S512x512 : Shape := ⟨2, ![512, 512]⟩
abbrev S1024x512 : Shape := ⟨2, ![1024, 512]⟩
abbrev S512x2048 : Shape := ⟨2, ![512, 2048]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x512, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S1024x1024, .bf16⟩
  | .hbm, ⟨8, _⟩ => ⟨S1x1024, .f32⟩
  | .hbm, ⟨9, _⟩ => ⟨S1024x2048, .bf16⟩
  | .hbm, ⟨10, _⟩ => ⟨S32768x1024, .f32⟩
  | .hbm, ⟨11, _⟩ => ⟨S1024x32768, .bf16⟩
  | .hbm, ⟨12, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S512x2048, .f32⟩
  | .local _ .vmem, ⟨16, _⟩ => ⟨S512x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x32768 : Shape := ⟨2, ![1024, 32768]⟩
abbrev S32768x2048 : Shape := ⟨2, ![32768, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x512, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S1024x32768, .f32⟩
  | .hbm, ⟨27, _⟩ => ⟨S1024x32768, .bf16⟩
  | .hbm, ⟨28, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S32768x256 : Shape := ⟨2, ![32768, 256]⟩
abbrev S4096x64 : Shape := ⟨2, ![4096, 64]⟩
abbrev S2x4 : Shape := ⟨2, ![2, 4]⟩
abbrev S256 : Shape := ⟨1, ![256]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S1x256 : Shape := ⟨2, ![1, 256]⟩
abbrev S2x4x64 : Shape := ⟨3, ![2, 4, 64]⟩
abbrev S2x256 : Shape := ⟨2, ![2, 256]⟩
abbrev S256x256 : Shape := ⟨2, ![256, 256]⟩
abbrev S4x128x128 : Shape := ⟨3, ![4, 128, 128]⟩
abbrev S128x1 : Shape := ⟨2, ![128, 1]⟩
abbrev S128x128 : Shape := ⟨2, ![128, 128]⟩
abbrev S1x1 : Shape := ⟨2, ![1, 1]⟩
abbrev S1x128x128 : Shape := ⟨3, ![1, 128, 128]⟩
abbrev S128x256 : Shape := ⟨2, ![128, 256]⟩

abbrev nBuf : Space → Nat
  | .hbm => 18
  | .vmem => 14
  | .smem => 1
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S4096x64, .f32⟩
  | .hbm, ⟨5, _⟩ => ⟨S4096x64, .f32⟩
  | .hbm, ⟨6, _⟩ => ⟨S2x4, .f32⟩
  | .hbm, ⟨7, _⟩ => ⟨S256, .f32⟩
  | .hbm, ⟨8, _⟩ => ⟨S1x4096x1x64, .f32⟩
  | .hbm, ⟨9, _⟩ => ⟨S1x4096x4x64, .f32⟩
  | .hbm, ⟨10, _⟩ => ⟨S4096x256, .f32⟩
  | .hbm, ⟨11, _⟩ => ⟨S1x4096x1x64, .f32⟩
  | .hbm, ⟨12, _⟩ => ⟨S1x4096x4x64, .f32⟩
  | .hbm, ⟨13, _⟩ => ⟨S4096x256, .f32⟩
  | .hbm, ⟨14, _⟩ => ⟨S1x256, .f32⟩
  | .hbm, ⟨15, _⟩ => ⟨S2x4x64, .f32⟩
  | .hbm, ⟨16, _⟩ => ⟨S2x256, .f32⟩
  | .hbm, ⟨17, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S256x256, .f32⟩
  | .local _ .vmem, ⟨13, _⟩ => ⟨S4x128x128, .f32⟩
  | .local _ .smem, ⟨0, _⟩ => ⟨S2x4, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_92 : BitVec 32 := 0#32
  let c32_i32_93 : BitVec 32 := 32#32
  let v272 : BitVec 32 := Scalar.addi c0_i32_92 c32_i32_93
  let c1_i32_94 : BitVec 32 := 1#32
  ⟨c0_i32_92, v272, c1_i32_94⟩
def k0_mult1 (k0_t1 : Fin k0_t1_loop.trips) : BitVec 32 :=
  let c0_i32_92 : BitVec 32 := 0#32
  let c1_i32_94 : BitVec 32 := 1#32
  let arg15 : BitVec 32 := Scf.iv c0_i32_92 c1_i32_94 k0_t1
  let c128_i32 : BitVec 32 := 128#32
  let v283 : BitVec 32 := Scalar.muli arg15 c128_i32
  v283
def k0_off1 (k0_t1 : Fin k0_t1_loop.trips) : Fin 2 → Nat :=
  let c0_i32_92 : BitVec 32 := 0#32
  let c1_i32_94 : BitVec 32 := 1#32
  let arg15 : BitVec 32 := Scf.iv c0_i32_92 c1_i32_94 k0_t1
  let c128_i32 : BitVec 32 := 128#32
  let v283 : BitVec 32 := Scalar.muli arg15 c128_i32
  let v284 : BitVec 32 := v283
  let v285 : Index := Scalar.indexCast v284
  let c0_110 : Index := 0#32
  ![v285.toNat, 0]
@[reducible] def k0_t2_loop : Scf.Loop 32 :=
  let c0_i32_99 : BitVec 32 := 0#32
  let c32_i32_100 : BitVec 32 := 32#32
  let v277 : BitVec 32 := Scalar.addi c0_i32_99 c32_i32_100
  let c1_i32_101 : BitVec 32 := 1#32
  ⟨c0_i32_99, v277, c1_i32_101⟩
def k0_mult2 (k0_t2 : Fin k0_t2_loop.trips) : BitVec 32 :=
  let c0_i32_99 : BitVec 32 := 0#32
  let c1_i32_101 : BitVec 32 := 1#32
  let arg15 : BitVec 32 := Scf.iv c0_i32_99 c1_i32_101 k0_t2
  let c128_i32 : BitVec 32 := 128#32
  let v283 : BitVec 32 := Scalar.muli arg15 c128_i32
  v283
def k0_off2 (k0_t2 : Fin k0_t2_loop.trips) : Fin 2 → Nat :=
  let c0_i32_99 : BitVec 32 := 0#32
  let c1_i32_101 : BitVec 32 := 1#32
  let arg15 : BitVec 32 := Scf.iv c0_i32_99 c1_i32_101 k0_t2
  let c128_i32 : BitVec 32 := 128#32
  let v283 : BitVec 32 := Scalar.muli arg15 c128_i32
  let v284 : BitVec 32 := v283
  let v285 : Index := Scalar.indexCast v284
  let c0_110 : Index := 0#32
  ![v285.toNat, 0]
@[reducible] def k0_t3_loop : Scf.Loop 32 :=
  let c0_i32_106 : BitVec 32 := 0#32
  let c32_i32_107 : BitVec 32 := 32#32
  let v282 : BitVec 32 := Scalar.addi c0_i32_106 c32_i32_107
  let c1_i32_108 : BitVec 32 := 1#32
  ⟨c0_i32_106, v282, c1_i32_108⟩
def k0_mult3 (k0_t3 : Fin k0_t3_loop.trips) : BitVec 32 :=
  let c31_i32 : BitVec 32 := 31#32
  let c0_i32_106 : BitVec 32 := 0#32
  let c1_i32_108 : BitVec 32 := 1#32
  let arg15 : BitVec 32 := Scf.iv c0_i32_106 c1_i32_108 k0_t3
  let v283 : BitVec 32 := Scalar.subi c31_i32 arg15
  let c128_i32 : BitVec 32 := 128#32
  let v284 : BitVec 32 := Scalar.muli v283 c128_i32
  v284
def k0_off3 (k0_t3 : Fin k0_t3_loop.trips) : Fin 2 → Nat :=
  let c31_i32 : BitVec 32 := 31#32
  let c0_i32_106 : BitVec 32 := 0#32
  let c1_i32_108 : BitVec 32 := 1#32
  let arg15 : BitVec 32 := Scf.iv c0_i32_106 c1_i32_108 k0_t3
  let v283 : BitVec 32 := Scalar.subi c31_i32 arg15
  let c128_i32 : BitVec 32 := 128#32
  let v284 : BitVec 32 := Scalar.muli v283 c128_i32
  let v285 : BitVec 32 := v284
  let v286 : Index := Scalar.indexCast v285
  let c0_110 : Index := 0#32
  ![v286.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4096x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x256 : Shape := ⟨2, ![32768, 256]⟩
abbrev S4096x64 : Shape := ⟨2, ![4096, 64]⟩
abbrev S2x4 : Shape := ⟨2, ![2, 4]⟩
abbrev S256 : Shape := ⟨1, ![256]⟩
abbrev S8x4096x4x64 : Shape := ⟨4, ![8, 4096, 4, 64]⟩
abbrev S4096x1x64 : Shape := ⟨3, ![4096, 1, 64]⟩
abbrev S1x4096x1x64 : Shape := ⟨4, ![1, 4096, 1, 64]⟩
abbrev S8x4096x4x32 : Shape := ⟨4, ![8, 4096, 4, 32]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x64x4096 : Shape := ⟨4, ![8, 4, 64, 4096]⟩
abbrev S8x4096x4 : Shape := ⟨3, ![8, 4096, 4]⟩
abbrev S8x4096x4x1 : Shape := ⟨4, ![8, 4096, 4, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S4096x64, .f32⟩
  | .hbm, ⟨5, _⟩ => ⟨S4096x64, .f32⟩
  | .hbm, ⟨6, _⟩ => ⟨S2x4, .f32⟩
  | .hbm, ⟨7, _⟩ => ⟨S256, .f32⟩
  | .hbm, ⟨8, _⟩ => ⟨S8x4096x4x64, .f32⟩
  | .hbm, ⟨9, _⟩ => ⟨S8x4096x4x64, .f32⟩
  | .hbm, ⟨10, _⟩ => ⟨S8x4096x4x64, .f32⟩
  | .hbm, ⟨11, _⟩ => ⟨S4096x1x64, .f32⟩
  | .hbm, ⟨12, _⟩ => ⟨S1x4096x1x64, .f32⟩
  | .hbm, ⟨13, _⟩ => ⟨S8x4096x4x64, .f32⟩
  | .hbm, ⟨14, _⟩ => ⟨S8x4096x4x64, .f32⟩
  | .hbm, ⟨15, _⟩ => ⟨S8x4096x4x32, .f32⟩
  | .hbm, ⟨16, _⟩ => ⟨S8x4096x4x32, .f32⟩
  | .hbm, ⟨17, _⟩ => ⟨S8x4096x4x32, .f32⟩
  | .hbm, ⟨18, _⟩ => ⟨S8x4096x4x64, .f32⟩
  | .hbm, ⟨19, _⟩ => ⟨S4096x1x64, .f32⟩
  | .hbm, ⟨20, _⟩ => ⟨S1x4096x1x64, .f32⟩
  | .hbm, ⟨21, _⟩ => ⟨S8x4096x4x64, .f32⟩
  | .hbm, ⟨22, _⟩ => ⟨S8x4096x4x64, .f32⟩
  | .hbm, ⟨23, _⟩ => ⟨S8x4096x4x64, .f32⟩
  | .hbm, ⟨24, _⟩ => ⟨S4096x1x64, .f32⟩
  | .hbm, ⟨25, _⟩ => ⟨S1x4096x1x64, .f32⟩
  | .hbm, ⟨26, _⟩ => ⟨S8x4096x4x64, .f32⟩
  | .hbm, ⟨27, _⟩ => ⟨S8x4096x4x64, .f32⟩
  | .hbm, ⟨28, _⟩ => ⟨S8x4096x4x32, .f32⟩
  | .hbm, ⟨29, _⟩ => ⟨S8x4096x4x32, .f32⟩
  | .hbm, ⟨30, _⟩ => ⟨S8x4096x4x32, .f32⟩
  | .hbm, ⟨31, _⟩ => ⟨S8x4096x4x64, .f32⟩
  | .hbm, ⟨32, _⟩ => ⟨S4096x1x64, .f32⟩
  | .hbm, ⟨33, _⟩ => ⟨S1x4096x1x64, .f32⟩
  | .hbm, ⟨34, _⟩ => ⟨S8x4096x4x64, .f32⟩
  | .hbm, ⟨35, _⟩ => ⟨S8x4096x4x64, .f32⟩
  | .hbm, ⟨36, _⟩ => ⟨S8x4096x4x64, .f32⟩
  | .hbm, ⟨37, _⟩ => ⟨S_, .f32⟩
  | .hbm, ⟨38, _⟩ => ⟨S8x4096x4x64, .f32⟩
  | .hbm, ⟨39, _⟩ => ⟨S8x4096x4x64, .f32⟩
  | .hbm, ⟨40, _⟩ => ⟨S4096, .f32⟩
  | .hbm, ⟨41, _⟩ => ⟨S4096x1, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S1x4, .f32⟩
  | .hbm, ⟨50, _⟩ => ⟨S4, .f32⟩
  | .hbm, ⟨51, _⟩ => ⟨S4x1x1, .f32⟩
  | .hbm, ⟨52, _⟩ => ⟨S1x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S1x4, .f32⟩
  | .hbm, ⟨58, _⟩ => ⟨S4, .f32⟩
  | .hbm, ⟨59, _⟩ => ⟨S4x1x1, .f32⟩
  | .hbm, ⟨60, _⟩ => ⟨S4096x4096, .f32⟩
  | .hbm, ⟨61, _⟩ => ⟨S1x4096x4096, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S4x4096x4096, .i1⟩
  | .hbm, ⟨67, _⟩ => ⟨S4x4096x4096, .f32⟩
  | .hbm, ⟨68, _⟩ => ⟨S8x4x4096x4096, .f32⟩
  | .hbm, ⟨69, _⟩ => ⟨S1x4x4096x4096, .f32⟩
  | .hbm, ⟨70, _⟩ => ⟨S8x4x4096x4096, .f32⟩
  | .hbm, ⟨71, _⟩ => ⟨S8x4x4096x4096, .f32⟩
  | .hbm, ⟨72, _⟩ => ⟨S8x4x64x4096, .f32⟩
  | .hbm, ⟨73, _⟩ => ⟨S8x4096x4x64, .f32⟩
  | .hbm, ⟨74, _⟩ => ⟨S8x4096x4x64, .f32⟩
  | .hbm, ⟨75, _⟩ => ⟨S_, .f32⟩
  | .hbm, ⟨76, _⟩ => ⟨S8x4096x4, .f32⟩
  | .hbm, ⟨77, _⟩ => ⟨S8x4096x4x1, .f32⟩
  | .hbm, ⟨78, _⟩ => ⟨S_, .f32⟩
  | .hbm, ⟨79, _⟩ => ⟨S8x4096x4x1, .f32⟩
  | .hbm, ⟨80, _⟩ => ⟨S8x4096x4x1, .f32⟩
  | .hbm, ⟨81, _⟩ => ⟨S_, .f32⟩
  | .hbm, ⟨82, _⟩ => ⟨S8x4096x4x1, .f32⟩
  | .hbm, ⟨83, _⟩ => ⟨S8x4096x4x1, .f32⟩
  | .hbm, ⟨84, _⟩ => ⟨S8x4096x4x1, .f32⟩
  | .hbm, ⟨85, _⟩ => ⟨S8x4096x4x64, .f32⟩
  | .hbm, ⟨86, _⟩ => ⟨S8x4096x4x64, .f32⟩
  | .hbm, ⟨87, _⟩ => ⟨S32768x256, .f32⟩
  | .hbm, ⟨88, _⟩ => ⟨S32768x256, .f32⟩
  | .hbm, ⟨89, _⟩ => ⟨S_, .f32⟩
  | .hbm, ⟨90, _⟩ => ⟨S32768x256, .f32⟩
  | .hbm, ⟨91, _⟩ => ⟨S32768x256, .f32⟩
  | .hbm, ⟨92, _⟩ => ⟨S_, .f32⟩
  | .hbm, ⟨93, _⟩ => ⟨S32768x256, .f32⟩
  | .hbm, ⟨94, _⟩ => ⟨S32768x256, .f32⟩
  | .hbm, ⟨95, _⟩ => ⟨S32768x256, .f32⟩
  | .hbm, ⟨96, _⟩ => ⟨S32768x256, .f32⟩
  | .hbm, ⟨97, _⟩ => ⟨S1x256, .f32⟩
  | .hbm, ⟨98, _⟩ => ⟨S32768x256, .f32⟩
  | .hbm, ⟨99, _⟩ => ⟨S32768x256, .f32⟩
  | .hbm, ⟨100, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_call0_v0 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_1 : Ref sig .tc := ⟨.hbm, 75, rfl⟩
abbrev main_v64 : Ref sig .tc := ⟨.hbm, 76, rfl⟩
abbrev main_v65 : Ref sig .tc := ⟨.hbm, 77, rfl⟩
abbrev main_cst_2 : Ref sig .tc := ⟨.hbm, 78, rfl⟩
abbrev main_v66 : Ref sig .tc := ⟨.hbm, 79, rfl⟩
abbrev main_v67 : Ref sig .tc := ⟨.hbm, 80, rfl⟩
abbrev main_cst_3 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Kernel6.lean ====
abbrev S32768x256 : Shape := ⟨2, ![32768, 256]⟩
abbrev S4x256 : Shape := ⟨2, ![4, 256]⟩
abbrev S256 : Shape := ⟨1, ![256]⟩
abbrev S2x2x4x64x64 : Shape := ⟨5, ![2, 2, 4, 64, 64]⟩
abbrev S2x2x256 : Shape := ⟨3, ![2, 2, 256]⟩
abbrev S2x256 : Shape := ⟨2, ![2, 256]⟩
abbrev S4x4 : Shape := ⟨2, ![4, 4]⟩
abbrev S_ : Shape := ⟨0, ![]⟩
abbrev S4x64x2x2x64 : Shape := ⟨5, ![4, 64, 2, 2, 64]⟩
abbrev S4x64x2x2x1x64 : Shape := ⟨6, ![4, 64, 2, 2, 1, 64]⟩
abbrev S4x1x1x1x4x1 : Shape := ⟨6, ![4, 1, 1, 1, 4, 1]⟩
abbrev S4x64x2x2x4x64 : Shape := ⟨6, ![4, 64, 2, 2, 4, 64]⟩
abbrev S256x1024 : Shape := ⟨2, ![256, 1024]⟩
abbrev S1x1024 : Shape := ⟨2, ![1, 1024]⟩
abbrev S1x256 : Shape := ⟨2, ![1, 256]⟩
abbrev S4096x256 : Shape := ⟨2, ![4096, 256]⟩
abbrev S256x1 : Shape := ⟨2, ![256, 1]⟩
abbrev S8x256 : Shape := ⟨2, ![8, 256]⟩
abbrev S256x256 : Shape := ⟨2, ![256, 256]⟩
abbrev S272x256 : Shape := ⟨2, ![272, 256]⟩
abbrev S256x512 : Shape := ⟨2, ![256, 512]⟩
abbrev S1x512 : Shape := ⟨2, ![1, 512]⟩

abbrev nBuf : Space → Nat
  | .hbm => 25
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S4x256, .f32⟩
  | .hbm, ⟨3, _⟩ => ⟨S256, .f32⟩
  | .hbm, ⟨4, _⟩ => ⟨S2x2x4x64x64, .f32⟩
  | .hbm, ⟨5, _⟩ => ⟨S2x2x256, .f32⟩
  | .hbm, ⟨6, _⟩ => ⟨S2x256, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S4x64x2x2x64, .f32⟩
  | .hbm, ⟨15, _⟩ => ⟨S4x64x2x2x1x64, .f32⟩
  | .hbm, ⟨16, _⟩ => ⟨S4x1x1x1x4x1, .f32⟩
  | .hbm, ⟨17, _⟩ => ⟨S4x64x2x2x4x64, .f32⟩
  | .hbm, ⟨18, _⟩ => ⟨S4x64x2x2x4x64, .f32⟩
  | .hbm, ⟨19, _⟩ => ⟨S4x64x2x2x4x64, .f32⟩
  | .hbm, ⟨20, _⟩ => ⟨S256x1024, .f32⟩
  | .hbm, ⟨21, _⟩ => ⟨S256x1024, .bf16⟩
  | .hbm, ⟨22, _⟩ => ⟨S1x1024, .f32⟩
  | .hbm, ⟨23, _⟩ => ⟨S1x256, .f32⟩
  | .hbm, ⟨24, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4x256, .f32⟩
  | .local _ .vmem, ⟨5, _⟩ => ⟨S1x256, .f32⟩
  | .local _ .vmem, ⟨6, _⟩ => ⟨S256x1024, .bf16⟩
  | .local _ .vmem, ⟨7, _⟩ => ⟨S1x1024, .f32⟩
  | .local _ .vmem, ⟨8, _⟩ => ⟨S2x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v22 : BitVec 32 := Scalar.muli arg11 c256_i32
  v22
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  v24
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  let v25 : BitVec 32 := v24
  let c8_i32 : BitVec 32 := 8#32
  let v26 : BitVec 32 := Scalar.subi v25 c8_i32
  let c0_i32_13 : BitVec 32 := 0#32
  let v27 : BitVec 32 := Scalar.maxsi v26 c0_i32_13
  v27
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  let v25 : BitVec 32 := v24
  let c8_i32 : BitVec 32 := 8#32
  let v26 : BitVec 32 := Scalar.subi v25 c8_i32
  let c0_i32_13 : BitVec 32 := 0#32
  let v27 : BitVec 32 := Scalar.maxsi v26 c0_i32_13
  let v28 : BitVec 32 := v27
  let v29 : Index := Scalar.indexCast v28
  let c0_14 : Index := 0#32
  ![v29.toNat, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  let v25 : BitVec 32 := v24
  let c256_i32_15 : BitVec 32 := 256#32
  let v31 : BitVec 32 := Scalar.addi v25 c256_i32_15
  let c4088_i32 : BitVec 32 := 4088#32
  let v32 : BitVec 32 := Scalar.minsi v31 c4088_i32
  v32
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  let v25 : BitVec 32 := v24
  let c256_i32_15 : BitVec 32 := 256#32
  let v31 : BitVec 32 := Scalar.addi v25 c256_i32_15
  let c4088_i32 : BitVec 32 := 4088#32
  let v32 : BitVec 32 := Scalar.minsi v31 c4088_i32
  let v33 : BitVec 32 := v32
  let v34 : Index := Scalar.indexCast v33
  let c0_16 : Index := 0#32
  ![v34.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_12 : BitVec 32 := 256#32
  let v24 : BitVec 32 := Scalar.muli arg11 c256_i32_12
  let v25 : BitVec 32 := v24
  let v36 : Index := Scalar.indexCast v25
  let c0_17 : Index := 0#32
  ![v36.toNat, 0]
@[reducible] def k0_t2_loop : Scf.Loop 32 :=
  let c0_i32_8 : BitVec 32 := 0#32
  let c16_i32_9 : BitVec 32 := 16#32
  let v20 : BitVec 32 := Scalar.addi c0_i32_8 c16_i32_9
  let c1_i32_10 : BitVec 32 := 1#32
  ⟨c0_i32_8, v20, c1_i32_10⟩
def k0_mult5 (k0_t2 : Fin k0_t2_loop.trips) : BitVec 32 :=
  let c15_i32 : BitVec 32 := 15#32
  let c0_i32_8 : BitVec 32 := 0#32
  let c1_i32_10 : BitVec 32 := 1#32
  let arg11 : BitVec 32 := Scf.iv c0_i32_8 c1_i32_10 k0_t2
  let v22 : BitVec 32 := Scalar.subi c15_i32 arg11
  let c256_i32 : BitVec 32 := 256#32
  let v23 : BitVec 32 := Scalar.muli v22 c256_i32
  v23
def k0_off4 (k0_t2 : Fin k0_t2_loop.trips) : Fin 2 → Nat :=
  let c15_i32 : BitVec 32 := 15#32
  let c0_i32_8 : BitVec 32 := 0#32
  let c1_i32_10 : BitVec 32 := 1#32
  let arg11 : BitVec 32 := Scf.iv c0_i32_8 c1_i32_10 k0_t2
  let v22 : BitVec 32 := Scalar.subi c15_i32 arg11
  let c256_i32 : BitVec 32 := 256#32
  let v23 : BitVec 32 := Scalar.muli v22 c256_i32
  let v24 : BitVec 32 := v23
  let v25 : Index := Scalar.indexCast v24
  let c0_12 : Index := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S32768x256 : Shape := ⟨2, ![32768, 256]⟩
abbrev S4x256 : Shape := ⟨2, ![4, 256]⟩
abbrev S256 : Shape := ⟨1, ![256]⟩
abbrev S2x2x4x64x64 : Shape := ⟨5, ![2, 2, 4, 64, 64]⟩
abbrev S2x2x256 : Shape := ⟨3, ![2, 2, 256]⟩
abbrev S2x256 : Shape := ⟨2, ![2, 256]⟩
abbrev S8x4096x256 : Shape := ⟨3, ![8, 4096, 256]⟩
abbrev S_ : Shape := ⟨0, ![]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S4x2x2x64x8x4096 : Shape := ⟨6, ![4, 2, 2, 64, 8, 4096]⟩
abbrev S2x2x8x4096x4x64 : Shape := ⟨6, ![2, 2, 8, 4096, 4, 64]⟩
abbrev S2x2x8x4096x256 : Shape := ⟨5, ![2, 2, 8, 4096, 256]⟩
abbrev S2x2x1x1x256 : Shape := ⟨5, ![2, 2, 1, 1, 256]⟩
abbrev S2x1x8x4096x256 : Shape := ⟨5, ![2, 1, 8, 4096, 256]⟩
abbrev S2x8x4096x256 : Shape := ⟨4, ![2, 8, 4096, 256]⟩
abbrev S2x1x1x256 : Shape := ⟨4, ![2, 1, 1, 256]⟩
abbrev S1x8x4096x256 : Shape := ⟨4, ![1, 8, 4096, 256]⟩
abbrev S4096 : Shape := ⟨1, ![4096]⟩
abbrev S4096x1x1 : Shape := ⟨3, ![4096, 1, 1]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4096x1x4096 : Shape := ⟨3, ![4096, 1, 4096]⟩
abbrev S4096x4096x4096 : Shape := ⟨3, ![4096, 4096, 4096]⟩
abbrev S8x256x4096x4096 : Shape := ⟨4, ![8, 256, 4096, 4096]⟩
abbrev S8x4096x4096x256 : Shape := ⟨4, ![8, 4096, 4096, 256]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S8x1x4096x256 : Shape := ⟨4, ![8, 1, 4096, 256]⟩

abbrev nBuf : Space → Nat
  | .hbm => 192
  | .vmem => 0
  | .smem => 0
  | _ => 0

abbrev hbmTy0_0 (i : Nat) : BufTy := match i % 128 with
  | 0 => ⟨S32768x256, .f32⟩
  | 1 => ⟨S32768x256, .f32⟩
  | 2 => ⟨S4x256, .f32⟩
  | 3 => ⟨S256, .f32⟩
  | 4 => ⟨S2x2x4x64x64, .f32⟩
  | 5 => ⟨S2x2x256, .f32⟩
  | 6 => ⟨S2x256, .f32⟩
  | 7 => ⟨S8x4096x256, .f32⟩
  | 8 => ⟨S_, .i32⟩
  | 9 => ⟨S_, .f32⟩
  | 10 => ⟨S8x4099x256, .f32⟩
  | 11 => ⟨S8x4096x256, .f32⟩
  | 12 => ⟨S1x256, .f32⟩
  | 13 => ⟨S256, .f32⟩
  | 14 => ⟨S1x1x256, .f32⟩
  | 15 => ⟨S8x4096x256, .f32⟩
  | 16 => ⟨S8x4096x256, .f32⟩
  | 17 => ⟨S_, .f32⟩
  | 18 => ⟨S8x4096x256, .f32⟩
  | 19 => ⟨S8x4096x256, .f32⟩
  | 20 => ⟨S8x4096x256, .f32⟩
  | 21 => ⟨S1x256, .f32⟩
  | 22 => ⟨S256, .f32⟩
  | 23 => ⟨S1x1x256, .f32⟩
  | 24 => ⟨S8x4096x256, .f32⟩
  | 25 => ⟨S8x4096x256, .f32⟩
  | 26 => ⟨S8x4096x256, .f32⟩
  | 27 => ⟨S8x4096x256, .f32⟩
  | 28 => ⟨S1x256, .f32⟩
  | 29 => ⟨S256, .f32⟩
  | 30 => ⟨S1x1x256, .f32⟩
  | 31 => ⟨S8x4096x256, .f32⟩
  | 32 => ⟨S8x4096x256, .f32⟩
  | 33 => ⟨S8x4096x256, .f32⟩
  | 34 => ⟨S8x4096x256, .f32⟩
  | 35 => ⟨S1x256, .f32⟩
  | 36 => ⟨S256, .f32⟩
  | 37 => ⟨S1x1x256, .f32⟩
  | 38 => ⟨S8x4096x256, .f32⟩
  | 39 => ⟨S8x4096x256, .f32⟩
  | 40 => ⟨S8x4096x256, .f32⟩
  | 41 => ⟨S1x1x256, .f32⟩
  | 42 => ⟨S8x4096x256, .f32⟩
  | 43 => ⟨S8x4096x256, .f32⟩
  | 44 => ⟨S8x4096x4x64, .f32⟩
  | 45 => ⟨S4x2x2x64x8x4096, .f32⟩
  | 46 => ⟨S2x2x8x4096x4x64, .f32⟩
  | 47 => ⟨S2x2x8x4096x256, .f32⟩
  | 48 => ⟨S2x2x1x1x256, .f32⟩
  | 49 => ⟨S2x2x8x4096x256, .f32⟩
  | 50 => ⟨S2x2x8x4096x256, .f32⟩
  | 51 => ⟨S2x1x8x4096x256, .f32⟩
  | 52 => ⟨S2x8x4096x256, .f32⟩
  | 53 => ⟨S2x8x4096x256, .f32⟩
  | 54 => ⟨S2x8x4096x256, .f32⟩
  | 55 => ⟨S_, .f32⟩
  | 56 => ⟨S2x8x4096x256, .f32⟩
  | 57 => ⟨S2x8x4096x256, .f32⟩
  | 58 => ⟨S_, .f32⟩
  | 59 => ⟨S2x8x4096x256, .f32⟩
  | 60 => ⟨S2x8x4096x256, .f32⟩
  | 61 => ⟨S2x1x8x4096x256, .f32⟩
  | 62 => ⟨S2x8x4096x256, .f32⟩
  | 63 => ⟨S2x8x4096x256, .f32⟩
  | 64 => ⟨S2x8x4096x256, .f32⟩
  | 65 => ⟨S_, .f32⟩
  | 66 => ⟨S2x8x4096x256, .f32⟩
  | 67 => ⟨S2x8x4096x256, .f32⟩
  | 68 => ⟨S_, .f32⟩
  | 69 => ⟨S2x8x4096x256, .f32⟩
  | 70 => ⟨S2x8x4096x256, .f32⟩
  | 71 => ⟨S_, .f32⟩
  | 72 => ⟨S2x8x4096x256, .f32⟩
  | 73 => ⟨S2x8x4096x256, .f32⟩
  | 74 => ⟨S2x256, .f32⟩
  | 75 => ⟨S_, .f32⟩
  | 76 => ⟨S2x256, .f32⟩
  | 77 => ⟨S2x256, .f32⟩
  | 78 => ⟨S2x256, .f32⟩
  | 79 => ⟨S2x256, .f32⟩
  | 80 => ⟨S2x256, .i1⟩
  | 81 => ⟨S2x256, .f32⟩
  | 82 => ⟨S2x256, .f32⟩
  | 83 => ⟨S2x256, .f32⟩
  | 84 => ⟨S2x256, .f32⟩
  | 85 => ⟨S2x256, .f32⟩
  | 86 => ⟨S2x256, .f32⟩
  | 87 => ⟨S2x256, .f32⟩
  | 88 => ⟨S2x256, .f32⟩
  | 89 => ⟨S2x1x1x256, .f32⟩
  | 90 => ⟨S2x8x4096x256, .f32⟩
  | 91 => ⟨S2x8x4096x256, .f32⟩
  | 92 => ⟨S_, .f32⟩
  | 93 => ⟨S2x8x4096x256, .f32⟩
  | 94 => ⟨S2x8x4096x256, .f32⟩
  | 95 => ⟨S2x8x4096x256, .f32⟩
  | 96 => ⟨S2x8x4096x256, .f32⟩
  | 97 => ⟨S2x8x4096x256, .f32⟩
  | 98 => ⟨S1x8x4096x256, .f32⟩
  | 99 => ⟨S2x8x4096x256, .f32⟩
  | 100 => ⟨S2x8x4096x256, .f32⟩
  | 101 => ⟨S2x8x4096x256, .f32⟩
  | 102 => ⟨S4096, .i32⟩
  | 103 => ⟨S4096x1x1, .i32⟩
  | 104 => ⟨S1x4096x1, .i32⟩
  | 105 => ⟨S1x1x4096, .i32⟩
  | 106 => ⟨S1x4096x4096, .i32⟩
  | 107 => ⟨S1x4096x4096, .i32⟩
  | 108 => ⟨S1x4096x4096, .i1⟩
  | 109 => ⟨S4096x1x4096, .i32⟩
  | 110 => ⟨S4096x1x4096, .i32⟩
  | 111 => ⟨S4096x1x4096, .i1⟩
  | 112 => ⟨S4096x4096x4096, .i1⟩
  | 113 => ⟨S4096x4096x4096, .i1⟩
  | 114 => ⟨S4096x4096x4096, .i1⟩
  | 115 => ⟨S4096x4096x4096, .f32⟩
  | 116 => ⟨S4096x1x4096, .i32⟩
  | 117 => ⟨S4096x1x4096, .i32⟩
  | 118 => ⟨S4096x1x4096, .i1⟩
  | 119 => ⟨S1x4096x4096, .i32⟩
  | 120 => ⟨S1x4096x4096, .i32⟩
  | 121 => ⟨S1x4096x4096, .i1⟩
  | 122 => ⟨S4096x4096x4096, .i1⟩
  | 123 => ⟨S4096x4096x4096, .i1⟩
  | 124 => ⟨S4096x4096x4096, .i1⟩
  | 125 => ⟨S4096x4096x4096, .f32⟩
  | 126 => ⟨S1x8x4096x256, .f32⟩
  | 127 => ⟨S8x4096x256, .f32⟩
  | _ => ⟨S32768x256, .f32⟩

abbrev hbmTy0_1 (i : Nat) : BufTy := match i % 128 with
  | 0 => ⟨S8x256x4096x4096, .f32⟩
  | 1 => ⟨S8x4096x4096x256, .f32⟩
  | 2 => ⟨S8x4096x4096x256, .f32⟩
  | 3 => ⟨S1x8x4096x256, .f32⟩
  | 4 => ⟨S8x4096x256, .f32⟩
  | 5 => ⟨S8x256x4096x4096, .f32⟩
  | 6 => ⟨S8x4096x4096x256, .f32⟩
  | 7 => ⟨S8x4096x4096x256, .f32⟩
  | 8 => ⟨S1x4096, .i32⟩
  | 9 => ⟨S4096x1, .i32⟩
  | 10 => ⟨S4096x4096, .i32⟩
  | 11 => ⟨S4096x4096, .i32⟩
  | 12 => ⟨S4096x4096, .i1⟩
  | 13 => ⟨S4096x4096x1, .i1⟩
  | 14 => ⟨S1x4096, .i32⟩
  | 15 => ⟨S4096x1, .i32⟩
  | 16 => ⟨S4096x4096, .i32⟩
  | 17 => ⟨S4096x4096, .i32⟩
  | 18 => ⟨S4096x4096, .i1⟩
  | 19 => ⟨S4096x4096x1, .i1⟩
  | 20 => ⟨S1x8x4096x256, .f32⟩
  | 21 => ⟨S8x4096x256, .f32⟩
  | 22 => ⟨S8x1x4096x256, .f32⟩
  | 23 => ⟨S8x4096x4096x256, .f32⟩
  | 24 => ⟨S8x4096x4096x256, .f32⟩
  | 25 => ⟨S_, .f32⟩
  | 26 => ⟨S_, .f32⟩
  | 27 => ⟨S8x4096x4096x256, .i1⟩
  | 28 => ⟨S8x4096x4096x256, .f32⟩
  | 29 => ⟨S8x4096x4096x256, .f32⟩
  | 30 => ⟨S_, .f32⟩
  | 31 => ⟨S8x4096x256, .f32⟩
  | 32 => ⟨S1x8x4096x256, .f32⟩
  | 33 => ⟨S8x4096x256, .f32⟩
  | 34 => ⟨S8x1x4096x256, .f32⟩
  | 35 => ⟨S8x4096x4096x256, .f32⟩
  | 36 => ⟨S8x4096x4096x256, .f32⟩
  | 37 => ⟨S_, .f32⟩
  | 38 => ⟨S_, .f32⟩
  | 39 => ⟨S8x4096x4096x256, .i1⟩
  | 40 => ⟨S8x4096x4096x256, .f32⟩
  | 41 => ⟨S8x4096x4096x256, .f32⟩
  | 42 => ⟨S_, .f32⟩
  | 43 => ⟨S8x4096x256, .f32⟩
  | 44 => ⟨S8x4096x256, .f32⟩
  | 45 => ⟨S32768x256, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S32768x256, .f32⟩
  | 52 => ⟨S_, .f32⟩
  | 53 => ⟨S32768x256, .f32⟩
  | 54 => ⟨S32768x256, .f32⟩
  | 55 => ⟨S32768x256, .f32⟩
  | 56 => ⟨S_, .f32⟩
  | 57 => ⟨S32768x256, .f32⟩
  | 58 => ⟨S32768x256, .f32⟩
  | 59 => ⟨S_, .f32⟩
  | 60 => ⟨S32768x256, .f32⟩
  | 61 => ⟨S32768x256, .f32⟩
  | 62 => ⟨S32768x256, .f32⟩
  | 63 => ⟨S32768x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_0 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_5 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_6 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_v124 : Ref sig .tc := ⟨.hbm, 157, rfl⟩
abbrev main_cst_7 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_8 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_v131 : Ref sig .tc := ⟨.hbm, 169, rfl⟩
abbrev main_cst_9 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_10 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_11 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_12 : Ref sig .tc := ⟨.hbm, 184, rfl⟩
abbrev main_v143 : Ref sig .tc := ⟨.hbm, 185, rfl⟩
abbrev main_v144 : Ref sig .tc := ⟨.hbm, 186, rfl⟩
abbrev main_cst_13 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩

abbrev nD : Nat := 1
abbrev τ : Topo := Topo.v7x

variable {F : FTy → Type} [FloatOps F]
-- ==== Proof.LruLoops.lean ====
/-
  The RG-LRU's two loops. A trip of the first convolves 256 rows, writes them, and writes their forward recurrence, carrying its
  last row on; a trip of the second runs the backward recurrence of 256 rows, from the last rows to the first, adds the forward
  one, multiplies with the gate and carries the first row on. Each loop's invariant says what the rows already done hold.
-/
module

public import proofs.«01_k».proof.Proof.Gen.Kernel6Ideal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.Pointwise

@[expose] public section

set_option maxRecDepth 8192
set_option maxHeartbeats 1000000

noncomputable section

namespace Cert.LruLoops

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Chunks of 256 rows -/

/-- Chunk `j` of an array of 4096 rows. -/
def rows (x : Vec F S4096x256 .f32) (j : ℕ) : Vec F S256x256 .f32 :=
  fun y => x (ix2 ⟨(256 * j + (y 0).val) % 4096, Nat.mod_lt _ (by omega)⟩ (y 1))

/-- A load of 256 rows is a chunk of what the memory reads. -/
theorem readAt_rows {κ : Kind} {sp : Space} (v : View sig κ sp S4096x256 .f32) (f : v.ty.Contents (Elt F)) {off : Fin 2 → ℕ}
    (inb : ∀ a, off a + S256x256.size a ≤ S4096x256.size a) (j : ℕ) (hj : j < 16) (ho : off = ![256 * j, 0]) :
    v.readAt (Elt F) (Rect.unit (s := S4096x256) off S256x256.size inb).toLoadRect f = rows (v.read (Elt F) f) j := by
  subst ho
  funext y
  refine congrArg (v.read (Elt F) f) (funext fun a => Fin.ext ?_)
  have h0 : (y 0).val < 256 := (y 0).isLt
  fin_cases a
  · show 256 * j + 1 * (y 0).val = (256 * j + (y 0).val) % 4096
    rw [Nat.mod_eq_of_lt (by omega)]; omega
  · show 0 + 1 * (y 1).val = (y 1).val
    omega

/-- A load of 256 rows of a whole memory holding `x` is a chunk of `x`. -/
theorem readAt_unread_rows {sp : Space} (mr : Memref sig .tc sp S4096x256 .f32) (h : mr.IsWhole) (x : Vec F S4096x256 .f32) {off : Fin 2 → ℕ}
    (inb : ∀ a, off a + S256x256.size a ≤ S4096x256.size a) (j : ℕ) (hj : j < 16) (ho : off = ![256 * j, 0]) :
    mr.view.readAt (Elt F) (Rect.unit (s := S4096x256) off S256x256.size inb).toLoadRect (h.unread x) = rows x j := by
  rw [readAt_rows _ _ inb j hj ho, h.read_unread]

/-- What a store of 256 rows leaves in each chunk. -/
theorem rows_writes {κ : Kind} {sp : Space} (v : View sig κ sp S4096x256 .f32) (f : v.ty.Contents (Elt F)) {off : Fin 2 → ℕ}
    (inb : ∀ a, off a + S256x256.size a ≤ S4096x256.size a) (w : Vec F S256x256 .f32) (i j : ℕ) (hi : i < 16) (hj : j < 16)
    (ho : off = ![256 * i, 0]) :
    rows (v.read (Elt F) (v.writes (Elt F) f [⟨Rect.unit (s := S4096x256) off S256x256.size inb, w⟩])) j
      = if j = i then w else rows (v.read (Elt F) f) j := by
  subst ho
  funext y
  have h0 : (y 0).val < 256 := (y 0).isLt
  split
  · rename_i h
    subst h
    refine View.read_writes_cons_hit_of_coords v f (Rect.unit (s := S4096x256) ![256 * j, 0] S256x256.size inb) w [] y _ fun a => ?_
    fin_cases a
    · show (256 * j + (y 0).val) % 4096 = 256 * j + 1 * (y 0).val
      rw [Nat.mod_eq_of_lt (by omega)]; omega
    · show (y 1).val = 0 + 1 * (y 1).val
      omega
  · rename_i h
    refine (View.read_writes_cons_miss_of_axis v f _ [] _ 0 (256 * i) 256 rfl rfl rfl ?_).trans rfl
    show (256 * j + (y 0).val) % 4096 < 256 * i ∨ 256 * i + 256 ≤ (256 * j + (y 0).val) % 4096
    rw [Nat.mod_eq_of_lt (by omega)]; omega

/-- An array of 4096 rows is told by its 16 chunks. -/
theorem eq_of_rows (x y : Vec F S4096x256 .f32) (h : ∀ j < 16, rows x j = rows y j) : x = y := by
  funext i
  have h0 : (i 0).val < 4096 := (i 0).isLt
  have e (z : Vec F S4096x256 .f32) : z i = rows z ((i 0).val / 256)
      (ix2 ⟨(i 0).val % 256, Nat.mod_lt _ (by omega)⟩ (i 1)) := by
    refine congrArg z (funext fun a => Fin.ext ?_)
    fin_cases a
    · show (i 0).val = (256 * ((i 0).val / 256) + (i 0).val % 256) % 4096
      rw [Nat.div_add_mod, Nat.mod_eq_of_lt h0]
    · rfl
  rw [e x, e y, h _ (by omega)]

/-- The array whose chunks are given. -/
def ofRows (g : ℕ → Vec F S256x256 .f32) : Vec F S4096x256 .f32 :=
  fun i => g ((i 0).val / 256) (ix2 ⟨(i 0).val % 256, Nat.mod_lt _ (by omega)⟩ (i 1))

theorem rows_ofRows (g : ℕ → Vec F S256x256 .f32) (j : ℕ) (hj : j < 16) : rows (ofRows g) j = g j := by
  funext y
  have h0 : (y 0).val < 256 := (y 0).isLt
  have e0 : (256 * j + (y 0).val) % 4096 = 256 * j + (y 0).val := Nat.mod_eq_of_lt (by omega)
  have e1 : (256 * j + (y 0).val) / 256 = j := by omega
  have e2 : (256 * j + (y 0).val) % 256 = (y 0).val := by omega
  have hg (a b : ℕ) (z z' : S256x256.Idx) (h : a = b) (h' : z = z') : g a z = g b z' := by rw [h, h']
  refine hg _ _ _ _ ?_ (funext fun a => Fin.ext ?_)
  · show (256 * j + (y 0).val) % 4096 / 256 = j
    rw [e0, e1]
  fin_cases a
  · show (256 * j + (y 0).val) % 4096 % 256 = (y 0).val
    rw [e0, e2]
  · rfl

/-- A part of a table of rows and lanes, from row `a` and lane `b` on. -/
def cut {m n p q : ℕ} [NeZero m] [NeZero n] {e : EltTy} (x : Vec F ⟨2, ![m, n]⟩ e) (a b : ℕ) : Vec F ⟨2, ![p, q]⟩ e :=
  fun y => x (ix2 ⟨(a + (y 0).val) % m, Nat.mod_lt _ (NeZero.pos m)⟩ ⟨(b + (y 1).val) % n, Nat.mod_lt _ (NeZero.pos n)⟩)

/-- A load of such a part. -/
theorem readAt_cut {m n p q : ℕ} [NeZero m] [NeZero n] {e : EltTy} {sp : Space} (mr : Memref sig .tc sp ⟨2, ![m, n]⟩ e) (h : mr.IsWhole)
    (x : Vec F ⟨2, ![m, n]⟩ e) {off : Fin 2 → ℕ} (inb : ∀ i, off i + (⟨2, ![p, q]⟩ : Shape).size i ≤ (⟨2, ![m, n]⟩ : Shape).size i)
    (a b : ℕ) (ho : off = ![a, b]) :
    mr.view.readAt (Elt F) (Rect.unit (s := ⟨2, ![m, n]⟩) off (⟨2, ![p, q]⟩ : Shape).size inb).toLoadRect (h.unread x) = cut x a b := by
  subst ho
  have e : mr.view.read (Elt F) (h.unread x) = x := h.read_unread x
  funext y
  have i0 : a + p ≤ m := inb 0
  have i1 : b + q ≤ n := inb 1
  have h0 : (y 0).val < p := (y 0).isLt
  have h1 : (y 1).val < q := (y 1).isLt
  refine (congrFun e _).trans (congrArg x (funext fun i => Fin.ext ?_))
  fin_cases i
  · show a + 1 * (y 0).val = (a + (y 0).val) % m
    rw [Nat.mod_eq_of_lt (by omega)]; omega
  · show b + 1 * (y 1).val = (b + (y 1).val) % n
    rw [Nat.mod_eq_of_lt (by omega)]; omega

/-! ## What the loops compute -/

theorem trips1 : k0_t1_loop.trips = 16 := by decide +kernel
theorem trips2 : k0_t2_loop.trips = 16 := by decide +kernel
theorem off1_eq : ∀ k : Fin k0_t1_loop.trips, k0_off1 k = ![256 * k.val - 8, 0] := by decide +kernel

/-- The trip's number as the first loop counts it. -/
def trip (k : ℕ) : Fin k0_t1_loop.trips := ⟨k % 16, lt_of_lt_of_eq (Nat.mod_lt _ (by omega)) trips1.symm⟩

theorem trip_val (k : Fin k0_t1_loop.trips) : trip k.val = k :=
  Fin.ext (Nat.mod_eq_of_lt (lt_of_lt_of_eq k.isLt trips1))

/-- The row's number within a block. -/
abbrev rowNo : IVec S256x1 32 := iota .tc S256x1 32 [0] iota_S256x1_d0_w32

/-- The eight rows above block `k`, and the eight below it. -/
def above (x : Vec F S4096x256 .f32) (k : ℕ) : Vec F S8x256 .f32 := cut x (256 * k - 8) 0
def below (x : Vec F S4096x256 .f32) (k : ℕ) : Vec F S8x256 .f32 := cut x (min (256 * k + 256) 4088) 0
/-- A tap of the convolution. -/
def tap (x : Vec F S4x256 .f32) (r : ℕ) : Vec F S1x256 .f32 := cut x r 0
/-- The gates' weights and biases of the forward direction (from column 0) or of the backward one (from column 512). -/
def gws (x : Vec F S256x1024 .bf16) (b : ℕ) : Vec F S256x512 .bf16 := cut x 0 b
def gbs (x : Vec F S1x1024 .f32) (b : ℕ) : Vec F S1x512 .f32 := cut x 0 b

/-- The convolution of block `k`, but for its last tap; the last tap's rows. -/
def conv3 (x1 : Vec F S4096x256 .f32) (x3 : Vec F S4x256 .f32) (x4 : Vec F S1x256 .f32) (k : ℕ) : FVec F S256x256 .f32 :=
  k0_pay13 (k0_pay9 (above x1 k) (below x1 k) (rows x1 k)) (k0_pay10 rowNo 0#32 1#32 (trip k)) (k0_pay11 x4)
    (k0_pay12 rowNo 0#32 1#32 (trip k) (above x1 k) (below x1 k) (rows x1 k)) (tap x3 0) (tap x3 1) (tap x3 2)
def next (x1 : Vec F S4096x256 .f32) (k : ℕ) : FVec F S256x256 .f32 :=
  k0_pay14 (k0_pay9 (above x1 k) (below x1 k) (rows x1 k)) (k0_pay10 rowNo 0#32 1#32 (trip k))

/-- The convolved block. -/
def conv (x1 : Vec F S4096x256 .f32) (x3 : Vec F S4x256 .f32) (x4 : Vec F S1x256 .f32) (k : ℕ) : FVec F S256x256 .f32 :=
  k0_pay16 (conv3 x1 x3 x4 k) (next x1 k) (tap x3 3)

/-- The forward recurrence of a block from its inputs `x`, their gate `i`, the decays `a`, the factors `s` and the row before it. -/
def fwd (c : FVec F S1x256 .f32) (x i a s : FVec F S256x256 .f32) : FVec F S256x256 .f32 :=
  k0_pay3 c
    (k0_pay34 rowNo (k0_pay25 rowNo x i a s) (k0_pay26 rowNo a) (k0_pay28 rowNo a) (k0_pay29 rowNo x i a s))
    (k0_pay35 rowNo (k0_pay26 rowNo a) (k0_pay28 rowNo a)) (k0_pay37 rowNo (k0_pay26 rowNo a) (k0_pay28 rowNo a))
    (k0_pay38 rowNo (k0_pay25 rowNo x i a s) (k0_pay26 rowNo a) (k0_pay28 rowNo a) (k0_pay29 rowNo x i a s))

/-- The forward recurrence of block `k`. -/
def fwdAt (x1 : Vec F S4096x256 .f32) (x3 : Vec F S4x256 .f32) (x4 : Vec F S1x256 .f32) (x5 : Vec F S256x1024 .bf16) (x6 : Vec F S1x1024 .f32)
    (x7 : Vec F S2x256 .f32) (k : ℕ) (c : FVec F S1x256 .f32) : FVec F S256x256 .f32 :=
  fwd c (k0_pay15 (conv3 x1 x3 x4 k) (next x1 k) (tap x3 3)) (k0_pay18 (conv3 x1 x3 x4 k) (next x1 k) (tap x3 3) (gws x5 0) (gbs x6 0))
    (k0_pay20 (k0_pay1 x7) (conv3 x1 x3 x4 k) (next x1 k) (tap x3 3) (gws x5 0) (gbs x6 0))
    (k0_pay21 (k0_pay1 x7) (conv3 x1 x3 x4 k) (next x1 k) (tap x3 3) (gws x5 0) (gbs x6 0))

/-- The row the forward recurrence carries into block `k`. -/
def carryF (x1 : Vec F S4096x256 .f32) (x3 : Vec F S4x256 .f32) (x4 : Vec F S1x256 .f32) (x5 : Vec F S256x1024 .bf16) (x6 : Vec F S1x1024 .f32)
    (x7 : Vec F S2x256 .f32) : ℕ → FVec F S1x256 .f32
  | 0 => k0_pay2
  | k + 1 => extractStridedSlice S1x256 ![255, 0] (fwdAt x1 x3 x4 x5 x6 x7 k (carryF x1 x3 x4 x5 x6 x7 k)) slices_S256x256_o255_0_S1x256

/-- The forward rows of block `k`. -/
def hF (x1 : Vec F S4096x256 .f32) (x3 : Vec F S4x256 .f32) (x4 : Vec F S1x256 .f32) (x5 : Vec F S256x1024 .bf16) (x6 : Vec F S1x1024 .f32)
    (x7 : Vec F S2x256 .f32) (k : ℕ) : FVec F S256x256 .f32 :=
  shapeCast S256x256 (fwdAt x1 x3 x4 x5 x6 x7 k (carryF x1 x3 x4 x5 x6 x7 k)) shapeCasts_S256x256_S256x256

/-- The backward recurrence of a block from the decays `a`, the inputs `b` and the row behind it. -/
def bwd (c : FVec F S1x256 .f32) (a b : FVec F S256x256 .f32) : FVec F S256x256 .f32 :=
  k0_pay57 rowNo c (k0_pay55 rowNo (k0_pay48 rowNo a b) (k0_pay49 rowNo a)) (k0_pay56 rowNo (k0_pay49 rowNo a))

/-- The backward recurrence of a convolved block. -/
def bwdAt (x5 : Vec F S256x1024 .bf16) (x6 : Vec F S1x1024 .f32) (x7 : Vec F S2x256 .f32) (xc : Vec F S256x256 .f32) (c : FVec F S1x256 .f32) :
    FVec F S256x256 .f32 :=
  bwd c (k0_pay41 (k0_pay1 x7) xc (gws x5 512) (gbs x6 512)) (k0_pay42 (k0_pay1 x7) xc (gws x5 512) (gbs x6 512))

/-- The row the backward recurrence carries into trip `k`, whose block is `15 - k`. -/
def carryB (x5 : Vec F S256x1024 .bf16) (x6 : Vec F S1x1024 .f32) (x7 : Vec F S2x256 .f32) (xc : ℕ → Vec F S256x256 .f32) : ℕ → FVec F S1x256 .f32
  | 0 => k0_pay6
  | k + 1 => k0_pay8 (bwdAt x5 x6 x7 (xc (15 - k)) (carryB x5 x6 x7 xc k))

/-- A finished block, from its backward rows, its forward rows and its gate. -/
def finish (hb hf g : Vec F S256x256 .f32) : FVec F S256x256 .f32 :=
  k0_pay7 (addf hf hb) (k0_pay59 g) (k0_pay60 g) (Scalar.ofBits .f32 0x3F4C422A#32)

/-- The finished block `j`. -/
def out (x2 : Vec F S4096x256 .f32) (x5 : Vec F S256x1024 .bf16) (x6 : Vec F S1x1024 .f32) (x7 : Vec F S2x256 .f32) (xc h : ℕ → Vec F S256x256 .f32)
    (j : ℕ) : FVec F S256x256 .f32 :=
  finish (bwdAt x5 x6 x7 (xc j) (carryB x5 x6 x7 xc (15 - j))) (h j) (rows x2 j)

/-! ## The loops' invariants -/

variable (c : Dev nD) (E : Set ℕ) (i : grid0.Coords) (arg1 : Memref sig .tc .vmem S4096x256 .f32) (harg1 : arg1.IsWhole) (arg2 : Memref sig .tc .vmem S4096x256 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S2x256 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x256 .f32) (harg10 : arg10.IsWhole)

/-- The first loop: the convolved rows and the forward rows before trip `k`, and the row carried into it. -/
abbrev inv1 (x1 : Vec F S4096x256 .f32) (x3 : Vec F S4x256 .f32) (x4 : Vec F S1x256 .f32) (x5 : Vec F S256x1024 .bf16) (x6 : Vec F S1x1024 .f32) (x7 : Vec F S2x256 .f32) (k : ℕ) (acc : FVec F S1x256 .f32) : sProp 𝕄 :=
  iprop((arg1.view.loc (c : Thread nD τ) ↦[arg1.view.set]{fullShare} harg1.unread x1) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6)
    ∗ (∃ f, (arg9.view.loc (c : Thread nD τ) ↦[arg9.view.set]{fullShare} f) ∗ ⌜∀ j < k, rows (arg9.view.read (Elt F) f) j = conv x1 x3 x4 j⌝)
    ∗ (∃ f, (arg10.view.loc (c : Thread nD τ) ↦[arg10.view.set]{fullShare} f) ∗ ⌜∀ j < k, rows (arg10.view.read (Elt F) f) j = hF x1 x3 x4 x5 x6 x7 j⌝)
    ∗ ⌜acc = carryF x1 x3 x4 x5 x6 x7 k⌝)

theorem step1 (x1 : Vec F S4096x256 .f32) (x3 : Vec F S4x256 .f32) (x4 : Vec F S1x256 .f32) (x5 : Vec F S256x1024 .bf16) (x6 : Vec F S1x1024 .f32) (x7 : Vec F S2x256 .f32) (k : Fin k0_t1_loop.trips) (acc : FVec F S1x256 .f32) :
    inv1 c arg1 harg1 arg3 harg3 arg4 harg4 arg5 harg5 arg6 harg6 arg9 arg10 x1 x3 x4 x5 x6 x7 k acc
      ⊢ wp frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 arg10 harg10 x7 rowNo k acc)
        (inv1 c arg1 harg1 arg3 harg3 arg4 harg4 arg5 harg5 arg6 harg6 arg9 arg10 x1 x3 x4 x5 x6 x7 (k.val + 1)) := by
  have hk : k.val < 16 := lt_of_lt_of_eq k.isLt trips1
  unfold inv1 k0_t1_body
  simp only [k0_part1_eq_skeleton, k0_part2_eq_skeleton, k0_part3_eq_skeleton, k0_part4_eq_skeleton, k0_part5_eq_skeleton]
  iintro ⟨H1, H3, H4, H5, H6, ⟨%f9, H9, %h9⟩, ⟨%f10, H10, %h10⟩, %hacc⟩
  subst hacc
  have e1 : arg1.view.readAt (Elt F) (Rect.unit (s := S4096x256) (k0_off1 k) S8x256.size (k0_off1_inb k)).toLoadRect (harg1.unread x1) = above x1 k := readAt_cut arg1 harg1 x1 (k0_off1_inb k) _ _ (off1_eq k)
  have e2 : arg1.view.readAt (Elt F) (Rect.unit (s := S4096x256) (k0_off2 k) S8x256.size (k0_off2_inb k)).toLoadRect (harg1.unread x1) = below x1 k := readAt_cut arg1 harg1 x1 (k0_off2_inb k) _ _ (k0_off2_eq k)
  have e3 := readAt_unread_rows arg1 harg1 x1 (k0_off3_inb k) k.val hk (k0_off3_eq k)
  have e4 : arg4.view.readAt (Elt F) (Rect.unit (s := S1x256) ![0, 0] S1x256.size inb_S1x256_S1x256_0_0).toLoadRect (harg4.unread x4) = x4 := (View.readAt_full arg4.view _ _).trans (harg4.read_unread x4)
  have t0 : arg3.view.readAt (Elt F) (Rect.unit (s := S4x256) ![0, 0] S1x256.size inb_S4x256_S1x256_0_0).toLoadRect (harg3.unread x3) = tap x3 0 := readAt_cut arg3 harg3 x3 inb_S4x256_S1x256_0_0 _ _ rfl
  have t1 : arg3.view.readAt (Elt F) (Rect.unit (s := S4x256) ![1, 0] S1x256.size inb_S4x256_S1x256_1_0).toLoadRect (harg3.unread x3) = tap x3 1 := readAt_cut arg3 harg3 x3 inb_S4x256_S1x256_1_0 _ _ rfl
  have t2 : arg3.view.readAt (Elt F) (Rect.unit (s := S4x256) ![2, 0] S1x256.size inb_S4x256_S1x256_2_0).toLoadRect (harg3.unread x3) = tap x3 2 := readAt_cut arg3 harg3 x3 inb_S4x256_S1x256_2_0 _ _ rfl
  have t3 : arg3.view.readAt (Elt F) (Rect.unit (s := S4x256) ![3, 0] S1x256.size inb_S4x256_S1x256_3_0).toLoadRect (harg3.unread x3) = tap x3 3 := readAt_cut arg3 harg3 x3 inb_S4x256_S1x256_3_0 _ _ rfl
  have e5 : arg5.view.readAt (Elt F) (Rect.unit (s := S256x1024) ![0, 0] S256x512.size inb_S256x1024_S256x512_0_0).toLoadRect (harg5.unread x5) = gws x5 0 := readAt_cut arg5 harg5 x5 inb_S256x1024_S256x512_0_0 _ _ rfl
  have e6 : arg6.view.readAt (Elt F) (Rect.unit (s := S1x1024) ![0, 0] S1x512.size inb_S1x1024_S1x512_0_0).toLoadRect (harg6.unread x6) = gbs x6 0 := readAt_cut arg6 harg6 x6 inb_S1x1024_S1x512_0_0 _ _ rfl
  have et := trip_val k
  sl_exec
  sl_step
  isplitl [H1]; · iexact H1
  isplitl [H3]; · iexact H3
  isplitl [H4]; · iexact H4
  isplitl [H5]; · iexact H5
  isplitl [H6]; · iexact H6
  isplitl [H9]
  · iexists _; isplitl [H9]; · iexact H9
    ipureintro
    intro j hj
    rw [rows_writes _ _ _ _ k.val j hk (by omega) (k0_off3_eq k)]
    split
    · rename_i h
      subst h
      unfold conv conv3 next
      rw [et]
      rfl
    · exact h9 j (by omega)
  isplitl [H10]
  · iexists _; isplitl [H10]; · iexact H10
    ipureintro
    intro j hj
    rw [rows_writes _ _ _ _ k.val j hk (by omega) (k0_off3_eq k)]
    split
    · rename_i h
      subst h
      unfold hF fwdAt fwd conv3 next
      rw [et]
      rfl
    · exact h10 j (by omega)
  ipureintro
  show _ = extractStridedSlice S1x256 ![255, 0] (fwdAt x1 x3 x4 x5 x6 x7 k (carryF x1 x3 x4 x5 x6 x7 k)) slices_S256x256_o255_0_S1x256
  unfold fwdAt fwd conv3 next
  rw [et]
  rfl

/-- The second loop, trip `k` at block `15 - k`: the finished rows and the row carried into the trip. -/
abbrev inv2 (x2 : Vec F S4096x256 .f32) (x5 : Vec F S256x1024 .bf16) (x6 : Vec F S1x1024 .f32) (x7 : Vec F S2x256 .f32) (xc hf : ℕ → Vec F S256x256 .f32) (k : ℕ) (acc : FVec F S1x256 .f32) : sProp 𝕄 :=
  iprop((arg2.view.loc (c : Thread nD τ) ↦[arg2.view.set]{fullShare} harg2.unread x2) ∗ (arg5.view.loc (c : Thread nD τ) ↦[arg5.view.set]{fullShare} harg5.unread x5) ∗ (arg6.view.loc (c : Thread nD τ) ↦[arg6.view.set]{fullShare} harg6.unread x6)
    ∗ (∃ f, (arg8.view.loc (c : Thread nD τ) ↦[arg8.view.set]{fullShare} f) ∗ ⌜∀ j < 16, 16 ≤ j + k → rows (arg8.view.read (Elt F) f) j = out x2 x5 x6 x7 xc hf j⌝)
    ∗ (∃ f, (arg9.view.loc (c : Thread nD τ) ↦[arg9.view.set]{fullShare} f) ∗ ⌜∀ j < 16, rows (arg9.view.read (Elt F) f) j = xc j⌝)
    ∗ (∃ f, (arg10.view.loc (c : Thread nD τ) ↦[arg10.view.set]{fullShare} f) ∗ ⌜∀ j < 16, rows (arg10.view.read (Elt F) f) j = hf j⌝)
    ∗ ⌜acc = carryB x5 x6 x7 xc k⌝)

theorem step2 (x2 : Vec F S4096x256 .f32) (x5 : Vec F S256x1024 .bf16) (x6 : Vec F S1x1024 .f32) (x7 : Vec F S2x256 .f32) (xc hf : ℕ → Vec F S256x256 .f32) (k : Fin k0_t2_loop.trips) (acc : FVec F S1x256 .f32) :
    inv2 c arg2 harg2 arg5 harg5 arg6 harg6 arg8 arg9 arg10 x2 x5 x6 x7 xc hf k acc
      ⊢ wp frame (wpE (defs₀ (F := F)) Variants.none (c : Thread nD τ) none) E
        (k0_t2_body (F := F) i arg1 harg1 arg2 harg2 arg3 harg3 arg4 harg4 arg5 harg5 arg6 harg6 arg7 harg7 arg8 harg8 arg9 harg9 arg10 harg10 x7 rowNo k acc)
        (inv2 c arg2 harg2 arg5 harg5 arg6 harg6 arg8 arg9 arg10 x2 x5 x6 x7 xc hf (k.val + 1)) := by
  have hk : k.val < 16 := lt_of_lt_of_eq k.isLt trips2
  have ho : k0_off4 k = ![256 * (15 - k.val), 0] := by
    rw [k0_off4_eq k]; congr 1; omega
  have hc : 15 - k.val < 16 := by omega
  unfold inv2 k0_t2_body
  simp only [k0_part6_eq_skeleton, k0_part7_eq_skeleton, k0_part8_eq_skeleton, k0_part9_eq_skeleton]
  iintro ⟨H2, H5, H6, ⟨%f8, H8, %h8⟩, ⟨%f9, H9, %h9⟩, ⟨%f10, H10, %h10⟩, %hacc⟩
  subst hacc
  have e2 := readAt_unread_rows arg2 harg2 x2 (k0_off4_inb k) _ hc ho
  have e5 : arg5.view.readAt (Elt F) (Rect.unit (s := S256x1024) ![0, 512] S256x512.size inb_S256x1024_S256x512_0_512).toLoadRect (harg5.unread x5) = gws x5 512 := readAt_cut arg5 harg5 x5 inb_S256x1024_S256x512_0_512 _ _ rfl
  have e6 : arg6.view.readAt (Elt F) (Rect.unit (s := S1x1024) ![0, 512] S1x512.size inb_S1x1024_S1x512_0_512).toLoadRect (harg6.unread x6) = gbs x6 512 := readAt_cut arg6 harg6 x6 inb_S1x1024_S1x512_0_512 _ _ rfl
  have e9 := (readAt_rows arg9.view f9 (k0_off4_inb k) _ hc ho).trans (h9 _ hc)
  have e10 := (readAt_rows arg10.view f10 (k0_off4_inb k) _ hc ho).trans (h10 _ hc)
  sl_exec
  sl_step
  isplitl [H2]; · iexact H2
  isplitl [H5]; · iexact H5
  isplitl [H6]; · iexact H6
  isplitl [H8]
  · iexists _; isplitl [H8]; · iexact H8
    ipureintro
    intro j hj hjk
    rw [rows_writes _ _ _ _ (15 - k.val) j hc hj ho]
    split
    · rename_i h'
      subst h'
      unfold out finish bwdAt bwd
      rw [show 15 - (15 - k.val) = k.val by omega]
      rfl
    · exact h8 j hj (by omega)
  isplitl [H9]
  · iexists _; isplitl [H9]; · iexact H9
    ipureintro; exact h9
  isplitl [H10]
  · iexists _; isplitl [H10]; · iexact H10
    ipureintro; exact h10
  ipureintro
  show _ = k0_pay8 (bwdAt x5 x6 x7 (xc (15 - k)) (carryB x5 x6 x7 xc k))
  unfold bwdAt bwd
  rfl

/-- The loop, at the head of a program. -/
theorem loop1 (x1 : Vec F S4096x256 .f32) (x3 : Vec F S4x256 .f32) (x4 : Vec F S1x256 .f32) (x5 : Vec F S256x1024 .bf16) (x6 : Vec F S1x1024 .f32) (x7 : Vec F S2x256 .f32) {β : Type} {kk : FVec F S1x256 .f32 → Prog (TpuEff nD τ sig (Elt F) Λ₀ .tc) β} {Q : β → sProp 𝕄} :
    inv1 c arg1 harg1 arg3 harg3 arg4 harg4 arg5 harg5 arg6 harg6 arg9 arg10 x1 x3 x4 x5 x6 x7 0 (k0_pay2 (F := F)) ⊢ iprop((∀ acc, inv1 c arg1 harg1 arg3 harg3 arg4 harg4 arg5 harg5 arg6 harg6 arg9 arg10 x1 x3 x4 x5 x6 x7 16 acc -∗ wp frame (wpE (defs₀ (F := F)) Variants.none (c : Thread nD τ) none) E (kk acc) Q)
      -∗ wp frame (wpE (defs₀ (F := F)) Variants.none (c : Thread nD τ) none) E
        (k0_t1_loop.for k0_t1_ok (k0_pay2 (F := F)) (k0_t1_body (F := F) i arg1 harg1 arg2 harg2 arg3 harg3 arg4 harg4 arg5 harg5 arg6 harg6 arg7 harg7 arg8 harg8 arg9 harg9 arg10 harg10 x7 rowNo) >>= kk) Q) := by
  have h := exec_loop (M := 𝕄) Idealize.ShloMosaic.frame (wpE (defs₀ (F := F)) Variants.none (c : Thread nD τ) none) E
    k0_t1_loop.lb k0_t1_loop.ub k0_t1_loop.st k0_t1_ok (k0_pay2 (F := F)) (k0_t1_body (F := F) i arg1 harg1 arg2 harg2 arg3 harg3 arg4 harg4 arg5 harg5 arg6 harg6 arg7 harg7 arg8 harg8 arg9 harg9 arg10 harg10 x7 rowNo)
    ⟨inv1 c arg1 harg1 arg3 harg3 arg4 harg4 arg5 harg5 arg6 harg6 arg9 arg10 x1 x3 x4 x5 x6 x7, fun k acc => step1 c E i arg1 harg1 arg2 harg2 arg3 harg3 arg4 harg4 arg5 harg5 arg6 harg6 arg7 harg7 arg8 harg8 arg9 harg9 arg10 harg10 x1 x3 x4 x5 x6 x7 k acc⟩ (kk := kk) (Q := Q)
  iintro HI HK
  iapply h $$ [HI]
  · iexact HI
  iintro %acc Hinv
  iapply HK
  rw [← show inv1 c arg1 harg1 arg3 harg3 arg4 harg4 arg5 harg5 arg6 harg6 arg9 arg10 x1 x3 x4 x5 x6 x7 k0_t1_loop.trips acc = inv1 c arg1 harg1 arg3 harg3 arg4 harg4 arg5 harg5 arg6 harg6 arg9 arg10 x1 x3 x4 x5 x6 x7 16 acc from congrArg (fun n => inv1 c arg1 harg1 arg3 harg3 arg4 harg4 arg5 harg5 arg6 harg6 arg9 arg10 x1 x3 x4 x5 x6 x7 n acc) trips1]
  iexact Hinv

/-- The loop, at the head of a program. -/
theorem loop2 (x2 : Vec F S4096x256 .f32) (x5 : Vec F S256x1024 .bf16) (x6 : Vec F S1x1024 .f32) (x7 : Vec F S2x256 .f32) (xc hf : ℕ → Vec F S256x256 .f32) {β : Type} {kk : FVec F S1x256 .f32 → Prog (TpuEff nD τ sig (Elt F) Λ₀ .tc) β} {Q : β → sProp 𝕄} :
    inv2 c arg2 harg2 arg5 harg5 arg6 harg6 arg8 arg9 arg10 x2 x5 x6 x7 xc hf 0 (k0_pay6 (F := F)) ⊢ iprop((∀ acc, inv2 c arg2 harg2 arg5 harg5 arg6 harg6 arg8 arg9 arg10 x2 x5 x6 x7 xc hf 16 acc -∗ wp frame (wpE (defs₀ (F := F)) Variants.none (c : Thread nD τ) none) E (kk acc) Q)
      -∗ wp frame (wpE (defs₀ (F := F)) Variants.none (c : Thread nD τ) none) E
        (k0_t2_loop.for k0_t2_ok (k0_pay6 (F := F)) (k0_t2_body (F := F) i arg1 harg1 arg2 harg2 arg3 harg3 arg4 harg4 arg5 harg5 arg6 harg6 arg7 harg7 arg8 harg8 arg9 harg9 arg10 harg10 x7 rowNo) >>= kk) Q) := by
  have h := exec_loop (M := 𝕄) Idealize.ShloMosaic.frame (wpE (defs₀ (F := F)) Variants.none (c : Thread nD τ) none) E
    k0_t2_loop.lb k0_t2_loop.ub k0_t2_loop.st k0_t2_ok (k0_pay6 (F := F)) (k0_t2_body (F := F) i arg1 harg1 arg2 harg2 arg3 harg3 arg4 harg4 arg5 harg5 arg6 harg6 arg7 harg7 arg8 harg8 arg9 harg9 arg10 harg10 x7 rowNo)
    ⟨inv2 c arg2 harg2 arg5 harg5 arg6 harg6 arg8 arg9 arg10 x2 x5 x6 x7 xc hf, fun k acc => step2 c E i arg1 harg1 arg2 harg2 arg3 harg3 arg4 harg4 arg5 harg5 arg6 harg6 arg7 harg7 arg8 harg8 arg9 harg9 arg10 harg10 x2 x5 x6 x7 xc hf k acc⟩ (kk := kk) (Q := Q)
  iintro HI HK
  iapply h $$ [HI]
  · iexact HI
  iintro %acc Hinv
  iapply HK
  rw [← show inv2 c arg2 harg2 arg5 harg5 arg6 harg6 arg8 arg9 arg10 x2 x5 x6 x7 xc hf k0_t2_loop.trips acc = inv2 c arg2 harg2 arg5 harg5 arg6 harg6 arg8 arg9 arg10 x2 x5 x6 x7 xc hf 16 acc from congrArg (fun n => inv2 c arg2 harg2 arg5 harg5 arg6 harg6 arg8 arg9 arg10 x2 x5 x6 x7 xc hf n acc) trips2]
  iexact Hinv

end Cert.LruLoops

end
-- ==== Proof.LruBody.lean ====
/-
  The RG-LRU's body, run: from any scratch it leaves in the output block the array `result` of its inputs.
-/
module

public import proofs.«01_k».proof.Proof.LruLoops

@[expose] public section

set_option maxRecDepth 8192
set_option maxHeartbeats 1000000

noncomputable section

namespace Cert.LruBody

open Cert.Kernel6Ideal Cert.Kernel6Ideal.Gen Cert.LruLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's output block. -/
def result (x1 x2 : Vec F S4096x256 .f32) (x3 : Vec F S4x256 .f32) (x4 : Vec F S1x256 .f32) (x5 : Vec F S256x1024 .bf16) (x6 : Vec F S1x1024 .f32) (x7 : Vec F S2x256 .f32) : Vec F S4096x256 .f32 :=
  ofRows (out x2 x5 x6 x7 (conv x1 x3 x4) (hF x1 x3 x4 x5 x6 x7))

theorem run (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S2x256 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x256 .f32) (harg10 : arg10.IsWhole)
    (x1 x2 : Vec F S4096x256 .f32) (x3 : Vec F S4x256 .f32) (x4 : Vec F S1x256 .f32) (x5 : Vec F S256x1024 .bf16) (x6 : Vec F S1x1024 .f32) (x7 : Vec F S2x256 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (result x1 x2 x3 x4 x5 x6 x7) ∗ (∃ d, owns (c : Thread nD τ) arg9 fullShare d) ∗ (∃ d, owns (c : Thread nD τ) arg10 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10) K := by
  simp only [cc0_rglru_eq_skeleton]; unfold cc0_rglru_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  have e7 : arg7.view.readAt (Elt F) (Rect.unit (s := S2x256) ![0, 0] S2x256.size inb_S2x256_S2x256_0_0).toLoadRect (harg7.unread x7) = x7 := (View.readAt_full arg7.view _ _).trans (harg7.read_unread x7)
  sl_exec
  rw [show (run.sl.v15 : IVec S256x1 32) = rowNo from rfl]
  iapply (loop1 c E i arg1 harg1 arg2 harg2 arg3 harg3 arg4 harg4 arg5 harg5 arg6 harg6 arg7 harg7 arg8 harg8 arg9 harg9 arg10 harg10 x1 x3 x4 x5 x6 x7) $$ [H1 H3 H4 H5 H6 H9 H10]
  · isplitl [H1]; · iexact H1
    isplitl [H3]; · iexact H3
    isplitl [H4]; · iexact H4
    isplitl [H5]; · iexact H5
    isplitl [H6]; · iexact H6
    isplitl [H9]
    · iexists _; isplitl [H9]; · iexact H9
      ipureintro; intro j hj; omega
    isplitl [H10]
    · iexists _; isplitl [H10]; · iexact H10
      ipureintro; intro j hj; omega
    ipureintro; rfl
  iintro %acc1 ⟨H1, H3, H4, H5, H6, ⟨%g9, H9, %hg9⟩, ⟨%g10, H10, %hg10⟩, %hacc1⟩
  sl_exec
  iapply (loop2 c E i arg1 harg1 arg2 harg2 arg3 harg3 arg4 harg4 arg5 harg5 arg6 harg6 arg7 harg7 arg8 harg8 arg9 harg9 arg10 harg10 x2 x5 x6 x7 (conv x1 x3 x4) (hF x1 x3 x4 x5 x6 x7)) $$ [H2 H5 H6 H8 H9 H10]
  · isplitl [H2]; · iexact H2
    isplitl [H5]; · iexact H5
    isplitl [H6]; · iexact H6
    isplitl [H8]
    · iexists _; isplitl [H8]; · iexact H8
      ipureintro; intro j hj hjk; omega
    isplitl [H9]
    · iexists _; isplitl [H9]; · iexact H9
      ipureintro; exact hg9
    isplitl [H10]
    · iexists _; isplitl [H10]; · iexact H10
      ipureintro; exact hg10
    ipureintro; rfl
  iintro %acc2 ⟨H2, H5, H6, ⟨%k8, H8, %hk8⟩, ⟨%k9, H9, %hk9⟩, ⟨%k10, H10, %hk10⟩, %hacc2⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine eq_of_rows _ _ fun j hj => ?_
    rw [hk8 j hj (by omega)]
    exact (rows_ofRows (out x2 x5 x6 x7 (conv x1 x3 x4) (hF x1 x3 x4 x5 x6 x7)) j hj).symm
  isplitl [H9]
  · iexists _, _; isplitr; swap; · iexact H9
    ipureintro; rfl
  iexists _, _; isplitr; swap; · iexact H10
  ipureintro; rfl

end Cert.LruBody

end
-- ==== Proof.LruFrame.lean ====
/-
  The frame of the RG-LRU's launch: every execution ends, the arguments are left as they were, and the output's block at
  each sequence is `result` of that sequence's blocks.
-/
module

public import proofs.«01_k».proof.Proof.Gen.Kernel6Ideal.Frame.Runs
public import proofs.«01_k».proof.Proof.LruBody
public import Idealize.ShloMosaic.Lib.Claim

@[expose] public section

set_option maxRecDepth 16384

noncomputable section

namespace Cert.LruFrame

open Cert.Kernel6Ideal Cert.Kernel6Ideal.Gen Cert.LruLoops Cert.LruBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block after the body at point `t`. -/
def outAt (c : Dev nD) (t : Fin cfg0.N) : Vec F S4096x256 .f32 :=
  result (iblk m c 0 t) (iblk m c 1 t) (iblk m c 2 t) (iblk m c 3 t) (iblk m c 4 t) (iblk m c 5 t) (iblk m c 6 t)

/-! ## The pipeline's proof data -/

/-- What each staging buffer holds after the body at a point: an input its block, the output the recurrence of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outAt m c t)
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outAt m c t) := by dsimp only [dats]

/-- What the body finds in each input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _  (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launched body is this body. -/
theorem defs₀_row (t : Fin cfg0.N) :
    defs₀ (F := F) .tc cfg0.body (cfg0.bodyArgs t (cfg0.slots t)) = bodyAt0 t := by
  unfold defs₀; rw [Defs.onTc_tc]

/-- The launch's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch runs, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch runs, and every array ends at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.LruFrame

end
-- ==== Proof.Heads.lean ====
/-
  One head of the attention, free of any program: the normalised and turned row of 64 channels, the scores of one query
  against every key, and the softmax's average of the values, as the reference writes them.
-/
module

public import Idealize.ShloMosaic.Lib.Pointwise

@[expose] public section

noncomputable section

namespace Cert.Heads

open Idealize.ShloMosaic

/-- Token `s` of sequence `b` as a row of the flat arrays. -/
abbrev tok (b : Fin 8) (s : Fin 4096) : Fin 32768 := ⟨b.val * 4096 + s.val, by have := b.isLt; have := s.isLt; omega⟩

/-- Channel `d` of head `g` of group `h` as a lane of the queries. -/
abbrev qlane (h : Fin 2) (g : Fin 4) (d : Fin 64) : Fin 512 :=
  ⟨h.val * 256 + g.val * 64 + d.val, by have := h.isLt; have := g.isLt; have := d.isLt; omega⟩

/-- Channel `d` of group `h` as a lane of the keys and the values. -/
abbrev klane (h : Fin 2) (d : Fin 64) : Fin 128 := ⟨h.val * 64 + d.val, by have := h.isLt; have := d.isLt; omega⟩

/-- A head's row divided by its root mean square, times the weight. -/
def headNorm (x w : Fin 64 → EReal) (d : Fin 64) : EReal :=
  x d * Ideal.rsqrt (Ideal.div (∑ e, x e * x e) (Ideal.ofBits .f32 0x42800000#32) + Ideal.ofBits .f32 0x358637BD#32) * w d

/-- The two halves of a row turned a quarter each: of 32 channels the second 16 with the sign changed, then the first. -/
def turn (y : Fin 64 → EReal) (d : Fin 64) : EReal :=
  if h : d.val % 32 < 16 then -y ⟨d.val + 16, by have := d.isLt; omega⟩ else y ⟨d.val - 16, by have := d.isLt; omega⟩

/-- The row a head scores with. -/
def turned (x w cs sn : Fin 64 → EReal) (d : Fin 64) : EReal :=
  headNorm x w d * cs d + turn (headNorm x w) d * sn d

/-- A query's scaled score. -/
def score (k q : Fin 64 → EReal) : EReal := (∑ d, k d * q d) * Ideal.ofBits .f32 0x3E000000#32

/-- The largest score. -/
def top (s : Fin 4096 → EReal) : EReal := max ⊥ (Finset.univ.fold max ⊥ s)

/-- The values' average under the softmax of the scores. -/
def average (s v : Fin 4096 → EReal) : EReal :=
  ∑ j, v j * Ideal.div (Ideal.exp (s j - top s)) (∑ i, Ideal.exp (s i - top s))

end Cert.Heads

end
-- ==== Proof.Softmax.lean ====
/-
  The softmax taken over four chunks of keys with a running maximum, free of any program: for real scores the rescaled
  accumulator over its own sum of weights is the reference's average, whatever the values are.
-/
module

public import proofs.«01_k».proof.Proof.Heads
public import Mathlib.Analysis.SpecialFunctions.Pow.Real

@[expose] public section

set_option maxRecDepth 16384

noncomputable section

namespace Cert.Softmax

open Idealize.ShloMosaic Cert.Heads

/-- The running maximum after a chunk. -/
def newMax (m : EReal) (s : Fin 1024 → EReal) : EReal := max m (Finset.univ.fold max ⊥ s)

/-- The accumulator after a chunk. -/
def newAcc (m : EReal) (s v : Fin 1024 → EReal) (a : EReal) : EReal :=
  Ideal.exp2 (m - newMax m s) * a + ∑ j, Ideal.exp2 (s j - newMax m s) * v j

/-- Chunk `c` of the keys. -/
def chunk (c : Fin 4) (f : Fin 4096 → EReal) (j : Fin 1024) : EReal :=
  f ⟨c.val * 1024 + j.val, by have := c.isLt; have := j.isLt; omega⟩

/-- The running maxima after one, two and three chunks. -/
def max1 (s : Fin 4096 → EReal) : EReal := newMax ⊥ (chunk 0 s)
@[inherit_doc max1] def max2 (s : Fin 4096 → EReal) : EReal := newMax (max1 s) (chunk 1 s)
@[inherit_doc max1] def max3 (s : Fin 4096 → EReal) : EReal := newMax (max2 s) (chunk 2 s)

/-- The accumulator after the four chunks. -/
def flash (s v : Fin 4096 → EReal) : EReal :=
  newAcc (max3 s) (chunk 3 s) (chunk 3 v) (newAcc (max2 s) (chunk 2 s) (chunk 2 v)
    (newAcc (max1 s) (chunk 1 s) (chunk 1 v) (newAcc ⊥ (chunk 0 s) (chunk 0 v) 0)))

/-- A real factor that is not negative goes into a sum. -/
theorem coe_mul_sum {ι : Type} (t : Finset ι) (c : ℝ) (hc : 0 ≤ c) (f : ι → EReal) : (c : EReal) * ∑ j ∈ t, f j = ∑ j ∈ t, (c : EReal) * f j := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

/-- A real sum, as an extended real. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The largest of finitely many real numbers is one of them. -/
theorem fold_max_real {n : ℕ} (s : Fin (n + 1) → ℝ) : ∃ a : ℝ, Finset.univ.fold max ⊥ (fun j => (s j : EReal)) = a := by
  obtain ⟨i, -, h⟩ := Finset.exists_mem_eq_sup (Finset.univ : Finset (Fin (n + 1))) Finset.univ_nonempty (fun j => (s j : EReal))
  exact ⟨s i, h⟩

/-- The reference's largest score is real. -/
theorem top_real (s : Fin 4096 → ℝ) : ∃ a : ℝ, top (fun j => (s j : EReal)) = a := by
  obtain ⟨a, h⟩ := fold_max_real s
  exact ⟨a, by rw [top, h]; exact bot_sup_eq _⟩

/-- The first running maximum is real. -/
theorem newMax_bot (s : Fin 1024 → ℝ) : ∃ a : ℝ, newMax ⊥ (fun j => (s j : EReal)) = a := by
  obtain ⟨a, h⟩ := fold_max_real s
  exact ⟨a, by rw [newMax, h]; exact bot_sup_eq _⟩

/-- A later running maximum is real. -/
theorem newMax_real (m : ℝ) (s : Fin 1024 → ℝ) : ∃ a : ℝ, newMax m (fun j => (s j : EReal)) = a := by
  obtain ⟨a, h⟩ := fold_max_real s
  refine ⟨max m a, ?_⟩
  rw [newMax, h]
  rcases le_total m a with h' | h'
  · rw [max_eq_right h', max_eq_right (by exact_mod_cast h')]
  · rw [max_eq_left h', max_eq_left (by exact_mod_cast h')]

/-- A weight. -/
theorem exp2_sub (s m : ℝ) : Ideal.exp2 ((s : EReal) - (m : EReal)) = (((2 : ℝ) ^ (s - m) : ℝ) : EReal) := by
  rw [← EReal.coe_sub, Ideal.exp2_coe]
  rfl

/-- The rescaling of an accumulator to a new maximum. -/
theorem rescale {ι : Type} (t : Finset ι) (m M : ℝ) (s : ι → ℝ) (v : ι → EReal) :
    Ideal.exp2 ((m : EReal) - (M : EReal)) * ∑ j ∈ t, (((2 : ℝ) ^ (s j - m) : ℝ) : EReal) * v j
      = ∑ j ∈ t, (((2 : ℝ) ^ (s j - M) : ℝ) : EReal) * v j := by
  rw [exp2_sub, coe_mul_sum t _ (Real.rpow_nonneg (by norm_num) _)]
  refine Finset.sum_congr rfl fun j _ => ?_
  rw [← mul_assoc, ← EReal.coe_mul, ← Real.rpow_add (by norm_num)]
  congr 3
  ring

/-- The first chunk's accumulator. -/
theorem first (s : Fin 1024 → ℝ) (M : ℝ) (hM : newMax ⊥ (fun j => (s j : EReal)) = M) (v : Fin 1024 → EReal) :
    newAcc ⊥ (fun j => (s j : EReal)) v 0 = ∑ j, (((2 : ℝ) ^ (s j - M) : ℝ) : EReal) * v j := by
  rw [newAcc, hM, mul_zero, zero_add]
  simp only [exp2_sub]

/-- A later chunk's accumulator. -/
theorem next {ι : Type} (t : Finset ι) (s : Fin 1024 → ℝ) (m M : ℝ) (hM : newMax m (fun j => (s j : EReal)) = M) (v : Fin 1024 → EReal)
    (s' : ι → ℝ) (v' : ι → EReal) :
    newAcc m (fun j => (s j : EReal)) v (∑ j ∈ t, (((2 : ℝ) ^ (s' j - m) : ℝ) : EReal) * v' j)
      = (∑ j ∈ t, (((2 : ℝ) ^ (s' j - M) : ℝ) : EReal) * v' j) + ∑ j, (((2 : ℝ) ^ (s j - M) : ℝ) : EReal) * v j := by
  rw [newAcc, hM, rescale]
  simp only [exp2_sub]

/-- A sum over a disjoint union. -/
theorem sum_disj {ι κ : Type} [Fintype ι] [Fintype κ] (f : ι ⊕ κ → EReal) :
    ∑ j, f j = (∑ j, f (.inl j)) + ∑ j, f (.inr j) := Fintype.sum_sum_type f

/-- A sum over the keys, chunk by chunk. -/
theorem sum_chunks (f : Fin 4096 → EReal) :
    ∑ j, f j = (((∑ j, chunk 0 f j) + ∑ j, chunk 1 f j) + ∑ j, chunk 2 f j) + ∑ j, chunk 3 f j := by
  have h1 : ∑ j, f j = (∑ j : Fin 3072, f ⟨j.val, by omega⟩) + ∑ j : Fin 1024, f ⟨3072 + j.val, by omega⟩ :=
    Fin.sum_univ_add (a := 3072) (b := 1024) f
  have h2 : ∑ j : Fin 3072, f ⟨j.val, by omega⟩ = (∑ j : Fin 2048, f ⟨j.val, by omega⟩) + ∑ j : Fin 1024, f ⟨2048 + j.val, by omega⟩ :=
    Fin.sum_univ_add (a := 2048) (b := 1024) (fun j : Fin 3072 => f ⟨j.val, by omega⟩)
  have h3 : ∑ j : Fin 2048, f ⟨j.val, by omega⟩ = (∑ j : Fin 1024, f ⟨j.val, by omega⟩) + ∑ j : Fin 1024, f ⟨1024 + j.val, by omega⟩ :=
    Fin.sum_univ_add (a := 1024) (b := 1024) (fun j : Fin 2048 => f ⟨j.val, by omega⟩)
  rw [h1, h2, h3]
  simp only [chunk]
  refine congrArg₂ _ (congrArg₂ _ (congrArg₂ _ ?_ ?_) ?_) ?_ <;> refine Finset.sum_congr rfl fun j _ => congrArg f (Fin.ext ?_) <;> simp

/-- The four chunks' accumulator is the weighted sum over all keys, for one real maximum that the values do not enter. -/
theorem flash_eq (s : Fin 4096 → ℝ) :
    ∃ M : ℝ, ∀ v : Fin 4096 → EReal, flash (fun j => (s j : EReal)) v = ∑ j, (((2 : ℝ) ^ (s j - M) : ℝ) : EReal) * v j := by
  let c (i : Fin 4) (j : Fin 1024) : ℝ := s ⟨i.val * 1024 + j.val, by omega⟩
  obtain ⟨m1, h1⟩ := newMax_bot (c 0)
  obtain ⟨m2, h2⟩ := newMax_real m1 (c 1)
  obtain ⟨m3, h3⟩ := newMax_real m2 (c 2)
  obtain ⟨m4, h4⟩ := newMax_real m3 (c 3)
  have e1 : max1 (fun j => (s j : EReal)) = m1 := h1
  have e2 : max2 (fun j => (s j : EReal)) = m2 := by rw [max2, e1]; exact h2
  have e3 : max3 (fun j => (s j : EReal)) = m3 := by rw [max3, e2]; exact h3
  refine ⟨m4, fun v => ?_⟩
  have f1 := first (c 0) m1 h1 (chunk 0 v)
  have f2 := next Finset.univ (c 1) m1 m2 h2 (chunk 1 v) (c 0) (chunk 0 v)
  have f3 := next Finset.univ (c 2) m2 m3 h3 (chunk 2 v) (Sum.elim (c 0) (c 1)) (Sum.elim (chunk 0 v) (chunk 1 v))
  have f4 := next Finset.univ (c 3) m3 m4 h4 (chunk 3 v) (Sum.elim (Sum.elim (c 0) (c 1)) (c 2))
    (Sum.elim (Sum.elim (chunk 0 v) (chunk 1 v)) (chunk 2 v))
  simp only [sum_disj, Sum.elim_inl, Sum.elim_inr] at f3 f4
  rw [sum_chunks, flash, e1, e2, e3]
  refine Eq.trans ?_ f4
  refine congrArg (newAcc m3 _ _) ?_
  refine Eq.trans ?_ f3
  refine congrArg (newAcc m2 _ _) ?_
  refine Eq.trans ?_ f2
  exact congrArg (newAcc m1 _ _) f1

/-- The word of one eighth. -/
theorem ofBits_eighth : Ideal.ofBits .f32 0x3E000000#32 = ((1 / 8 : ℝ) : EReal) := by
  simp [Ideal.ofBits, Ideal.ieee, -EReal.coe_mul]; norm_num

/-- A factor common to a term and the sum it is divided by cancels. -/
theorem ratio (x E c : ℝ) (hc : c ≠ 0) (hE : E ≠ 0) : 1 / (E * c) * (x * c) = x * (1 / E) := by
  field_simp

/-- THE ROW'S EQUATION: the accumulator over the accumulated weights is the reference's average. -/
theorem flash_div (T : Fin 4096 → ℝ) (v : Fin 4096 → EReal) :
    flash (fun j => ((T j * (8 * Real.log 2)⁻¹ : ℝ) : EReal)) v
        * Ideal.div 1 (flash (fun j => ((T j * (8 * Real.log 2)⁻¹ : ℝ) : EReal)) (fun _ => 1))
      = average (fun j => (T j : EReal) * Ideal.ofBits .f32 0x3E000000#32) v := by
  have hlog : Real.log 2 ≠ 0 := (Real.log_pos (by norm_num)).ne'
  obtain ⟨M, hM⟩ := flash_eq (fun j => T j * (8 * Real.log 2)⁻¹)
  obtain ⟨a, ha⟩ := top_real (fun j => T j * (1 / 8))
  have hs : (fun j => (T j : EReal) * Ideal.ofBits .f32 0x3E000000#32) = fun j => ((T j * (1 / 8) : ℝ) : EReal) := by
    funext j
    rw [ofBits_eighth, ← EReal.coe_mul]
  have hpos : ∀ j, 0 < (2 : ℝ) ^ (T j * (8 * Real.log 2)⁻¹ - M) := fun j => Real.rpow_pos_of_pos (by norm_num) _
  have hD : 0 < ∑ j, (2 : ℝ) ^ (T j * (8 * Real.log 2)⁻¹ - M) := Finset.sum_pos (fun j _ => hpos j) Finset.univ_nonempty
  have hE : 0 < ∑ j, Real.exp (T j * (1 / 8) - a) := Finset.sum_pos (fun j _ => Real.exp_pos _) Finset.univ_nonempty
  have hw : ∀ j, (2 : ℝ) ^ (T j * (8 * Real.log 2)⁻¹ - M) = Real.exp (T j * (1 / 8) - a) * Real.exp (a - Real.log 2 * M) := fun j => by
    rw [Real.rpow_def_of_pos (by norm_num), ← Real.exp_add]
    refine congrArg Real.exp ?_
    field_simp
    ring
  rw [hs, hM, hM]
  simp only [mul_one]
  rw [← coe_sum, Ideal.div_coe hD.ne', one_mul, mul_comm, coe_mul_sum _ _ (one_div_nonneg.mpr hD.le), average, ha]
  refine Finset.sum_congr rfl fun j _ => ?_
  simp only [← EReal.coe_sub, Ideal.exp_coe]
  rw [← coe_sum, Ideal.div_coe hE.ne', ← mul_assoc, ← EReal.coe_mul, ← EReal.coe_mul, mul_comm (v j)]
  refine congrArg (fun r : ℝ => (r : EReal) * v j) ?_
  rw [Finset.sum_congr rfl (fun i _ => hw i), ← Finset.sum_mul, hw j]
  exact ratio _ _ _ (Real.exp_pos _).ne' hE.ne'

end Cert.Softmax

end
-- ==== Proof.Lanes.lean ====
/-
  Lanes in groups of 64, free of any program: the sum over one head's lanes, written as a sum over all lanes against a
  mask; the lane numbers' quotients and remainders as the words the masks are made of; and which values are real numbers.
-/
module

public import proofs.«01_k».proof.Proof.Heads
public import proofs.«01_k».proof.Proof.Softmax

@[expose] public section

set_option maxRecDepth 16384

noncomputable section

namespace Cert.Lanes

open Idealize.ShloMosaic Cert.Heads

/-! ## Sums over one group of lanes -/

/-- A sum whose terms outside one group of 64 lanes are zero is the sum over that group. -/
theorem sum_group {n a : ℕ} (hn : n = a * 64) (f : Fin n → EReal) (p : Fin a) (hf : ∀ k : Fin n, k.val / 64 ≠ p.val → f k = 0) :
    ∑ k, f k = ∑ e : Fin 64, f ⟨p.val * 64 + e.val, by have := p.isLt; have := e.isLt; omega⟩ := by
  classical
  symm
  refine Finset.sum_bij_ne_zero (fun e _ _ => ⟨p.val * 64 + e.val, by have := p.isLt; have := e.isLt; omega⟩) ?_ ?_ ?_ ?_
  · intro e _ _; exact Finset.mem_univ _
  · intro e _ _ e' _ _ h
    have h2 := congrArg Fin.val h
    exact Fin.ext (by simp only [] at h2; omega)
  · intro k _ hk
    have hp : k.val / 64 = p.val := by
      by_contra h
      exact hk (hf k h)
    have e1 : (⟨p.val * 64 + k.val % 64, by have := p.isLt; omega⟩ : Fin n) = k := Fin.ext (by simp only []; omega)
    exact ⟨⟨k.val % 64, by omega⟩, Finset.mem_univ _, by simp only []; rw [e1]; exact hk, e1⟩
  · intro e _ _; rfl

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.neg {x : EReal} (hx : IsReal x) : IsReal (-x) := by
  obtain ⟨a, rfl⟩ := hx; exact ⟨-a, by push_cast; rfl⟩
theorem IsReal.sub_self {x : EReal} (hx : IsReal x) : x - x = 0 := by
  obtain ⟨a, rfl⟩ := hx
  rw [← EReal.coe_sub, _root_.sub_self]
  rfl
theorem IsReal.sum {ι : Type} (t : Finset ι) {f : ι → EReal} (hf : ∀ i, IsReal (f i)) : IsReal (∑ i ∈ t, f i) := by
  choose g hg using hf
  exact ⟨∑ i ∈ t, g i, by rw [Softmax.coe_sum]; exact Finset.sum_congr rfl fun i _ => hg i⟩

/-- The squares of one head's lanes, summed as the kernel sums them: a leading part and the remainder it leaves. -/
theorem group_sum {n a : ℕ} (hn : n = a * 64) (x : Fin n → EReal) (hx : ∀ k, IsReal (x k)) (p : Fin a) (l : Fin n) (hl : l.val / 64 = p.val) :
    (∑ k, x k * x k * (if k.val / 64 = l.val / 64 then 1 else 0))
        + ∑ k, (x k * x k - x k * x k) * (if k.val / 64 = l.val / 64 then (1 : EReal) else 0)
      = ∑ e : Fin 64, x ⟨p.val * 64 + e.val, by have := p.isLt; have := e.isLt; omega⟩
          * x ⟨p.val * 64 + e.val, by have := p.isLt; have := e.isLt; omega⟩ := by
  have h2 : ∑ k, (x k * x k - x k * x k) * (if k.val / 64 = l.val / 64 then (1 : EReal) else 0) = 0 :=
    Finset.sum_eq_zero fun k _ => by rw [((hx k).mul (hx k)).sub_self, zero_mul]
  rw [h2, add_zero, hl, sum_group hn _ p (fun k hk => by rw [if_neg hk, mul_zero])]
  refine Finset.sum_congr rfl fun e _ => ?_
  have he : (p.val * 64 + e.val) / 64 = p.val := by have := e.isLt; omega
  simp only [he, if_true, mul_one]

/-! ## Real rows -/

theorem ofBits_64 : Ideal.ofBits .f32 0x42800000#32 = ((64 : ℝ) : EReal) := by
  simp [Ideal.ofBits, Ideal.ieee, -EReal.coe_mul]; norm_num
theorem ofBits_inv64 : Ideal.ofBits .f32 1015021568#32 = ((1 / 64 : ℝ) : EReal) := by
  simp [Ideal.ofBits, Ideal.ieee, -EReal.coe_mul]; norm_num
theorem ofBits_eps : ∃ r : ℝ, 0 < r ∧ Ideal.ofBits .f32 0x358637BD#32 = (r : EReal) := by
  refine ⟨(8796093 : ℝ) * (2 : ℝ) ^ (-43 : ℤ), by positivity, ?_⟩
  simp [Ideal.ofBits, Ideal.ieee, -EReal.coe_mul]

/-- The mean's reciprocal as a factor. -/
theorem mean_eq (x : EReal) : x * Ideal.ofBits .f32 1015021568#32 = Ideal.div x (Ideal.ofBits .f32 0x42800000#32) := by
  rw [ofBits_64, Ideal.div_coe (by norm_num), ofBits_inv64]

/-- A head's normalised row is real. -/
theorem headNorm_real {x w : Fin 64 → EReal} (hx : ∀ d, IsReal (x d)) (hw : ∀ d, IsReal (w d)) (d : Fin 64) : IsReal (headNorm x w d) := by
  refine ((hx d).mul ?_).mul (hw d)
  obtain ⟨e, he, hee⟩ := ofBits_eps
  choose g hg using hx
  have hs : ∑ i, x i * x i = ((∑ i, g i * g i : ℝ) : EReal) := by
    rw [Softmax.coe_sum]
    exact Finset.sum_congr rfl fun i _ => by rw [hg i, EReal.coe_mul]
  have hpos : 0 < (∑ i, g i * g i) * (1 / 64) + e := by
    have : 0 ≤ ∑ i, g i * g i := Finset.sum_nonneg fun i _ => mul_self_nonneg _
    positivity
  rw [hs, ofBits_64, Ideal.div_coe (by norm_num), hee, ← EReal.coe_mul, ← EReal.coe_add, Ideal.rsqrt_coe, if_neg (not_lt.mpr hpos.le),
    if_neg hpos.ne']
  exact ⟨_, rfl⟩

/-- The row a head scores with is real. -/
theorem turned_real {x w cs sn : Fin 64 → EReal} (hx : ∀ d, IsReal (x d)) (hw : ∀ d, IsReal (w d)) (hc : ∀ d, IsReal (cs d))
    (hs : ∀ d, IsReal (sn d)) (d : Fin 64) : IsReal (turned x w cs sn d) := by
  refine ((headNorm_real hx hw d).mul (hc d)).add (IsReal.mul ?_ (hs d))
  unfold turn
  split_ifs
  · exact (headNorm_real hx hw _).neg
  · exact headNorm_real hx hw _

/-! ## Lane numbers as words -/

/-- A lane's quotient by 64, rounded down as the kernel rounds it. -/
theorem word_div64 (n : ℕ) (hn : n < 512) :
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := by
  have h : ∀ l : Fin 512, Scalar.select
      (IntOp.andi
        (IntOp.cmpi .ne
          (IntOp.subi (BitVec.setWidth 32 (IntOp.cmpi .sgt (BitVec.ofNat 32 l.val) 0#32)) (BitVec.setWidth 32 (IntOp.cmpi .slt (BitVec.ofNat 32 l.val) 0#32)))
          (Scalar.subi (Scalar.extui (Scalar.cmpi .sgt 64#32 0#32)) (Scalar.extui (Scalar.cmpi .slt 64#32 0#32))))
        (IntOp.cmpi .ne (IntOp.remsi .vector (BitVec.ofNat 32 l.val) 64#32) 0#32))
      (IntOp.subi (IntOp.divsi .vector (BitVec.ofNat 32 l.val) 64#32) 1#32)
      (IntOp.divsi .vector (BitVec.ofNat 32 l.val) 64#32) = BitVec.ofNat 32 (l.val / 64) := by decide +kernel
  exact h ⟨n, hn⟩

/-- The mask's entry: one in the lane's own group. -/
theorem mask_entry (a b : ℕ) (ha : a < 512) (hb : b < 512) :
    (FloatOps.sitofp (F := Ideal) .f32 (BitVec.setWidth 32 (IntOp.cmpi .eq (BitVec.ofNat 32 a) (BitVec.ofNat 32 b))) : EReal)
      = if a = b then 1 else 0 := by
  by_cases h : a = b
  · subst h
    rw [if_pos rfl]
    simp [IntOp.cmpi, FloatOps.sitofp]
  · have h' : (BitVec.ofNat 32 a) ≠ BitVec.ofNat 32 b := fun e => h (by
      have := congrArg BitVec.toNat e
      simp only [BitVec.toNat_ofNat] at this
      omega)
    rw [if_neg h]
    have hb : (BitVec.ofNat 32 a == BitVec.ofNat 32 b) = false := beq_eq_false_iff_ne.mpr h'
    simp [IntOp.cmpi, FloatOps.sitofp, hb]

end Cert.Lanes

end
-- ==== Proof.LruScan.lean ====
/-
  The recurrence h = a * h + b over the extended reals, free of any program: the scan by doubling computes it, and so does the
  sum of every b decayed by all a behind it.
-/
module

public import proofs.«01_k».proof.Proof.Lanes

@[expose] public section

noncomputable section

namespace Cert.LruScan

open Idealize.ShloMosaic

theorem pick {α : Type} (p : Prop) [Decidable p] (a b : α) : Scalar.select (BitVec.ofBool (decide p)) a b = if p then a else b := by
  by_cases h : p <;> simp [h, Scalar.select]

/-- Positions as words compare as they do. -/
theorem word_sle {i d : ℕ} (hi : i < 100000) (hd : d < 100000) :
    IntOp.cmpi .sle (BitVec.ofNat 32 i) (BitVec.ofNat 32 d) = BitVec.ofBool (decide (i ≤ d)) := by
  have e1 : (BitVec.ofNat 32 i).toInt = i := by rw [BitVec.toInt_ofNat']; simp [Int.bmod]; omega
  have e2 : (BitVec.ofNat 32 d).toInt = d := by rw [BitVec.toInt_ofNat']; simp [Int.bmod]; omega
  simp [IntOp.cmpi, BitVec.sle, e1, e2]
theorem word_slt {i d : ℕ} (hi : i < 100000) (hd : d < 100000) :
    IntOp.cmpi .slt (BitVec.ofNat 32 i) (BitVec.ofNat 32 d) = BitVec.ofBool (decide (i < d)) := by
  have e1 : (BitVec.ofNat 32 i).toInt = i := by rw [BitVec.toInt_ofNat']; simp [Int.bmod]; omega
  have e2 : (BitVec.ofNat 32 d).toInt = d := by rw [BitVec.toInt_ofNat']; simp [Int.bmod]; omega
  simp [IntOp.cmpi, BitVec.slt, e1, e2]
theorem word_sge {i d : ℕ} (hi : i < 100000) (hd : d < 100000) :
    IntOp.cmpi .sge (BitVec.ofNat 32 i) (BitVec.ofNat 32 d) = BitVec.ofBool (decide (d ≤ i)) := word_sle hd hi

/-- Two conditions at once as a number. -/
theorem both (p q : Prop) [Decidable p] [Decidable q] :
    (FloatOps.uitofp (F := Ideal) .f32 (IntOp.andi (BitVec.ofBool (decide p)) (BitVec.ofBool (decide q))) : EReal) = if p ∧ q then 1 else 0 := by
  show ((((BitVec.ofBool (decide p)) &&& (BitVec.ofBool (decide q))).toNat : ℝ) : EReal) = _
  by_cases hp : p <;> by_cases hq : q <;> simp [hp, hq]

/-- The recurrence from `x` on: `state a b x n` has taken the steps before `n`. -/
def state (a b : ℕ → EReal) (x : EReal) : ℕ → EReal
  | 0 => x
  | n + 1 => a n * state a b x n + b n

/-- The recurrence goes on from a state. -/
theorem state_add (a b : ℕ → EReal) (x : EReal) (m n : ℕ) :
    state (fun i => a (m + i)) (fun i => b (m + i)) (state a b x m) n = state a b x (m + n) := by
  induction n with
  | zero => rfl
  | succ n ih => show a (m + n) * _ + b (m + n) = _; rw [ih]; rfl

/-- Only the steps taken matter. -/
theorem state_congr {a b a' b' : ℕ → EReal} (x : EReal) (n : ℕ) (h : ∀ i < n, a i = a' i ∧ b i = b' i) : state a b x n = state a' b' x n := by
  induction n with
  | zero => rfl
  | succ n ih =>
    show a n * _ + b n = a' n * _ + b' n
    rw [ih fun i hi => h i (by omega), (h n (by omega)).1, (h n (by omega)).2]

/-- The last `n` steps up to step `i`. -/
def seg (a b : ℕ → EReal) : ℕ → ℕ → EReal → EReal
  | 0, _, x => x
  | n + 1, i, x => a i * seg a b n (i - 1) x + b i

theorem seg_add (a b : ℕ → EReal) (m n i : ℕ) (x : EReal) : seg a b m i (seg a b n (i - m) x) = seg a b (m + n) i x := by
  induction m generalizing i with
  | zero => rw [Nat.zero_add]; rfl
  | succ m ih =>
    rw [show m + 1 + n = (m + n) + 1 by omega]
    show a i * _ + b i = a i * _ + b i
    rw [← ih (i - 1), show i - 1 - m = i - (m + 1) by omega]

theorem seg_state (a b : ℕ → EReal) (x : EReal) (i : ℕ) : seg a b (i + 1) i x = state a b x (i + 1) := by
  induction i with
  | zero => rfl
  | succ i ih => show a (i + 1) * seg a b (i + 1) i x + b (i + 1) = _; rw [ih]; rfl

/-- The sequence `d` steps back, and `e` where there is none. -/
def back (d : ℕ) (e : EReal) (f : ℕ → EReal) (i : ℕ) : EReal := if d ≤ i then f (i - d) else e

/-- One step of the scan by doubling. -/
def stepA (d : ℕ) (A : ℕ → EReal) (i : ℕ) : EReal := A i * back d 1 A i
def stepB (d : ℕ) (A B : ℕ → EReal) (i : ℕ) : EReal := A i * back d 0 B i + B i

/-- What the scan has computed: at every place the last `d` steps, as far as there are any, as a factor and a summand. -/
structure Holds (a b : ℕ → EReal) (d : ℕ) (A B : ℕ → EReal) : Prop where
  pos : ∀ i, 0 ≤ A i
  fin : ∀ i, A i ≠ ⊤
  val : ∀ i x, A i * x + B i = seg a b (min d (i + 1)) i x

theorem holds_one (a b : ℕ → EReal) (h0 : ∀ i, 0 ≤ a i) (h1 : ∀ i, a i ≠ ⊤) : Holds a b 1 a b :=
  ⟨h0, h1, fun i x => by rw [show min 1 (i + 1) = 1 by omega]; rfl⟩

theorem mul_ne_top {x y : EReal} (hx : 0 ≤ x) (hx' : x ≠ ⊤) (hy : 0 ≤ y) (hy' : y ≠ ⊤) : x * y ≠ ⊤ := by
  lift x to ℝ using ⟨hx', fun h => by rw [h] at hx; exact absurd hx (by decide)⟩
  lift y to ℝ using ⟨hy', fun h => by rw [h] at hy; exact absurd hy (by decide)⟩
  rw [← EReal.coe_mul]
  exact EReal.coe_ne_top _

theorem holds_step {a b : ℕ → EReal} {d : ℕ} {A B : ℕ → EReal} (h : Holds a b d A B) : Holds a b (2 * d) (stepA d A) (stepB d A B) := by
  refine ⟨fun i => ?_, fun i => ?_, fun i x => ?_⟩
  · unfold stepA back
    split
    · exact mul_nonneg (h.pos i) (h.pos _)
    · rw [mul_one]; exact h.pos i
  · unfold stepA back
    split
    · exact mul_ne_top (h.pos i) (h.fin i) (h.pos _) (h.fin _)
    · rw [mul_one]; exact h.fin i
  · unfold stepA stepB back
    by_cases hd : d ≤ i
    · rw [if_pos hd, if_pos hd, ← add_assoc, mul_assoc, ← EReal.left_distrib_of_nonneg_of_ne_top (h.pos i) (h.fin i), h.val, h.val,
        show min d (i + 1) = d by omega, seg_add]
      congr 1
      omega
    · rw [if_neg hd, if_neg hd, mul_one, mul_zero, zero_add, h.val]
      congr 1
      omega

/-- Eight steps of the scan on 256 rows. -/
def scanA (a : ℕ → EReal) : ℕ → EReal :=
  stepA 128 (stepA 64 (stepA 32 (stepA 16 (stepA 8 (stepA 4 (stepA 2 (stepA 1 a)))))))
def scanB (a b : ℕ → EReal) : ℕ → EReal :=
  stepB 128 (stepA 64 (stepA 32 (stepA 16 (stepA 8 (stepA 4 (stepA 2 (stepA 1 a)))))))
    (stepB 64 (stepA 32 (stepA 16 (stepA 8 (stepA 4 (stepA 2 (stepA 1 a))))))
      (stepB 32 (stepA 16 (stepA 8 (stepA 4 (stepA 2 (stepA 1 a)))))
        (stepB 16 (stepA 8 (stepA 4 (stepA 2 (stepA 1 a))))
          (stepB 8 (stepA 4 (stepA 2 (stepA 1 a)))
            (stepB 4 (stepA 2 (stepA 1 a)) (stepB 2 (stepA 1 a) (stepB 1 a b)))))))

theorem scan_eq (a b : ℕ → EReal) (h0 : ∀ i, 0 ≤ a i) (h1 : ∀ i, a i ≠ ⊤) (i : ℕ) (hi : i < 256) (x : EReal) :
    scanA a i * x + scanB a b i = state a b x (i + 1) := by
  have h := (holds_step (holds_step (holds_step (holds_step (holds_step (holds_step (holds_step (holds_step (holds_one a b h0 h1)))))))))
  refine (h.val i x).trans ?_
  rw [show min (2 * (2 * (2 * (2 * (2 * (2 * (2 * (2 * 1)))))))) (i + 1) = i + 1 by omega, seg_state]

/-! ## The recurrence as a sum -/

theorem exp_nonneg (x : EReal) : 0 ≤ Ideal.exp x := by
  induction x with
  | bot => simp
  | top => simp
  | coe r => rw [Ideal.exp_coe]; exact_mod_cast (Real.exp_pos r).le

theorem exp_ne_top {x : EReal} (h : x ≤ 0) : Ideal.exp x ≠ ⊤ := by
  induction x with
  | bot => simp
  | top => exact absurd h (by simp)
  | coe r => rw [Ideal.exp_coe]; exact EReal.coe_ne_top _

theorem exp_add {x y : EReal} (hx : x ≤ 0) (hy : y ≤ 0) : Ideal.exp (x + y) = Ideal.exp x * Ideal.exp y := by
  induction x with
  | bot => rw [EReal.bot_add, Ideal.exp_bot, zero_mul]
  | top => exact absurd hx (by simp)
  | coe r =>
    induction y with
    | bot => rw [EReal.add_bot, Ideal.exp_bot, mul_zero]
    | top => exact absurd hy (by simp)
    | coe s => rw [← EReal.coe_add, Ideal.exp_coe, Ideal.exp_coe, Ideal.exp_coe, ← EReal.coe_mul, Real.exp_add]

theorem mul_sum {ι : Type} (s : Finset ι) (f : ι → EReal) {x : EReal} (h0 : 0 ≤ x) (h1 : x ≠ ⊤) : x * ∑ i ∈ s, f i = ∑ i ∈ s, x * f i := by
  classical
  induction s using Finset.induction_on with
  | empty => simp
  | insert i s hi ih => rw [Finset.sum_insert hi, Finset.sum_insert hi, EReal.left_distrib_of_nonneg_of_ne_top h0 h1, ih]

/-- The logarithms between two places. -/
def span (l : ℕ → EReal) (j t : ℕ) : EReal := ∑ k ∈ Finset.range (t + 1), if j < k then l k else 0

theorem span_nonpos {l : ℕ → EReal} (hl : ∀ k, l k ≤ 0) (j t : ℕ) : span l j t ≤ 0 :=
  Finset.sum_nonpos fun k _ => by split; exacts [hl k, le_rfl]

/-- Every b decayed by all a behind it. -/
theorem decayed (l b : ℕ → EReal) (hl : ∀ k, l k ≤ 0) (t : ℕ) :
    ∑ j ∈ Finset.range (t + 1), Ideal.exp (span l j t) * b j = state (fun k => Ideal.exp (l k)) b 0 (t + 1) := by
  have hself : ∀ t, Ideal.exp (span l t t) = 1 := fun t => by
    have : span l t t = 0 := Finset.sum_eq_zero fun k hk => if_neg (by have := Finset.mem_range.mp hk; omega)
    rw [this, show (0 : EReal) = ((0 : ℝ) : EReal) from rfl, Ideal.exp_coe, Real.exp_zero]; rfl
  induction t with
  | zero =>
    rw [Finset.sum_range_one, hself]
    show _ = Ideal.exp (l 0) * 0 + b 0
    rw [one_mul, mul_zero, zero_add]
  | succ t ih =>
    rw [Finset.sum_range_succ, hself, one_mul]
    show _ = Ideal.exp (l (t + 1)) * state (fun k => Ideal.exp (l k)) b 0 (t + 1) + b (t + 1)
    rw [← ih, mul_sum _ _ (exp_nonneg _) (exp_ne_top (hl _))]
    refine congrArg (· + b (t + 1)) (Finset.sum_congr rfl fun j hj => ?_)
    have hj' := Finset.mem_range.mp hj
    have : span l j (t + 1) = l (t + 1) + span l j t := by
      unfold span
      rw [Finset.sum_range_succ, if_pos (by omega), add_comm]
    rw [this, exp_add (hl _) (span_nonpos hl _ _), mul_assoc]

/-- The same with its sums over all places and masks. -/
theorem decayed_fin {N : ℕ} (l b : ℕ → EReal) (hl : ∀ k, l k ≤ 0) (t : Fin N) :
    (∑ j : Fin N, if j.val ≤ t.val then Ideal.exp (∑ k : Fin N, l k * (if j.val < k.val ∧ k.val ≤ t.val then 1 else 0)) * b j else 0)
      = state (fun k => Ideal.exp (l k)) b 0 (t.val + 1) := by
  have ht := t.isLt
  rw [← decayed l b hl t.val]
  have cut : ∀ f : ℕ → EReal, (∑ j ∈ Finset.range (t.val + 1), f j) = ∑ j : Fin N, if j.val ≤ t.val then f j.val else 0 := fun f => by
    rw [← Finset.sum_range (fun j => if j ≤ t.val then f j else 0), ← Finset.sum_filter]
    refine Finset.sum_congr (Finset.ext fun k => ?_) fun _ _ => rfl
    simp only [Finset.mem_range, Finset.mem_filter]
    omega
  rw [cut]
  refine Finset.sum_congr rfl fun j _ => ?_
  split
  · refine congrArg (fun y => Ideal.exp y * b j.val) ?_
    unfold span
    rw [cut]
    refine Finset.sum_congr rfl fun k _ => ?_
    by_cases h1 : j.val < k.val <;> by_cases h2 : k.val ≤ t.val <;> simp [h1, h2]
  · rfl

/-- The sum over the places behind, from the last place on. -/
theorem decayed_rev {N : ℕ} (l b : ℕ → EReal) (hl : ∀ k, l k ≤ 0) (t : Fin N) :
    (∑ j : Fin N, if t.val ≤ j.val then Ideal.exp (∑ k : Fin N, l k * (if t.val ≤ k.val ∧ k.val < j.val then 1 else 0)) * b j else 0)
      = state (fun k => Ideal.exp (l (N - 1 - k))) (fun k => b (N - 1 - k)) 0 (N - t.val) := by
  have ht := t.isLt
  have h := decayed_fin (N := N) (fun k => l (N - 1 - k)) (fun k => b (N - 1 - k)) (fun k => hl _) t.rev
  rw [show (t.rev).val + 1 = N - t.val by rw [Fin.val_rev]; omega] at h
  rw [← h, ← Equiv.sum_comp Fin.revPerm]
  refine Finset.sum_congr rfl fun j _ => ?_
  have hj := j.isLt
  have ej : (Fin.revPerm j).val = N - 1 - j.val := by rw [Fin.revPerm_apply, Fin.val_rev]; omega
  have et : (t.rev).val = N - 1 - t.val := by rw [Fin.val_rev]; omega
  rw [ej, et]
  by_cases hc : t.val ≤ N - 1 - j.val
  · rw [if_pos hc, if_pos (by omega)]
    refine congrArg (fun y => Ideal.exp y * b (N - 1 - j.val)) ?_
    rw [← Equiv.sum_comp Fin.revPerm]
    refine Finset.sum_congr rfl fun k _ => ?_
    have hk := k.isLt
    have ek : (Fin.revPerm k).val = N - 1 - k.val := by rw [Fin.revPerm_apply, Fin.val_rev]; omega
    rw [ek]
    refine congrArg (fun y => l (N - 1 - k.val) * y) (if_congr (by omega) rfl rfl)
  · rw [if_neg hc, if_neg (by omega)]

/-! ## The decays -/

/-- The sigmoid, the softplus and the logarithm of the decay as the reference writes them. -/
def sigmoid (x : EReal) : EReal := Ideal.div (Ideal.ofBits .f32 0x3F800000#32) (Ideal.ofBits .f32 0x3F800000#32 + Ideal.exp (-x))
def softplus (x : EReal) : EReal := max x 0 + Ideal.log1p (Ideal.exp (-(max (x) (-x))))
def logDecay (g lam : EReal) : EReal := Ideal.ofBits .f32 0xC1000000#32 * sigmoid g * softplus (-lam)

theorem ofBits_one : Ideal.ofBits .f32 0x3F800000#32 = 1 := by
  simp [Ideal.ofBits, Ideal.ieee, -EReal.coe_mul]; norm_num
theorem ofBits_zero : Ideal.ofBits .f32 0#32 = 0 := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_neg8 : Ideal.ofBits .f32 0xC1000000#32 = ((-8 : ℝ) : EReal) := by
  simp [Ideal.ofBits, Ideal.ieee, -EReal.coe_mul]; norm_num

theorem sigmoid_nonneg (x : EReal) : 0 ≤ sigmoid x := by
  unfold sigmoid
  rw [ofBits_one, show Ideal.div 1 (1 + Ideal.exp (-x)) = Ideal.logistic x from rfl]
  induction x with
  | bot => rw [Ideal.logistic_bot]
  | top => rw [Ideal.logistic_top]; exact zero_le_one
  | coe r => rw [Ideal.logistic_coe]; exact_mod_cast (inv_pos.mpr (by positivity)).le

theorem log1p_nonneg {x : EReal} (h : 0 ≤ x) : 0 ≤ Ideal.log1p x := by
  unfold Ideal.log1p
  induction x with
  | bot => exact absurd h (by simp)
  | top => rw [EReal.add_top_of_ne_bot (by decide), Ideal.log_top]; exact le_top
  | coe r =>
    have hr : 0 ≤ r := by exact_mod_cast h
    rw [show (1 : EReal) + (r : EReal) = ((1 + r : ℝ) : EReal) by push_cast; rfl, Ideal.log_coe, if_neg (by linarith)]
    exact_mod_cast Real.log_nonneg (by linarith)

theorem softplus_nonneg (x : EReal) : 0 ≤ softplus x :=
  add_nonneg (le_max_right _ _) (log1p_nonneg (exp_nonneg _))

theorem logDecay_nonpos (g lam : EReal) : logDecay g lam ≤ 0 := by
  unfold logDecay
  rw [mul_assoc, ofBits_neg8, show ((-8 : ℝ) : EReal) = -((8 : ℝ) : EReal) by push_cast; rfl, EReal.neg_mul]
  have h : 0 ≤ ((8 : ℝ) : EReal) * (sigmoid g * softplus (-lam)) :=
    mul_nonneg (by exact_mod_cast (by norm_num : (0 : ℝ) ≤ 8)) (mul_nonneg (sigmoid_nonneg _) (softplus_nonneg _))
  simpa using EReal.neg_le_neg_iff.mpr h

/-- One less the decay's square, in the two ways it is written. -/
theorem input_factor {l : EReal} (h : l ≤ 0) :
    (0 - Ideal.tanh l) * (Ideal.exp l * Ideal.exp l + Ideal.ofBits .f32 0x3F800000#32) = -Ideal.expm1 (Ideal.ofBits .f32 0x40000000#32 * l) := by
  rw [ofBits_one, ofBits_two]
  unfold Ideal.expm1
  induction l with
  | bot =>
    rw [EReal.coe_mul_bot_of_pos (by norm_num), Ideal.exp_bot, Ideal.tanh_bot]
    simp
  | top => exact absurd h (by simp)
  | coe r =>
    rw [← EReal.coe_mul, Ideal.exp_coe, Ideal.exp_coe, Ideal.tanh_coe]
    have e : (0 - Real.tanh r) * (Real.exp r * Real.exp r + 1) = -(Real.exp (2 * r) - 1) := by
      have h2 : Real.exp (2 * r) = Real.exp r * Real.exp r := by rw [two_mul, Real.exp_add]
      have hn : Real.exp (-r) = (Real.exp r)⁻¹ := Real.exp_neg r
      have hp := Real.exp_pos r
      rw [Real.tanh_eq_sinh_div_cosh, Real.sinh_eq, Real.cosh_eq, h2, hn]
      field_simp
      ring
    have e' := congrArg (fun x : ℝ => (x : EReal)) e
    push_cast at e'
    exact e'

end Cert.LruScan

end
-- ==== Proof.LruBlock.lean ====
/-
  The recurrence of one block of 256 rows: eight doubling steps and the row carried in.
-/
module

public import proofs.«01_k».proof.Proof.LruLoops
public import proofs.«01_k».proof.Proof.LruScan

@[expose] public section

set_option maxRecDepth 16384

noncomputable section

namespace Cert.LruBlock

open Cert.Kernel6Ideal Cert.Kernel6Ideal.Gen Cert.LruLoops Cert.LruScan Idealize.ShloMosaic

abbrev V := FVec Ideal S256x256 .f32

/-! ## Rows moved within a block -/

/-- The rows moved down by `d`, the first `d` filled; the rows moved up by `d`, the last `d` filled. -/
def down (d : ℕ) (e : BitVec 32) (x : V) : V :=
  select (broadcastTo S256x256 (shapeCast S256x1 (cmpi .sge rowNo (broadcast S256x1 (BitVec.ofNat 32 d))) shapeCasts_S256x1_S256x1) broadcasts_S256x1_S256x256)
    (dynamicRotate 0 (BitVec.ofNat 32 d) none x rotates_S256x256_d0) (broadcast S256x256 (Scalar.ofBits .f32 e))
def up (d : ℕ) (e : BitVec 32) (x : V) : V :=
  select (broadcastTo S256x256 (shapeCast S256x1 (cmpi .slt rowNo (broadcast S256x1 (BitVec.ofNat 32 (256 - d)))) shapeCasts_S256x1_S256x1) broadcasts_S256x1_S256x256)
    (dynamicRotate 0 (BitVec.ofNat 32 (256 - d)) none x rotates_S256x256_d0) (broadcast S256x256 (Scalar.ofBits .f32 e))

theorem down_apply (d : ℕ) (hd : d < 256) (e : BitVec 32) (x : V) (i l : Fin 256) :
    down d e x (ix2 i l) = if h : d ≤ i.val then x (ix2 ⟨i.val - d, by have := i.isLt; omega⟩ l) else Ideal.ofBits .f32 e := by
  have hi := i.isLt
  pointwise [down]
  rw [word_sge (by omega) (by omega), pick]
  split
  · refine congrArg (fun r => x (ix2 r l)) (Fin.ext ?_)
    simp only [BitVec.toNat_ofNat]
    omega
  · rfl

theorem up_apply (d : ℕ) (h0 : 0 < d) (hd : d < 256) (e : BitVec 32) (x : V) (i l : Fin 256) :
    up d e x (ix2 i l) = if h : i.val + d < 256 then x (ix2 ⟨i.val + d, h⟩ l) else Ideal.ofBits .f32 e := by
  have hi := i.isLt
  pointwise [up]
  rw [word_slt (by omega) (by omega), pick]
  by_cases h : i.val + d < 256
  · rw [dif_pos h, if_pos (by omega)]
    refine congrArg (fun r => x (ix2 r l)) (Fin.ext ?_)
    simp only [BitVec.toNat_ofNat]
    omega
  · rw [dif_neg h, if_neg (by omega)]

/-! ## The scan of a block as moves -/

def mulDown (d : ℕ) (A : V) : V := mulf A (down d 0x3F800000#32 A)
def addDown (d : ℕ) (A B : V) : V := addf (mulf A (down d 0x00000000#32 B)) B
def mulUp (d : ℕ) (A : V) : V := mulf A (up d 0x3F800000#32 A)
def addUp (d : ℕ) (A B : V) : V := addf (mulf A (up d 0x00000000#32 B)) B

/-- The decays of the last 1, 2, 4, … rows. -/
def downs (a : V) : ℕ → V
  | 0 => a
  | n + 1 => mulDown (2 ^ n) (downs a n)
def sums (a b : V) : ℕ → V
  | 0 => b
  | n + 1 => addDown (2 ^ n) (downs a n) (sums a b n)
def ups (a : V) : ℕ → V
  | 0 => a
  | n + 1 => mulUp (2 ^ n) (ups a n)
def sumsUp (a b : V) : ℕ → V
  | 0 => b
  | n + 1 => addUp (2 ^ n) (ups a n) (sumsUp a b n)

theorem fwd_eq (c : FVec Ideal S1x256 .f32) (x i a s : V) :
    fwd c x i a s = addf (mulf (downs a 8) (broadcastTo S256x256 c broadcasts_S1x256_S256x256)) (sums a (mulf s (mulf i x)) 8) := rfl

theorem bwd_eq (c : FVec Ideal S1x256 .f32) (a b : V) :
    bwd c a b = addf (mulf (ups a 8) (broadcastTo S256x256 c broadcasts_S1x256_S256x256)) (sumsUp a b 8) := rfl

/-! ## One lane as a sequence -/

/-- Lane `l` from the first row on, and from the last row back; zero past the block. -/
def col (x : V) (l : Fin 256) (i : ℕ) : EReal := if h : i < 256 then x (ix2 ⟨i, h⟩ l) else 0
def loc (x : V) (l : Fin 256) (i : ℕ) : EReal := if h : i < 256 then x (ix2 ⟨255 - i, by omega⟩ l) else 0

theorem col_mulDown (d : ℕ) (hd : d < 256) (A : V) (l : Fin 256) : col (mulDown d A) l = stepA d (col A l) := by
  funext i
  simp only [col, stepA, back]
  by_cases h : i < 256
  · rw [dif_pos h, dif_pos h, mulDown]
    change A _ * down d _ A _ = _
    rw [down_apply d hd]
    by_cases hdi : d ≤ i
    · rw [dif_pos hdi, if_pos hdi, dif_pos (by omega)]
    · rw [dif_neg hdi, if_neg hdi, ofBits_one]
  · rw [dif_neg h, dif_neg h, zero_mul]

theorem col_addDown (d : ℕ) (hd : d < 256) (A B : V) (l : Fin 256) : col (addDown d A B) l = stepB d (col A l) (col B l) := by
  funext i
  simp only [col, stepB, back]
  by_cases h : i < 256
  · rw [dif_pos h, dif_pos h, dif_pos h, addDown]
    change A _ * down d _ B _ + B _ = _
    rw [down_apply d hd]
    by_cases hdi : d ≤ i
    · rw [dif_pos hdi, if_pos hdi, dif_pos (by omega)]
    · rw [dif_neg hdi, if_neg hdi, ofBits_zero]
  · rw [dif_neg h, dif_neg h, dif_neg h, zero_mul, zero_add]

theorem loc_mulUp (d : ℕ) (h0 : 0 < d) (hd : d < 256) (A : V) (l : Fin 256) : loc (mulUp d A) l = stepA d (loc A l) := by
  funext i
  simp only [loc, stepA, back]
  by_cases h : i < 256
  · rw [dif_pos h, dif_pos h, mulUp]
    change A _ * up d _ A _ = _
    rw [up_apply d h0 hd]
    by_cases hdi : d ≤ i
    · rw [dif_pos (show 255 - i + d < 256 by omega), if_pos hdi, dif_pos (by omega)]
      exact congrArg (fun r => A (ix2 ⟨255 - i, _⟩ l) * A (ix2 r l)) (Fin.ext (by simp only []; omega))
    · rw [dif_neg (show ¬ 255 - i + d < 256 by omega), if_neg hdi, ofBits_one]
  · rw [dif_neg h, dif_neg h, zero_mul]

theorem loc_addUp (d : ℕ) (h0 : 0 < d) (hd : d < 256) (A B : V) (l : Fin 256) : loc (addUp d A B) l = stepB d (loc A l) (loc B l) := by
  funext i
  simp only [loc, stepB, back]
  by_cases h : i < 256
  · rw [dif_pos h, dif_pos h, dif_pos h, addUp]
    change A _ * up d _ B _ + B _ = _
    rw [up_apply d h0 hd]
    by_cases hdi : d ≤ i
    · rw [dif_pos (show 255 - i + d < 256 by omega), if_pos hdi, dif_pos (by omega)]
      exact congrArg (fun r => A (ix2 ⟨255 - i, _⟩ l) * B (ix2 r l) + B (ix2 ⟨255 - i, _⟩ l)) (Fin.ext (by simp only []; omega))
    · rw [dif_neg (show ¬ 255 - i + d < 256 by omega), if_neg hdi, ofBits_zero]
  · rw [dif_neg h, dif_neg h, dif_neg h, zero_mul, zero_add]

theorem col_downs (a : V) (l : Fin 256) : col (downs a 8) l = scanA (col a l) := by
  simp only [downs, scanA]
  repeat rw [col_mulDown _ (by decide)]
  rfl

theorem col_sums (a b : V) (l : Fin 256) : col (sums a b 8) l = scanB (col a l) (col b l) := by
  simp only [downs, sums, scanB]
  repeat rw [col_addDown _ (by decide)]
  repeat rw [col_mulDown _ (by decide)]
  rfl

theorem loc_ups (a : V) (l : Fin 256) : loc (ups a 8) l = scanA (loc a l) := by
  simp only [ups, scanA]
  repeat rw [loc_mulUp _ (by decide) (by decide)]
  rfl

theorem loc_sumsUp (a b : V) (l : Fin 256) : loc (sumsUp a b 8) l = scanB (loc a l) (loc b l) := by
  simp only [ups, sumsUp, scanB]
  repeat rw [loc_addUp _ (by decide) (by decide)]
  repeat rw [loc_mulUp _ (by decide) (by decide)]
  rfl

/-- A row of the forward block is the state after it; decays are neither negative nor infinite. -/
theorem fwd_apply (c : FVec Ideal S1x256 .f32) (x i a s : V) (h0 : ∀ j, 0 ≤ a j) (h1 : ∀ j, a j ≠ ⊤) (r l : Fin 256) :
    fwd c x i a s (ix2 r l) = state (col a l) (col (mulf s (mulf i x)) l) (c (ix2 0 l)) (r.val + 1) := by
  rw [fwd_eq, ← scan_eq (col a l) _ (fun j => by unfold col; split <;> simp [h0]) (fun j => by unfold col; split <;> simp [h1]) r.val r.isLt,
    ← col_downs, ← col_sums]
  simp only [col, dif_pos r.isLt]
  pointwise

theorem bwd_apply (c : FVec Ideal S1x256 .f32) (a b : V) (h0 : ∀ j, 0 ≤ a j) (h1 : ∀ j, a j ≠ ⊤) (r l : Fin 256) :
    bwd c a b (ix2 r l) = state (loc a l) (loc b l) (c (ix2 0 l)) (256 - r.val) := by
  have hr := r.isLt
  have e : 256 - r.val = (255 - r.val) + 1 := by omega
  rw [bwd_eq, e, ← scan_eq (loc a l) _ (fun j => by unfold loc; split <;> simp [h0]) (fun j => by unfold loc; split <;> simp [h1]) (255 - r.val) (by omega),
    ← loc_ups, ← loc_sumsUp]
  have e2 : (⟨255 - (255 - r.val), by omega⟩ : Fin 256) = r := Fin.ext (by simp only []; omega)
  simp only [loc, dif_pos (show 255 - r.val < 256 by omega), e2]
  pointwise

end Cert.LruBlock

end
-- ==== Proof.LruRef.lean ====
/-
  The reference of the RG-LRU at an index.
-/
module

public import proofs.«01_k».proof.Proof.LruScan
public import proofs.«01_k».proof.Proof.Heads
public import proofs.«01_k».proof.Proof.Gen.Reference6Ideal.Read
public import proofs.«01_k».proof.Proof.Gen.Reference6Ideal.Run

@[expose] public section

set_option maxRecDepth 16384

noncomputable section

namespace Cert.LruRef

open Cert.Reference6Ideal Cert.Reference6Ideal.Gen Cert.Reference6Ideal.Read Idealize.ShloMosaic Cert.Heads Cert.LruScan

variable (x0 x1 : FVec Ideal S32768x256 .f32) (x2 : FVec Ideal S4x256 .f32) (x3 : FVec Ideal S256 .f32)
  (x4 : FVec Ideal S2x2x4x64x64 .f32) (x5 : FVec Ideal S2x2x256 .f32) (x6 : FVec Ideal S2x256 .f32)

/-- A sequence with two zeros before it and zeros after it. -/
def ext (b : Fin 8) (l : Fin 256) (p : ℕ) : EReal := if h : 2 ≤ p ∧ p < 4098 then x0 (ix2 (tok b ⟨p - 2, by omega⟩) l) else 0

/-- The four taps of the convolution, and its bias. -/
def conv (b : Fin 8) (s : Fin 4096) (l : Fin 256) : EReal :=
  ((((ext x0 b l s.val * x2 (ix2 0 l)) + ext x0 b l (s.val + 1) * x2 (ix2 1 l)) + ext x0 b l (s.val + 2) * x2 (ix2 2 l))
    + ext x0 b l (s.val + 3) * x2 (ix2 3 l)) + x3 (ix1 l)

theorem ext_apply (b : Fin 8) (p : Fin 4099) (l : Fin 256) : val_main_v1 (F := Ideal) x0 (ix3 b p l) = ext x0 b l p.val := by
  pointwise [val_main_v1, val_main_v0, val_main_call0_v0, val_main_c, ext]
  by_cases h : 2 ≤ p.val ∧ p.val < 4098
  · rw [dif_pos h, dif_pos (by omega)]
  · rw [dif_neg h, dif_neg (by omega)]
    show (((0#32).toInt : ℝ) : EReal) = 0
    simp

theorem conv_apply (b : Fin 8) (s : Fin 4096) (l : Fin 256) : val_main_v33 (F := Ideal) x0 x2 x3 (ix3 b s l) = conv x0 x2 x3 b s l := by
  have hs := s.isLt
  pointwise [val_main_v33, val_main_v30, val_main_v23, val_main_v16, val_main_v9, val_main_v8, val_main_cst, val_main_v7, val_main_v2, val_main_v10, val_main_v17, val_main_v24,
    val_main_v15, val_main_v22, val_main_v29, val_main_v3, val_main_v4, val_main_v5, val_main_v6, val_main_v11, val_main_v12, val_main_v13, val_main_v14,
    val_main_v18, val_main_v19, val_main_v20, val_main_v21, val_main_v25, val_main_v26, val_main_v27, val_main_v28, val_main_v31, val_main_v32]
  simp only [ext_apply, conv, Nat.add_comm]

/-- The block of a lane and a lane of that block. -/
abbrev blk (l : Fin 256) : Fin 4 := ⟨l.val / 64, by have := l.isLt; omega⟩
abbrev lane (n : Fin 4) (k : Fin 64) : Fin 256 := ⟨n.val * 64 + k.val, by have := n.isLt; have := k.isLt; omega⟩
abbrev off (l : Fin 256) : Fin 64 := ⟨l.val % 64, by omega⟩

/-- A gate before its sigmoid: the lane's block of the convolution by its column of the weights, and a bias. -/
def gate (d g : Fin 2) (b : Fin 8) (s : Fin 4096) (l : Fin 256) : EReal :=
  (∑ k : Fin 64, x4 (ix5 d g (blk l) k (off l)) * conv x0 x2 x3 b s (lane (blk l) k)) + x5 (ix3 d g l)

theorem gate_apply (d g : Fin 2) (b : Fin 8) (s : Fin 4096) (l : Fin 256) :
    val_main_v40 (F := Ideal) x0 x2 x3 x4 x5 (ix5 d g b s l) = gate x0 x2 x3 x4 x5 d g b s l := by
  have hl := l.isLt
  pointwise [val_main_v40, val_main_v39, val_main_v38, val_main_v37, val_main_v36, val_main_v35_apply, val_main_v34]
  refine congrArg₂ (· + ·) (Finset.sum_congr rfl fun k _ => congrArg₂ (· * ·) (congrArg x4 (funext fun a => by fin_cases a <;> rfl)) ?_) rfl
  exact conv_apply x0 x2 x3 b s (lane (blk l) k)

/-- The log decay, the input of the recurrence. -/
def logA (d : Fin 2) (b : Fin 8) (s : Fin 4096) (l : Fin 256) : EReal := logDecay (gate x0 x2 x3 x4 x5 d 0 b s l) (x6 (ix2 d l))
def inp (d : Fin 2) (b : Fin 8) (s : Fin 4096) (l : Fin 256) : EReal :=
  Ideal.sqrt (-Ideal.expm1 (Ideal.ofBits .f32 0x40000000#32 * logA x0 x2 x3 x4 x5 x6 d b s l))
    * (sigmoid (gate x0 x2 x3 x4 x5 d 1 b s l) * conv x0 x2 x3 b s l)

theorem logA_apply (d : Fin 2) (b : Fin 8) (s : Fin 4096) (l : Fin 256) :
    val_main_v63 (F := Ideal) x0 x2 x3 x4 x5 x6 (ix4 d b s l) = logA x0 x2 x3 x4 x5 x6 d b s l := by
  pointwise [val_main_v63, val_main_v62, val_main_v61, val_main_v60, val_main_call1_v11, val_main_call1_v10, val_main_call1_v9, val_main_call1_v8, val_main_call1_v7,
    val_main_call1_v6, val_main_call1_v5, val_main_call1_v4, val_main_call1_v3, val_main_call1_v2, val_main_call1_v1, val_main_call1_v0, val_main_call1_cst,
    val_main_v59, val_main_v58, val_main_v57, val_main_cst_4, val_main_v48, val_main_v47, val_main_cst_1, val_main_v46, val_main_v45, val_main_cst_0, val_main_v44,
    val_main_v43, val_main_v42, val_main_v41]
  simp only [gate_apply, ne_eq, not_true_eq_false, if_false, logA, logDecay, sigmoid, softplus, ofBits_one]
  rfl

theorem inp_apply (d : Fin 2) (b : Fin 8) (s : Fin 4096) (l : Fin 256) :
    val_main_v72 (F := Ideal) x0 x2 x3 x4 x5 x6 (ix4 d b s l) = inp x0 x2 x3 x4 x5 x6 d b s l := by
  pointwise [val_main_v72, val_main_v71, val_main_v70, val_main_v69, val_main_v68, val_main_v67, val_main_v66, val_main_v65, val_main_v64, val_main_cst_5,
    val_main_v56, val_main_v55, val_main_cst_3, val_main_v54, val_main_v53, val_main_cst_2, val_main_v52, val_main_v51, val_main_v50, val_main_v49]
  simp only [logA_apply, gate_apply, conv_apply]
  simp only [inp, sigmoid, ofBits_one, Ideal.expm1]

/-! ## The states -/

def logs (d : Fin 2) (b : Fin 8) (l : Fin 256) (k : ℕ) : EReal := if h : k < 4096 then logA x0 x2 x3 x4 x5 x6 d b ⟨k, h⟩ l else 0
def ins (d : Fin 2) (b : Fin 8) (l : Fin 256) (k : ℕ) : EReal := if h : k < 4096 then inp x0 x2 x3 x4 x5 x6 d b ⟨k, h⟩ l else 0

theorem logs_nonpos (d : Fin 2) (b : Fin 8) (l : Fin 256) (k : ℕ) : logs x0 x2 x3 x4 x5 x6 d b l k ≤ 0 := by
  unfold logs
  split
  · exact logDecay_nonpos _ _
  · exact le_refl _

/-- The state of the forward direction after a position; of the backward direction. -/
def hidF (b : Fin 8) (s : Fin 4096) (l : Fin 256) : EReal :=
  state (fun k => Ideal.exp (logs x0 x2 x3 x4 x5 x6 0 b l k)) (ins x0 x2 x3 x4 x5 x6 0 b l) 0 (s.val + 1)
def hidB (b : Fin 8) (s : Fin 4096) (l : Fin 256) : EReal :=
  state (fun k => Ideal.exp (logs x0 x2 x3 x4 x5 x6 1 b l (4095 - k))) (fun k => ins x0 x2 x3 x4 x5 x6 1 b l (4095 - k)) 0 (4096 - s.val)

theorem hidF_apply (b : Fin 8) (s : Fin 4096) (l : Fin 256) :
    val_main_v125 (F := Ideal) x0 x2 x3 x4 x5 x6 (ix3 b s l) = hidF x0 x2 x3 x4 x5 x6 b s l := by
  pointwise [val_main_v125_apply, val_main_v124, val_main_call2_v1, val_main_call2_v0, val_main_call2_v2, val_main_cst_6, val_main_cst_7, val_main_v123, val_main_v122, val_main_v121, val_main_v120, val_main_v119,
    val_main_v112, val_main_v111, val_main_v110, val_main_v109, val_main_v108, val_main_v107, val_main_v73, val_main_v101, val_main_v100, val_main_v99_apply, val_main_v98, val_main_v97,
    val_main_v86, val_main_v85, val_main_v84, val_main_v83, val_main_v82, val_main_v81, val_main_v80, val_main_v79, val_main_v78, val_main_v77, val_main_v76, val_main_v75, val_main_v74]
  simp only [logA_apply, inp_apply]
  rw [hidF, ← decayed_fin (N := 4096) (logs x0 x2 x3 x4 x5 x6 0 b l) (ins x0 x2 x3 x4 x5 x6 0 b l) (logs_nonpos x0 x2 x3 x4 x5 x6 0 b l) s]
  refine Finset.sum_congr rfl fun j _ => ?_
  have hj := j.isLt
  have hs := s.isLt
  rw [word_sle (by omega) (by omega), pick]
  refine if_congr Iff.rfl (congrArg₂ (· * ·) (congrArg Ideal.exp (Finset.sum_congr rfl fun k _ => ?_)) ?_) ofBits_zero
  · have hk := k.isLt
    rw [word_slt (by omega) (by omega), word_sle (by omega) (by omega), both, logs, dif_pos k.isLt]
  · rw [ins, dif_pos j.isLt]

theorem hidB_apply (b : Fin 8) (s : Fin 4096) (l : Fin 256) :
    val_main_v132 (F := Ideal) x0 x2 x3 x4 x5 x6 (ix3 b s l) = hidB x0 x2 x3 x4 x5 x6 b s l := by
  pointwise [val_main_v132_apply, val_main_v131, val_main_call3_v1, val_main_call3_v0, val_main_call3_v2, val_main_cst_8, val_main_cst_9, val_main_v130, val_main_v129, val_main_v128, val_main_v127, val_main_v126,
    val_main_v118, val_main_v117, val_main_v116, val_main_v115, val_main_v114, val_main_v113, val_main_v73, val_main_v106, val_main_v105, val_main_v104_apply, val_main_v103, val_main_v102,
    val_main_v96, val_main_v95, val_main_v94, val_main_v93, val_main_v92, val_main_v91, val_main_v90, val_main_v89, val_main_v88, val_main_v87, val_main_v76, val_main_v75, val_main_v74]
  simp only [logA_apply, inp_apply]
  rw [hidB, ← decayed_rev (N := 4096) (logs x0 x2 x3 x4 x5 x6 1 b l) (ins x0 x2 x3 x4 x5 x6 1 b l) (logs_nonpos x0 x2 x3 x4 x5 x6 1 b l) s]
  refine Finset.sum_congr rfl fun j _ => ?_
  have hj := j.isLt
  have hs := s.isLt
  rw [word_sge (by omega) (by omega), pick]
  refine if_congr Iff.rfl (congrArg₂ (· * ·) (congrArg Ideal.exp (Finset.sum_congr rfl fun k _ => ?_)) ?_) ofBits_zero
  · have hk := k.isLt
    rw [word_sle (by omega) (by omega), word_slt (by omega) (by omega), both, logs, dif_pos k.isLt]
  · rw [ins, dif_pos j.isLt]

/-- The gate of the result. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g)))))

theorem value (b : Fin 8) (s : Fin 4096) (l : Fin 256) :
    val_main_v148 (F := Ideal) x0 x1 x2 x3 x4 x5 x6 (ix2 (tok b s) l)
      = (hidF x0 x2 x3 x4 x5 x6 b s l + hidB x0 x2 x3 x4 x5 x6 b s l) * gelu (x1 (ix2 (tok b s) l)) := by
  pointwise [val_main_v148, val_main_v147, val_main_v146, val_main_v145, val_main_cst_12, val_main_cst_13, val_main_v144, val_main_v143, val_main_v142, val_main_v141, val_main_v140, val_main_cst_11,
    val_main_v139, val_main_v138, val_main_v137, val_main_cst_10, val_main_v136, val_main_v135, val_main_v134, val_main_v133]
  have e1 : (⟨(b.val * 4096 + s.val) / 4096, by have := b.isLt; have := s.isLt; omega⟩ : Fin 8) = b := Fin.ext (by have := s.isLt; simp only []; omega)
  have e2 : (⟨(b.val * 4096 + s.val) % 4096, by omega⟩ : Fin 4096) = s := Fin.ext (by have := s.isLt; simp only []; omega)
  rw [e1, e2, hidF_apply, hidB_apply]
  simp only [gelu, ofBits_one]

end Cert.LruRef

end
-- ==== Proof.LruPay.lean ====
/-
  The payloads of the RG-LRU at an index, over the operands of one batch entry.
-/
module

public import proofs.«01_k».proof.Proof.LruBlock
public import proofs.«01_k».proof.Proof.LruRef

@[expose] public section

set_option maxRecDepth 16384

noncomputable section

namespace Cert.LruPay

open Cert.Kernel6Ideal Cert.Kernel6Ideal.Gen Cert.LruLoops Cert.LruScan Cert.LruBlock Cert.Heads Idealize.ShloMosaic
open Cert.LruRef (blk off lane)

variable (x1 x2 : Vec Ideal S4096x256 .f32) (x3 : Vec Ideal S4x256 .f32) (x4 : Vec Ideal S1x256 .f32) (x5 : Vec Ideal S256x1024 .bf16)
  (x6 : Vec Ideal S1x1024 .f32) (x7 : Vec Ideal S2x256 .f32)
  (y0 y1 : Vec Ideal S32768x256 .f32) (y3 : Vec Ideal S256 .f32) (y4 : Vec Ideal S2x2x4x64x64 .f32) (y5 : Vec Ideal S2x2x256 .f32)

/-! ## The convolution -/

/-- The rows of a block with eight above and eight below. -/
theorem tall (k : ℕ) (hk : k < 16) (i : Fin 272) (l : Fin 256) (h : 8 ≤ 256 * k + i.val ∧ 256 * k + i.val < 4104) :
    k0_pay9 (above x1 k) (below x1 k) (rows x1 k) (ix2 i l) = x1 (ix2 ⟨256 * k + i.val - 8, by omega⟩ l) := by
  have hi := i.isLt
  pointwise [k0_pay9, above, below, rows, cut]
  have e {p q : Fin 4096} {l' : Fin 256} (h : p.val = q.val) (hl : l'.val = l.val) : x1 (ix2 p l') = x1 (ix2 q l) := by rw [Fin.ext h, Fin.ext hl]
  have hl := l.isLt
  split
  · exact e (by simp only []; omega) (by simp only []; try omega)
  · split
    · exact e (by simp only []; omega) (by simp only []; try omega)
    · exact e (by simp only []; omega) (by simp only []; try omega)

/-- The tall block's rows at a distance, zero where the position's sum with `m` is outside of the sequence. -/
def shifted (w m : BitVec 32) (T : FVec Ideal S272x256 .f32) (P : IVec S256x1 32) : V :=
  select (broadcastTo S256x256 (shapeCast S256x1 (andi (cmpi .sge (addi P (broadcast S256x1 m)) (broadcast S256x1 0#32))
      (cmpi .slt (addi P (broadcast S256x1 m)) (broadcast S256x1 4096#32))) shapeCasts_S256x1_S256x1) broadcasts_S256x1_S256x256)
    (extractStridedSlice S256x256 ![8, 0] (dynamicRotate 0 w none T rotates_S272x256_d0) slices_S272x256_o8_0_S256x256)
    (broadcast S256x256 (Scalar.ofBits .f32 0x00000000#32))

theorem shifted_apply (w m : BitVec 32) (T : FVec Ideal S272x256 .f32) (P : IVec S256x1 32) (r l : Fin 256) :
    shifted w m T P (ix2 r l) = Scalar.select (IntOp.andi (IntOp.cmpi .sge (IntOp.addi (P (ix2 r 0)) m) 0#32) (IntOp.cmpi .slt (IntOp.addi (P (ix2 r 0)) m) 4096#32))
      (T (ix2 ⟨(8 + r.val + 272 - w.toNat % 272) % 272, Nat.mod_lt _ (by omega)⟩ l)) 0 := by
  pointwise [shifted]

/-- The convolution from the tall block and the positions. -/
theorem conv_eq (k : ℕ) : conv x1 x3 x4 k =
    addf (addf (addf (addf (addf (broadcastTo S256x256 x4 broadcasts_S1x256_S256x256) (broadcast S256x256 (Scalar.ofBits .f32 0x00000000#32)))
      (mulf (shifted 2#32 4294967294#32 (k0_pay9 (above x1 k) (below x1 k) (rows x1 k)) (k0_pay10 rowNo 0#32 1#32 (trip k))) (broadcastTo S256x256 (tap x3 0) broadcasts_S1x256_S256x256)))
      (mulf (shifted 1#32 4294967295#32 (k0_pay9 (above x1 k) (below x1 k) (rows x1 k)) (k0_pay10 rowNo 0#32 1#32 (trip k))) (broadcastTo S256x256 (tap x3 1) broadcasts_S1x256_S256x256)))
      (mulf (extractStridedSlice S256x256 ![8, 0] (k0_pay9 (above x1 k) (below x1 k) (rows x1 k)) slices_S272x256_o8_0_S256x256) (broadcastTo S256x256 (tap x3 2) broadcasts_S1x256_S256x256)))
      (mulf (shifted 271#32 1#32 (k0_pay9 (above x1 k) (below x1 k) (rows x1 k)) (k0_pay10 rowNo 0#32 1#32 (trip k))) (broadcastTo S256x256 (tap x3 3) broadcasts_S1x256_S256x256)) := by
  have e : shapeCast S1x256 x4 shapeCasts_S1x256_S1x256 = x4 := by
    funext j
    rw [eq_ix2 j]
    pointwise
  have e2 (y : V) : shapeCast S256x256 y shapeCasts_S256x256_S256x256 = y := by
    funext j
    rw [eq_ix2 j]
    pointwise
  unfold conv k0_pay16
  refine (e2 _).trans ?_
  unfold conv3 LruLoops.next k0_pay15 k0_pay14 k0_pay13 k0_pay12 k0_pay11
  dsimp only
  rw [e]
  rfl

theorem pos (k : ℕ) (hk : k < 16) (r : Fin 256) : k0_pay10 rowNo 0#32 1#32 (trip k) (ix2 r 0) = BitVec.ofNat 32 (256 * k + r.val) := by
  have hr := r.isLt
  have e : (trip k).val = k := Nat.mod_eq_of_lt hk
  pointwise [k0_pay10]
  show BitVec.ofNat 32 r.val + (0#32 + BitVec.ofNat 32 (trip k).val * 1#32) * 256#32 = _
  rw [e]
  apply BitVec.eq_of_toNat_eq
  simp
  omega

/-- Adding a distance to a position, and asking whether it is in the sequence. -/
theorem mask_two : ∀ k : Fin 16, ∀ r : Fin 256, IntOp.andi (IntOp.cmpi .sge (IntOp.addi (BitVec.ofNat 32 (256 * k.val + r.val)) 4294967294#32) 0#32)
    (IntOp.cmpi .slt (IntOp.addi (BitVec.ofNat 32 (256 * k.val + r.val)) 4294967294#32) 4096#32) = BitVec.ofBool (decide (2 ≤ 256 * k.val + r.val)) := by decide +kernel
theorem mask_one : ∀ k : Fin 16, ∀ r : Fin 256, IntOp.andi (IntOp.cmpi .sge (IntOp.addi (BitVec.ofNat 32 (256 * k.val + r.val)) 4294967295#32) 0#32)
    (IntOp.cmpi .slt (IntOp.addi (BitVec.ofNat 32 (256 * k.val + r.val)) 4294967295#32) 4096#32) = BitVec.ofBool (decide (1 ≤ 256 * k.val + r.val)) := by decide +kernel
theorem mask_next : ∀ k : Fin 16, ∀ r : Fin 256, IntOp.andi (IntOp.cmpi .sge (IntOp.addi (BitVec.ofNat 32 (256 * k.val + r.val)) 1#32) 0#32)
    (IntOp.cmpi .slt (IntOp.addi (BitVec.ofNat 32 (256 * k.val + r.val)) 1#32) 4096#32) = BitVec.ofBool (decide (256 * k.val + r.val < 4095)) := by decide +kernel

section Rows
variable (k : ℕ) (hk : k < 16) (r l : Fin 256) (b : Fin 8) (hx : ∀ s l, x1 (ix2 s l) = y0 (ix2 (tok b s) l))
include hk hx

theorem row_two : shifted 2#32 4294967294#32 (k0_pay9 (above x1 k) (below x1 k) (rows x1 k)) (k0_pay10 rowNo 0#32 1#32 (trip k)) (ix2 r l)
    = LruRef.ext y0 b l (256 * k + r.val) := by
  have hr := r.isLt
  rw [shifted_apply, pos k hk, mask_two ⟨k, hk⟩ r, pick, LruRef.ext]
  by_cases h : 2 ≤ 256 * k + r.val
  · rw [if_pos h, dif_pos ⟨h, by omega⟩, tall x1 k hk _ _ (by simp only [BitVec.toNat_ofNat]; omega), hx]
    exact congrArg (fun t => y0 (ix2 (tok b t) l)) (Fin.ext (by simp only [BitVec.toNat_ofNat]; omega))
  · rw [if_neg h, dif_neg (fun q => h q.1)]

theorem row_one : shifted 1#32 4294967295#32 (k0_pay9 (above x1 k) (below x1 k) (rows x1 k)) (k0_pay10 rowNo 0#32 1#32 (trip k)) (ix2 r l)
    = LruRef.ext y0 b l (256 * k + r.val + 1) := by
  have hr := r.isLt
  rw [shifted_apply, pos k hk, mask_one ⟨k, hk⟩ r, pick, LruRef.ext]
  by_cases h : 1 ≤ 256 * k + r.val
  · rw [if_pos h, dif_pos ⟨by omega, by omega⟩, tall x1 k hk _ _ (by simp only [BitVec.toNat_ofNat]; omega), hx]
    exact congrArg (fun t => y0 (ix2 (tok b t) l)) (Fin.ext (by simp only [BitVec.toNat_ofNat]; omega))
  · rw [if_neg h, dif_neg (fun q => h (by omega))]

theorem row_here : extractStridedSlice S256x256 ![8, 0] (k0_pay9 (above x1 k) (below x1 k) (rows x1 k)) slices_S272x256_o8_0_S256x256 (ix2 r l)
    = LruRef.ext y0 b l (256 * k + r.val + 2) := by
  have hr := r.isLt
  rw [LruRef.ext, dif_pos ⟨by omega, by omega⟩]
  generalize hT : k0_pay9 (above x1 k) (below x1 k) (rows x1 k) = T
  pointwise
  rw [← hT, tall x1 k hk _ _ (by simp only []; omega), hx]
  exact congrArg (fun t => y0 (ix2 (tok b t) l)) (Fin.ext (by simp only []; omega))

theorem row_next : shifted 271#32 1#32 (k0_pay9 (above x1 k) (below x1 k) (rows x1 k)) (k0_pay10 rowNo 0#32 1#32 (trip k)) (ix2 r l)
    = LruRef.ext y0 b l (256 * k + r.val + 3) := by
  have hr := r.isLt
  rw [shifted_apply, pos k hk, mask_next ⟨k, hk⟩ r, pick, LruRef.ext]
  by_cases h : 256 * k + r.val < 4095
  · rw [if_pos h, dif_pos ⟨by omega, by omega⟩, tall x1 k hk _ _ (by simp only [BitVec.toNat_ofNat]; omega), hx]
    exact congrArg (fun t => y0 (ix2 (tok b t) l)) (Fin.ext (by simp only [BitVec.toNat_ofNat]; omega))
  · rw [if_neg h, dif_neg (fun q => h (by omega))]

omit hk hx in
theorem tap_apply (i : Fin 4) (n : ℕ) (hn : n = i.val) : broadcastTo S256x256 (tap x3 n) broadcasts_S1x256_S256x256 (ix2 r l) = x3 (ix2 i l) := by
  have hl := l.isLt
  have hi := i.isLt
  have e : broadcastTo S256x256 (tap x3 n) broadcasts_S1x256_S256x256 (ix2 r l) = tap x3 n (ix2 0 l) := by
    generalize tap x3 n = y
    pointwise
  rw [e]
  refine congrArg x3 (funext fun a => Fin.ext ?_)
  fin_cases a
  · show (n + 0) % 4 = i.val; omega
  · show (0 + l.val) % 256 = l.val; omega

omit hk hx in
theorem five (c z s0 t0 s1 t1 s2 t2 s3 t3 : V) (j : S256x256.Idx) :
    addf (addf (addf (addf (addf c z) (mulf s0 t0)) (mulf s1 t1)) (mulf s2 t2)) (mulf s3 t3) j
      = ((((c j + z j) + s0 j * t0 j) + s1 j * t1 j) + s2 j * t2 j) + s3 j * t3 j := rfl

omit hk hx in
theorem order (c z e0 e1 e2 e3 : EReal) (hz : z = 0) : ((((c + z) + e0) + e1) + e2) + e3 = (((e0 + e1) + e2) + e3) + c := by
  rw [hz, add_zero]
  ac_rfl

theorem conv_row (hc : ∀ l, x4 (ix2 0 l) = y3 (ix1 l)) :
    conv x1 x3 x4 k (ix2 r l) = LruRef.conv y0 x3 y3 b ⟨256 * k + r.val, by have := r.isLt; omega⟩ l := by
  have hb : broadcastTo S256x256 x4 broadcasts_S1x256_S256x256 (ix2 r l) = y3 (ix1 l) := by
    pointwise
    exact hc l
  rw [conv_eq, five, row_two x1 y0 k hk r l b hx, row_one x1 y0 k hk r l b hx, row_here x1 y0 k hk r l b hx, row_next x1 y0 k hk r l b hx, hb,
    tap_apply x3 r l 0 0 rfl, tap_apply x3 r l 1 1 rfl, tap_apply x3 r l 2 2 rfl, tap_apply x3 r l 3 3 rfl]
  exact order _ _ _ _ _ _ ofBits_zero

end Rows

end Cert.LruPay

end
-- ==== Proof.LruGate.lean ====
/-
  The gates, the decays and the inputs of the recurrence at an index, from a convolved block.
-/
module

public import proofs.«01_k».proof.Proof.LruBlock
public import proofs.«01_k».proof.Proof.LruRef

@[expose] public section

set_option maxRecDepth 16384

noncomputable section

namespace Cert.LruGate

open Cert.Kernel6Ideal Cert.Kernel6Ideal.Gen Cert.LruLoops Cert.LruScan Cert.LruBlock Cert.Heads Idealize.ShloMosaic
open Cert.LruRef (blk off lane)

variable (x5 : Vec Ideal S256x1024 .bf16) (x6 : Vec Ideal S1x1024 .f32) (x7 : Vec Ideal S2x256 .f32)
  (y0 : Vec Ideal S32768x256 .f32) (y2 : Vec Ideal S4x256 .f32) (y3 : Vec Ideal S256 .f32) (y4 : Vec Ideal S2x2x4x64x64 .f32) (y5 : Vec Ideal S2x2x256 .f32)

/-- A gate's lane of a direction as a column. -/
abbrev gcol (d g : Fin 2) (l : Fin 256) : Fin 1024 := ⟨d.val * 512 + g.val * 256 + l.val, by have := d.isLt; have := g.isLt; have := l.isLt; omega⟩
abbrev gcol1 (g : Fin 2) (l : Fin 256) : Fin 512 := ⟨g.val * 256 + l.val, by have := g.isLt; have := l.isLt; omega⟩

theorem pay17_eq (a b : V) (t : Vec Ideal S1x256 .f32) (w : Vec Ideal S256x512 .bf16) (c : Vec Ideal S1x512 .f32) :
    k0_pay17 a b t w c = k0_pay39 (k0_pay15 a b t) w c := rfl

/-- A row of the two gates. -/
theorem pay39_apply (v : V) (w : Vec Ideal S256x512 .bf16) (c : Vec Ideal S1x512 .f32) (r : Fin 256) (q : Fin 512) :
    k0_pay39 v w c (ix2 r q) = (∑ e : Fin 256, v (ix2 r e) * w (ix2 e q)) + c (ix2 0 q) := by
  pointwise [k0_pay39]

/-- A decay's rate from the parameter. -/
theorem pay1_apply (d : Fin 2) (l : Fin 256) : k0_pay1 x7 (ix2 d l) = Ideal.ofBits .f32 0xC1000000#32 * softplus (-x7 (ix2 d l)) := by
  pointwise [k0_pay1, softplus]
  rw [zero_sub, zero_sub]
  rfl

/-- A gate's half of the two gates' columns. -/
theorem gate_left (x : FVec Ideal S256x512 .f32) (r l : Fin 256) :
    extractStridedSlice S256x256 ![0, 0] x slices_S256x512_o0_0_S256x256 (ix2 r l) = x (ix2 r (gcol1 0 l)) := by
  pointwise
  exact congrArg (fun q => x (ix2 r q)) (Fin.ext (by show _ = 0 * 256 + l.val; simp))
theorem gate_right (x : FVec Ideal S256x512 .f32) (r l : Fin 256) :
    extractStridedSlice S256x256 ![0, 256] x slices_S256x512_o0_256_S256x256 (ix2 r l) = x (ix2 r (gcol1 1 l)) := by
  pointwise
  first | rfl | exact congrArg (fun q => x (ix2 r q)) (Fin.ext (by show _ = 1 * 256 + l.val; simp))

section Row
variable (v : V) (b : Fin 8) (r : Fin 256) (s : Fin 4096) (hv : ∀ l, v (ix2 r l) = LruRef.conv y0 y2 y3 b s l)
  (hw : ∀ d g e l, x5 (ix2 e (gcol d g l)) = if blk e = blk l then y4 (ix5 d g (blk l) (off e) (off l)) else 0)
  (hb : ∀ d g l, x6 (ix2 0 (gcol d g l)) = y5 (ix3 d g l))
include hv hw hb

theorem gate_row (d g : Fin 2) (l : Fin 256) (n : ℕ) (hn : n = d.val * 512) :
    k0_pay39 v (gws x5 n) (gbs x6 n) (ix2 r (gcol1 g l)) = LruRef.gate y0 y2 y3 y4 y5 d g b s l := by
  have hd := d.isLt; have hg := g.isLt; have hl := l.isLt
  have e1 (e : Fin 256) : gws x5 n (ix2 e (gcol1 g l)) = x5 (ix2 e (gcol d g l)) := by
    have he := e.isLt
    unfold gws cut
    refine congrArg x5 (funext fun a => Fin.ext ?_)
    fin_cases a
    · show (0 + e.val) % 256 = e.val; omega
    · show (n + (g.val * 256 + l.val)) % 1024 = d.val * 512 + g.val * 256 + l.val; omega
  have e2 : gbs x6 n (ix2 0 (gcol1 g l)) = x6 (ix2 0 (gcol d g l)) := by
    unfold gbs cut
    refine congrArg x6 (funext fun a => Fin.ext ?_)
    fin_cases a
    · rfl
    · show (n + (g.val * 256 + l.val)) % 1024 = d.val * 512 + g.val * 256 + l.val; omega
  rw [pay39_apply, e2, hb, LruRef.gate]
  refine congrArg (· + _) ?_
  rw [Cert.Lanes.sum_group (a := 4) rfl _ (blk l) (fun k hk => by
    rw [e1, hw, if_neg (fun h => hk (congrArg Fin.val h)), mul_zero])]
  refine Finset.sum_congr rfl fun k _ => ?_
  have hk := k.isLt
  rw [e1, hv, hw, if_pos (Fin.ext (by show (l.val / 64 * 64 + k.val) / 64 = l.val / 64; omega)), mul_comm]
  exact congrArg (fun o => y4 (ix5 d g (blk l) o (off l)) * _) (Fin.ext (by show (l.val / 64 * 64 + k.val) % 64 = k.val; omega))

/-- The log decay, as a program computes it. -/
def rate (R : V) (x : FVec Ideal S256x512 .f32) : V :=
  mulf R (divf (broadcast S256x256 (Scalar.ofBits .f32 0x3F800000#32)) (addf (broadcast S256x256 (Scalar.ofBits .f32 0x3F800000#32))
    (exp (subf (broadcast S256x256 (Scalar.ofBits .f32 0x00000000#32)) (extractStridedSlice S256x256 ![0, 0] x slices_S256x512_o0_0_S256x256)))))
/-- The gate of the input. -/
def share (x : FVec Ideal S256x512 .f32) : V :=
  divf (broadcast S256x256 (Scalar.ofBits .f32 0x3F800000#32)) (addf (broadcast S256x256 (Scalar.ofBits .f32 0x3F800000#32))
    (exp (subf (broadcast S256x256 (Scalar.ofBits .f32 0x00000000#32)) (extractStridedSlice S256x256 ![0, 256] x slices_S256x512_o0_256_S256x256))))
/-- The factor of the input. -/
def factor (L : V) : V :=
  sqrt (mulf (subf (broadcast S256x256 (Scalar.ofBits .f32 0x00000000#32)) (tanh L)) (addf (mulf (exp L) (exp L)) (broadcast S256x256 (Scalar.ofBits .f32 0x3F800000#32))))

omit hv hw hb in
theorem rate_apply (R : V) (x : FVec Ideal S256x512 .f32) (r l : Fin 256) : rate R x (ix2 r l) = R (ix2 r l) * sigmoid (x (ix2 r (gcol1 0 l))) := by
  unfold rate
  generalize hg : extractStridedSlice S256x256 ![0, 0] x slices_S256x512_o0_0_S256x256 = g
  pointwise [sigmoid]
  rw [← hg, gate_left, zero_sub]

omit hv hw hb in
theorem share_apply (x : FVec Ideal S256x512 .f32) (r l : Fin 256) : share x (ix2 r l) = sigmoid (x (ix2 r (gcol1 1 l))) := by
  unfold share
  generalize hg : extractStridedSlice S256x256 ![0, 256] x slices_S256x512_o0_256_S256x256 = g
  pointwise [sigmoid]
  rw [← hg, gate_right, zero_sub]

omit hv hw hb in
theorem factor_apply (L : V) (r l : Fin 256) (h : L (ix2 r l) ≤ 0) :
    factor L (ix2 r l) = Ideal.sqrt (-Ideal.expm1 (Ideal.ofBits .f32 0x40000000#32 * L (ix2 r l))) := by
  rw [← input_factor h, ofBits_one]
  pointwise [factor]

/-- The parameter's rate of each row. -/
def rates (d : Fin 2) (x7 : Vec Ideal S2x256 .f32) : V :=
  match d with
  | 0 => broadcastTo S256x256 (extractStridedSlice S1x256 ![0, 0] (k0_pay1 x7) slices_S2x256_o0_0_S1x256) broadcasts_S1x256_S256x256
  | 1 => broadcastTo S256x256 (extractStridedSlice S1x256 ![1, 0] (k0_pay1 x7) slices_S2x256_o1_0_S1x256) broadcasts_S1x256_S256x256

omit hv hw hb in
theorem rates_apply (d : Fin 2) (r l : Fin 256) : rates d x7 (ix2 r l) = Ideal.ofBits .f32 0xC1000000#32 * softplus (-x7 (ix2 d l)) := by
  rw [← pay1_apply]
  match d with
  | 0 =>
    unfold rates
    generalize k0_pay1 x7 = y
    pointwise
  | 1 =>
    unfold rates
    generalize k0_pay1 x7 = y
    pointwise

/-- The log decay and the input of a row. -/
theorem log_row (d : Fin 2) (l : Fin 256) (n : ℕ) (hn : n = d.val * 512) :
    rate (rates d x7) (k0_pay39 v (gws x5 n) (gbs x6 n)) (ix2 r l) = LruRef.logA y0 y2 y3 y4 y5 x7 d b s l := by
  rw [rate_apply, rates_apply, gate_row x5 x6 y0 y2 y3 y4 y5 v b r s hv hw hb d 0 l n hn, LruRef.logA, logDecay, mul_right_comm]

theorem ins_row (d : Fin 2) (l : Fin 256) (n : ℕ) (hn : n = d.val * 512) :
    factor (rate (rates d x7) (k0_pay39 v (gws x5 n) (gbs x6 n))) (ix2 r l) * (share (k0_pay39 v (gws x5 n) (gbs x6 n)) (ix2 r l) * v (ix2 r l))
      = LruRef.inp y0 y2 y3 y4 y5 x7 d b s l := by
  have e := log_row x5 x6 x7 y0 y2 y3 y4 y5 v b r s hv hw hb d l n hn
  rw [factor_apply _ r l (by rw [e]; exact logDecay_nonpos _ _), e, share_apply, gate_row x5 x6 y0 y2 y3 y4 y5 v b r s hv hw hb d 1 l n hn, hv, LruRef.inp]

end Row

/-! ## The blocks' decays and inputs as these -/

theorem pay20_eq (a b : V) (t : Vec Ideal S1x256 .f32) (w : Vec Ideal S256x512 .bf16) (c : Vec Ideal S1x512 .f32) :
    k0_pay20 (k0_pay1 x7) a b t w c = exp (rate (rates 0 x7) (k0_pay39 (k0_pay15 a b t) w c)) := rfl
theorem pay21_eq (a b : V) (t : Vec Ideal S1x256 .f32) (w : Vec Ideal S256x512 .bf16) (c : Vec Ideal S1x512 .f32) :
    k0_pay21 (k0_pay1 x7) a b t w c = factor (rate (rates 0 x7) (k0_pay39 (k0_pay15 a b t) w c)) := rfl
theorem pay18_eq (a b : V) (t : Vec Ideal S1x256 .f32) (w : Vec Ideal S256x512 .bf16) (c : Vec Ideal S1x512 .f32) :
    k0_pay18 a b t w c = share (k0_pay39 (k0_pay15 a b t) w c) := rfl
theorem pay41_eq (v : V) (w : Vec Ideal S256x512 .bf16) (c : Vec Ideal S1x512 .f32) :
    k0_pay41 (k0_pay1 x7) v w c = exp (rate (rates 1 x7) (k0_pay39 v w c)) := rfl
theorem pay42_eq (v : V) (w : Vec Ideal S256x512 .bf16) (c : Vec Ideal S1x512 .f32) :
    k0_pay42 (k0_pay1 x7) v w c = mulf (factor (rate (rates 1 x7) (k0_pay39 v w c))) (mulf (share (k0_pay39 v w c)) v) := rfl

end Cert.LruGate

end
-- ==== Proof.LruSeq.lean ====
/-
  The blocks of a batch entry in order: the carried rows are the recurrence's states, and the result is the reference's.
-/
module

public import proofs.«01_k».proof.Proof.LruBody
public import proofs.«01_k».proof.Proof.LruPay
public import proofs.«01_k».proof.Proof.LruGate

@[expose] public section

set_option maxRecDepth 16384

noncomputable section

namespace Cert.LruSeq

open Cert.Kernel6Ideal Cert.Kernel6Ideal.Gen Cert.LruLoops Cert.LruScan Cert.LruBlock Cert.LruGate Cert.Heads Idealize.ShloMosaic
open Cert.LruRef (blk off lane)

variable (x1 x2 : Vec Ideal S4096x256 .f32) (x3 : Vec Ideal S4x256 .f32) (x4 : Vec Ideal S1x256 .f32) (x5 : Vec Ideal S256x1024 .bf16)
  (x6 : Vec Ideal S1x1024 .f32) (x7 : Vec Ideal S2x256 .f32)
  (y0 : Vec Ideal S32768x256 .f32) (y3 : Vec Ideal S256 .f32) (y4 : Vec Ideal S2x2x4x64x64 .f32) (y5 : Vec Ideal S2x2x256 .f32) (b : Fin 8)

/-- A row of a block as a position. -/
abbrev at' (k : ℕ) (hk : k < 16) (r : Fin 256) : Fin 4096 := ⟨256 * k + r.val, by have := r.isLt; omega⟩

theorem cast_self (y : V) : shapeCast S256x256 y shapeCasts_S256x256_S256x256 = y := by
  funext j
  rw [eq_ix2 j]
  pointwise

section Seq
variable (hx : ∀ s l, x1 (ix2 s l) = y0 (ix2 (tok b s) l)) (hc : ∀ l, x4 (ix2 0 l) = y3 (ix1 l))
  (hw : ∀ d g e l, x5 (ix2 e (gcol d g l)) = if blk e = blk l then y4 (ix5 d g (blk l) (off e) (off l)) else 0)
  (hb : ∀ d g l, x6 (ix2 0 (gcol d g l)) = y5 (ix3 d g l))
include hx hc hw hb

/-- One forward block, from the row before it. -/
theorem fwd_block (k : ℕ) (hk : k < 16) (c : FVec Ideal S1x256 .f32) (r l : Fin 256) :
    fwdAt x1 x3 x4 x5 x6 x7 k c (ix2 r l)
      = state (fun i => Ideal.exp (LruRef.logs y0 x3 y3 y4 y5 x7 0 b l (256 * k + i))) (fun i => LruRef.ins y0 x3 y3 y4 y5 x7 0 b l (256 * k + i)) (c (ix2 0 l)) (r.val + 1) := by
  have hv (r l : Fin 256) : k0_pay15 (conv3 x1 x3 x4 k) (LruLoops.next x1 k) (tap x3 3) (ix2 r l) = LruRef.conv y0 x3 y3 b (at' k hk r) l :=
    (congrFun (cast_self _).symm _).trans (LruPay.conv_row x1 x3 x4 y0 y3 k hk r l b hx hc)
  unfold fwdAt
  rw [pay18_eq, pay20_eq, pay21_eq]
  generalize k0_pay15 (conv3 x1 x3 x4 k) (LruLoops.next x1 k) (tap x3 3) = v at hv ⊢
  have hlog (r l : Fin 256) := log_row x5 x6 x7 y0 x3 y3 y4 y5 v b r (at' k hk r) (hv r) hw hb 0 l 0 rfl
  have hin (r l : Fin 256) := ins_row x5 x6 x7 y0 x3 y3 y4 y5 v b r (at' k hk r) (hv r) hw hb 0 l 0 rfl
  rw [fwd_apply]
  · refine state_congr _ _ fun i hi => ?_
    have hi2 : i < 256 := by have := r.isLt; omega
    refine ⟨?_, ?_⟩
    · rw [col, dif_pos hi2, LruRef.logs, dif_pos (by omega)]
      exact congrArg Ideal.exp (hlog ⟨i, hi2⟩ l)
    · rw [col, dif_pos hi2, LruRef.ins, dif_pos (by omega)]
      exact hin ⟨i, hi2⟩ l
  · intro j
    exact exp_nonneg _
  · intro j
    obtain ⟨r', l', rfl⟩ : ∃ (r' l' : Fin 256), j = ix2 r' l' := ⟨j 0, j 1, eq_ix2 j⟩
    exact exp_ne_top (le_of_eq_of_le (hlog r' l') (logDecay_nonpos _ _))

/-- The row carried into a forward block is the state before it. -/
theorem carryF_eq (k : ℕ) (hk : k ≤ 16) (l : Fin 256) : carryF x1 x3 x4 x5 x6 x7 k (ix2 0 l)
    = state (fun i => Ideal.exp (LruRef.logs y0 x3 y3 y4 y5 x7 0 b l i)) (LruRef.ins y0 x3 y3 y4 y5 x7 0 b l) 0 (256 * k) := by
  induction k with
  | zero => exact ofBits_zero
  | succ k ih =>
    have e : carryF x1 x3 x4 x5 x6 x7 (k + 1) (ix2 0 l) = fwdAt x1 x3 x4 x5 x6 x7 k (carryF x1 x3 x4 x5 x6 x7 k) (ix2 255 l) := by
      rw [carryF]
      generalize fwdAt x1 x3 x4 x5 x6 x7 k (carryF x1 x3 x4 x5 x6 x7 k) = y
      pointwise
    rw [e, fwd_block x1 x3 x4 x5 x6 x7 y0 y3 y4 y5 b hx hc hw hb k (by omega), ih (by omega)]
    exact state_add (fun i => Ideal.exp (LruRef.logs y0 x3 y3 y4 y5 x7 0 b l i)) (LruRef.ins y0 x3 y3 y4 y5 x7 0 b l) _ _ 256

theorem hF_eq (k : ℕ) (hk : k < 16) (r l : Fin 256) : hF x1 x3 x4 x5 x6 x7 k (ix2 r l) = LruRef.hidF y0 x3 y3 y4 y5 x7 b (at' k hk r) l := by
  rw [hF, cast_self, fwd_block x1 x3 x4 x5 x6 x7 y0 y3 y4 y5 b hx hc hw hb k hk, carryF_eq x1 x3 x4 x5 x6 x7 y0 y3 y4 y5 b hx hc hw hb k (by omega)]
  exact state_add (fun i => Ideal.exp (LruRef.logs y0 x3 y3 y4 y5 x7 0 b l i)) (LruRef.ins y0 x3 y3 y4 y5 x7 0 b l) _ _ _

/-- One backward block, from the row behind it. -/
theorem bwd_block (k : ℕ) (hk : k < 16) (c : FVec Ideal S1x256 .f32) (r l : Fin 256) :
    bwdAt x5 x6 x7 (conv x1 x3 x4 (15 - k)) c (ix2 r l)
      = state (fun i => Ideal.exp (LruRef.logs y0 x3 y3 y4 y5 x7 1 b l (4095 - (256 * k + i)))) (fun i => LruRef.ins y0 x3 y3 y4 y5 x7 1 b l (4095 - (256 * k + i)))
        (c (ix2 0 l)) (256 - r.val) := by
  have hv (r l : Fin 256) := LruPay.conv_row x1 x3 x4 y0 y3 (15 - k) (by omega) r l b hx hc
  unfold bwdAt
  rw [pay41_eq, pay42_eq]
  generalize conv x1 x3 x4 (15 - k) = v at hv ⊢
  have hlog (r l : Fin 256) := log_row x5 x6 x7 y0 x3 y3 y4 y5 v b r (at' (15 - k) (by omega) r) (hv r) hw hb 1 l 512 rfl
  have hin (r l : Fin 256) := ins_row x5 x6 x7 y0 x3 y3 y4 y5 v b r (at' (15 - k) (by omega) r) (hv r) hw hb 1 l 512 rfl
  rw [bwd_apply]
  · refine state_congr _ _ fun i hi => ?_
    have hi2 : i < 256 := by have := r.isLt; omega
    have e : (⟨4095 - (256 * k + i), by omega⟩ : Fin 4096) = at' (15 - k) (by omega) ⟨255 - i, by omega⟩ := Fin.ext (by simp only []; omega)
    refine ⟨?_, ?_⟩
    · rw [loc, dif_pos hi2, LruRef.logs, dif_pos (by omega), e]
      exact congrArg Ideal.exp (hlog ⟨255 - i, by omega⟩ l)
    · rw [loc, dif_pos hi2, LruRef.ins, dif_pos (by omega), e]
      exact hin ⟨255 - i, by omega⟩ l
  · intro j
    exact exp_nonneg _
  · intro j
    obtain ⟨r', l', rfl⟩ : ∃ (r' l' : Fin 256), j = ix2 r' l' := ⟨j 0, j 1, eq_ix2 j⟩
    exact exp_ne_top (le_of_eq_of_le (hlog r' l') (logDecay_nonpos _ _))

theorem carryB_eq (k : ℕ) (hk : k ≤ 16) (l : Fin 256) : carryB x5 x6 x7 (conv x1 x3 x4) k (ix2 0 l)
    = state (fun i => Ideal.exp (LruRef.logs y0 x3 y3 y4 y5 x7 1 b l (4095 - i))) (fun i => LruRef.ins y0 x3 y3 y4 y5 x7 1 b l (4095 - i)) 0 (256 * k) := by
  induction k with
  | zero => exact ofBits_zero
  | succ k ih =>
    have e : carryB x5 x6 x7 (conv x1 x3 x4) (k + 1) (ix2 0 l) = bwdAt x5 x6 x7 (conv x1 x3 x4 (15 - k)) (carryB x5 x6 x7 (conv x1 x3 x4) k) (ix2 0 l) := by
      rw [carryB]
      generalize bwdAt x5 x6 x7 (conv x1 x3 x4 (15 - k)) (carryB x5 x6 x7 (conv x1 x3 x4) k) = y
      pointwise [k0_pay8]
    rw [e, bwd_block x1 x3 x4 x5 x6 x7 y0 y3 y4 y5 b hx hc hw hb k (by omega), ih (by omega)]
    exact state_add (fun i => Ideal.exp (LruRef.logs y0 x3 y3 y4 y5 x7 1 b l (4095 - i))) (fun i => LruRef.ins y0 x3 y3 y4 y5 x7 1 b l (4095 - i)) _ _ 256

theorem hB_eq (j : ℕ) (hj : j < 16) (r l : Fin 256) :
    bwdAt x5 x6 x7 (conv x1 x3 x4 j) (carryB x5 x6 x7 (conv x1 x3 x4) (15 - j)) (ix2 r l) = LruRef.hidB y0 x3 y3 y4 y5 x7 b (at' j hj r) l := by
  have hr := r.isLt
  have h := bwd_block x1 x3 x4 x5 x6 x7 y0 y3 y4 y5 b hx hc hw hb (15 - j) (by omega) (carryB x5 x6 x7 (conv x1 x3 x4) (15 - j)) r l
  rw [show 15 - (15 - j) = j by omega, carryB_eq x1 x3 x4 x5 x6 x7 y0 y3 y4 y5 b hx hc hw hb (15 - j) (by omega)] at h
  rw [h, LruRef.hidB, show 4096 - (at' j hj r).val = 256 * (15 - j) + (256 - r.val) by simp only []; omega]
  exact state_add (fun i => Ideal.exp (LruRef.logs y0 x3 y3 y4 y5 x7 1 b l (4095 - i))) (fun i => LruRef.ins y0 x3 y3 y4 y5 x7 1 b l (4095 - i)) _ _ _

omit hx hc hw hb in
/-- Both directions' sum times the gate. -/
theorem finish_apply (p q g : V) (r l : Fin 256) : finish p q g (ix2 r l) = (q (ix2 r l) + p (ix2 r l)) * LruRef.gelu (g (ix2 r l)) := by
  pointwise [finish, k0_pay7, k0_pay59, k0_pay60, LruRef.gelu]
  refine congrArg (fun y : EReal => (q (ix2 r l) + p (ix2 r l)) * y) ?_
  rw [mul_assoc, mul_left_comm]

/-- A batch entry's result. -/
theorem result_apply (s : Fin 4096) (l : Fin 256) : LruBody.result x1 x2 x3 x4 x5 x6 x7 (ix2 s l)
    = (LruRef.hidF y0 x3 y3 y4 y5 x7 b s l + LruRef.hidB y0 x3 y3 y4 y5 x7 b s l) * LruRef.gelu (x2 (ix2 s l)) := by
  have hs := s.isLt
  show finish (bwdAt x5 x6 x7 (conv x1 x3 x4 (s.val / 256)) (carryB x5 x6 x7 (conv x1 x3 x4) (15 - s.val / 256))) (hF x1 x3 x4 x5 x6 x7 (s.val / 256)) (rows x2 (s.val / 256))
    (ix2 ⟨s.val % 256, Nat.mod_lt _ (by omega)⟩ l) = _
  have e : at' (s.val / 256) (by omega) ⟨s.val % 256, Nat.mod_lt _ (by omega)⟩ = s := Fin.ext (by simp only []; omega)
  have e2 : rows x2 (s.val / 256) (ix2 ⟨s.val % 256, Nat.mod_lt _ (by omega)⟩ l) = x2 (ix2 s l) :=
    congrArg (fun t => x2 (ix2 t l)) (Fin.ext (by show (256 * (s.val / 256) + s.val % 256) % 4096 = s.val; omega))
  rw [finish_apply, hF_eq x1 x3 x4 x5 x6 x7 y0 y3 y4 y5 b hx hc hw hb _ (by omega), hB_eq x1 x3 x4 x5 x6 x7 y0 y3 y4 y5 b hx hc hw hb _ (by omega), e, e2]

end Seq

end Cert.LruSeq

end
-- ==== Proof.LruArray.lean ====
/-
  The RG-LRU's array: what the host prepares, the blocks' places, and the run.
-/
module

public import proofs.«01_k».proof.Defs
public import proofs.«01_k».proof.Proof.LruFrame
public import proofs.«01_k».proof.Proof.LruSeq

@[expose] public section

set_option maxRecDepth 16384

noncomputable section

namespace Cert.LruArray

open Cert.Kernel6Ideal Cert.Kernel6Ideal.Gen Cert.LruLoops Cert.LruBody Cert.LruFrame Cert.LruGate Cert.LruScan Cert.Heads
open Cert.LruRef (blk off lane)
open Idealize.ShloMosaic Idealize.ShloMosaic.TcCoe Idealize.SL.Sem
open Idealize.ShloMosaic.Pipeline (Dat)

/-! ## The host's arrays -/

section Stretch
variable (W : Valuation τ sig (Elt Ideal))

/-- The convolution's bias as a row, -/
theorem bias_apply (l : Fin 256) : StableHlo.after hostOps0 W (Proc.devRef .tc main_v15) (ix2 0 l) = W (Proc.devRef .tc main_arg3) (ix1 l) := by
  unfold hostOps0
  after_results
  generalize W (Proc.devRef .tc main_arg3) = x
  pointwise
/-- the gates' biases as a row -/
theorem gbias_apply (d g : Fin 2) (l : Fin 256) :
    StableHlo.after hostOps0 W (Proc.devRef .tc main_v14) (ix2 0 (gcol d g l)) = W (Proc.devRef .tc main_arg5) (ix3 d g l) := by
  unfold hostOps0
  after_results
  generalize W (Proc.devRef .tc main_arg5) = x
  have hd := d.isLt; have hg := g.isLt; have hl := l.isLt
  pointwise
  have e1 : (⟨(d.val * 512 + g.val * 256 + l.val) / 512, by omega⟩ : Fin 2) = d := Fin.ext (by show (d.val * 512 + g.val * 256 + l.val) / 512 = d.val; omega)
  have e2 : (⟨(d.val * 512 + g.val * 256 + l.val) / 256 % 2, by omega⟩ : Fin 2) = g := Fin.ext (by show (d.val * 512 + g.val * 256 + l.val) / 256 % 2 = g.val; omega)
  have e3 : (⟨(d.val * 512 + g.val * 256 + l.val) % 256, by omega⟩ : Fin 256) = l := Fin.ext (by show (d.val * 512 + g.val * 256 + l.val) % 256 = l.val; omega)
  rw [e1, e2, e3]

/-- A word is another, as a number. -/
theorem same (n p : Fin 4) : (FloatOps.uitofp (F := Ideal) .f32 (IntOp.cmpi .eq (IntOp.addi (BitVec.ofNat 32 n.val) 0#32) (BitVec.ofNat 32 p.val)) : EReal) = if n = p then 1 else (0 : EReal) := by
  have h : ∀ n p : Fin 4, IntOp.cmpi .eq (IntOp.addi (BitVec.ofNat 32 n.val) 0#32) (BitVec.ofNat 32 p.val) = BitVec.ofBool (decide (n = p)) := by decide +kernel
  rw [h]
  show (((BitVec.ofBool (decide (n = p))).toNat : ℝ) : EReal) = _
  by_cases h : n = p <;> simp [h]

/-- A weight times the word that tells its block from another, at a row and a column. -/
theorem block (x : S2x2x4x64x64.Idx → EReal) (d g : Fin 2) (e l : Fin 256) (d' : Fin 2) (g' : Fin 2) (o : Fin 64) (q : ℕ)
    (e1 : d' = d) (e2 : g' = g) (e3 : o = off l) (e4 : q = (blk l).val) :
    x (ix5 d' g' (blk e) (off e) o) * (FloatOps.uitofp (F := Ideal) .f32 (IntOp.cmpi .eq (IntOp.addi (BitVec.ofNat 32 (blk e).val) 0#32) (BitVec.ofNat 32 q)) : EReal)
      = if blk e = blk l then x (ix5 d g (blk l) (off e) (off l)) else 0 := by
  subst e1 e2 e3 e4
  rw [same]
  by_cases h : blk e = blk l
  · rw [if_pos h, if_pos h, mul_one, h]
  · rw [if_neg h, if_neg h, mul_zero]

/-- and the gates' weights, each block of lanes at its own rows and columns, zero elsewhere. -/
theorem weights_apply (d g : Fin 2) (e l : Fin 256) :
    StableHlo.after hostOps0 W (Proc.devRef .tc main_v13) (ix2 e (gcol d g l))
      = if blk e = blk l then (W (Proc.devRef .tc main_arg4) (ix5 d g (blk l) (off e) (off l)) : EReal) else (0 : EReal) := by
  unfold hostOps0
  after_results
  generalize W (Proc.devRef .tc main_arg4) = x
  have hd := d.isLt; have hg := g.isLt; have hl := l.isLt; have he := e.isLt
  pointwise
  refine block x d g e l _ _ _ _ ?_ ?_ ?_ ?_
  · exact Fin.ext (by show (d.val * 512 + g.val * 256 + l.val) / 512 = d.val; omega)
  · exact Fin.ext (by show (d.val * 512 + g.val * 256 + l.val) / 256 % 2 = g.val; omega)
  · exact Fin.ext (by show (d.val * 512 + g.val * 256 + l.val) % 64 = l.val % 64; omega)
  · show (d.val * 512 + g.val * 256 + l.val) / 64 % 4 = l.val / 64
    omega

end Stretch

/-! ## The blocks' places -/

variable (m : (ℓ : Loc nD τ sig) → Buf (Elt Ideal) ℓ) (ρ : Dev nD → PrngReg) (c : Dev nD)

/-- The grid's points are the sequences. -/
abbrev sq (t : Fin cfg0.N) : Fin 8 := ⟨t.val, t.isLt⟩

theorem at0 : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0))

theorem in0 (t : Fin cfg0.N) (r : Fin 4096) (l : Fin 256) : iblk m c 0 t (ix2 r l) = m ((c : Thread nD τ).loc main_arg0) (ix2 (tok (sq t) r) l) := by
  show V m c main_arg0 ((win0_0.rect t).emb (ix2 r l)) = _
  have e : (win0_0.rect t).emb (ix2 r l) = (ix2 (tok (sq t) r) l : S32768x256.Idx) := by
    refine Shape.idx_ext₂ ?_ ?_
    · rw [win0_0.rect_emb_val, (at0 t).1.1]; rfl
    · rw [win0_0.rect_emb_val, (at0 t).1.2]; simp
  rw [e]
  exact congrFun (V_main_arg0 m c) _
theorem in1 (t : Fin cfg0.N) (r : Fin 4096) (l : Fin 256) : iblk m c 1 t (ix2 r l) = m ((c : Thread nD τ).loc main_arg1) (ix2 (tok (sq t) r) l) := by
  show V m c main_arg1 ((win0_1.rect t).emb (ix2 r l)) = _
  have e : (win0_1.rect t).emb (ix2 r l) = (ix2 (tok (sq t) r) l : S32768x256.Idx) := by
    refine Shape.idx_ext₂ ?_ ?_
    · rw [win0_1.rect_emb_val, (at0 t).2.1.1]; rfl
    · rw [win0_1.rect_emb_val, (at0 t).2.1.2]; simp
  rw [e]
  exact congrFun (V_main_arg1 m c) _
theorem in2 (t : Fin cfg0.N) (r : Fin 4) (l : Fin 256) : iblk m c 2 t (ix2 r l) = m ((c : Thread nD τ).loc main_arg2) (ix2 r l) := by
  show V m c main_arg2 ((win0_2.rect t).emb (ix2 r l)) = _
  have e : (win0_2.rect t).emb (ix2 r l) = (ix2 r l : S4x256.Idx) := by
    refine Shape.idx_ext₂ ?_ ?_
    · rw [win0_2.rect_emb_val, (at0 t).2.2.1.1]; simp
    · rw [win0_2.rect_emb_val, (at0 t).2.2.1.2]; simp
  rw [e]
  exact congrFun (V_main_arg2 m c) _
theorem in3 (t : Fin cfg0.N) (l : Fin 256) : iblk m c 3 t (ix2 0 l) = m ((c : Thread nD τ).loc main_arg3) (ix1 l) := by
  show V m c main_v15 ((win0_3.rect t).emb (ix2 0 l)) = _
  have e : (win0_3.rect t).emb (ix2 0 l) = (ix2 0 l : S1x256.Idx) := by
    refine Shape.idx_ext₂ ?_ ?_
    · rw [win0_3.rect_emb_val, (at0 t).2.2.2.1.1]; simp
    · rw [win0_3.rect_emb_val, (at0 t).2.2.2.1.2]; simp
  rw [e]
  exact bias_apply (fun b => m (c, b)) l
theorem in4 (t : Fin cfg0.N) (d g : Fin 2) (e l : Fin 256) : iblk m c 4 t (ix2 e (gcol d g l)) = if blk e = blk l then m ((c : Thread nD τ).loc main_arg4) (ix5 d g (blk l) (off e) (off l)) else (0 : EReal) := by
  show V m c main_v13 ((win0_4.rect t).emb (ix2 e (gcol d g l))) = _
  have he : (win0_4.rect t).emb (ix2 e (gcol d g l)) = (ix2 e (gcol d g l) : S256x1024.Idx) := by
    refine Shape.idx_ext₂ ?_ ?_
    · rw [win0_4.rect_emb_val, (at0 t).2.2.2.2.1.1]; simp
    · rw [win0_4.rect_emb_val, (at0 t).2.2.2.2.1.2]; simp
  rw [he]
  exact weights_apply (fun b => m (c, b)) d g e l
theorem in5 (t : Fin cfg0.N) (d g : Fin 2) (l : Fin 256) : iblk m c 5 t (ix2 0 (gcol d g l)) = m ((c : Thread nD τ).loc main_arg5) (ix3 d g l) := by
  show V m c main_v14 ((win0_5.rect t).emb (ix2 0 (gcol d g l))) = _
  have e : (win0_5.rect t).emb (ix2 0 (gcol d g l)) = (ix2 0 (gcol d g l) : S1x1024.Idx) := by
    refine Shape.idx_ext₂ ?_ ?_
    · rw [win0_5.rect_emb_val, (at0 t).2.2.2.2.2.1.1]; simp
    · rw [win0_5.rect_emb_val, (at0 t).2.2.2.2.2.1.2]; simp
  rw [e]
  exact gbias_apply (fun b => m (c, b)) d g l
theorem in6 (t : Fin cfg0.N) (r : Fin 2) (l : Fin 256) : iblk m c 6 t (ix2 r l) = m ((c : Thread nD τ).loc main_arg6) (ix2 r l) := by
  show V m c main_arg6 ((win0_6.rect t).emb (ix2 r l)) = _
  have e : (win0_6.rect t).emb (ix2 r l) = (ix2 r l : S2x256.Idx) := by
    refine Shape.idx_ext₂ ?_ ?_
    · rw [win0_6.rect_emb_val, (at0 t).2.2.2.2.2.2.1.1]; simp
    · rw [win0_6.rect_emb_val, (at0 t).2.2.2.2.2.2.1.2]; simp
  rw [e]
  exact congrFun (V_main_arg6 m c) _

/-- The two tables that the blocks hold whole. -/
theorem taps (t : Fin cfg0.N) : iblk m c 2 t = m ((c : Thread nD τ).loc main_arg2) := by
  funext j
  obtain ⟨r, l, rfl⟩ : ∃ (r : Fin 4) (l : Fin 256), j = ix2 r l := ⟨j 0, j 1, eq_ix2 j⟩
  exact in2 m c t r l
theorem params (t : Fin cfg0.N) : iblk m c 6 t = m ((c : Thread nD τ).loc main_arg6) := by
  funext j
  obtain ⟨r, l, rfl⟩ : ∃ (r : Fin 2) (l : Fin 256), j = ix2 r l := ⟨j 0, j 1, eq_ix2 j⟩
  exact in6 m c t r l

/-- Where the result's block sits. -/
theorem emb7 (t : Fin cfg0.N) (r : Fin 4096) (l : Fin 256) : ((cfg0.win 7).blk t).view.emb (ix2 r l) = (ix2 (tok (sq t) r) l : S32768x256.Idx) := by
  show (win0_7.rect t).emb (ix2 r l) = _
  refine Shape.idx_ext₂ ?_ ?_
  · rw [win0_7.rect_emb_val, (at0 t).2.2.2.2.2.2.2.1]; rfl
  · rw [win0_7.rect_emb_val, (at0 t).2.2.2.2.2.2.2.2]; simp

/-- The blocks tile the array. -/
theorem cover7 (i : S32768x256.Idx) : ∃ t : Fin cfg0.N, (cfg0.win 7).flush t = true ∧ i ∈ ((cfg0.win 7).blk t).view.set := by
  obtain ⟨a, b, rfl⟩ : ∃ (a : Fin 32768) (b : Fin 256), i = ix2 a b := ⟨i 0, i 1, eq_ix2 i⟩
  have ha := a.isLt
  have hN : cfg0.N = 8 := N_0
  have hq : a.val / 4096 < cfg0.N := by rw [hN]; omega
  refine ⟨⟨a.val / 4096, hq⟩, flush0_7 _, ?_⟩
  have h := ((cfg0.win 7).blk ⟨a.val / 4096, hq⟩).view.emb_mem_set (ix2 (⟨a.val % 4096, by omega⟩ : Fin 4096) b)
  rw [emb7] at h
  have e : tok (sq ⟨a.val / 4096, hq⟩) ⟨a.val % 4096, by omega⟩ = a := Fin.ext (by show a.val / 4096 * 4096 + a.val % 4096 = a.val; omega)
  rwa [e] at h

/-! ## The equation and the run -/

/-- The array after the run is the reference's. -/
theorem final : (dats m 0 c).arrAt 7 cfg0.N = Cert.Reference6Ideal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine (dats m 0 c).arrAt_forall_of_cover 7 (fun i v => v = Cert.Reference6Ideal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i) ?_ cover7 i
  intro t _ y
  obtain ⟨r, l, rfl⟩ : ∃ (r : Fin 4096) (l : Fin 256), y = ix2 r l := ⟨y 0, y 1, eq_ix2 y⟩
  rw [emb7, LruRef.value]
  show (dats m 0 c).after 7 t (ix2 r l) = _
  rw [after0_7]
  unfold outAt
  rw [LruSeq.result_apply _ _ _ _ _ _ _ (m ((c : Thread nD τ).loc main_arg0)) (m ((c : Thread nD τ).loc main_arg3)) (m ((c : Thread nD τ).loc main_arg4)) (m ((c : Thread nD τ).loc main_arg5)) (sq t) (in0 m c t) (in3 m c t) (in4 m c t) (in5 m c t), taps, params]
  exact congrArg (fun g => _ * LruRef.gelu g) (in1 m c t r l)

/-- The run: the result is the reference's term. -/
theorem run : θ_run defs (onTc (τ := τ) (main (F := Ideal))) ⟨m, fun _ => 0, ρ⟩ (fun r => ∀ c : Dev nD,
      r.2.mem ((c.tc : Thread nD τ).loc main_v16) = Cert.Reference6Ideal.Read.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.2 c).1 7).trans (final m c), h.1 c⟩) (θ_run_and (unchanged m ρ) (run_main m ρ))

end Cert.LruArray

end
-- ==== Proof.Rows.lean ====
/-
  One row under the root-mean-square norm: what the kernels' bodies and the references both compute of a row.
-/
module

public import Idealize.ShloMosaic.Lib.Pointwise
public import Idealize.ShloMosaic.Lib.Pipeline.Value

@[expose] public section

noncomputable section

namespace Cert.Rows

open Idealize.ShloMosaic

/-- A row of 1024 activations over its root mean square, times the weight row. -/
def normed (x w : Fin 1024 → EReal) (k : Fin 1024) : EReal :=
  x k * Ideal.rsqrt (Ideal.div (∑ i : Fin 1024, x i * x i) (Ideal.ofBits .f32 0x44800000#32) + Ideal.ofBits .f32 0x358637BD#32) * w k

/-- A row's dot with a column. -/
def dot {n : Nat} (x y : Fin n → EReal) : EReal := ∑ k : Fin n, x k * y k

/-- The zero offsets of a whole block. -/
theorem zero2 : (![0, 0] : Fin 2 → Nat) = fun _ => 0 := by funext a; fin_cases a <;> rfl

end Cert.Rows

end
-- ==== Proof.PrepBlock.lean ====
/-
  One block of the attention's preparation, at an index: the queries normalised, turned and scaled, the keys likewise and
  transposed, every lane copied to the heads that read it, and the values with a column of ones beside each group.
-/
module

public import proofs.«01_k».proof.Proof.Rows
public import proofs.«01_k».proof.Proof.Lanes
public import proofs.«01_k».proof.Proof.Gen.KernelIdeal.Frame

@[expose] public section

set_option maxRecDepth 16384

noncomputable section

namespace Cert.PrepBlock

open Cert.KernelIdeal Cert.KernelIdeal.Gen Idealize.ShloMosaic Cert.Heads Cert.Lanes Cert.Rows

/-! ## Words and lanes -/

/-- Whether a lane lies in the first half of its 32. -/
theorem word_first16 (n : ℕ) (hn : n < 512) :
    IntOp.cmpi .slt
      (Scalar.select
        (IntOp.andi
          (IntOp.xori
            (IntOp.cmpi .slt (IntOp.remsi .vector (BitVec.ofNat 32 n) (Scalar.select (Scalar.cmpi .eq 32#32 0#32) 1#32 32#32)) 0#32)
            (Scalar.cmpi .slt (Scalar.select (Scalar.cmpi .eq 32#32 0#32) 1#32 32#32) 0#32))
          (IntOp.cmpi .ne (IntOp.remsi .vector (BitVec.ofNat 32 n) (Scalar.select (Scalar.cmpi .eq 32#32 0#32) 1#32 32#32)) 0#32))
        (IntOp.addi (IntOp.remsi .vector (BitVec.ofNat 32 n) (Scalar.select (Scalar.cmpi .eq 32#32 0#32) 1#32 32#32))
          (Scalar.select (Scalar.cmpi .eq 32#32 0#32) 1#32 32#32))
        (IntOp.remsi .vector (BitVec.ofNat 32 n) (Scalar.select (Scalar.cmpi .eq 32#32 0#32) 1#32 32#32)))
      16#32 = BitVec.ofBool (decide (n % 32 < 16)) := by
  have h : ∀ l : Fin 512, IntOp.cmpi .slt
      (Scalar.select
        (IntOp.andi
          (IntOp.xori
            (IntOp.cmpi .slt (IntOp.remsi .vector (BitVec.ofNat 32 l.val) (Scalar.select (Scalar.cmpi .eq 32#32 0#32) 1#32 32#32)) 0#32)
            (Scalar.cmpi .slt (Scalar.select (Scalar.cmpi .eq 32#32 0#32) 1#32 32#32) 0#32))
          (IntOp.cmpi .ne (IntOp.remsi .vector (BitVec.ofNat 32 l.val) (Scalar.select (Scalar.cmpi .eq 32#32 0#32) 1#32 32#32)) 0#32))
        (IntOp.addi (IntOp.remsi .vector (BitVec.ofNat 32 l.val) (Scalar.select (Scalar.cmpi .eq 32#32 0#32) 1#32 32#32))
          (Scalar.select (Scalar.cmpi .eq 32#32 0#32) 1#32 32#32))
        (IntOp.remsi .vector (BitVec.ofNat 32 l.val) (Scalar.select (Scalar.cmpi .eq 32#32 0#32) 1#32 32#32)))
      16#32 = BitVec.ofBool (decide (l.val % 32 < 16)) := by decide +kernel
  exact h ⟨n, hn⟩

/-- Whether a lane of the widened values lies in the columns of ones. -/
theorem word_ones : ∀ l : Fin 256, IntOp.cmpi .sge
      (Scalar.select
        (IntOp.andi
          (IntOp.xori
            (IntOp.cmpi .slt (IntOp.remsi .vector (BitVec.ofNat 32 l.val) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector (BitVec.ofNat 32 l.val) (Scalar.select (Scalar.cmpi .eq 128#32 0#32) 1#32 128#32)) 0#32))
        (IntOp.addi (IntOp.remsi .vector (BitVec.ofNat 32 l.val) (Scalar.select (Scalar.cmpi .eq 128#32 0#32) 1#32 128#32))
          (Scalar.select (Scalar.cmpi .eq 128#32 0#32) 1#32 128#32))
        (IntOp.remsi .vector (BitVec.ofNat 32 l.val) (Scalar.select (Scalar.cmpi .eq 128#32 0#32) 1#32 128#32)))
      64#32 = BitVec.ofBool (decide (64 ≤ l.val % 128)) := by decide +kernel

/-- A selection on a decided condition. -/
theorem select_ofBool {α : Type} (p : Prop) [Decidable p] (a b : α) : Scalar.select (BitVec.ofBool (decide p)) a b = if p then a else b := by
  by_cases h : p <;> simp [Scalar.select, h]

/-- Lane `e` of the group that lane `l` lies in. -/
abbrev grp {n : ℕ} (hn : n % 64 = 0) (l : Fin n) (e : Fin 64) : Fin n := ⟨l.val / 64 * 64 + e.val, by have := l.isLt; have := e.isLt; omega⟩

/-- A lane's place in its group. -/
abbrev pos {n : ℕ} (l : Fin n) : Fin 64 := ⟨l.val % 64, by omega⟩

theorem grp_pos {n : ℕ} (hn : n % 64 = 0) (l : Fin n) : grp hn l (pos l) = l := Fin.ext (by simp only []; omega)

/-- Lanes of one group have the same group. -/
theorem grp_congr {n : ℕ} (hn : n % 64 = 0) {l l' : Fin n} (h : l'.val / 64 = l.val / 64) : grp hn l' = grp hn l :=
  funext fun e => Fin.ext (by simp only [h])

/-- The turn of a normalised row by two rotations of the whole row and a selection. -/
theorem rope {n : ℕ} (y : Fin n → EReal) (X W C S : Fin 64 → EReal) (l i j : Fin n)
    (hy : ∀ l' : Fin n, l'.val / 64 = l.val / 64 → y l' = headNorm X W (pos l'))
    (hi : l.val % 32 < 16 → i.val = l.val + 16) (hj : ¬ l.val % 32 < 16 → j.val + 16 = l.val) :
    y l * C (pos l) + Scalar.select (BitVec.ofBool (decide (l.val % 32 < 16))) (0 - y i) (y j) * S (pos l)
      = turned X W C S (pos l) := by
  rw [select_ofBool, turned, hy l rfl, turn]
  have hp : (pos l).val % 32 = l.val % 32 := by simp only []; omega
  by_cases h : l.val % 32 < 16
  · have e := hi h
    rw [if_pos h, dif_pos (by rw [hp]; exact h), hy i (by omega), zero_sub]
    have e2 : pos i = (⟨(pos l).val + 16, by simp only []; omega⟩ : Fin 64) := Fin.ext (by simp only []; omega)
    rw [e2]
  · have e := hj h
    rw [if_neg h, dif_neg (by rw [hp]; exact h), hy j (by omega)]
    have e2 : pos j = (⟨(pos l).val - 16, by simp only []; omega⟩ : Fin 64) := Fin.ext (by simp only []; omega)
    rw [e2]

/-- The head norm from the masked sums. -/
theorem norm_of_sums {n a : ℕ} (hn : n % 64 = 0) (hna : n = a * 64) (x w : Fin n → EReal) (hx : ∀ k, IsReal (x k)) (l : Fin n) :
    x l * Ideal.rsqrt (((∑ k, x k * x k * (if k.val / 64 = l.val / 64 then 1 else 0))
          + ∑ k, (x k * x k - x k * x k) * (if k.val / 64 = l.val / 64 then (1 : EReal) else 0)) * Ideal.ofBits .f32 1015021568#32
        + Ideal.ofBits .f32 897988541#32) * w l
      = headNorm (fun e => x (grp hn l e)) (fun e => w (grp hn l e)) (pos l) := by
  rw [group_sum hna x hx ⟨l.val / 64, by have := l.isLt; omega⟩ l rfl, mean_eq, headNorm, grp_pos]

/-- The zero offsets of a whole block of rank three. -/
theorem zero3 : (![0, 0, 0] : Fin 3 → Nat) = fun _ => 0 := by funext a; fin_cases a <;> rfl

/-! ## The queries -/

section Body
variable (x0 : Vec Ideal S512x512 .f32) (x1 x2 : Vec Ideal S512x128 .f32) (x3 x4 : Vec Ideal S512x512 .f32)
  (x5 : Vec Ideal S1x512 .f32) (x6 : Vec Ideal S1x128 .f32) (x7 : Vec Ideal S128x256 .bf16) (x8 : Vec Ideal S512x128 .bf16)

theorem ld_q (x : Vec Ideal S512x512 .f32) : View.ld x r0_0 = x := View.ld_unit_zero (S := S512x512) zero2 _ x
theorem ld_qw : View.ld x5 r0_1 = x5 := View.ld_unit_zero (S := S1x512) zero2 _ x5
theorem ld_k (x : Vec Ideal S512x128 .f32) : View.ld x r0_2 = x := View.ld_unit_zero (S := S512x128) zero2 _ x
theorem ld_rep : View.ld x8 r0_2 = x8 := View.ld_unit_zero (S := S512x128) zero2 _ x8
theorem ld_kw : View.ld x6 r0_3 = x6 := View.ld_unit_zero (S := S1x128) zero2 _ x6
theorem ld_vrep : View.ld x7 r0_5 = x7 := View.ld_unit_zero (S := S128x256) zero2 _ x7

/-- The first mask operand: a row's group. -/
theorem pay3_apply (k l : Fin 512) : k0_pay3 (ix2 k l) = BitVec.ofNat 32 (k.val / 64) := by
  pointwise [k0_pay3]
  exact word_div64 k.val k.isLt

/-- The queries' head norm. -/
theorem qnorm (hx : ∀ r l, IsReal (x0 (ix2 r l))) (r l : Fin 512) :
    k0_pay7 x0 (k0_pay2 x5) k0_pay3 (iota .tc S512x512 32 [1] iota_S512x512_d1_w32) 64#32 k0_pay4 k0_pay5 k0_pay6 (ix2 r l)
      = headNorm (fun e => x0 (ix2 r (grp rfl l e))) (fun e => x5 (ix2 0 (grp rfl l e))) (pos l) := by
  pointwise [k0_pay7, k0_pay2, pay3_apply, k0_pay4, k0_pay5, k0_pay6]
  rw [word_div64 l.val l.isLt]
  have hm : ∀ k : Fin 512, (FloatOps.sitofp (F := Ideal) .f32 (BitVec.setWidth 32 (IntOp.cmpi .eq (BitVec.ofNat 32 (k.val / 64)) (BitVec.ofNat 32 (l.val / 64)))) : EReal)
      = if k.val / 64 = l.val / 64 then 1 else 0 := fun k => mask_entry _ _ (by omega) (by omega)
  simp only [hm]
  exact norm_of_sums (a := 8) rfl rfl (fun k => x0 (ix2 r k)) (fun k => x5 (ix2 0 k)) (hx r) l

/-- The queries' block. -/
theorem out9 (hx : ∀ r l, IsReal (x0 (ix2 r l))) (r l : Fin 512) :
    out0_9 (F := Ideal) x0 x1 x2 x3 x4 x5 x6 x7 x8 (ix2 r l)
      = turned (fun e => x0 (ix2 r (grp rfl l e))) (fun e => x5 (ix2 0 (grp rfl l e))) (fun e => x3 (ix2 r (grp rfl l e)))
          (fun e => x4 (ix2 r (grp rfl l e))) (pos l) * Named.named (F := Ideal) κ "qscale" (φ := .f32) 1043900987#32 := by
  have hl := l.isLt
  unfold out0_9
  rw [View.canon_unit_zero zero2, ld_q, ld_q, ld_q, ld_qw]
  generalize hy : k0_pay7 x0 (k0_pay2 x5) k0_pay3 (iota .tc S512x512 32 [1] iota_S512x512_d1_w32) 64#32 k0_pay4 k0_pay5 k0_pay6 = y
  pointwise [k0_pay12, k0_pay8, k0_pay9, k0_pay10, k0_pay11, k0_pay21]
  rw [word_first16 l.val l.isLt]
  refine congrArg (· * _) ?_
  have h := rope (fun k => y (ix2 r k)) (fun e => x0 (ix2 r (grp rfl l e))) (fun e => x5 (ix2 0 (grp rfl l e)))
    (fun e => x3 (ix2 r (grp rfl l e))) (fun e => x4 (ix2 r (grp rfl l e))) l ⟨(l.val + 512 - 496) % 512, by omega⟩ ⟨(l.val + 512 - 16) % 512, by omega⟩
    (fun l' h => by
      show y (ix2 r l') = _
      rw [← hy, qnorm x0 x5 hx r l', grp_congr rfl h]) (fun h => by simp only []; omega) (fun h => by simp only []; omega)
  rw [← h, grp_pos]

/-! ## The keys -/

/-- The keys' masked sums. -/
theorem ksums (hx : ∀ r l, IsReal (x1 (ix2 r l))) (r : Fin 512) (l : Fin 128) :
    x1 (ix2 r l) * Ideal.rsqrt (k0_pay18 x1 (iota .tc S128x128 32 [0] iota_S128x128_d0_w32) 64#32 k0_pay16 k0_pay17
        (Scalar.subi (Scalar.extui (Scalar.cmpi .sgt 64#32 0#32)) (Scalar.extui (Scalar.cmpi .slt 64#32 0#32))) (ix2 r l)
          * k0_pay19 (F := Ideal) (ix2 r l) + Ideal.ofBits .f32 897988541#32) * x6 (ix2 0 l)
      = headNorm (fun e => x1 (ix2 r (grp rfl l e))) (fun e => x6 (ix2 0 (grp rfl l e))) (pos l) := by
  pointwise [k0_pay18, k0_pay16, k0_pay17, k0_pay19]
  rw [word_div64 l.val (by have := l.isLt; omega)]
  have hw : ∀ k : Fin 128, _ := fun k => word_div64 k.val (by have := k.isLt; omega)
  simp only [hw]
  have hm : ∀ k : Fin 128, (FloatOps.sitofp (F := Ideal) .f32 (BitVec.setWidth 32 (IntOp.cmpi .eq (BitVec.ofNat 32 (k.val / 64)) (BitVec.ofNat 32 (l.val / 64)))) : EReal)
      = if k.val / 64 = l.val / 64 then 1 else 0 := fun k => mask_entry _ _ (by omega) (by omega)
  simp only [hm]
  exact norm_of_sums (a := 2) rfl rfl (fun k => x1 (ix2 r k)) (fun k => x6 (ix2 0 k)) (hx r) l

/-- The keys' block, before each lane is copied to its heads: a sum against the copying matrix. -/
theorem out10 (hx : ∀ r l, IsReal (x1 (ix2 r l))) (r l : Fin 512) :
    out0_10 (F := Ideal) x0 x1 x2 x3 x4 x5 x6 x7 x8 (ix3 0 l r)
      = ∑ k : Fin 128, x8 (ix2 l k) * turned (fun e => x1 (ix2 r (grp rfl k e))) (fun e => x6 (ix2 0 (grp rfl k e)))
          (fun e => x3 (ix2 r ⟨(grp (n := 128) rfl k e).val, by omega⟩)) (fun e => x4 (ix2 r ⟨(grp (n := 128) rfl k e).val, by omega⟩)) (pos k) := by
  unfold out0_10
  rw [View.canon_unit_zero (S := S1x512x512) zero3, ld_q, ld_q, ld_k, ld_rep, ld_kw]
  generalize hy : k0_pay18 x1 (iota .tc S128x128 32 [0] iota_S128x128_d0_w32) 64#32 k0_pay16 k0_pay17
    (Scalar.subi (Scalar.extui (Scalar.cmpi .sgt 64#32 0#32)) (Scalar.extui (Scalar.cmpi .slt 64#32 0#32))) = y
  generalize hz : k0_pay19 (F := Ideal) = z
  pointwise [k0_pay20, k0_pay13, k0_pay14, k0_pay15]
  refine Finset.sum_congr rfl fun k _ => ?_
  have hk := k.isLt
  rw [word_first16 k.val (by omega)]
  refine congrArg (_ * ·) ?_
  have h := rope (fun j : Fin 128 => x1 (ix2 r j) * Ideal.rsqrt (y (ix2 r j) * z (ix2 r j) + Ideal.ofBits .f32 897988541#32) * x6 (ix2 0 j))
    (fun e => x1 (ix2 r (grp rfl k e))) (fun e => x6 (ix2 0 (grp rfl k e)))
    (fun e => x3 (ix2 r ⟨(grp (n := 128) rfl k e).val, by omega⟩)) (fun e => x4 (ix2 r ⟨(grp (n := 128) rfl k e).val, by omega⟩)) k
    ⟨(k.val + 128 - 112) % 128, by omega⟩ ⟨(k.val + 128 - 16) % 128, by omega⟩
    (fun l' h => by
      show x1 (ix2 r l') * Ideal.rsqrt (y (ix2 r l') * z (ix2 r l') + _) * x6 (ix2 0 l') = _
      rw [← hy, ← hz, ksums x1 x6 hx r l', grp_congr rfl h]) (fun h => by simp only []; omega) (fun h => by simp only []; omega)
  have e : (⟨(grp (n := 128) rfl k (pos k)).val, by omega⟩ : Fin 512) = ⟨k.val, by omega⟩ := Fin.ext (by simp only []; omega)
  rw [← h, e]

/-! ## The values -/

/-- The values' block: a sum against the copying matrix, and the columns of ones. -/
theorem out11 (r : Fin 512) (l : Fin 256) :
    out0_11 (F := Ideal) x0 x1 x2 x3 x4 x5 x6 x7 x8 (ix2 r l)
      = (∑ k : Fin 128, x2 (ix2 r k) * x7 (ix2 k l)) + if 64 ≤ l.val % 128 then 1 else 0 := by
  unfold out0_11
  rw [View.canon_unit_zero zero2, ld_k, ld_vrep]
  pointwise [k0_pay1]
  rw [word_ones, select_ofBool]

end Body

end Cert.PrepBlock

end
-- ==== Proof.Host.lean ====
/-
  What the host computes before the first call: the cosines, the sines and the norms' weights repeated for each head, and the
  two matrices of zeros and ones that copy a group's lanes to the heads that read them.
-/
module

public import proofs.«01_k».proof.Proof.PrepBlock

@[expose] public section

set_option maxRecDepth 16384

noncomputable section

namespace Cert.Host

open Cert.KernelIdeal Cert.KernelIdeal.Gen Idealize.ShloMosaic Idealize.ShloMosaic.TcCoe Idealize.SL.Sem Cert.Rows

/-! ## Words -/

/-- A vector of indices divided by `q`, -/
def quo (n q : ℕ) : IVec ⟨1, ![n]⟩ 32 := fun i => BitVec.ofNat 32 ((i 0).val / q)
/-- and its remainders. -/
def rem (n q : ℕ) : IVec ⟨1, ![n]⟩ 32 := fun i => BitVec.ofNat 32 ((i 0).val % q)

/-- Two small words compared. -/
theorem word_eq (a b : ℕ) (ha : a < 512) (hb : b < 512) :
    IntOp.cmpi .eq (BitVec.ofNat 32 a) (BitVec.ofNat 32 b) = BitVec.ofBool (decide (a = b)) := by
  by_cases h : a = b
  · subst h
    simp [IntOp.cmpi]
  · have h' : (BitVec.ofNat 32 a) ≠ BitVec.ofNat 32 b := fun e => h (by
      have := congrArg BitVec.toNat e
      simp only [BitVec.toNat_ofNat] at this
      omega)
    have hb : (BitVec.ofNat 32 a == BitVec.ofNat 32 b) = false := beq_eq_false_iff_ne.mpr h'
    simp [IntOp.cmpi, hb, h]

/-- A bit as a number. -/
theorem bit_value (p : Prop) [Decidable p] : (FloatOps.uitofp (F := Ideal) .bf16 (BitVec.ofBool (decide p)) : EReal) = if p then 1 else 0 := by
  by_cases h : p <;> simp [h, FloatOps.uitofp]

/-! ## One stretch at a time -/

section Stretch
variable (W : Valuation τ sig (Elt Ideal))

/-- A lane's group of heads. -/
theorem heads512 (h0 : W (Proc.devRef .tc main_v6) = iotaInDim S512 32 0) (h1 : W (Proc.devRef .tc main_c) = constantI S_ 32 256#32) :
    StableHlo.after hostOps0_1 W (Proc.devRef .tc main_v7) = quo 512 256 := by
  unfold hostOps0_1
  after_results
  rw [h0, h1]
  funext i
  obtain ⟨l, rfl⟩ : ∃ l : Fin 512, i = ix1 l := ⟨i 0, eq_ix1 i⟩
  revert l
  decide +kernel

/-- Where the group's lanes start. -/
theorem starts512 (h0 : W (Proc.devRef .tc main_v7) = quo 512 256) :
    StableHlo.after hostOps0_2 W (Proc.devRef .tc main_v9) = (fun i => BitVec.ofNat 32 ((i 0).val / 256 * 64) : IVec S512 32) := by
  unfold hostOps0_2
  after_results
  rw [h0]
  funext i
  obtain ⟨l, rfl⟩ : ∃ l : Fin 512, i = ix1 l := ⟨i 0, eq_ix1 i⟩
  revert l
  decide +kernel

/-- A lane's place. -/
theorem places512 (h0 : W (Proc.devRef .tc main_v6) = iotaInDim S512 32 0) (h1 : W (Proc.devRef .tc main_c_1) = constantI S_ 32 64#32) :
    StableHlo.after hostOps0_3 W (Proc.devRef .tc main_v10) = rem 512 64 := by
  unfold hostOps0_3
  after_results
  rw [h0, h1]
  funext i
  obtain ⟨l, rfl⟩ : ∃ l : Fin 512, i = ix1 l := ⟨i 0, eq_ix1 i⟩
  revert l
  decide +kernel

/-- A column's place. -/
theorem places256 (h0 : W (Proc.devRef .tc main_v19) = iotaInDim S256 32 0) (h1 : W (Proc.devRef .tc main_c_2) = constantI S_ 32 128#32) :
    StableHlo.after hostOps0_5 W (Proc.devRef .tc main_v20) = rem 256 128 := by
  unfold hostOps0_5
  after_results
  rw [h0, h1]
  funext i
  obtain ⟨l, rfl⟩ : ∃ l : Fin 256, i = ix1 l := ⟨i 0, eq_ix1 i⟩
  revert l
  decide +kernel

/-- Which columns hold values. -/
theorem low256 (h0 : W (Proc.devRef .tc main_v20) = rem 256 128) :
    StableHlo.after hostOps0_6 W (Proc.devRef .tc main_v22) = (fun i => BitVec.ofBool (decide ((i 0).val % 128 < 64)) : IVec S256 1) := by
  unfold hostOps0_6
  after_results
  rw [h0]
  funext i
  obtain ⟨l, rfl⟩ : ∃ l : Fin 256, i = ix1 l := ⟨i 0, eq_ix1 i⟩
  revert l
  decide +kernel

/-- A column's group of heads. -/
theorem heads256 (h0 : W (Proc.devRef .tc main_v19) = iotaInDim S256 32 0) (h1 : W (Proc.devRef .tc main_c_4) = constantI S_ 32 128#32) :
    StableHlo.after hostOps0_7 W (Proc.devRef .tc main_v23) = quo 256 128 := by
  unfold hostOps0_7
  after_results
  rw [h0, h1]
  funext i
  obtain ⟨l, rfl⟩ : ∃ l : Fin 256, i = ix1 l := ⟨i 0, eq_ix1 i⟩
  revert l
  decide +kernel

/-- Where the group's values start. -/
theorem starts256 (h0 : W (Proc.devRef .tc main_v23) = quo 256 128) :
    StableHlo.after hostOps0_8 W (Proc.devRef .tc main_v25) = (fun i => BitVec.ofNat 32 ((i 0).val / 128 * 64) : IVec S256 32) := by
  unfold hostOps0_8
  after_results
  rw [h0]
  funext i
  obtain ⟨l, rfl⟩ : ∃ l : Fin 256, i = ix1 l := ⟨i 0, eq_ix1 i⟩
  revert l
  decide +kernel

/-- A column's place. -/
theorem places256' (h0 : W (Proc.devRef .tc main_v19) = iotaInDim S256 32 0) (h1 : W (Proc.devRef .tc main_c_6) = constantI S_ 32 128#32) :
    StableHlo.after hostOps0_9 W (Proc.devRef .tc main_v26) = rem 256 128 := by
  unfold hostOps0_9
  after_results
  rw [h0, h1]
  funext i
  obtain ⟨l, rfl⟩ : ∃ l : Fin 256, i = ix1 l := ⟨i 0, eq_ix1 i⟩
  revert l
  decide +kernel

/-- The lane a column copies. -/
theorem sources256 (h0 : W (Proc.devRef .tc main_v25) = (fun i => BitVec.ofNat 32 ((i 0).val / 128 * 64) : IVec S256 32)) (h1 : W (Proc.devRef .tc main_v26) = rem 256 128) :
    StableHlo.after hostOps0_10 W (Proc.devRef .tc main_v27) = (fun i => BitVec.ofNat 32 ((i 0).val / 128 * 64 + (i 0).val % 128) : IVec S256 32) := by
  unfold hostOps0_10
  after_results
  rw [h0, h1]
  funext i
  obtain ⟨l, rfl⟩ : ∃ l : Fin 256, i = ix1 l := ⟨i 0, eq_ix1 i⟩
  revert l
  decide +kernel

/-- The lane a column copies, or none. -/
theorem copied256 (h0 : W (Proc.devRef .tc main_v22) = (fun i => BitVec.ofBool (decide ((i 0).val % 128 < 64)) : IVec S256 1)) (h1 : W (Proc.devRef .tc main_v27) = (fun i => BitVec.ofNat 32 ((i 0).val / 128 * 64 + (i 0).val % 128) : IVec S256 32)) (h2 : W (Proc.devRef .tc main_c_7) = constantI S_ 32 4294967295#32) :
    StableHlo.after hostOps0_11 W (Proc.devRef .tc main_v28) = (fun i => if (i 0).val % 128 < 64 then BitVec.ofNat 32 ((i 0).val / 128 * 64 + (i 0).val % 128) else 4294967295#32 : IVec S256 32) := by
  unfold hostOps0_11
  after_results
  rw [h0, h1, h2]
  funext i
  obtain ⟨l, rfl⟩ : ∃ l : Fin 256, i = ix1 l := ⟨i 0, eq_ix1 i⟩
  revert l
  decide +kernel

/-- The lanes' words add up. -/
theorem add_words : ∀ l : Fin 512, IntOp.addi (BitVec.ofNat 32 (l.val / 256 * 64)) (BitVec.ofNat 32 (l.val % 64)) = BitVec.ofNat 32 (l.val / 256 * 64 + l.val % 64) := by
  decide +kernel

/-- The keys' copying matrix, before it is transposed. -/
theorem rep_apply (h0 : W (Proc.devRef .tc main_v9) = (fun i => BitVec.ofNat 32 ((i 0).val / 256 * 64) : IVec S512 32))
    (h1 : W (Proc.devRef .tc main_v10) = rem 512 64) (k : Fin 128) (l : Fin 512) :
    StableHlo.after hostOps0_4 W (Proc.devRef .tc main_v18) (ix2 k l) = if k.val = l.val / 256 * 64 + l.val % 64 then (1 : EReal) else 0 := by
  unfold hostOps0_4
  after_results
  rw [h0, h1]
  pointwise [rem]
  have hk := k.isLt; have hl := l.isLt
  rw [add_words l, word_eq _ _ (by omega) (by omega), bit_value]

/-- No lane is minus one. -/
theorem word_none : ∀ k : Fin 128, IntOp.cmpi .eq (BitVec.ofNat 32 k.val) 4294967295#32 = BitVec.ofBool (decide False) := by decide +kernel

/-- The values' copying matrix. -/
theorem vrep_apply (h0 : W (Proc.devRef .tc main_v28) = (fun i => if (i 0).val % 128 < 64 then BitVec.ofNat 32 ((i 0).val / 128 * 64 + (i 0).val % 128) else 4294967295#32 : IVec S256 32))
    (k : Fin 128) (l : Fin 256) :
    StableHlo.after hostOps0_12 W (Proc.devRef .tc main_v35) (ix2 k l)
      = if l.val % 128 < 64 ∧ k.val = l.val / 128 * 64 + l.val % 128 then (1 : EReal) else 0 := by
  unfold hostOps0_12
  after_results
  rw [h0]
  pointwise
  have hk := k.isLt; have hl := l.isLt
  split_ifs with h1 h2 h2
  · rw [word_eq _ _ (by omega) (by omega), bit_value, if_pos h2.2]
  · rw [word_eq _ _ (by omega) (by omega), bit_value, if_neg fun h => h2 ⟨h1, h⟩]
  · exact absurd h2.1 h1
  · rw [word_none k, bit_value, if_neg id]

/-- The keys' copying matrix. -/
theorem rept_apply (k : Fin 128) (l : Fin 512) :
    StableHlo.after hostOps0_12 W (Proc.devRef .tc main_v44) (ix2 l k) = W (Proc.devRef .tc main_v18) (ix2 k l) := by
  unfold hostOps0_12
  after_results
  generalize W (Proc.devRef .tc main_v18) = x
  pointwise

/-- The queries' norm weights, one copy for each head. -/
theorem qw_apply (l : Fin 512) :
    StableHlo.after hostOps0_12 W (Proc.devRef .tc main_v39) (ix2 0 l) = W (Proc.devRef .tc main_arg5) (ix1 ⟨l.val % 64, by omega⟩) := by
  unfold hostOps0_12
  after_results
  generalize W (Proc.devRef .tc main_arg5) = x
  pointwise

/-- The keys' norm weights. -/
theorem kw_apply (l : Fin 128) :
    StableHlo.after hostOps0_12 W (Proc.devRef .tc main_v43) (ix2 0 l) = W (Proc.devRef .tc main_arg6) (ix1 ⟨l.val % 64, by omega⟩) := by
  unfold hostOps0_12
  after_results
  generalize W (Proc.devRef .tc main_arg6) = x
  pointwise

/-- The cosines. -/
theorem cos_apply (p : Fin 4096) (l : Fin 512) :
    StableHlo.after hostOps0 W (Proc.devRef .tc main_v2) (ix2 p l) = W (Proc.devRef .tc main_arg3) (ix2 p ⟨l.val % 64, by omega⟩) := by
  unfold hostOps0
  after_results
  generalize W (Proc.devRef .tc main_arg3) = x
  pointwise

/-- The sines. -/
theorem sin_apply (p : Fin 4096) (l : Fin 512) :
    StableHlo.after hostOps0 W (Proc.devRef .tc main_v5) (ix2 p l) = W (Proc.devRef .tc main_arg4) (ix2 p ⟨l.val % 64, by omega⟩) := by
  unfold hostOps0
  after_results
  generalize W (Proc.devRef .tc main_arg4) = x
  pointwise

/-! The constants and counters a later stretch reads. -/

theorem iota512 : StableHlo.after hostOps0 W (Proc.devRef .tc main_v6) = iotaInDim S512 32 0 := by
  unfold hostOps0
  after_results
theorem c256 : StableHlo.after hostOps0 W (Proc.devRef .tc main_c) = constantI S_ 32 256#32 := by
  unfold hostOps0
  after_results
theorem c64 : StableHlo.after hostOps0_2 W (Proc.devRef .tc main_c_1) = constantI S_ 32 64#32 := by
  unfold hostOps0_2
  after_results
theorem iota256 : StableHlo.after hostOps0_4 W (Proc.devRef .tc main_v19) = iotaInDim S256 32 0 := by
  unfold hostOps0_4
  after_results
theorem c128 : StableHlo.after hostOps0_4 W (Proc.devRef .tc main_c_2) = constantI S_ 32 128#32 := by
  unfold hostOps0_4
  after_results
theorem c128' : StableHlo.after hostOps0_6 W (Proc.devRef .tc main_c_4) = constantI S_ 32 128#32 := by
  unfold hostOps0_6
  after_results
theorem c128'' : StableHlo.after hostOps0_8 W (Proc.devRef .tc main_c_6) = constantI S_ 32 128#32 := by
  unfold hostOps0_8
  after_results
theorem cneg : StableHlo.after hostOps0_10 W (Proc.devRef .tc main_c_7) = constantI S_ 32 4294967295#32 := by
  unfold hostOps0_10
  after_results

end Stretch

/-! ## The arrays the first call reads -/

section Arrays
variable (m : (ℓ : Loc nD τ sig) → Buf (Elt Ideal) ℓ) (ρ : Dev nD → PrngReg) (c : Dev nD)

theorem at_v7 : W2 m ρ c (Proc.devRef .tc main_v7) = quo 512 256 := heads512 _ (iota512 _) (c256 _)
theorem at_v9 : W3 m ρ c (Proc.devRef .tc main_v9) = (fun i => BitVec.ofNat 32 ((i 0).val / 256 * 64) : IVec S512 32) := starts512 _ (at_v7 m ρ c)
theorem at_v10 : W4 m ρ c (Proc.devRef .tc main_v10) = rem 512 64 :=
  places512 _ ((W3_of m ρ c main_v6 (by decide)).trans ((W2_of m ρ c main_v6 (by decide)).trans (iota512 _))) (c64 _)
theorem at_v18 (k : Fin 128) (l : Fin 512) : W5 m ρ c (Proc.devRef .tc main_v18) (ix2 k l)
    = if k.val = l.val / 256 * 64 + l.val % 64 then (1 : EReal) else 0 :=
  rep_apply _ ((W4_of m ρ c main_v9 (by decide)).trans (at_v9 m ρ c)) (at_v10 m ρ c) k l
theorem at_v20 : W6 m ρ c (Proc.devRef .tc main_v20) = rem 256 128 := places256 _ (iota256 _) (c128 _)
theorem at_v22 : W7 m ρ c (Proc.devRef .tc main_v22) = (fun i => BitVec.ofBool (decide ((i 0).val % 128 < 64)) : IVec S256 1) :=
  low256 _ (at_v20 m ρ c)
theorem at_v23 : W8 m ρ c (Proc.devRef .tc main_v23) = quo 256 128 :=
  heads256 _ ((W7_of m ρ c main_v19 (by decide)).trans ((W6_of m ρ c main_v19 (by decide)).trans (iota256 _))) (c128' _)
theorem at_v25 : W9 m ρ c (Proc.devRef .tc main_v25) = (fun i => BitVec.ofNat 32 ((i 0).val / 128 * 64) : IVec S256 32) :=
  starts256 _ (at_v23 m ρ c)
theorem at_v26 : W10 m ρ c (Proc.devRef .tc main_v26) = rem 256 128 :=
  places256' _ ((W9_of m ρ c main_v19 (by decide)).trans ((W8_of m ρ c main_v19 (by decide)).trans ((W7_of m ρ c main_v19 (by decide)).trans ((W6_of m ρ c main_v19 (by decide)).trans (iota256 _))))) (c128'' _)
theorem at_v27 : W11 m ρ c (Proc.devRef .tc main_v27)
    = (fun i => BitVec.ofNat 32 ((i 0).val / 128 * 64 + (i 0).val % 128) : IVec S256 32) :=
  sources256 _ ((W10_of m ρ c main_v25 (by decide)).trans (at_v25 m ρ c)) (at_v26 m ρ c)
theorem at_v28 : W12 m ρ c (Proc.devRef .tc main_v28)
    = (fun i => if (i 0).val % 128 < 64 then BitVec.ofNat 32 ((i 0).val / 128 * 64 + (i 0).val % 128) else 4294967295#32 : IVec S256 32) :=
  copied256 _ ((W11_of m ρ c main_v22 (by decide)).trans ((W10_of m ρ c main_v22 (by decide)).trans ((W9_of m ρ c main_v22 (by decide)).trans ((W8_of m ρ c main_v22 (by decide)).trans (at_v22 m ρ c))))) (at_v27 m ρ c) (cneg _)

/-- The values' copying matrix, -/
theorem vrep (k : Fin 128) (l : Fin 256) : V13 m ρ c main_v35 (ix2 k l)
    = if l.val % 128 < 64 ∧ k.val = l.val / 128 * 64 + l.val % 128 then (1 : EReal) else 0 := vrep_apply _ (at_v28 m ρ c) k l
/-- the keys', -/
theorem rept (l : Fin 512) (k : Fin 128) : V13 m ρ c main_v44 (ix2 l k)
    = if k.val = l.val / 256 * 64 + l.val % 64 then (1 : EReal) else 0 :=
  (rept_apply _ k l).trans ((congrFun ((W12_of m ρ c main_v18 (by decide)).trans ((W11_of m ρ c main_v18 (by decide)).trans ((W10_of m ρ c main_v18 (by decide)).trans ((W9_of m ρ c main_v18 (by decide)).trans ((W8_of m ρ c main_v18 (by decide)).trans ((W7_of m ρ c main_v18 (by decide)).trans ((W6_of m ρ c main_v18 (by decide)).trans (rfl)))))))) _).trans (at_v18 m ρ c k l))
/-- the queries' norm weights, -/
theorem qw (l : Fin 512) : V13 m ρ c main_v39 (ix2 0 l) = m ((c : Thread nD τ).loc main_arg5) (ix1 ⟨l.val % 64, by omega⟩) :=
  (qw_apply _ l).trans (congrFun (W12_args m ρ c main_arg5 (by decide)) _)
/-- the keys', -/
theorem kw (l : Fin 128) : V13 m ρ c main_v43 (ix2 0 l) = m ((c : Thread nD τ).loc main_arg6) (ix1 ⟨l.val % 64, by omega⟩) :=
  (kw_apply _ l).trans (congrFun (W12_args m ρ c main_arg6 (by decide)) _)
/-- the cosines, -/
theorem cos (p : Fin 4096) (l : Fin 512) : V13 m ρ c main_v2 (ix2 p l) = m ((c : Thread nD τ).loc main_arg3) (ix2 p ⟨l.val % 64, by omega⟩) :=
  (congrFun ((W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)).trans (rfl))))))))))))) _).trans (cos_apply _ p l)
/-- and the sines. -/
theorem sin (p : Fin 4096) (l : Fin 512) : V13 m ρ c main_v5 (ix2 p l) = m ((c : Thread nD τ).loc main_arg4) (ix2 p ⟨l.val % 64, by omega⟩) :=
  (congrFun ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans ((W2_of m ρ c main_v5 (by decide)).trans (rfl))))))))))))) _).trans (sin_apply _ p l)

end Arrays

end Cert.Host

end
-- ==== Proof.PrepArray.lean ====
/-
  The three arrays the preparation leaves, element by element: the queries' rows the heads score with, scaled; the keys' rows,
  transposed, one copy for each head of a group; the values, each group's beside a block of ones.
-/
module

public import proofs.«01_k».proof.Proof.Host

@[expose] public section

set_option maxRecDepth 16384

noncomputable section

namespace Cert.Prep

open Cert.KernelIdeal Cert.KernelIdeal.Gen Idealize.ShloMosaic Idealize.ShloMosaic.TcCoe Idealize.SL.Sem Cert.Rows Cert.Heads Cert.Lanes
  Cert.PrepBlock
open Idealize.ShloMosaic.Pipeline (Dat)

variable (m : (ℓ : Loc nD τ sig) → Buf (Elt Ideal) ℓ) (ρ : Dev nD → PrngReg) (c : Dev nD)

/-- The grid's points are the row blocks, eight to a sequence. -/
theorem coord (t : Fin cfg0.N) : t.val < 64 := t.isLt

/-- Row `r` of block `t` is row `512 t + r` of the array, -/
abbrev row (t : Fin cfg0.N) (r : Fin 512) : Fin 32768 := ⟨t.val * 512 + r.val, by have := coord t; omega⟩
/-- and this place of its sequence. -/
abbrev place (t : Fin cfg0.N) (r : Fin 512) : Fin 4096 := ⟨t.val % 8 * 512 + r.val, by omega⟩
/-- The sequence of block `t`. -/
abbrev seq (t : Fin cfg0.N) : Fin 8 := ⟨t.val / 8, by have := coord t; omega⟩

/-- A row is some row of some block. -/
theorem exists_row (a : Fin 32768) : ∃ (t : Fin cfg0.N) (r : Fin 512), row t r = a := by
  have ha := a.isLt
  have hN : cfg0.N = 64 := N_0
  have hq : a.val / 512 < cfg0.N := by rw [hN]; omega
  have hr : a.val % 512 < 512 := by omega
  exact ⟨⟨a.val / 512, hq⟩, ⟨a.val % 512, hr⟩, Fin.ext (by show a.val / 512 * 512 + a.val % 512 = a.val; omega)⟩

/-- A place of a sequence is some row of some block. -/
theorem exists_place (b : Fin 8) (s : Fin 4096) : ∃ (t : Fin cfg0.N) (r : Fin 512), seq t = b ∧ place t r = s := by
  have hb := b.isLt; have hs := s.isLt
  have hN : cfg0.N = 64 := N_0
  have hq : b.val * 8 + s.val / 512 < cfg0.N := by rw [hN]; omega
  have hr : s.val % 512 < 512 := by omega
  refine ⟨⟨b.val * 8 + s.val / 512, hq⟩, ⟨s.val % 512, hr⟩, Fin.ext ?_, Fin.ext ?_⟩
  · show (b.val * 8 + s.val / 512) / 8 = b.val; omega
  · show (b.val * 8 + s.val / 512) % 8 * 512 + s.val % 512 = s.val; omega

/-- A token's row. -/
theorem row_tok (t : Fin cfg0.N) (r : Fin 512) : tok (seq t) (place t r) = row t r :=
  Fin.ext (by show t.val / 8 * 4096 + (t.val % 8 * 512 + r.val) = t.val * 512 + r.val; omega)

/-! ## The inputs' blocks -/

/-- The queries. -/
theorem at0 : ∀ t : Fin cfg0.N, win0_0.index t 0 = t.val ∧ win0_0.index t 1 = 0 :=
  (by decide +kernel : ∀ t : Fin grid0.N, win0_0.index t 0 = t.val ∧ win0_0.index t 1 = 0)
theorem in0 (t : Fin cfg0.N) (r : Fin 512) (l : Fin 512) : iblk0 (V13 m ρ) c 0 t (ix2 r l) = m ((c : Thread nD τ).loc main_arg0) (ix2 (row t r) l) := by
  show V13 m ρ c main_arg0 ((win0_0.rect t).emb (ix2 r l)) = _
  have e : (win0_0.rect t).emb (ix2 r l) = (ix2 (row t r) l : S32768x512.Idx) := by
    refine Shape.idx_ext₂ ?_ ?_
    · rw [win0_0.rect_emb_val, (at0 t).1]; rfl
    · rw [win0_0.rect_emb_val, (at0 t).2]; simp
  rw [e]
  exact congrFun (W13_args m ρ c main_arg0 (by decide)) _

/-- The keys. -/
theorem at1 : ∀ t : Fin cfg0.N, win0_1.index t 0 = t.val ∧ win0_1.index t 1 = 0 :=
  (by decide +kernel : ∀ t : Fin grid0.N, win0_1.index t 0 = t.val ∧ win0_1.index t 1 = 0)
theorem in1 (t : Fin cfg0.N) (r : Fin 512) (l : Fin 128) : iblk0 (V13 m ρ) c 1 t (ix2 r l) = m ((c : Thread nD τ).loc main_arg1) (ix2 (row t r) l) := by
  show V13 m ρ c main_arg1 ((win0_1.rect t).emb (ix2 r l)) = _
  have e : (win0_1.rect t).emb (ix2 r l) = (ix2 (row t r) l : S32768x128.Idx) := by
    refine Shape.idx_ext₂ ?_ ?_
    · rw [win0_1.rect_emb_val, (at1 t).1]; rfl
    · rw [win0_1.rect_emb_val, (at1 t).2]; simp
  rw [e]
  exact congrFun (W13_args m ρ c main_arg1 (by decide)) _

/-- The values. -/
theorem at2 : ∀ t : Fin cfg0.N, win0_2.index t 0 = t.val ∧ win0_2.index t 1 = 0 :=
  (by decide +kernel : ∀ t : Fin grid0.N, win0_2.index t 0 = t.val ∧ win0_2.index t 1 = 0)
theorem in2 (t : Fin cfg0.N) (r : Fin 512) (l : Fin 128) : iblk0 (V13 m ρ) c 2 t (ix2 r l) = m ((c : Thread nD τ).loc main_arg2) (ix2 (row t r) l) := by
  show V13 m ρ c main_arg2 ((win0_2.rect t).emb (ix2 r l)) = _
  have e : (win0_2.rect t).emb (ix2 r l) = (ix2 (row t r) l : S32768x128.Idx) := by
    refine Shape.idx_ext₂ ?_ ?_
    · rw [win0_2.rect_emb_val, (at2 t).1]; rfl
    · rw [win0_2.rect_emb_val, (at2 t).2]; simp
  rw [e]
  exact congrFun (W13_args m ρ c main_arg2 (by decide)) _

/-- The cosines. -/
theorem at3 : ∀ t : Fin cfg0.N, win0_3.index t 0 = t.val % 8 ∧ win0_3.index t 1 = 0 :=
  (by decide +kernel : ∀ t : Fin grid0.N, win0_3.index t 0 = t.val % 8 ∧ win0_3.index t 1 = 0)
theorem in3 (t : Fin cfg0.N) (r : Fin 512) (l : Fin 512) : iblk0 (V13 m ρ) c 3 t (ix2 r l) = m ((c : Thread nD τ).loc main_arg3) (ix2 (place t r) ⟨l.val % 64, by omega⟩) := by
  show V13 m ρ c main_v2 ((win0_3.rect t).emb (ix2 r l)) = _
  have e : (win0_3.rect t).emb (ix2 r l) = (ix2 (place t r) l : S4096x512.Idx) := by
    refine Shape.idx_ext₂ ?_ ?_
    · rw [win0_3.rect_emb_val, (at3 t).1]; rfl
    · rw [win0_3.rect_emb_val, (at3 t).2]; simp
  rw [e]
  exact Host.cos m ρ c _ _

/-- The sines. -/
theorem at4 : ∀ t : Fin cfg0.N, win0_4.index t 0 = t.val % 8 ∧ win0_4.index t 1 = 0 :=
  (by decide +kernel : ∀ t : Fin grid0.N, win0_4.index t 0 = t.val % 8 ∧ win0_4.index t 1 = 0)
theorem in4 (t : Fin cfg0.N) (r : Fin 512) (l : Fin 512) : iblk0 (V13 m ρ) c 4 t (ix2 r l) = m ((c : Thread nD τ).loc main_arg4) (ix2 (place t r) ⟨l.val % 64, by omega⟩) := by
  show V13 m ρ c main_v5 ((win0_4.rect t).emb (ix2 r l)) = _
  have e : (win0_4.rect t).emb (ix2 r l) = (ix2 (place t r) l : S4096x512.Idx) := by
    refine Shape.idx_ext₂ ?_ ?_
    · rw [win0_4.rect_emb_val, (at4 t).1]; rfl
    · rw [win0_4.rect_emb_val, (at4 t).2]; simp
  rw [e]
  exact Host.sin m ρ c _ _

/-- The queries' norm weights. -/
theorem at5 : ∀ t : Fin cfg0.N, win0_5.index t 0 = 0 ∧ win0_5.index t 1 = 0 :=
  (by decide +kernel : ∀ t : Fin grid0.N, win0_5.index t 0 = 0 ∧ win0_5.index t 1 = 0)
theorem in5 (t : Fin cfg0.N) (r : Fin 1) (l : Fin 512) : iblk0 (V13 m ρ) c 5 t (ix2 r l) = m ((c : Thread nD τ).loc main_arg5) (ix1 ⟨l.val % 64, by omega⟩) := by
  show V13 m ρ c main_v39 ((win0_5.rect t).emb (ix2 r l)) = _
  have e : (win0_5.rect t).emb (ix2 r l) = (ix2 0 l : S1x512.Idx) := by
    refine Shape.idx_ext₂ ?_ ?_
    · rw [win0_5.rect_emb_val, (at5 t).1]; simp
    · rw [win0_5.rect_emb_val, (at5 t).2]; simp
  rw [e]
  exact Host.qw m ρ c _

/-- The keys' norm weights. -/
theorem at6 : ∀ t : Fin cfg0.N, win0_6.index t 0 = 0 ∧ win0_6.index t 1 = 0 :=
  (by decide +kernel : ∀ t : Fin grid0.N, win0_6.index t 0 = 0 ∧ win0_6.index t 1 = 0)
theorem in6 (t : Fin cfg0.N) (r : Fin 1) (l : Fin 128) : iblk0 (V13 m ρ) c 6 t (ix2 r l) = m ((c : Thread nD τ).loc main_arg6) (ix1 ⟨l.val % 64, by omega⟩) := by
  show V13 m ρ c main_v43 ((win0_6.rect t).emb (ix2 r l)) = _
  have e : (win0_6.rect t).emb (ix2 r l) = (ix2 0 l : S1x128.Idx) := by
    refine Shape.idx_ext₂ ?_ ?_
    · rw [win0_6.rect_emb_val, (at6 t).1]; simp
    · rw [win0_6.rect_emb_val, (at6 t).2]; simp
  rw [e]
  exact Host.kw m ρ c _

/-- The values' copying matrix. -/
theorem at7 : ∀ t : Fin cfg0.N, win0_7.index t 0 = 0 ∧ win0_7.index t 1 = 0 :=
  (by decide +kernel : ∀ t : Fin grid0.N, win0_7.index t 0 = 0 ∧ win0_7.index t 1 = 0)
theorem in7 (t : Fin cfg0.N) (r : Fin 128) (l : Fin 256) : iblk0 (V13 m ρ) c 7 t (ix2 r l) = if l.val % 128 < 64 ∧ r.val = l.val / 128 * 64 + l.val % 128 then (1 : EReal) else 0 := by
  show V13 m ρ c main_v35 ((win0_7.rect t).emb (ix2 r l)) = _
  have e : (win0_7.rect t).emb (ix2 r l) = (ix2 r l : S128x256.Idx) := by
    refine Shape.idx_ext₂ ?_ ?_
    · rw [win0_7.rect_emb_val, (at7 t).1]; simp
    · rw [win0_7.rect_emb_val, (at7 t).2]; simp
  rw [e]
  exact Host.vrep m ρ c _ _

/-- The keys' copying matrix. -/
theorem at8 : ∀ t : Fin cfg0.N, win0_8.index t 0 = 0 ∧ win0_8.index t 1 = 0 :=
  (by decide +kernel : ∀ t : Fin grid0.N, win0_8.index t 0 = 0 ∧ win0_8.index t 1 = 0)
theorem in8 (t : Fin cfg0.N) (r : Fin 512) (l : Fin 128) : iblk0 (V13 m ρ) c 8 t (ix2 r l) = if l.val = r.val / 256 * 64 + r.val % 64 then (1 : EReal) else 0 := by
  show V13 m ρ c main_v44 ((win0_8.rect t).emb (ix2 r l)) = _
  have e : (win0_8.rect t).emb (ix2 r l) = (ix2 r l : S512x128.Idx) := by
    refine Shape.idx_ext₂ ?_ ?_
    · rw [win0_8.rect_emb_val, (at8 t).1]; simp
    · rw [win0_8.rect_emb_val, (at8 t).2]; simp
  rw [e]
  exact Host.rept m ρ c _ _

/-! ## The queries -/

/-- The row a head scores with, of token `a`, from the group of lane `l`. -/
def query (a : Fin 32768) (l : Fin 512) : EReal :=
  turned (fun e => m ((c : Thread nD τ).loc main_arg0) (ix2 a (grp rfl l e))) (fun e => m ((c : Thread nD τ).loc main_arg5) (ix1 e))
    (fun e => m ((c : Thread nD τ).loc main_arg3) (ix2 ⟨a.val % 4096, by omega⟩ e))
    (fun e => m ((c : Thread nD τ).loc main_arg4) (ix2 ⟨a.val % 4096, by omega⟩ e)) (pos l)

/-- A group's lanes, each in its place. -/
theorem grp_mod (x : ℕ) (e : Fin 64) (h : (x * 64 + e.val) % 64 < 64) : (⟨(x * 64 + e.val) % 64, h⟩ : Fin 64) = e :=
  Fin.ext (by have := e.isLt; simp only []; omega)

theorem at9 : ∀ t : Fin cfg0.N, win0_9.index t 0 = t.val ∧ win0_9.index t 1 = 0 :=
  (by decide +kernel : ∀ t : Fin grid0.N, win0_9.index t 0 = t.val ∧ win0_9.index t 1 = 0)
/-- Where the block's element sits in the array. -/
theorem emb9 (t : Fin cfg0.N) (r : Fin 512) (l : Fin 512) : ((cfg0.win 9).blk t).view.emb (ix2 r l) = (ix2 (row t r) l : S32768x512.Idx) := by
  refine Shape.idx_ext₂ ?_ ?_
  · show ((win0_9.rect t).emb (ix2 r l) 0).val = _
    rw [win0_9.rect_emb_val, (at9 t).1]; rfl
  · show ((win0_9.rect t).emb (ix2 r l) 1).val = _
    rw [win0_9.rect_emb_val, (at9 t).2]; simp
/-- The blocks tile the array. -/
theorem cover9 (i : S32768x512.Idx) : ∃ t : Fin cfg0.N, (cfg0.win 9).flush t = true ∧ i ∈ ((cfg0.win 9).blk t).view.set := by
  obtain ⟨a, b, rfl⟩ : ∃ (a : Fin 32768) (b : Fin 512), i = ix2 a b := ⟨i 0, i 1, eq_ix2 i⟩
  obtain ⟨t, r, rfl⟩ := exists_row a
  refine ⟨t, flush0_9 _, ?_⟩
  have h := ((cfg0.win 9).blk t).view.emb_mem_set (ix2 r b)
  rwa [emb9] at h

/-- The array of the queries. -/
theorem queries (hx : ∀ i, IsReal (m ((c : Thread nD τ).loc main_arg0) i)) (i : S32768x512.Idx) :
    (dat0 (V13 m ρ) c).arrAt 9 cfg0.N i = query m c (i 0) (i 1) * Named.named (F := Ideal) κ "qscale" (φ := .f32) 1043900987#32 := by
  refine (dat0 (V13 m ρ) c).arrAt_forall_of_cover 9 (fun i v => v = query m c (i 0) (i 1) * Named.named (F := Ideal) κ "qscale" (φ := .f32) 1043900987#32) ?_ cover9 i
  intro t _ y
  obtain ⟨r, l, rfl⟩ : ∃ (r : Fin 512) (l : Fin 512), y = ix2 r l := ⟨y 0, y 1, eq_ix2 y⟩
  rw [emb9]
  show (dat0 (V13 m ρ) c).after 9 t (ix2 r l) = _
  rw [after0_9]
  refine (out9 _ _ _ _ _ _ _ _ _ (fun r l => by rw [in0]; exact hx _) r l).trans ?_
  have hp : (⟨(row t r).val % 4096, by omega⟩ : Fin 4096) = place t r := Fin.ext (by simp only []; omega)
  show _ = query m c (row t r) l * _
  simp only [in0, in3, in4, in5, query, grp_mod, hp]

/-! ## The values -/

/-- The values beside the ones. -/
def value (a : Fin 32768) (l : Fin 256) : EReal :=
  if l.val % 128 < 64 then m ((c : Thread nD τ).loc main_arg2) (ix2 a ⟨l.val / 128 * 64 + l.val % 128 % 64, by omega⟩) else 1

theorem at11 : ∀ t : Fin cfg0.N, win0_11.index t 0 = t.val ∧ win0_11.index t 1 = 0 :=
  (by decide +kernel : ∀ t : Fin grid0.N, win0_11.index t 0 = t.val ∧ win0_11.index t 1 = 0)
/-- Where the block's element sits in the array. -/
theorem emb11 (t : Fin cfg0.N) (r : Fin 512) (l : Fin 256) : ((cfg0.win 11).blk t).view.emb (ix2 r l) = (ix2 (row t r) l : S32768x256.Idx) := by
  refine Shape.idx_ext₂ ?_ ?_
  · show ((win0_11.rect t).emb (ix2 r l) 0).val = _
    rw [win0_11.rect_emb_val, (at11 t).1]; rfl
  · show ((win0_11.rect t).emb (ix2 r l) 1).val = _
    rw [win0_11.rect_emb_val, (at11 t).2]; simp
/-- The blocks tile the array. -/
theorem cover11 (i : S32768x256.Idx) : ∃ t : Fin cfg0.N, (cfg0.win 11).flush t = true ∧ i ∈ ((cfg0.win 11).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_11 _, ?_⟩
  have h := ((cfg0.win 11).blk t).view.emb_mem_set (ix2 r b)
  rwa [emb11] at h

/-- A row against the copying matrix. -/
theorem copied (x : Fin 128 → EReal) (l : Fin 256) :
    (∑ k : Fin 128, x k * (if l.val % 128 < 64 ∧ k.val = l.val / 128 * 64 + l.val % 128 then (1 : EReal) else 0)) + (if 64 ≤ l.val % 128 then 1 else 0)
      = if l.val % 128 < 64 then x ⟨l.val / 128 * 64 + l.val % 128 % 64, by omega⟩ else 1 := by
  by_cases h : l.val % 128 < 64
  · rw [if_pos h, if_neg (by omega), add_zero, Finset.sum_eq_single (⟨l.val / 128 * 64 + l.val % 128 % 64, by omega⟩ : Fin 128)]
    · rw [if_pos ⟨h, by simp only []; omega⟩, mul_one]
    · intro k _ hk
      rw [if_neg, mul_zero]
      exact fun h' => hk (Fin.ext (by simp only []; omega))
    · exact fun h' => absurd (Finset.mem_univ _) h'
  · rw [if_neg h, if_pos (by omega), Finset.sum_eq_zero, zero_add]
    intro k _
    rw [if_neg fun h' => h h'.1, mul_zero]

/-- The array of the values. -/
theorem values (i : S32768x256.Idx) : (dat0 (V13 m ρ) c).arrAt 11 cfg0.N i = value m c (i 0) (i 1) := by
  refine (dat0 (V13 m ρ) c).arrAt_forall_of_cover 11 (fun i v => v = value m c (i 0) (i 1)) ?_ cover11 i
  intro t _ y
  obtain ⟨r, l, rfl⟩ : ∃ (r : Fin 512) (l : Fin 256), y = ix2 r l := ⟨y 0, y 1, eq_ix2 y⟩
  rw [emb11]
  show (dat0 (V13 m ρ) c).after 11 t (ix2 r l) = _
  rw [after0_11]
  refine (out11 _ _ _ _ _ _ _ _ _ r l).trans ?_
  simp only [in2, in7]
  exact copied _ l

/-! ## The keys -/

/-- The key's row of token `s` of sequence `b`, for lane `l` of the heads. -/
def key (b : Fin 8) (l : Fin 512) (s : Fin 4096) : EReal :=
  turned (fun e => m ((c : Thread nD τ).loc main_arg1) (ix2 (tok b s) (klane ⟨l.val / 256, by omega⟩ e)))
    (fun e => m ((c : Thread nD τ).loc main_arg6) (ix1 e)) (fun e => m ((c : Thread nD τ).loc main_arg3) (ix2 s e))
    (fun e => m ((c : Thread nD τ).loc main_arg4) (ix2 s e)) (pos l)

theorem at10 : ∀ t : Fin cfg0.N, win0_10.index t 0 = t.val / 8 ∧ win0_10.index t 1 = 0 ∧ win0_10.index t 2 = t.val % 8 :=
  (by decide +kernel : ∀ t : Fin grid0.N, win0_10.index t 0 = t.val / 8 ∧ win0_10.index t 1 = 0 ∧ win0_10.index t 2 = t.val % 8)
/-- Where the block's element sits in the array. -/
theorem emb10 (t : Fin cfg0.N) (l r : Fin 512) : ((cfg0.win 10).blk t).view.emb (ix3 0 l r) = (ix3 (seq t) l (place t r) : S8x512x4096.Idx) := by
  funext a
  refine Fin.ext ?_
  fin_cases a
  · show ((win0_10.rect t).emb (ix3 0 l r) 0).val = _
    rw [win0_10.rect_emb_val, (at10 t).1]; simp
  · show ((win0_10.rect t).emb (ix3 0 l r) 1).val = _
    rw [win0_10.rect_emb_val, (at10 t).2.1]; simp
  · show ((win0_10.rect t).emb (ix3 0 l r) 2).val = _
    rw [win0_10.rect_emb_val, (at10 t).2.2]; rfl
/-- The blocks tile the array. -/
theorem cover10 (i : S8x512x4096.Idx) : ∃ t : Fin cfg0.N, (cfg0.win 10).flush t = true ∧ i ∈ ((cfg0.win 10).blk t).view.set := by
  obtain ⟨b, l, s, rfl⟩ : ∃ (b : Fin 8) (l : Fin 512) (s : Fin 4096), i = ix3 b l s := ⟨i 0, i 1, i 2, eq_ix3 i⟩
  obtain ⟨t, r, rfl, rfl⟩ := exists_place b s
  refine ⟨t, flush0_10 _, ?_⟩
  have h := ((cfg0.win 10).blk t).view.emb_mem_set (ix3 0 l r)
  rwa [emb10] at h

/-- A column against the copying matrix. -/
theorem spread (x : Fin 128 → EReal) (l : Fin 512) :
    ∑ k : Fin 128, (if k.val = l.val / 256 * 64 + l.val % 64 then (1 : EReal) else 0) * x k = x ⟨l.val / 256 * 64 + l.val % 64, by omega⟩ := by
  rw [Finset.sum_eq_single (⟨l.val / 256 * 64 + l.val % 64, by omega⟩ : Fin 128)]
  · rw [if_pos rfl, one_mul]
  · intro k _ hk
    rw [if_neg fun h => hk (Fin.ext h), zero_mul]
  · exact fun h => absurd (Finset.mem_univ _) h

/-- The array of the keys. -/
theorem keys (hx : ∀ i, IsReal (m ((c : Thread nD τ).loc main_arg1) i)) (i : S8x512x4096.Idx) :
    (dat0 (V13 m ρ) c).arrAt 10 cfg0.N i = key m c (i 0) (i 1) (i 2) := by
  refine (dat0 (V13 m ρ) c).arrAt_forall_of_cover 10 (fun i v => v = key m c (i 0) (i 1) (i 2)) ?_ cover10 i
  intro t _ y
  obtain ⟨l, r, rfl⟩ : ∃ (l : Fin 512) (r : Fin 512), y = ix3 0 l r := ⟨y 1, y 2, (eq_ix3 y).trans (congrArg (fun a : Fin 1 => ix3 a (y 1) (y 2)) (Subsingleton.elim _ _))⟩
  rw [emb10]
  show (dat0 (V13 m ρ) c).after 10 t (ix3 0 l r) = _
  rw [after0_10]
  refine (out10 _ _ _ _ _ _ _ _ _ (fun r l => by rw [in1]; exact hx _) r l).trans ?_
  simp only [in8, in1, in3, in4, in6]
  refine (spread (fun k => turned (fun e => m ((c : Thread nD τ).loc main_arg1) (ix2 (row t r) (grp rfl k e)))
    (fun e => m ((c : Thread nD τ).loc main_arg6) (ix1 ⟨(grp (n := 128) rfl k e).val % 64, by omega⟩))
    (fun e => m ((c : Thread nD τ).loc main_arg3) (ix2 (place t r) ⟨(grp (n := 128) rfl k e).val % 64, by omega⟩))
    (fun e => m ((c : Thread nD τ).loc main_arg4) (ix2 (place t r) ⟨(grp (n := 128) rfl k e).val % 64, by omega⟩)) (pos k)) l).trans ?_
  simp only [grp_mod]
  show _ = key m c (seq t) l (place t r)
  have hl := l.isLt
  have hg : ∀ e, grp (n := 128) rfl ⟨l.val / 256 * 64 + l.val % 64, by omega⟩ e = klane ⟨l.val / 256, by omega⟩ e := fun e =>
    Fin.ext (by simp only []; omega)
  have hpos : pos (⟨l.val / 256 * 64 + l.val % 64, by omega⟩ : Fin 128) = pos l := Fin.ext (by simp only []; omega)
  rw [key, row_tok, hpos]
  simp only [hg]

end Cert.Prep

end
-- ==== Proof.FlashBlock.lean ====
/-
  One block of the flash attention, at an index: 256 queries of four heads against the 4096 keys of their sequence.  Each
  head's queries are masked to its own 64 lanes, so that the dot over 256 lanes is its own score; the values' columns and
  the columns of ones accumulate together, and the quotient of the two is stored.
-/
module

public import proofs.«01_k».proof.Proof.PrepBlock

@[expose] public section

set_option maxRecDepth 16384

noncomputable section

namespace Cert.FlashBlock

open Cert.KernelIdeal Cert.KernelIdeal.Gen Idealize.ShloMosaic Cert.Heads Cert.Lanes Cert.Rows Cert.Softmax
open Cert.PrepBlock (zero3 select_ofBool)

/-! ## The loads -/

/-- Chunk `c` of the keys. -/
theorem ld_keys (x : Vec Ideal S1x256x4096 .bf16) (o : Nat) (inb) (k : Fin 256) (j : Fin 1024) (ho : o + 1024 ≤ 4096) :
    View.ld x (Rect.unit (s := S1x256x4096) ![0, 0, o] S1x256x1024.size inb) (ix3 0 k j) = x (ix3 0 k ⟨o + j.val, by omega⟩) := by
  rw [View.ld_unit]
  refine congrArg x (funext fun a => Fin.ext ?_)
  fin_cases a
  · rfl
  · exact Nat.zero_add _
  · rfl

/-- Chunk `c` of the values. -/
theorem ld_vals (x : Vec Ideal S4096x128 .bf16) (o : Nat) (inb) (j : Fin 1024) (l : Fin 128) (ho : o + 1024 ≤ 4096) :
    View.ld x (Rect.unit (s := S4096x128) ![o, 0] S1024x128.size inb) (ix2 j l) = x (ix2 ⟨o + j.val, by omega⟩ l) := by
  rw [View.ld_unit]
  refine congrArg x (funext fun a => Fin.ext ?_)
  fin_cases a
  · rfl
  · exact Nat.zero_add _

/-! ## The masked queries -/

/-- A head's lanes, as a word. -/
theorem word_head (n g : ℕ) (hn : n < 512) (hg : g < 512) :
    IntOp.cmpi .eq (BitVec.ofNat 32 n) (BitVec.ofNat 32 g) = BitVec.ofBool (decide (n = g)) := by
  by_cases h : n = g
  · subst h
    simp [IntOp.cmpi]
  · have h' : (BitVec.ofNat 32 n) ≠ BitVec.ofNat 32 g := fun e => h (by
      have := congrArg BitVec.toNat e
      simp only [BitVec.toNat_ofNat] at this
      omega)
    have hb : (BitVec.ofNat 32 n == BitVec.ofNat 32 g) = false := beq_eq_false_iff_ne.mpr h'
    simp [IntOp.cmpi, hb, h]

/-- Whether a lane lies in the values' columns. -/
theorem word_low : ∀ l : Fin 128, IntOp.cmpi .slt (BitVec.ofNat 32 l.val) 64#32 = BitVec.ofBool (decide (l.val < 64)) := by decide +kernel

section Body
variable (x0 : Vec Ideal S256x256 .bf16) (x1 : Vec Ideal S1x256x4096 .bf16) (x2 : Vec Ideal S4096x128 .bf16)

theorem ld_q : View.ld x0 r1_0 = x0 := View.ld_unit_zero (S := S256x256) zero2 _ x0

/-- The masked queries. -/
theorem pay32_apply (R : Fin 1024) (k : Fin 256) :
    k1_pay32 x0 x1 x2 (ix2 R k) = if k.val / 64 = R.val / 256 then x0 (ix2 ⟨R.val % 256, by omega⟩ k) else 0 := by
  have hR := R.isLt
  have hk := k.isLt
  have hq := ld_q x0
  unfold k1_pay32
  generalize View.ld x0 r1_0 = q at hq
  pointwise [k1_pay26, k1_pay27, k1_pay28, k1_pay29, k1_pay30, k1_pay31, k1_pay9, k1_pay1, k1_pay2, k1_pay3, k1_pay4, k1_pay5,
    k1_pay6, k1_pay7, k1_pay8]
  rw [word_div64 k.val (by omega)]
  rw [word_head (k.val / 64) 0 (by omega) (by omega), word_head (k.val / 64) 1 (by omega) (by omega),
    word_head (k.val / 64) 2 (by omega) (by omega), word_head (k.val / 64) 3 (by omega) (by omega)]
  simp only [select_ofBool]
  subst hq
  split_ifs <;> first
    | (exfalso; omega)
    | rfl
    | (refine Eq.trans (congrArg (fun r : Fin 256 => q (ix2 r k)) (Fin.ext ?_)) (if_pos ?_).symm <;> first | omega | (simp only []; omega))
    | (refine Eq.trans ?_ (if_neg ?_).symm <;> first | rfl | omega)

/-- The score of the block's row `R` against key `j`. -/
def sc (R : Fin 1024) (j : Fin 4096) : EReal := ∑ k : Fin 256, k1_pay32 x0 x1 x2 (ix2 R k) * x1 (ix3 0 k j)

theorem chunk0 (R : Fin 1024) (j : Fin 1024) :
    ∑ k : Fin 256, k1_pay32 x0 x1 x2 (ix2 R k) * View.ld x1 r1_1 (ix3 0 k j) = chunk 0 (sc x0 x1 x2 R) j := by
  simp only [chunk, sc, r1_1, ld_keys x1 0 _ _ _ (by omega)]
  rfl
theorem chunk1 (R : Fin 1024) (j : Fin 1024) :
    ∑ k : Fin 256, k1_pay32 x0 x1 x2 (ix2 R k) * View.ld x1 r1_3 (ix3 0 k j) = chunk 1 (sc x0 x1 x2 R) j := by
  simp only [chunk, sc, r1_3, ld_keys x1 1024 _ _ _ (by omega)]
  rfl
theorem chunk2 (R : Fin 1024) (j : Fin 1024) :
    ∑ k : Fin 256, k1_pay32 x0 x1 x2 (ix2 R k) * View.ld x1 r1_5 (ix3 0 k j) = chunk 2 (sc x0 x1 x2 R) j := by
  simp only [chunk, sc, r1_5, ld_keys x1 2048 _ _ _ (by omega)]
  rfl
theorem chunk3 (R : Fin 1024) (j : Fin 1024) :
    ∑ k : Fin 256, k1_pay32 x0 x1 x2 (ix2 R k) * View.ld x1 r1_7 (ix3 0 k j) = chunk 3 (sc x0 x1 x2 R) j := by
  simp only [chunk, sc, r1_7, ld_keys x1 3072 _ _ _ (by omega)]
  rfl

theorem vchunk0 (l : Fin 128) (j : Fin 1024) : View.ld x2 r1_2 (ix2 j l) = chunk 0 (fun i => x2 (ix2 i l)) j := by
  simp only [chunk, r1_2, ld_vals x2 0 _ _ _ (by omega)]; rfl
theorem vchunk1 (l : Fin 128) (j : Fin 1024) : View.ld x2 r1_4 (ix2 j l) = chunk 1 (fun i => x2 (ix2 i l)) j := by
  simp only [chunk, r1_4, ld_vals x2 1024 _ _ _ (by omega)]; rfl
theorem vchunk2 (l : Fin 128) (j : Fin 1024) : View.ld x2 r1_6 (ix2 j l) = chunk 2 (fun i => x2 (ix2 i l)) j := by
  simp only [chunk, r1_6, ld_vals x2 2048 _ _ _ (by omega)]; rfl
theorem vchunk3 (l : Fin 128) (j : Fin 1024) : View.ld x2 r1_8 (ix2 j l) = chunk 3 (fun i => x2 (ix2 i l)) j := by
  simp only [chunk, r1_8, ld_vals x2 3072 _ _ _ (by omega)]; rfl

/-! ## The running maxima and the accumulator -/

/-- The word of minus infinity. -/
theorem ofBits_neg_inf : Ideal.ofBits .f32 4286578688#32 = ⊥ := by
  simp [Ideal.ofBits, Ideal.ieee]

/-- A step of the running maximum. -/
theorem pay17_apply (q : FVec Ideal S1024x256 .bf16) (m : FVec Ideal S1024x1 .f32) (k : Vec Ideal S1x256x1024 .bf16) (R : Fin 1024) :
    k1_pay17 q m k (ix2 R 0) = newMax (m (ix2 R 0)) (fun j => ∑ i : Fin 256, q (ix2 R i) * k (ix3 0 i j)) := by
  pointwise [k1_pay17, k1_pay16]
  rw [ofBits_neg_inf]
  rfl

/-- The first running maximum. -/
theorem pay33_apply (R : Fin 1024) : k1_pay33 x0 x1 x2 (ix2 R 0) = max1 (sc x0 x1 x2 R) := by
  have h : k1_pay33 x0 x1 x2 = k1_pay17 (k1_pay32 x0 x1 x2) (k1_pay10 (F := Ideal)) (View.ld x1 r1_1) := rfl
  rw [h, pay17_apply]
  simp only [chunk0]
  have e : k1_pay10 (F := Ideal) (ix2 R 0) = ⊥ := by
    pointwise [k1_pay10]
    exact ofBits_neg_inf
  rw [e]
  rfl

/-- The second. -/
theorem pay17_eq (R : Fin 1024) : k1_pay17 (k1_pay32 x0 x1 x2) (k1_pay33 x0 x1 x2) (View.ld x1 r1_3) (ix2 R 0) = max2 (sc x0 x1 x2 R) := by
  rw [pay17_apply, pay33_apply]
  simp only [chunk1]
  rfl

/-- The third. -/
theorem pay34_apply (R : Fin 1024) : k1_pay34 x0 x1 x2 (ix2 R 0) = max3 (sc x0 x1 x2 R) := by
  have h : k1_pay34 x0 x1 x2
    = k1_pay17 (k1_pay32 x0 x1 x2) (k1_pay17 (k1_pay32 x0 x1 x2) (k1_pay33 x0 x1 x2) (View.ld x1 r1_3)) (View.ld x1 r1_5) := rfl
  rw [h, pay17_apply, pay17_eq]
  simp only [chunk2]
  rfl

/-- The scores of a chunk. -/
theorem pay16_apply (q : FVec Ideal S1024x256 .bf16) (k : Vec Ideal S1x256x1024 .bf16) (R j : Fin 1024) :
    k1_pay16 q k (ix2 R j) = ∑ i : Fin 256, q (ix2 R i) * k (ix3 0 i j) := by
  pointwise [k1_pay16]

/-- One step of the accumulator, as the body writes it: the old maximum, the new one, the chunk's scores and values. -/
def step (m M : FVec Ideal S1024x1 .f32) (s : FVec Ideal S1024x1024 .f32) (a : FVec Ideal S1024x128 .f32) (v : Vec Ideal S1024x128 .bf16) :
    FVec Ideal S1024x128 .f32 :=
  addf (mulf (broadcastTo S1024x128 (exp2 (subf m M)) Facts₀.broadcasts_S1024x1_S1024x128) a)
    (matmul (φ₁ := .bf16) (φ₂ := .bf16) dot_S1024x1024_S1024x128_S1024x128_1_0_0_1_n_n none
      (truncf .bf16 (exp2 (subf s (broadcastTo S1024x1024 M Facts₀.broadcasts_S1024x1_S1024x1024))) Facts₀.bitsLt_bf16_f32)
      (shapeCast S1024x128 v Facts₀.shapeCasts_S1024x128_S1024x128) (constant S1024x128 .f32 0x00000000#32))

theorem step_apply {m M : FVec Ideal S1024x1 .f32} {s : FVec Ideal S1024x1024 .f32} {a : FVec Ideal S1024x128 .f32} {v : Vec Ideal S1024x128 .bf16}
    {R : Fin 1024} {l : Fin 128} {μ α : EReal} {f w : Fin 1024 → EReal} (hm : m (ix2 R 0) = μ) (hM : M (ix2 R 0) = newMax μ f)
    (hs : ∀ j, s (ix2 R j) = f j) (ha : a (ix2 R l) = α) (hv : ∀ j, v (ix2 j l) = w j) :
    step m M s a v (ix2 R l) = newAcc μ f w α := by
  have h : step m M s a v (ix2 R l) = Ideal.exp2 (m (ix2 R 0) - M (ix2 R 0)) * a (ix2 R l)
      + ∑ j, Ideal.exp2 (s (ix2 R j) - M (ix2 R 0)) * v (ix2 j l) := by
    pointwise [step]
    rfl
  rw [h, hm, hM, ha]
  simp only [hs, hv]
  rfl

/-- The accumulator after three chunks, rescaled to the third maximum, with the third chunk's part. -/
def acc3 : FVec Ideal S1024x128 .f32 :=
  addf (k1_pay35 x0 x1 x2) (k1_pay36 x0 x1 x2)

/-- The three steps it is. -/
theorem acc3_eq : acc3 x0 x1 x2
    = step (k1_pay17 (k1_pay32 x0 x1 x2) (k1_pay33 x0 x1 x2) (View.ld x1 r1_3)) (k1_pay34 x0 x1 x2)
        (k1_pay16 (k1_pay32 x0 x1 x2) (View.ld x1 r1_5))
        (step (k1_pay33 x0 x1 x2) (k1_pay17 (k1_pay32 x0 x1 x2) (k1_pay33 x0 x1 x2) (View.ld x1 r1_3))
          (k1_pay16 (k1_pay32 x0 x1 x2) (View.ld x1 r1_3))
          (step (k1_pay10 (F := Ideal)) (k1_pay33 x0 x1 x2) (k1_pay16 (k1_pay32 x0 x1 x2) (View.ld x1 r1_1)) (k1_pay11 (F := Ideal)) (View.ld x2 r1_2))
          (View.ld x2 r1_4))
        (View.ld x2 r1_6) := rfl

theorem acc3_apply (R : Fin 1024) (l : Fin 128) :
    acc3 x0 x1 x2 (ix2 R l)
      = newAcc (max2 (sc x0 x1 x2 R)) (chunk 2 (sc x0 x1 x2 R)) (chunk 2 fun i => x2 (ix2 i l))
          (newAcc (max1 (sc x0 x1 x2 R)) (chunk 1 (sc x0 x1 x2 R)) (chunk 1 fun i => x2 (ix2 i l))
            (newAcc ⊥ (chunk 0 (sc x0 x1 x2 R)) (chunk 0 fun i => x2 (ix2 i l)) 0)) := by
  have e : k1_pay10 (F := Ideal) (ix2 R 0) = ⊥ := by
    pointwise [k1_pay10]
    exact ofBits_neg_inf
  have e0 : k1_pay11 (F := Ideal) (ix2 R l) = 0 := by
    pointwise [k1_pay11]
  rw [acc3_eq]
  exact step_apply (pay17_eq x0 x1 x2 R) (pay34_apply x0 x1 x2 R) (fun j => (pay16_apply _ _ R j).trans (chunk2 x0 x1 x2 R j))
    (step_apply (pay33_apply x0 x1 x2 R) (pay17_eq x0 x1 x2 R) (fun j => (pay16_apply _ _ R j).trans (chunk1 x0 x1 x2 R j))
      (step_apply e (pay33_apply x0 x1 x2 R) (fun j => (pay16_apply _ _ R j).trans (chunk0 x0 x1 x2 R j)) e0 (vchunk0 x2 l))
      (vchunk1 x2 l)) (vchunk2 x2 l)

end Body

end Cert.FlashBlock

end
-- ==== Proof.FlashOut.lean ====
/-
  What one block of the flash attention stores, at an index: the accumulator over its own columns of ones, in the place the
  head's lanes have in the output.
-/
module

public import proofs.«01_k».proof.Proof.FlashBlock

@[expose] public section

set_option maxRecDepth 16384

noncomputable section

namespace Cert.FlashBlock

open Cert.KernelIdeal Cert.KernelIdeal.Gen Idealize.ShloMosaic Cert.Heads Cert.Lanes Cert.Rows Cert.Softmax
open Cert.PrepBlock (zero3 select_ofBool)

section Body
variable (x0 : Vec Ideal S256x256 .bf16) (x1 : Vec Ideal S1x256x4096 .bf16) (x2 : Vec Ideal S4096x128 .bf16)

/-- The quotient a row stores: its accumulator over the accumulator 64 lanes on. -/
theorem pay22_apply (R : Fin 1024) (l : Fin 128) :
    k1_pay22 (k1_pay32 x0 x1 x2) (k1_pay34 x0 x1 x2) (k1_pay35 x0 x1 x2) (k1_pay36 x0 x1 x2) (View.ld x1 r1_7) (View.ld x2 r1_8) (ix2 R l)
      = flash (sc x0 x1 x2 R) (fun i => x2 (ix2 i l))
        * Ideal.div 1 (flash (sc x0 x1 x2 R) (fun i => x2 (ix2 i ⟨(l.val + 128 - 64) % 128, by omega⟩))) := by
  have h : k1_pay22 (k1_pay32 x0 x1 x2) (k1_pay34 x0 x1 x2) (k1_pay35 x0 x1 x2) (k1_pay36 x0 x1 x2) (View.ld x1 r1_7) (View.ld x2 r1_8)
      = mulf (step (k1_pay34 x0 x1 x2) (k1_pay17 (k1_pay32 x0 x1 x2) (k1_pay34 x0 x1 x2) (View.ld x1 r1_7))
          (k1_pay16 (k1_pay32 x0 x1 x2) (View.ld x1 r1_7)) (acc3 x0 x1 x2) (View.ld x2 r1_8))
        (dynamicRotate 1 64#32 none (divf (broadcast S1024x128 (Scalar.ofBits (F := Ideal) .f32 0x3F800000#32))
          (step (k1_pay34 x0 x1 x2) (k1_pay17 (k1_pay32 x0 x1 x2) (k1_pay34 x0 x1 x2) (View.ld x1 r1_7))
          (k1_pay16 (k1_pay32 x0 x1 x2) (View.ld x1 r1_7)) (acc3 x0 x1 x2) (View.ld x2 r1_8))) Facts₀.rotates_S1024x128_d1) := rfl
  have hs : ∀ l, step (k1_pay34 x0 x1 x2) (k1_pay17 (k1_pay32 x0 x1 x2) (k1_pay34 x0 x1 x2) (View.ld x1 r1_7))
          (k1_pay16 (k1_pay32 x0 x1 x2) (View.ld x1 r1_7)) (acc3 x0 x1 x2) (View.ld x2 r1_8) (ix2 R l)
        = flash (sc x0 x1 x2 R) (fun i => x2 (ix2 i l)) := fun l => by
    have hM : k1_pay17 (k1_pay32 x0 x1 x2) (k1_pay34 x0 x1 x2) (View.ld x1 r1_7) (ix2 R 0)
        = newMax (max3 (sc x0 x1 x2 R)) (chunk 3 (sc x0 x1 x2 R)) := by
      rw [pay17_apply, pay34_apply]
      simp only [chunk3]
    exact step_apply (pay34_apply x0 x1 x2 R) hM (fun j => (pay16_apply _ _ R j).trans (chunk3 x0 x1 x2 R j)) (acc3_apply x0 x1 x2 R l)
      (vchunk3 x2 l)
  rw [h]
  generalize step (k1_pay34 x0 x1 x2) (k1_pay17 (k1_pay32 x0 x1 x2) (k1_pay34 x0 x1 x2) (View.ld x1 r1_7))
          (k1_pay16 (k1_pay32 x0 x1 x2) (View.ld x1 r1_7)) (acc3 x0 x1 x2) (View.ld x2 r1_8) = y at hs
  pointwise [hs]

/-! ## What the block stores -/

/-- Row `r` of head `g` among the block's stacked rows. -/
abbrev stacked (g : Fin 4) (r : Fin 256) : Fin 1024 := ⟨g.val * 256 + r.val, by omega⟩

/-- The block. -/
def out (r l : Fin 256) : EReal :=
  flash (sc x0 x1 x2 (stacked ⟨l.val / 64, by omega⟩ r)) (fun i => x2 (ix2 i ⟨l.val % 64, by omega⟩))
    * Ideal.div 1 (flash (sc x0 x1 x2 (stacked ⟨l.val / 64, by omega⟩ r)) (fun i => x2 (ix2 i ⟨64 + l.val % 64, by omega⟩)))

/-- A stacked row's quotient, at equal indices. -/
theorem quot_congr {R R' : Fin 1024} {a a' b b' : Fin 128} (hR : R = R') (ha : a = a') (hb : b = b') :
    flash (sc x0 x1 x2 R) (fun i => x2 (ix2 i a)) * Ideal.div 1 (flash (sc x0 x1 x2 R) (fun i => x2 (ix2 i b)))
      = flash (sc x0 x1 x2 R') (fun i => x2 (ix2 i a')) * Ideal.div 1 (flash (sc x0 x1 x2 R') (fun i => x2 (ix2 i b'))) := by
  subst hR ha hb
  rfl

/-- The first pair of heads. -/
theorem pair0 (r : Fin 256) (l : Fin 128) :
    k1_pay24 (k1_pay32 x0 x1 x2) (k1_pay34 x0 x1 x2) (k1_pay35 x0 x1 x2) (k1_pay36 x0 x1 x2) (View.ld x1 r1_7) (View.ld x2 r1_8) (ix2 r l)
      = out x0 x1 x2 r ⟨l.val, by omega⟩ := by
  have hq := pay22_apply x0 x1 x2
  unfold k1_pay24
  generalize k1_pay22 (k1_pay32 x0 x1 x2) (k1_pay34 x0 x1 x2) (k1_pay35 x0 x1 x2) (k1_pay36 x0 x1 x2) (View.ld x1 r1_7) (View.ld x2 r1_8) = y at hq
  pointwise [k1_pay23]
  rw [word_low, select_ofBool, hq, hq, out]
  have hl := l.isLt
  have hr := r.isLt
  split_ifs with h <;> refine quot_congr x0 x1 x2 (Fin.ext ?_) (Fin.ext ?_) (Fin.ext ?_) <;> simp only [] <;> omega

/-- The second pair of heads. -/
theorem pair1 (r : Fin 256) (l : Fin 128) :
    k1_pay25 (k1_pay32 x0 x1 x2) (k1_pay34 x0 x1 x2) (k1_pay35 x0 x1 x2) (k1_pay36 x0 x1 x2) (View.ld x1 r1_7) (View.ld x2 r1_8) (ix2 r l)
      = out x0 x1 x2 r ⟨128 + l.val, by omega⟩ := by
  have hq := pay22_apply x0 x1 x2
  unfold k1_pay25
  generalize k1_pay22 (k1_pay32 x0 x1 x2) (k1_pay34 x0 x1 x2) (k1_pay35 x0 x1 x2) (k1_pay36 x0 x1 x2) (View.ld x1 r1_7) (View.ld x2 r1_8) = y at hq
  pointwise [k1_pay23]
  rw [word_low, select_ofBool, hq, hq, out]
  have hl := l.isLt
  have hr := r.isLt
  split_ifs with h <;> refine quot_congr x0 x1 x2 (Fin.ext ?_) (Fin.ext ?_) (Fin.ext ?_) <;> simp only [] <;> omega

/-- The stored block at an index. -/
theorem out3 (r l : Fin 256) : out1_3 (F := Ideal) x0 x1 x2 (ix2 r l) = out x0 x1 x2 r l := by
  unfold out1_3
  refine (View.canon_apply_of_pieces (fun y => out x0 x1 x2 (y 0) (y 1)) _ ?_ (ix2 r l) (cover1_3 _ _ _)).trans rfl
  intro p hp y
  rcases List.mem_cons.mp hp with rfl | hp
  · obtain ⟨a, b, rfl⟩ : ∃ (a : Fin 256) (b : Fin 128), y = ix2 a b := ⟨y 0, y 1, eq_ix2 y⟩
    refine (pair1 x0 x1 x2 a b).trans (congrArg₂ (out x0 x1 x2) (Fin.ext ?_) (Fin.ext ?_))
    · show a.val = 0 + 1 * a.val; omega
    · show 128 + b.val = 128 + 1 * b.val; omega
  · rcases List.mem_cons.mp hp with rfl | hp
    · obtain ⟨a, b, rfl⟩ : ∃ (a : Fin 256) (b : Fin 128), y = ix2 a b := ⟨y 0, y 1, eq_ix2 y⟩
      refine (pair0 x0 x1 x2 a b).trans (congrArg₂ (out x0 x1 x2) (Fin.ext ?_) (Fin.ext ?_))
      · show a.val = 0 + 1 * a.val; omega
      · show b.val = 0 + 1 * b.val; omega
    · exact absurd hp (List.not_mem_nil)

end Body

end Cert.FlashBlock

end
-- ==== Proof.AttnRef.lean ====
/-
  The reference of the attention at an index.
-/
module

public import proofs.«01_k».proof.Proof.Heads
public import proofs.«01_k».proof.Proof.Gen.ReferenceIdeal.Read

@[expose] public section

set_option maxRecDepth 16384

noncomputable section

namespace Cert.AttnRef

open Cert.ReferenceIdeal Cert.ReferenceIdeal.Gen Cert.ReferenceIdeal.Read Idealize.ShloMosaic Cert.Heads

variable (aq : FVec Ideal S32768x512 .f32) (ak av : FVec Ideal S32768x128 .f32) (cs sn : FVec Ideal S4096x64 .f32)
  (qw kw : FVec Ideal S64 .f32)

/-- The queries' head norm. -/
theorem qnorm (b : Fin 8) (s : Fin 4096) (h : Fin 2) (g : Fin 4) (d : Fin 64) :
    val_main_v13 (F := Ideal) aq qw (ix5 b s h g d)
      = headNorm (fun e => aq (ix2 (tok b s) (qlane h g e))) (fun e => qw (ix1 e)) d := by
  pointwise [val_main_v0, val_main_v1, val_main_v2, val_main_v3, val_main_v4, val_main_v5, val_main_v6, val_main_v7, val_main_v8,
    val_main_v9, val_main_v10, val_main_v11, val_main_v12, val_main_v13, val_main_cst, val_main_cst_0, val_main_cst_1, headNorm]

/-- The keys' head norm. -/
theorem knorm (b : Fin 8) (s : Fin 4096) (h : Fin 2) (d : Fin 64) :
    val_main_v27 (F := Ideal) ak kw (ix4 b s h d)
      = headNorm (fun e => ak (ix2 (tok b s) (klane h e))) (fun e => kw (ix1 e)) d := by
  pointwise [val_main_v14, val_main_v15, val_main_v16, val_main_v17, val_main_v18, val_main_v19, val_main_v20, val_main_v21, val_main_v22,
    val_main_v23, val_main_v24, val_main_v25, val_main_v26, val_main_v27, val_main_cst_2, val_main_cst_3, val_main_cst_4, headNorm]

/-- The queries' quarter turn. -/
theorem qturn (b : Fin 8) (s : Fin 4096) (h : Fin 2) (g : Fin 4) (d : Fin 64) :
    val_main_v43 (F := Ideal) aq qw (ix5 b s h g d) = turn (fun e => val_main_v13 (F := Ideal) aq qw (ix5 b s h g e)) d := by
  have hd := d.isLt
  pointwise [val_main_v33, val_main_v34, val_main_v35, val_main_v36, val_main_v37, val_main_v38, val_main_v39, val_main_v40, val_main_v41,
    val_main_v42, val_main_v43, turn]
  by_cases h0 : d.val % 32 < 16
  · rw [dif_pos h0]
    split_ifs <;> first
      | (exfalso; omega)
      | (refine congrArg (fun e : Fin 64 => -val_main_v13 (F := Ideal) aq qw (ix5 b s h g e)) (Fin.ext ?_); first | omega | (simp only []; omega))
  · rw [dif_neg h0]
    split_ifs <;> first
      | (exfalso; omega)
      | (refine congrArg (fun e : Fin 64 => val_main_v13 (F := Ideal) aq qw (ix5 b s h g e)) (Fin.ext ?_); first | omega | (simp only []; omega))

/-- The keys' quarter turn. -/
theorem kturn (b : Fin 8) (s : Fin 4096) (h : Fin 2) (d : Fin 64) :
    val_main_v63 (F := Ideal) ak kw (ix4 b s h d) = turn (fun e => val_main_v27 (F := Ideal) ak kw (ix4 b s h e)) d := by
  have hd := d.isLt
  pointwise [val_main_v53, val_main_v54, val_main_v55, val_main_v56, val_main_v57, val_main_v58, val_main_v59, val_main_v60, val_main_v61,
    val_main_v62, val_main_v63, turn]
  by_cases h0 : d.val % 32 < 16
  · rw [dif_pos h0]
    split_ifs <;> first
      | (exfalso; omega)
      | (refine congrArg (fun e : Fin 64 => -val_main_v27 (F := Ideal) ak kw (ix4 b s h e)) (Fin.ext ?_); first | omega | (simp only []; omega))
  · rw [dif_neg h0]
    split_ifs <;> first
      | (exfalso; omega)
      | (refine congrArg (fun e : Fin 64 => val_main_v27 (F := Ideal) ak kw (ix4 b s h e)) (Fin.ext ?_); first | omega | (simp only []; omega))

/-- The row a query head scores with. -/
theorem qturned (b : Fin 8) (s : Fin 4096) (h : Fin 2) (g : Fin 4) (d : Fin 64) :
    val_main_v48 (F := Ideal) aq cs sn qw (ix5 b s h g d)
      = turned (fun e => aq (ix2 (tok b s) (qlane h g e))) (fun e => qw (ix1 e)) (fun e => cs (ix2 s e)) (fun e => sn (ix2 s e)) d := by
  pointwise [val_main_v29, val_main_v30, val_main_v31, val_main_v32, val_main_v44, val_main_v45, val_main_v46, val_main_v47,
    val_main_v48, turned, qturn, qnorm]

/-- The row a key scores with. -/
theorem kturned (b : Fin 8) (s : Fin 4096) (h : Fin 2) (d : Fin 64) :
    val_main_v68 (F := Ideal) ak cs sn kw (ix4 b s h d)
      = turned (fun e => ak (ix2 (tok b s) (klane h e))) (fun e => kw (ix1 e)) (fun e => cs (ix2 s e)) (fun e => sn (ix2 s e)) d := by
  pointwise [val_main_v49, val_main_v50, val_main_v51, val_main_v52, val_main_v64, val_main_v65, val_main_v66, val_main_v67,
    val_main_v68, turned, kturn, knorm]

/-- The score of query `s` against key `j`, from the arrays. -/
def sc (b : Fin 8) (h : Fin 2) (g : Fin 4) (s j : Fin 4096) : EReal :=
  score (turned (fun e => ak (ix2 (tok b j) (klane h e))) (fun e => kw (ix1 e)) (fun e => cs (ix2 j e)) (fun e => sn (ix2 j e)))
    (turned (fun e => aq (ix2 (tok b s) (qlane h g e))) (fun e => qw (ix1 e)) (fun e => cs (ix2 s e)) (fun e => sn (ix2 s e)))

/-- The scores. -/
theorem scores (b : Fin 8) (h : Fin 2) (g : Fin 4) (s j : Fin 4096) :
    val_main_v72 (F := Ideal) aq ak cs sn qw kw (ix5 b h g s j) = sc aq ak cs sn qw kw b h g s j := by
  pointwise [val_main_v69, val_main_v70, val_main_v71, val_main_v72, val_main_cst_5, sc, score, qturned, kturned]

/-- The word of minus infinity. -/
theorem ofBits_neg_inf : Ideal.ofBits .f32 4286578688#32 = ⊥ := by
  simp [Ideal.ofBits, Ideal.ieee]

/-- The largest along the last axis of any array of scores. -/
theorem rowMax (X : FVec Ideal S8x2x4x4096x4096 .f32) (c : FVec Ideal S_ .f32) (b : Fin 8) (h : Fin 2) (g : Fin 4) (s : Fin 4096) :
    Host.reduce FloatOps.maximumf X c reducesTo_S8x2x4x4096x4096_S8x2x4x4096_d4 h_S_ (ix4 b h g s)
      = Finset.univ.fold max (c (Shape.Idx.first h_S_)) (fun j => X (ix5 b h g s j)) := by
  pointwise []

/-- The largest score. -/
theorem tops (b : Fin 8) (h : Fin 2) (g : Fin 4) (s : Fin 4096) :
    val_main_v75 (F := Ideal) aq ak cs sn qw kw (ix4 b h g s) = top (sc aq ak cs sn qw kw b h g s) := by
  rw [val_main_v75_apply, val_main_v73, rowMax]
  simp only [scores]
  show max (Ideal.ofBits .f32 4286578688#32) (Finset.univ.fold max (Ideal.ofBits .f32 4286578688#32) _) = _
  rw [ofBits_neg_inf]
  rfl

/-- The exponentials. -/
theorem exps (b : Fin 8) (h : Fin 2) (g : Fin 4) (s j : Fin 4096) :
    val_main_v79 (F := Ideal) aq ak cs sn qw kw (ix5 b h g s j)
      = Ideal.exp (sc aq ak cs sn qw kw b h g s j - top (sc aq ak cs sn qw kw b h g s)) := by
  pointwise [val_main_v76, val_main_v77, val_main_v78, val_main_v79, scores, tops]

/-- The softmax's weights. -/
theorem weights (b : Fin 8) (h : Fin 2) (g : Fin 4) (s j : Fin 4096) :
    val_main_v83 (F := Ideal) aq ak cs sn qw kw (ix5 b h g s j)
      = Ideal.div (Ideal.exp (sc aq ak cs sn qw kw b h g s j - top (sc aq ak cs sn qw kw b h g s)))
          (∑ i, Ideal.exp (sc aq ak cs sn qw kw b h g s i - top (sc aq ak cs sn qw kw b h g s))) := by
  pointwise [val_main_v80, val_main_v81, val_main_v82, val_main_v83, val_main_cst_8, exps]

/-- One key's share of the average, at indices that are equal. -/
theorem share_congr {b b' : Fin 8} {h h' : Fin 2} {g g' : Fin 4} {s s' : Fin 4096} {r r' : Fin 32768} {l l' : Fin 128} (j : Fin 4096)
    (hb : b' = b) (hh : h' = h) (hg : g' = g) (hs : s' = s) (hr : r' = r) (hl : l' = l) :
    av (ix2 r' l') * Ideal.div (Ideal.exp (sc aq ak cs sn qw kw b' h' g' s' j - top (sc aq ak cs sn qw kw b' h' g' s')))
        (∑ i, Ideal.exp (sc aq ak cs sn qw kw b' h' g' s' i - top (sc aq ak cs sn qw kw b' h' g' s')))
      = av (ix2 r l) * Ideal.div (Ideal.exp (sc aq ak cs sn qw kw b h g s j - top (sc aq ak cs sn qw kw b h g s)))
        (∑ i, Ideal.exp (sc aq ak cs sn qw kw b h g s i - top (sc aq ak cs sn qw kw b h g s))) := by
  subst hb hh hg hs hr hl
  rfl

/-- The reference's result. -/
theorem result (b : Fin 8) (s : Fin 4096) (h : Fin 2) (g : Fin 4) (d : Fin 64) :
    val_main_v86 (F := Ideal) aq ak av cs sn qw kw (ix2 (tok b s) (qlane h g d))
      = average (sc aq ak cs sn qw kw b h g s) (fun j => av (ix2 (tok b j) (klane h d))) := by
  have hb := b.isLt; have hs := s.isLt; have hh := h.isLt; have hg := g.isLt; have hd := d.isLt
  pointwise [val_main_v28, val_main_v84, val_main_v85, val_main_v86, weights, average]
  refine Finset.sum_congr rfl fun j _ => share_congr aq ak av cs sn qw kw j (Fin.ext ?_) (Fin.ext ?_) (Fin.ext ?_) (Fin.ext ?_)
    (Fin.ext ?_) (Fin.ext ?_) <;> (simp only []; omega)

end Cert.AttnRef

end
-- ==== Proof.FlashArray.lean ====
/-
  What the attention's array holds: at every token and lane the values' average under the softmax of the scores, the term of
  the reference. The arrays the preparation leaves are read as the attention's blocks; the head's sum over 256 lanes is the
  sum over its own 64; the factor the queries carry is turned into the scores' scale by the change of the exponential's base.
-/
module

public import proofs.«01_k».proof.Proof.PrepArray
public import proofs.«01_k».proof.Proof.FlashOut
public import proofs.«01_k».proof.Proof.AttnRef

@[expose] public section

set_option maxRecDepth 16384

noncomputable section

namespace Cert.FlashArray

open Cert.KernelIdeal Cert.KernelIdeal.Gen Idealize.ShloMosaic Idealize.ShloMosaic.TcCoe Idealize.SL.Sem Cert.Rows Cert.Heads Cert.Lanes
  Cert.FlashBlock Cert.Softmax Cert.Prep Cert.PrepBlock
open Idealize.ShloMosaic.Pipeline (Dat)

/-! ## One row of one block, from its ingredients -/

/-- The factor the queries carry. -/
theorem qscale_eq : Named.named (F := Ideal) κ "qscale" (φ := .f32) 1043900987#32 = (((8 * Real.log 2)⁻¹ : ℝ) : EReal) :=
  IdealRules.named_const.ideal_named_scalar _ _ _ _ rfl

/-- A score of real rows is a real number, and the queries' factor comes out of it. -/
theorem scaled {k q : Fin 64 → EReal} (hk : ∀ e, IsReal (k e)) (hq : ∀ e, IsReal (q e)) :
    ∃ T : ℝ, (∑ e, k e * q e = (T : EReal))
      ∧ ∑ e, q e * Named.named (F := Ideal) κ "qscale" (φ := .f32) 1043900987#32 * k e = ((T * (8 * Real.log 2)⁻¹ : ℝ) : EReal) := by
  choose f hf using hk
  choose g hg using hq
  refine ⟨∑ e, f e * g e, ?_, ?_⟩
  · rw [coe_sum]
    exact Finset.sum_congr rfl fun e _ => by rw [hf, hg, EReal.coe_mul]
  · rw [Finset.sum_mul, coe_sum]
    refine Finset.sum_congr rfl fun e _ => ?_
    rw [qscale_eq, hf, hg, ← EReal.coe_mul, ← EReal.coe_mul]
    congr 1
    ring

/-- The stacked row's sum is over the lanes of its head alone. -/
theorem sc_head (x0 : Vec Ideal S256x256 .bf16) (x1 : Vec Ideal S1x256x4096 .bf16) (x2 : Vec Ideal S4096x128 .bf16) (g : Fin 4) (r : Fin 256)
    (j : Fin 4096) : FlashBlock.sc x0 x1 x2 (stacked g r) j
      = ∑ e : Fin 64, x0 (ix2 r ⟨g.val * 64 + e.val, by omega⟩) * x1 (ix3 0 ⟨g.val * 64 + e.val, by omega⟩ j) := by
  have hr := r.isLt
  have hg := g.isLt
  have e1 : (stacked g r).val / 256 = g.val := by show (g.val * 256 + r.val) / 256 = g.val; omega
  have e2 : (⟨(stacked g r).val % 256, by omega⟩ : Fin 256) = r := Fin.ext (by show (g.val * 256 + r.val) % 256 = r.val; omega)
  unfold FlashBlock.sc
  simp only [pay32_apply, e1, e2]
  rw [sum_group (a := 4) rfl _ g (fun k hk => by rw [if_neg hk, zero_mul])]
  refine Finset.sum_congr rfl fun e _ => ?_
  have he := e.isLt
  rw [if_pos (by show (g.val * 64 + e.val) / 64 = g.val; omega)]

/-- A row of a block whose queries carry the factor, whose keys and values are the given ones, and whose values stand beside
    ones: the average under the softmax. -/
theorem row_eq (x0 : Vec Ideal S256x256 .bf16) (x1 : Vec Ideal S1x256x4096 .bf16) (x2 : Vec Ideal S4096x128 .bf16) (g : Fin 4) (r : Fin 256)
    (d : Fin 64) (q : Fin 64 → EReal) (k : Fin 4096 → Fin 64 → EReal) (v : Fin 4096 → EReal)
    (hk : ∀ j e, IsReal (k j e)) (hq : ∀ e, IsReal (q e))
    (h0 : ∀ e : Fin 64, x0 (ix2 r ⟨g.val * 64 + e.val, by omega⟩) = q e * Named.named (F := Ideal) κ "qscale" (φ := .f32) 1043900987#32)
    (h1 : ∀ (e : Fin 64) j, x1 (ix3 0 ⟨g.val * 64 + e.val, by omega⟩ j) = k j e)
    (h2 : ∀ j, x2 (ix2 j ⟨d.val, by omega⟩) = v j) (h3 : ∀ j, x2 (ix2 j ⟨64 + d.val, by omega⟩) = 1) :
    out x0 x1 x2 r ⟨g.val * 64 + d.val, by omega⟩ = average (fun j => score (k j) q) v := by
  have hd := d.isLt
  have hg := g.isLt
  choose T hT hTs using fun j => scaled (hk j) hq
  have e0 : (⟨(g.val * 64 + d.val) / 64, by omega⟩ : Fin 4) = g := Fin.ext (by simp only []; omega)
  have e1 : (⟨(g.val * 64 + d.val) % 64, by omega⟩ : Fin 128) = ⟨d.val, by omega⟩ := Fin.ext (by simp only []; omega)
  have e2 : (⟨64 + (g.val * 64 + d.val) % 64, by omega⟩ : Fin 128) = ⟨64 + d.val, by omega⟩ := Fin.ext (by simp only []; omega)
  have hs : FlashBlock.sc x0 x1 x2 (stacked g r) = fun j => ((T j * (8 * Real.log 2)⁻¹ : ℝ) : EReal) := funext fun j => by
    rw [sc_head, ← hTs j]
    exact Finset.sum_congr rfl fun e _ => by rw [h0, h1]
  unfold out
  simp only [e0, e1, e2, hs, h2, h3]
  rw [flash_div]
  refine congrArg (fun s => average s v) (funext fun j => ?_)
  rw [score, hT j]

/-! ## The blocks' places -/

variable (m : (ℓ : Loc nD τ sig) → Buf (Elt Ideal) ℓ) (ρ : Dev nD → PrngReg) (c : Dev nD)

/-- The grid's points: a sequence, a group, a block of 256 of its queries. -/
theorem coord1 (t : Fin cfg1.N) : t.val < 256 := t.isLt

/-- The sequence, -/
abbrev sq (t : Fin cfg1.N) : Fin 8 := ⟨t.val / 32, by have := coord1 t; omega⟩
/-- the group -/
abbrev hd (t : Fin cfg1.N) : Fin 2 := ⟨t.val / 16 % 2, by omega⟩
/-- and the place of row `r` in the sequence. -/
abbrev pl (t : Fin cfg1.N) (r : Fin 256) : Fin 4096 := ⟨t.val % 16 * 256 + r.val, by omega⟩
/-- Lane `l` of the group among the queries' lanes. -/
abbrev ql (t : Fin cfg1.N) (l : Fin 256) : Fin 512 := ⟨t.val / 16 % 2 * 256 + l.val, by omega⟩
/-- Lane `l` of the group among the values' lanes. -/
abbrev vl (t : Fin cfg1.N) (l : Fin 128) : Fin 256 := ⟨t.val / 16 % 2 * 128 + l.val, by omega⟩

/-- The queries' blocks. -/
theorem at1_0 : ∀ t : Fin cfg1.N, win1_0.index t 0 = t.val / 32 * 16 + t.val % 16 ∧ win1_0.index t 1 = t.val / 16 % 2 :=
  (by decide +kernel : ∀ t : Fin grid1.N, win1_0.index t 0 = t.val / 32 * 16 + t.val % 16 ∧ win1_0.index t 1 = t.val / 16 % 2)
theorem q_in (hx : ∀ i, IsReal (m ((c : Thread nD τ).loc main_arg0) i)) (t : Fin cfg1.N) (r l : Fin 256) :
    iblk1 (V14 m ρ) c 0 t (ix2 r l) = query m c (tok (sq t) (pl t r)) (ql t l) * Named.named (F := Ideal) κ "qscale" (φ := .f32) 1043900987#32 := by
  show V14 m ρ c main_v45_0 ((win1_0.rect t).emb (ix2 r l)) = _
  have e : (win1_0.rect t).emb (ix2 r l) = (ix2 (tok (sq t) (pl t r)) (ql t l) : S32768x512.Idx) := by
    refine Shape.idx_ext₂ ?_ ?_
    · rw [win1_0.rect_emb_val, (at1_0 t).1]
      show (t.val / 32 * 16 + t.val % 16) * 256 + r.val = t.val / 32 * 4096 + (t.val % 16 * 256 + r.val)
      omega
    · rw [win1_0.rect_emb_val, (at1_0 t).2]; rfl
  rw [e]
  exact (congrFun (W14_arr m ρ c 9) _).trans (queries m ρ c hx _)

/-- The keys' blocks. -/
theorem at1_1 : ∀ t : Fin cfg1.N, win1_1.index t 0 = t.val / 32 ∧ win1_1.index t 1 = t.val / 16 % 2 ∧ win1_1.index t 2 = 0 :=
  (by decide +kernel : ∀ t : Fin grid1.N, win1_1.index t 0 = t.val / 32 ∧ win1_1.index t 1 = t.val / 16 % 2 ∧ win1_1.index t 2 = 0)
theorem k_in (hx : ∀ i, IsReal (m ((c : Thread nD τ).loc main_arg1) i)) (t : Fin cfg1.N) (l : Fin 256) (j : Fin 4096) :
    iblk1 (V14 m ρ) c 1 t (ix3 0 l j) = key m c (sq t) (ql t l) j := by
  show V14 m ρ c main_v45_1 ((win1_1.rect t).emb (ix3 0 l j)) = _
  have e : (win1_1.rect t).emb (ix3 0 l j) = (ix3 (sq t) (ql t l) j : S8x512x4096.Idx) := by
    funext a
    refine Fin.ext ?_
    fin_cases a
    · show ((win1_1.rect t).emb (ix3 0 l j) 0).val = _
      rw [win1_1.rect_emb_val, (at1_1 t).1]; simp
    · show ((win1_1.rect t).emb (ix3 0 l j) 1).val = _
      rw [win1_1.rect_emb_val, (at1_1 t).2.1]; rfl
    · show ((win1_1.rect t).emb (ix3 0 l j) 2).val = _
      rw [win1_1.rect_emb_val, (at1_1 t).2.2]; simp
  rw [e]
  exact (congrFun (W14_arr m ρ c 10) _).trans (keys m ρ c hx _)

/-- The values' blocks. -/
theorem at1_2 : ∀ t : Fin cfg1.N, win1_2.index t 0 = t.val / 32 ∧ win1_2.index t 1 = t.val / 16 % 2 :=
  (by decide +kernel : ∀ t : Fin grid1.N, win1_2.index t 0 = t.val / 32 ∧ win1_2.index t 1 = t.val / 16 % 2)
theorem v_in (t : Fin cfg1.N) (j : Fin 4096) (l : Fin 128) : iblk1 (V14 m ρ) c 2 t (ix2 j l) = value m c (tok (sq t) j) (vl t l) := by
  show V14 m ρ c main_v45_2 ((win1_2.rect t).emb (ix2 j l)) = _
  have e : (win1_2.rect t).emb (ix2 j l) = (ix2 (tok (sq t) j) (vl t l) : S32768x256.Idx) := by
    refine Shape.idx_ext₂ ?_ ?_
    · rw [win1_2.rect_emb_val, (at1_2 t).1]; rfl
    · rw [win1_2.rect_emb_val, (at1_2 t).2]; rfl
  rw [e]
  exact (congrFun (W14_arr m ρ c 11) _).trans (values m ρ c _)

/-! ## The output's blocks -/

theorem at1_3 : ∀ t : Fin cfg1.N, win1_3.index t 0 = t.val / 32 * 16 + t.val % 16 ∧ win1_3.index t 1 = t.val / 16 % 2 :=
  (by decide +kernel : ∀ t : Fin grid1.N, win1_3.index t 0 = t.val / 32 * 16 + t.val % 16 ∧ win1_3.index t 1 = t.val / 16 % 2)
/-- Where the block's element sits in the array. -/
theorem emb3 (t : Fin cfg1.N) (r l : Fin 256) :
    ((cfg1.win 3).blk t).view.emb (ix2 r l) = (ix2 (tok (sq t) (pl t r)) (ql t l) : S32768x512.Idx) := by
  refine Shape.idx_ext₂ ?_ ?_
  · show ((win1_3.rect t).emb (ix2 r l) 0).val = _
    rw [win1_3.rect_emb_val, (at1_3 t).1]
    show (t.val / 32 * 16 + t.val % 16) * 256 + r.val = t.val / 32 * 4096 + (t.val % 16 * 256 + r.val)
    omega
  · show ((win1_3.rect t).emb (ix2 r l) 1).val = _
    rw [win1_3.rect_emb_val, (at1_3 t).2]; rfl
/-- The blocks tile the array. -/
theorem cover3 (i : S32768x512.Idx) : ∃ t : Fin cfg1.N, (cfg1.win 3).flush t = true ∧ i ∈ ((cfg1.win 3).blk t).view.set := by
  obtain ⟨a, b, rfl⟩ : ∃ (a : Fin 32768) (b : Fin 512), i = ix2 a b := ⟨i 0, i 1, eq_ix2 i⟩
  have ha := a.isLt
  have hb := b.isLt
  have hN : cfg1.N = 256 := N_1
  have ht : a.val / 4096 * 32 + b.val / 256 * 16 + a.val % 4096 / 256 < cfg1.N := by rw [hN]; omega
  refine ⟨⟨_, ht⟩, flush1_3 _, ?_⟩
  have h := ((cfg1.win 3).blk ⟨_, ht⟩).view.emb_mem_set (ix2 (⟨a.val % 256, by omega⟩ : Fin 256) (⟨b.val % 256, by omega⟩ : Fin 256))
  rw [emb3] at h
  have e : (ix2 (tok (sq ⟨_, ht⟩) (pl ⟨_, ht⟩ ⟨a.val % 256, by omega⟩)) (ql ⟨_, ht⟩ ⟨b.val % 256, by omega⟩) : S32768x512.Idx) = ix2 a b :=
    congrArg₂ ix2 (Fin.ext (by simp only []; omega)) (Fin.ext (by simp only []; omega))
  rwa [e] at h

/-! ## The equation -/

/-- The query's row at a lane of a head. -/
theorem query_lane (b : Fin 8) (s : Fin 4096) (h : Fin 2) (g : Fin 4) (e : Fin 64) :
    query m c (tok b s) (qlane h g e)
      = turned (fun e => m ((c : Thread nD τ).loc main_arg0) (ix2 (tok b s) (qlane h g e))) (fun e => m ((c : Thread nD τ).loc main_arg5) (ix1 e))
          (fun e => m ((c : Thread nD τ).loc main_arg3) (ix2 s e)) (fun e => m ((c : Thread nD τ).loc main_arg4) (ix2 s e)) e := by
  have hh := h.isLt; have hg := g.isLt; have he := e.isLt; have hs := s.isLt
  have e1 : (⟨(tok b s).val % 4096, by omega⟩ : Fin 4096) = s := Fin.ext (by simp only []; omega)
  have e2 : ∀ e', grp (n := 512) rfl (qlane h g e) e' = qlane h g e' := fun e' => Fin.ext (by have := e'.isLt; simp only []; omega)
  have e3 : pos (qlane h g e) = e := Fin.ext (by simp only []; omega)
  rw [query, e1, e3]
  simp only [e2]

/-- The key's row at a lane of a head. -/
theorem key_lane (b : Fin 8) (j : Fin 4096) (h : Fin 2) (g : Fin 4) (e : Fin 64) :
    key m c b (qlane h g e) j
      = turned (fun e => m ((c : Thread nD τ).loc main_arg1) (ix2 (tok b j) (klane h e))) (fun e => m ((c : Thread nD τ).loc main_arg6) (ix1 e))
          (fun e => m ((c : Thread nD τ).loc main_arg3) (ix2 j e)) (fun e => m ((c : Thread nD τ).loc main_arg4) (ix2 j e)) e := by
  have hh := h.isLt; have hg := g.isLt; have he := e.isLt
  have e2 : (⟨(qlane h g e).val / 256, by omega⟩ : Fin 2) = h := Fin.ext (by simp only []; omega)
  have e3 : pos (qlane h g e) = e := Fin.ext (by simp only []; omega)
  rw [key, e2, e3]

/-- The array after the run is the reference's, where the entries the scores are made of are real numbers. -/
theorem final (h0 : ∀ i, IsReal (m ((c : Thread nD τ).loc main_arg0) i)) (h1 : ∀ i, IsReal (m ((c : Thread nD τ).loc main_arg1) i))
    (h3 : ∀ i, IsReal (m ((c : Thread nD τ).loc main_arg3) i)) (h4 : ∀ i, IsReal (m ((c : Thread nD τ).loc main_arg4) i))
    (h5 : ∀ i, IsReal (m ((c : Thread nD τ).loc main_arg5) i)) (h6 : ∀ i, IsReal (m ((c : Thread nD τ).loc main_arg6) i)) :
    (dat1 (V14 m ρ) c).arrAt 3 cfg1.N
      = Cert.ReferenceIdeal.Read.val_main_v86 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  refine (dat1 (V14 m ρ) c).arrAt_forall_of_cover 3 (fun i v => v = Cert.ReferenceIdeal.Read.val_main_v86 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i) ?_ cover3 i
  intro t _ y
  obtain ⟨r, l, rfl⟩ : ∃ (r l : Fin 256), y = ix2 r l := ⟨y 0, y 1, eq_ix2 y⟩
  obtain ⟨g, d, rfl⟩ : ∃ (g : Fin 4) (d : Fin 64), l = ⟨g.val * 64 + d.val, by omega⟩ :=
    ⟨⟨l.val / 64, by omega⟩, ⟨l.val % 64, by omega⟩, Fin.ext (by simp only []; omega)⟩
  have hg := g.isLt
  have hd' := d.isLt
  have lane : ∀ e : Fin 64, ql t ⟨g.val * 64 + e.val, by omega⟩ = qlane (hd t) g e := fun e => Fin.ext (by simp only []; omega)
  rw [emb3, lane d]
  refine Eq.trans ?_ (AttnRef.result _ _ _ _ _ _ _ _ _ _ _ _).symm
  show (dat1 (V14 m ρ) c).after 3 t (ix2 r _) = _
  rw [after1_3]
  refine (out3 _ _ _ r _).trans ?_
  refine row_eq _ _ _ g r d
    (turned (fun e => m ((c : Thread nD τ).loc main_arg0) (ix2 (tok (sq t) (pl t r)) (qlane (hd t) g e))) (fun e => m ((c : Thread nD τ).loc main_arg5) (ix1 e))
      (fun e => m ((c : Thread nD τ).loc main_arg3) (ix2 (pl t r) e)) (fun e => m ((c : Thread nD τ).loc main_arg4) (ix2 (pl t r) e)))
    (fun j => turned (fun e => m ((c : Thread nD τ).loc main_arg1) (ix2 (tok (sq t) j) (klane (hd t) e))) (fun e => m ((c : Thread nD τ).loc main_arg6) (ix1 e))
      (fun e => m ((c : Thread nD τ).loc main_arg3) (ix2 j e)) (fun e => m ((c : Thread nD τ).loc main_arg4) (ix2 j e)))
    (fun j => m ((c : Thread nD τ).loc main_arg2) (ix2 (tok (sq t) j) (klane (hd t) d))) ?_ ?_ ?_ ?_ ?_ ?_
  · exact fun j e => turned_real (fun _ => h1 _) (fun _ => h6 _) (fun _ => h3 _) (fun _ => h4 _) e
  · exact fun e => turned_real (fun _ => h0 _) (fun _ => h5 _) (fun _ => h3 _) (fun _ => h4 _) e
  · intro e
    rw [q_in m ρ c h0, lane, query_lane]
  · intro e j
    rw [k_in m ρ c h1, lane, key_lane]
  · intro j
    rw [v_in, value]
    have e1 : (vl t ⟨d.val, by omega⟩).val % 128 < 64 := by show (t.val / 16 % 2 * 128 + d.val) % 128 < 64; omega
    refine (if_pos e1).trans (congrArg _ (congrArg (ix2 _) (Fin.ext ?_)))
    show (t.val / 16 % 2 * 128 + d.val) / 128 * 64 + (t.val / 16 % 2 * 128 + d.val) % 128 % 64 = t.val / 16 % 2 * 64 + d.val
    omega
  · intro j
    rw [v_in, value]
    have e1 : ¬ (vl t ⟨64 + d.val, by omega⟩).val % 128 < 64 := by show ¬ (t.val / 16 % 2 * 128 + (64 + d.val)) % 128 < 64; omega
    exact if_neg e1

end Cert.FlashArray

end
-- ==== Proof.Attention.lean ====
/-
  The attention's run with its result, and what the precondition says: every entry the scores are made of is a real number.
-/
module

public import proofs.«01_k».proof.Pre_finite
public import proofs.«01_k».proof.Defs
public import proofs.«01_k».proof.Proof.FlashArray

@[expose] public section

set_option maxRecDepth 16384

noncomputable section

namespace Cert.Attention

open Cert.KernelIdeal Cert.KernelIdeal.Gen Idealize.ShloMosaic Idealize.ShloMosaic.TcCoe Cert.Lanes
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The precondition -/

/-- The side conditions of the printed precondition. -/
instance finite_facts : Cert.Pre_finite.Facts where
  bcast_S_S32768x512 := by decide
  bcast_S_S32768x128 := by decide
  bcast_S_S4096x64 := by decide
  bcast_S_S64 := by decide

/-- A value of magnitude below infinity is a real number. -/
theorem real_of_lt {x : EReal} (h : max x (-x) < ⊤) : IsReal x := by
  induction x with
  | bot => simp at h
  | top => simp at h
  | coe r => exact ⟨r, rfl⟩

theorem ofBits_inf : Ideal.ofBits .f32 0x7F800000#32 = ⊤ := by
  simp [Ideal.ofBits, Ideal.ieee]

/-- The test an element passes. -/
theorem real_of_test {x : EReal} (h : Ideal.cmp .olt (max x (-x)) (Ideal.ofBits .f32 0x7F800000#32) = 1#1) : IsReal x := by
  rw [ofBits_inf] at h
  refine real_of_lt ?_
  by_contra hn
  simp [Ideal.cmp, hn] at h

variable (m : (ℓ : Loc nD τ sig) → Buf (Elt Ideal) ℓ) (ρ : Dev nD → PrngReg)

theorem real0 (h : Cert.Pre_KernelIdeal_finite m) (c : Dev nD) (i) : IsReal (m ((c : Thread nD τ).loc main_arg0) i) :=
  real_of_test (congrFun (h c).1 i)
theorem real1 (h : Cert.Pre_KernelIdeal_finite m) (c : Dev nD) (i) : IsReal (m ((c : Thread nD τ).loc main_arg1) i) :=
  real_of_test (congrFun (h c).2.1 i)
theorem real3 (h : Cert.Pre_KernelIdeal_finite m) (c : Dev nD) (i) : IsReal (m ((c : Thread nD τ).loc main_arg3) i) :=
  real_of_test (congrFun (h c).2.2.1 i)
theorem real4 (h : Cert.Pre_KernelIdeal_finite m) (c : Dev nD) (i) : IsReal (m ((c : Thread nD τ).loc main_arg4) i) :=
  real_of_test (congrFun (h c).2.2.2.1 i)
theorem real5 (h : Cert.Pre_KernelIdeal_finite m) (c : Dev nD) (i) : IsReal (m ((c : Thread nD τ).loc main_arg5) i) :=
  real_of_test (congrFun (h c).2.2.2.2.1 i)
theorem real6 (h : Cert.Pre_KernelIdeal_finite m) (c : Dev nD) (i) : IsReal (m ((c : Thread nD τ).loc main_arg6) i) :=
  real_of_test (congrFun (h c).2.2.2.2.2 i)

/-! ## The run -/

set_option backward.isDefEq.respectTransparency.types false in
/-- The run of the kernel from any memory, its result what the attention's region leaves and its arguments unchanged. -/
theorem run_array : θ_run defs (onTc (τ := τ) (main (F := Ideal))) ⟨m, fun _ => 0, ρ⟩ (fun r => ∀ c : Dev nD,
      r.2.mem ((c.tc : Thread nD τ).loc main_v46) = (dat1 (V14 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => fun c =>
      ⟨(h c _ (mem_uc main_v46 (by decide))).trans (W15_arr m ρ c 3),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

/-- The run under the precondition: the result is the reference's term. -/
theorem run (hpre : Cert.Pre_KernelIdeal_finite m) : θ_run defs (onTc (τ := τ) (main (F := Ideal))) ⟨m, fun _ => 0, ρ⟩ (fun r => ∀ c : Dev nD,
      r.2.mem ((c.tc : Thread nD τ).loc main_v46)
        = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (FlashArray.final m ρ c (real0 m hpre c) (real1 m hpre c) (real3 m hpre c) (real4 m hpre c)
    (real5 m hpre c) (real6 m hpre c)), (h c).2⟩) (run_array m ρ)

end Cert.Attention

end
-- ==== Proof.RetLoops.lean ====
/-
  The retention's three loops. A trip of the first turns 128 rows of the queries and of the keys; a trip of the second reads
  the forward state, writes the forward part of 128 rows of the output and renews the state; a trip of the third does the
  same from the last rows to the first, and finishes the rows. Each loop's invariant says what the rows already done hold.
-/
module

public import proofs.«01_k».proof.Proof.Gen.Kernel5Ideal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.Pointwise

@[expose] public section

set_option maxRecDepth 8192
set_option maxHeartbeats 1000000

noncomputable section

namespace Cert.RetLoops

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Chunks of 128 rows -/

/-- Chunk `j` of an array of 4096 rows. -/
def rows (x : Vec F S4096x256 .f32) (j : ℕ) : Vec F S128x256 .f32 :=
  fun y => x (ix2 ⟨(128 * j + (y 0).val) % 4096, Nat.mod_lt _ (by omega)⟩ (y 1))

/-- A load of 128 rows is a chunk of what the memory reads. -/
theorem readAt_rows {κ : Kind} {sp : Space} (v : View sig κ sp S4096x256 .f32) (f : v.ty.Contents (Elt F)) {off : Fin 2 → ℕ}
    (inb : ∀ a, off a + S128x256.size a ≤ S4096x256.size a) (j : ℕ) (hj : j < 32) (ho : off = ![128 * j, 0]) :
    v.readAt (Elt F) (Rect.unit (s := S4096x256) off S128x256.size inb).toLoadRect f = rows (v.read (Elt F) f) j := by
  subst ho
  funext y
  refine congrArg (v.read (Elt F) f) (funext fun a => Fin.ext ?_)
  have h0 : (y 0).val < 128 := (y 0).isLt
  fin_cases a
  · show 128 * j + 1 * (y 0).val = (128 * j + (y 0).val) % 4096
    rw [Nat.mod_eq_of_lt (by omega)]; omega
  · show 0 + 1 * (y 1).val = (y 1).val
    omega

/-- A load of 128 rows of a whole memory holding `x` is a chunk of `x`. -/
theorem readAt_unread_rows {sp : Space} (mr : Memref sig .tc sp S4096x256 .f32) (h : mr.IsWhole) (x : Vec F S4096x256 .f32) {off : Fin 2 → ℕ}
    (inb : ∀ a, off a + S128x256.size a ≤ S4096x256.size a) (j : ℕ) (hj : j < 32) (ho : off = ![128 * j, 0]) :
    mr.view.readAt (Elt F) (Rect.unit (s := S4096x256) off S128x256.size inb).toLoadRect (h.unread x) = rows x j := by
  rw [readAt_rows _ _ inb j hj ho, h.read_unread]

/-- What a store of 128 rows leaves in each chunk. -/
theorem rows_writes {κ : Kind} {sp : Space} (v : View sig κ sp S4096x256 .f32) (f : v.ty.Contents (Elt F)) {off : Fin 2 → ℕ}
    (inb : ∀ a, off a + S128x256.size a ≤ S4096x256.size a) (w : Vec F S128x256 .f32) (i j : ℕ) (hi : i < 32) (hj : j < 32)
    (ho : off = ![128 * i, 0]) :
    rows (v.read (Elt F) (v.writes (Elt F) f [⟨Rect.unit (s := S4096x256) off S128x256.size inb, w⟩])) j
      = if j = i then w else rows (v.read (Elt F) f) j := by
  subst ho
  funext y
  have h0 : (y 0).val < 128 := (y 0).isLt
  split
  · rename_i h
    subst h
    refine View.read_writes_cons_hit_of_coords v f (Rect.unit (s := S4096x256) ![128 * j, 0] S128x256.size inb) w [] y _ fun a => ?_
    fin_cases a
    · show (128 * j + (y 0).val) % 4096 = 128 * j + 1 * (y 0).val
      rw [Nat.mod_eq_of_lt (by omega)]; omega
    · show (y 1).val = 0 + 1 * (y 1).val
      omega
  · rename_i h
    refine (View.read_writes_cons_miss_of_axis v f _ [] _ 0 (128 * i) 128 rfl rfl rfl ?_).trans rfl
    show (128 * j + (y 0).val) % 4096 < 128 * i ∨ 128 * i + 128 ≤ (128 * j + (y 0).val) % 4096
    rw [Nat.mod_eq_of_lt (by omega)]; omega

/-- An array of 4096 rows is told by its 32 chunks. -/
theorem eq_of_rows (x y : Vec F S4096x256 .f32) (h : ∀ j < 32, rows x j = rows y j) : x = y := by
  funext i
  have h0 : (i 0).val < 4096 := (i 0).isLt
  have e (z : Vec F S4096x256 .f32) : z i = rows z ((i 0).val / 128)
      (ix2 ⟨(i 0).val % 128, Nat.mod_lt _ (by omega)⟩ (i 1)) := by
    refine congrArg z (funext fun a => Fin.ext ?_)
    fin_cases a
    · show (i 0).val = (128 * ((i 0).val / 128) + (i 0).val % 128) % 4096
      rw [Nat.div_add_mod, Nat.mod_eq_of_lt h0]
    · rfl
  rw [e x, e y, h _ (by omega)]

/-- The array whose chunks are given. -/
def ofRows (g : ℕ → Vec F S128x256 .f32) : Vec F S4096x256 .f32 :=
  fun i => g ((i 0).val / 128) (ix2 ⟨(i 0).val % 128, Nat.mod_lt _ (by omega)⟩ (i 1))

theorem rows_ofRows (g : ℕ → Vec F S128x256 .f32) (j : ℕ) (hj : j < 32) : rows (ofRows g) j = g j := by
  funext y
  have h0 : (y 0).val < 128 := (y 0).isLt
  have e0 : (128 * j + (y 0).val) % 4096 = 128 * j + (y 0).val := Nat.mod_eq_of_lt (by omega)
  have e1 : (128 * j + (y 0).val) / 128 = j := by omega
  have e2 : (128 * j + (y 0).val) % 128 = (y 0).val := by omega
  have hg (a b : ℕ) (z z' : S128x256.Idx) (h : a = b) (h' : z = z') : g a z = g b z' := by rw [h, h']
  refine hg _ _ _ _ ?_ (funext fun a => Fin.ext ?_)
  · show (128 * j + (y 0).val) % 4096 / 128 = j
    rw [e0, e1]
  fin_cases a
  · show (128 * j + (y 0).val) % 4096 % 128 = (y 0).val
    rw [e0, e2]
  · rfl

/-- Slab `h` of four slabs of 128 × 128. -/
def slab (d : Vec F S4x128x128 .f32) (h : Fin 4) : Vec F S1x128x128 .f32 :=
  fun y => d (ix3 h (y 1) (y 2))

theorem slab_inb (h : Fin 4) (a) : (![h.val, 0, 0] : Fin 3 → ℕ) a + S1x128x128.size a ≤ S4x128x128.size a := by
  have := h.isLt
  fin_cases a
  · show h.val + 1 ≤ 4; omega
  · show 0 + 128 ≤ 128; omega
  · show 0 + 128 ≤ 128; omega

/-- A load of a slab. -/
theorem slab_read {κ : Kind} {sp : Space} (v : View sig κ sp S4x128x128 .f32) (f : v.ty.Contents (Elt F)) (h : Fin 4) :
    v.readAt (Elt F) (Rect.unit (s := S4x128x128) ![h.val, 0, 0] S1x128x128.size (slab_inb h)).toLoadRect f = slab (v.read (Elt F) f) h := by
  funext y
  refine congrArg (v.read (Elt F) f) (funext fun a => Fin.ext ?_)
  have h0 : (y 0).val < 1 := (y 0).isLt
  fin_cases a
  · show h.val + 1 * (y 0).val = h.val
    omega
  · show 0 + 1 * (y 1).val = (y 1).val
    omega
  · show 0 + 1 * (y 2).val = (y 2).val
    omega

/-- What a store of a slab leaves in each slab. -/
theorem slab_writes {κ : Kind} {sp : Space} (v : View sig κ sp S4x128x128 .f32) (f : v.ty.Contents (Elt F)) (g : Fin 4) {off : Fin 3 → ℕ}
    (inb : ∀ a, off a + S1x128x128.size a ≤ S4x128x128.size a) (w : Vec F S1x128x128 .f32) (L : List (View.Piece (Elt F) S4x128x128 .f32))
    (h : Fin 4) (ho : off = ![g.val, 0, 0]) :
    slab (v.read (Elt F) (v.writes (Elt F) f (⟨Rect.unit (s := S4x128x128) off S1x128x128.size inb, w⟩ :: L))) h
      = if h = g then w else slab (v.read (Elt F) (v.writes (Elt F) f L)) h := by
  subst ho
  funext y
  have h0 : (y 0).val < 1 := (y 0).isLt
  split
  · rename_i e
    subst e
    refine View.read_writes_cons_hit_of_coords v f (Rect.unit (s := S4x128x128) ![h.val, 0, 0] S1x128x128.size inb) w L y _ fun a => ?_
    fin_cases a
    · show h.val = h.val + 1 * (y 0).val
      omega
    · show (y 1).val = 0 + 1 * (y 1).val
      omega
    · show (y 2).val = 0 + 1 * (y 2).val
      omega
  · rename_i e
    refine (View.read_writes_cons_miss_of_axis v f _ L _ 0 g.val 1 rfl rfl rfl ?_).trans rfl
    show h.val < g.val ∨ g.val + 1 ≤ h.val
    have : h.val ≠ g.val := fun e' => e (Fin.ext e')
    omega

/-! ## What the loops compute -/

/-- The queries' (or the keys') chunk `j`, turned. -/
def turnedQ (x1 x5 x6 : Vec F S4096x256 .f32) (j : ℕ) : Vec F S128x256 .f32 := k0_pay39 k0_pay11 (rows x5 j) (rows x6 j) (rows x1 j)
def turnedK (x2 x5 x6 : Vec F S4096x256 .f32) (j : ℕ) : Vec F S128x256 .f32 := k0_pay40 k0_pay11 (rows x5 j) (rows x6 j) (rows x2 j)

/-- The forward state before chunk `j`, of keys given by chunks. -/
def fwd (v177 : FVec F S1x256 .f32) (v181 : FVec F S128x1 .f32) (v184 : FVec F S1x256 .f32) (kr : ℕ → Vec F S128x256 .f32)
    (x3 : Vec F S4096x256 .f32) : ℕ → Vec F S256x256 .f32
  | 0 => k0_pay41
  | j + 1 => k0_pay43 v177 v181 v184 (kr j) (rows x3 j) (fwd v177 v181 v184 kr x3 j)

/-- The backward state before trip `j`, whose chunk is `31 - j`. -/
def bwd (v179 : FVec F S1x256 .f32) (v181 : FVec F S128x1 .f32) (v187 : FVec F S1x256 .f32) (kr : ℕ → Vec F S128x256 .f32)
    (x3 : Vec F S4096x256 .f32) : ℕ → Vec F S256x256 .f32
  | 0 => k0_pay44
  | j + 1 => k0_pay4 v179 v181 v187 (kr (31 - j)) (rows x3 (31 - j)) (bwd v179 v181 v187 kr x3 j)

/-- The finished rows of a chunk: from its turned queries and keys, its values, its gate, the backward state, the forward part, the decays
    within the chunk (the four slabs) and the norm's weights. -/
def finish (v44 v70 v96 v122 : IVec S1x256 1) (v175 : FVec F S256x256 .f32) (v179 : FVec F S1x256 .f32) (v181 : FVec F S128x1 .f32)
    (qr kr v g : Vec F S128x256 .f32) (st : Vec F S256x256 .f32) (o : Vec F S128x256 .f32) (d0 d1 d2 d3 : Vec F S1x128x128 .f32)
    (w : Vec F S1x256 .f32) : Vec F S128x256 .f32 :=
  k0_pay45 (k0_pay9 v122 v175 qr (k0_pay1 v) (k0_pay2 kr)
      (k0_pay6 v44 v70 qr (k0_pay1 v) (k0_pay2 kr) (k0_pay3 v175 v179 v181 qr st o) (k0_pay5 v44 qr) d0 d1)
      (k0_pay7 v96 qr (k0_pay1 v) (k0_pay2 kr) d2) (Scalar.ofBits .f32 0x00000000#32) (k0_pay8 v96) d3 w)
    g (k0_pay10 g) (Scalar.ofBits .f32 0x3F800000#32)

theorem trips1 : k0_t1_loop.trips = 32 := by decide +kernel
theorem trips2 : k0_t2_loop.trips = 32 := by decide +kernel
theorem trips3 : k0_t3_loop.trips = 32 := by decide +kernel

/-! ## The loops' invariants -/

variable (c : Dev nD) (E : Set ℕ) (i : grid0.Coords) (arg1 : Memref sig .tc .smem S2x4 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (arg13 : Memref sig .tc .vmem S256x256 .f32) (harg13 : arg13.IsWhole) (arg14 : Memref sig .tc .vmem S4x128x128 .f32) (harg14 : arg14.IsWhole)

/-- The first loop: the turned rows before trip `k`. -/
abbrev inv1 (x1 x2 x5 x6 : Vec F S4096x256 .f32) (k : ℕ) (_ : PUnit.{1}) : sProp 𝕄 :=
  iprop((arg2.view.loc (c : Thread nD τ) ↦[arg2.view.set]{fullShare} harg2.unread x1) ∗ (arg3.view.loc (c : Thread nD τ) ↦[arg3.view.set]{fullShare} harg3.unread x2) ∗ (arg6.view.loc (c : Thread nD τ) ↦[arg6.view.set]{fullShare} harg6.unread x5) ∗ (arg7.view.loc (c : Thread nD τ) ↦[arg7.view.set]{fullShare} harg7.unread x6)
    ∗ (∃ f, (arg11.view.loc (c : Thread nD τ) ↦[arg11.view.set]{fullShare} f) ∗ ⌜∀ j < k, rows (arg11.view.read (Elt F) f) j = turnedQ x1 x5 x6 j⌝)
    ∗ (∃ f, (arg12.view.loc (c : Thread nD τ) ↦[arg12.view.set]{fullShare} f) ∗ ⌜∀ j < k, rows (arg12.view.read (Elt F) f) j = turnedK x2 x5 x6 j⌝))

theorem step1 (x1 x2 x5 x6 : Vec F S4096x256 .f32) (k : Fin k0_t1_loop.trips) (acc : PUnit.{1}) :
    inv1 c  arg2 harg2 arg3 harg3 arg6 harg6 arg7 harg7 arg11 arg12 x1 x2 x5 x6 k acc
      ⊢ wp frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_pay11 k acc)
        (inv1 c arg2 harg2 arg3 harg3 arg6 harg6 arg7 harg7 arg11 arg12 x1 x2 x5 x6 (k.val + 1)) := by
  have hk : k.val < 32 := lt_of_lt_of_eq k.isLt trips1
  unfold inv1 k0_t1_body
  iintro ⟨H2, H3, H6, H7, ⟨%f11, H11, %h11⟩, ⟨%f12, H12, %h12⟩⟩
  sl_exec
  sl_step
  isplitl [H2]; · iexact H2
  isplitl [H3]; · iexact H3
  isplitl [H6]; · iexact H6
  isplitl [H7]; · iexact H7
  isplitl [H11]
  · iexists _; isplitl [H11]; · iexact H11
    ipureintro
    intro j hj
    rw [rows_writes _ _ _ _ k.val j hk (by omega) (k0_off1_eq k)]
    split
    · rename_i h
      subst h
      unfold turnedQ
      rw [readAt_unread_rows arg6 harg6 x5 _ _ hk (k0_off1_eq k), readAt_unread_rows arg7 harg7 x6 _ _ hk (k0_off1_eq k),
        readAt_unread_rows arg2 harg2 x1 _ _ hk (k0_off1_eq k)]
    · exact h11 j (by omega)
  iexists _; isplitl [H12]; · iexact H12
  ipureintro
  intro j hj
  rw [rows_writes _ _ _ _ k.val j hk (by omega) (k0_off1_eq k)]
  split
  · rename_i h
    subst h
    unfold turnedK
    rw [readAt_unread_rows arg6 harg6 x5 _ _ hk (k0_off1_eq k), readAt_unread_rows arg7 harg7 x6 _ _ hk (k0_off1_eq k),
      readAt_unread_rows arg3 harg3 x2 _ _ hk (k0_off1_eq k)]
  · exact h12 j (by omega)

/-- The second loop: the forward state and the forward part of the rows before trip `k`. -/
abbrev inv2 (v175 : FVec F S256x256 .f32) (v177 : FVec F S1x256 .f32) (v181 : FVec F S128x1 .f32) (v184 : FVec F S1x256 .f32)
    (qr kr : ℕ → Vec F S128x256 .f32) (x3 : Vec F S4096x256 .f32) (k : ℕ) (_ : PUnit.{1}) : sProp 𝕄 :=
  iprop((arg4.view.loc (c : Thread nD τ) ↦[arg4.view.set]{fullShare} harg4.unread x3)
    ∗ (∃ f, (arg11.view.loc (c : Thread nD τ) ↦[arg11.view.set]{fullShare} f) ∗ ⌜∀ j < 32, rows (arg11.view.read (Elt F) f) j = qr j⌝)
    ∗ (∃ f, (arg12.view.loc (c : Thread nD τ) ↦[arg12.view.set]{fullShare} f) ∗ ⌜∀ j < 32, rows (arg12.view.read (Elt F) f) j = kr j⌝)
    ∗ (∃ f, (arg10.view.loc (c : Thread nD τ) ↦[arg10.view.set]{fullShare} f) ∗ ⌜∀ j < k, rows (arg10.view.read (Elt F) f) j = k0_pay42 v175 v177 v181 (qr j) (fwd v177 v181 v184 kr x3 j)⌝)
    ∗ (∃ f, (arg13.view.loc (c : Thread nD τ) ↦[arg13.view.set]{fullShare} f) ∗ ⌜arg13.view.read (Elt F) f = fwd v177 v181 v184 kr x3 k⌝))

theorem step2 (v175 : FVec F S256x256 .f32) (v177 : FVec F S1x256 .f32) (v181 : FVec F S128x1 .f32) (v184 : FVec F S1x256 .f32)
    (qr kr : ℕ → Vec F S128x256 .f32) (x3 : Vec F S4096x256 .f32) (k : Fin k0_t2_loop.trips) (acc : PUnit.{1}) :
    inv2 c arg4 harg4 arg10 arg11 arg12 arg13 v175 v177 v181 v184 qr kr x3 k acc
      ⊢ wp frame (wpE (defs₀ (F := F)) Variants.none (c : Thread nD τ) none) E
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v175 v177 v181 v184 k acc)
        (inv2 c arg4 harg4 arg10 arg11 arg12 arg13 v175 v177 v181 v184 qr kr x3 (k.val + 1)) := by
  have hk : k.val < 32 := lt_of_lt_of_eq k.isLt trips2
  unfold inv2 k0_t2_body
  iintro ⟨H4, ⟨%f11, H11, %h11⟩, ⟨%f12, H12, %h12⟩, ⟨%f10, H10, %h10⟩, ⟨%f13, H13, %h13⟩⟩
  sl_exec
  sl_step
  isplitl [H4]; · iexact H4
  isplitl [H11]
  · iexists _; isplitl [H11]; · iexact H11
    ipureintro; exact h11
  isplitl [H12]
  · iexists _; isplitl [H12]; · iexact H12
    ipureintro; exact h12
  isplitl [H10]
  · iexists _; isplitl [H10]; · iexact H10
    ipureintro
    intro j hj
    rw [rows_writes _ _ _ _ k.val j hk (by omega) (k0_off2_eq k)]
    split
    · rename_i h
      subst h
      rw [← h11 k hk, ← h13]
      rw [readAt_rows arg11.view f11 _ _ hk (k0_off2_eq k), View.readAt_full arg13.view f13]
    · exact h10 j (by omega)
  iexists _; isplitl [H13]; · iexact H13
  ipureintro
  refine (View.read_writes_full _ _ _ _ _).trans ?_
  show _ = k0_pay43 v177 v181 v184 (kr k) (rows x3 k) (fwd v177 v181 v184 kr x3 k)
  rw [← h12 k hk, ← h13]
  rw [readAt_rows arg12.view f12 _ _ hk (k0_off2_eq k), readAt_unread_rows arg4 harg4 x3 _ _ hk (k0_off2_eq k), View.readAt_full arg13.view f13]

/-- The third loop, trip `k` at chunk `31 - k`: the backward state, the finished rows and, before them, the forward part still to be
    finished. -/
abbrev inv3 (v44 v70 v96 v122 : IVec S1x256 1) (v175 : FVec F S256x256 .f32) (v179 : FVec F S1x256 .f32) (v181 : FVec F S128x1 .f32)
    (v187 : FVec F S1x256 .f32) (qr kr o : ℕ → Vec F S128x256 .f32) (x3 x4 : Vec F S4096x256 .f32) (x8 : Vec F S1x256 .f32)
    (d : Fin 4 → Vec F S1x128x128 .f32) (k : ℕ) (_ : PUnit.{1}) : sProp 𝕄 :=
  iprop((arg4.view.loc (c : Thread nD τ) ↦[arg4.view.set]{fullShare} harg4.unread x3) ∗ (arg5.view.loc (c : Thread nD τ) ↦[arg5.view.set]{fullShare} harg5.unread x4) ∗ (arg9.view.loc (c : Thread nD τ) ↦[arg9.view.set]{fullShare} harg9.unread x8)
    ∗ (∃ f, (arg11.view.loc (c : Thread nD τ) ↦[arg11.view.set]{fullShare} f) ∗ ⌜∀ j < 32, rows (arg11.view.read (Elt F) f) j = qr j⌝)
    ∗ (∃ f, (arg12.view.loc (c : Thread nD τ) ↦[arg12.view.set]{fullShare} f) ∗ ⌜∀ j < 32, rows (arg12.view.read (Elt F) f) j = kr j⌝)
    ∗ (∃ f, (arg10.view.loc (c : Thread nD τ) ↦[arg10.view.set]{fullShare} f) ∗ ⌜∀ j < 32, rows (arg10.view.read (Elt F) f) j
        = if j + k < 32 then o j else finish v44 v70 v96 v122 v175 v179 v181 (qr j) (kr j) (rows x3 j) (rows x4 j)
            (bwd v179 v181 v187 kr x3 (31 - j)) (o j) (d 0) (d 1) (d 2) (d 3) x8⌝)
    ∗ (∃ f, (arg13.view.loc (c : Thread nD τ) ↦[arg13.view.set]{fullShare} f) ∗ ⌜arg13.view.read (Elt F) f = bwd v179 v181 v187 kr x3 k⌝)
    ∗ (∃ f, (arg14.view.loc (c : Thread nD τ) ↦[arg14.view.set]{fullShare} f) ∗ ⌜∀ h, slab (arg14.view.read (Elt F) f) h = d h⌝))

theorem step3 (v44 v70 v96 v122 : IVec S1x256 1) (v175 : FVec F S256x256 .f32) (v179 : FVec F S1x256 .f32) (v181 : FVec F S128x1 .f32)
    (v187 : FVec F S1x256 .f32) (qr kr o : ℕ → Vec F S128x256 .f32) (x3 x4 : Vec F S4096x256 .f32) (x8 : Vec F S1x256 .f32)
    (d : Fin 4 → Vec F S1x128x128 .f32) (k : Fin k0_t3_loop.trips) (acc : PUnit.{1}) :
    inv3 c arg4 harg4 arg5 harg5 arg9 harg9 arg10 arg11 arg12 arg13 arg14 v44 v70 v96 v122 v175 v179 v181 v187 qr kr o x3 x4 x8 d k acc
      ⊢ wp frame (wpE (defs₀ (F := F)) Variants.none (c : Thread nD τ) none) E
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v44 v70 v96 v122 v175 v179 v181 v187 k acc)
        (inv3 c arg4 harg4 arg5 harg5 arg9 harg9 arg10 arg11 arg12 arg13 arg14 v44 v70 v96 v122 v175 v179 v181 v187 qr kr o x3 x4 x8 d (k.val + 1)) := by
  have hk : k.val < 32 := lt_of_lt_of_eq k.isLt trips3
  have ho : k0_off3 k = ![128 * (31 - k.val), 0] := by
    rw [k0_off3_eq k]; congr 1; omega
  have hc : 31 - k.val < 32 := by omega
  unfold inv3 k0_t3_body
  simp only [k0_part1_eq_skeleton, k0_part2_eq_skeleton, k0_part3_eq_skeleton]
  iintro ⟨H4, H5, H9, ⟨%f11, H11, %h11⟩, ⟨%f12, H12, %h12⟩, ⟨%f10, H10, %h10⟩, ⟨%f13, H13, %h13⟩, ⟨%f14, H14, %h14⟩⟩
  sl_exec
  sl_step
  isplitl [H4]; · iexact H4
  isplitl [H5]; · iexact H5
  isplitl [H9]; · iexact H9
  isplitl [H11]
  · iexists _; isplitl [H11]; · iexact H11
    ipureintro; exact h11
  isplitl [H12]
  · iexists _; isplitl [H12]; · iexact H12
    ipureintro; exact h12
  isplitl [H10]
  · iexists _; isplitl [H10]; · iexact H10
    ipureintro
    intro j hj
    rw [rows_writes _ _ _ _ (31 - k.val) j hc hj ho]
    split
    · rename_i h
      subst h
      have e1 := readAt_rows arg11.view f11 (k0_off3_inb k) _ hc ho
      have e2 := readAt_rows arg12.view f12 (k0_off3_inb k) _ hc ho
      have e3 := readAt_rows arg4.view (harg4.unread x3) (k0_off3_inb k) _ hc ho
      have e4 := readAt_rows arg5.view (harg5.unread x4) (k0_off3_inb k) _ hc ho
      have e5 := readAt_rows arg10.view f10 (k0_off3_inb k) _ hc ho
      have e6 := View.readAt_full arg13.view f13 inb_S256x256_S256x256_0_0
      have e7 := View.readAt_full arg9.view (harg9.unread x8) inb_S1x256_S1x256_0_0
      rw [h11 _ hc] at e1
      rw [h12 _ hc] at e2
      rw [harg4.read_unread] at e3
      rw [harg5.read_unread] at e4
      rw [h10 _ hc, if_pos (by omega)] at e5
      rw [h13] at e6
      rw [harg9.read_unread] at e7
      have e8 (h : Fin 4) := slab_read arg14.view f14 h
      rw [if_neg (by omega), show 31 - (31 - k.val) = k.val by omega, ← e1, ← e2, ← e3, ← e4, ← e5, ← e6, ← h14 0,
        ← h14 1, ← h14 2, ← h14 3, ← e8 0, ← e8 1, ← e8 2, ← e8 3]
      unfold finish step3.sl.r_7
      rw [e7]
      rfl
    · rw [h10 j hj]
      by_cases h : j + k.val < 32
      · rw [if_pos h, if_pos (by omega)]
      · rw [if_neg h, if_neg (by omega)]
  isplitl [H13]
  · iexists _; isplitl [H13]; · iexact H13
    ipureintro
    refine (View.read_writes_full _ _ _ _ _).trans ?_
    show _ = k0_pay4 v179 v181 v187 (kr (31 - k)) (rows x3 (31 - k)) (bwd v179 v181 v187 kr x3 k)
    rw [← h12 _ hc, ← h13]
    rw [readAt_rows arg12.view f12 _ _ hc ho, readAt_unread_rows arg4 harg4 x3 _ _ hc ho, View.readAt_full arg13.view f13]
  iexists _; isplitl [H14]; · iexact H14
  ipureintro; exact h14

/-- The loop, at the head of a program. -/
theorem loop1 (x1 x2 x5 x6 : Vec F S4096x256 .f32) {β : Type} {kk : PUnit.{1} → Prog (TpuEff nD τ sig (Elt F) Λ₀ .tc) β} {Q : β → sProp 𝕄} :
    inv1 c arg2 harg2 arg3 harg3 arg6 harg6 arg7 harg7 arg11 arg12 x1 x2 x5 x6 0 ⟨⟩ ⊢ iprop((∀ acc, inv1 c arg2 harg2 arg3 harg3 arg6 harg6 arg7 harg7 arg11 arg12 x1 x2 x5 x6 32 acc -∗ wp frame (wpE (defs₀ (F := F)) Variants.none (c : Thread nD τ) none) E (kk acc) Q)
      -∗ wp frame (wpE (defs₀ (F := F)) Variants.none (c : Thread nD τ) none) E
        (k0_t1_loop.for k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_pay11) >>= kk) Q) := by
  have h := exec_loop (M := 𝕄) Idealize.ShloMosaic.frame (wpE (defs₀ (F := F)) Variants.none (c : Thread nD τ) none) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_pay11)
    ⟨inv1 c arg2 harg2 arg3 harg3 arg6 harg6 arg7 harg7 arg11 arg12 x1 x2 x5 x6, fun k acc => step1 c E i arg1 harg1 arg2 harg2 arg3 harg3 arg4 harg4 arg5 harg5 arg6 harg6 arg7 harg7 arg8 harg8 arg9 harg9 arg10 harg10 arg11 harg11 arg12 harg12 arg13 harg13 arg14 harg14 x1 x2 x5 x6 k acc⟩ (kk := kk) (Q := Q)
  iintro HI HK
  iapply h $$ [HI]
  · iexact HI
  iintro %acc Hinv
  iapply HK
  rw [← show inv1 c arg2 harg2 arg3 harg3 arg6 harg6 arg7 harg7 arg11 arg12 x1 x2 x5 x6 k0_t1_loop.trips acc = inv1 c arg2 harg2 arg3 harg3 arg6 harg6 arg7 harg7 arg11 arg12 x1 x2 x5 x6 32 acc from congrArg (fun n => inv1 c arg2 harg2 arg3 harg3 arg6 harg6 arg7 harg7 arg11 arg12 x1 x2 x5 x6 n acc) trips1]
  iexact Hinv

/-- The loop, at the head of a program. -/
theorem loop2 (v175 : FVec F S256x256 .f32) (v177 : FVec F S1x256 .f32) (v181 : FVec F S128x1 .f32) (v184 : FVec F S1x256 .f32) (qr kr : ℕ → Vec F S128x256 .f32) (x3 : Vec F S4096x256 .f32) {β : Type} {kk : PUnit.{1} → Prog (TpuEff nD τ sig (Elt F) Λ₀ .tc) β} {Q : β → sProp 𝕄} :
    inv2 c arg4 harg4 arg10 arg11 arg12 arg13 v175 v177 v181 v184 qr kr x3 0 ⟨⟩ ⊢ iprop((∀ acc, inv2 c arg4 harg4 arg10 arg11 arg12 arg13 v175 v177 v181 v184 qr kr x3 32 acc -∗ wp frame (wpE (defs₀ (F := F)) Variants.none (c : Thread nD τ) none) E (kk acc) Q)
      -∗ wp frame (wpE (defs₀ (F := F)) Variants.none (c : Thread nD τ) none) E
        (k0_t2_loop.for k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v175 v177 v181 v184) >>= kk) Q) := by
  have h := exec_loop (M := 𝕄) Idealize.ShloMosaic.frame (wpE (defs₀ (F := F)) Variants.none (c : Thread nD τ) none) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v175 v177 v181 v184)
    ⟨inv2 c arg4 harg4 arg10 arg11 arg12 arg13 v175 v177 v181 v184 qr kr x3, fun k acc => step2 c E i arg1 harg1 arg2 harg2 arg3 harg3 arg4 harg4 arg5 harg5 arg6 harg6 arg7 harg7 arg8 harg8 arg9 harg9 arg10 harg10 arg11 harg11 arg12 harg12 arg13 harg13 arg14 harg14 v175 v177 v181 v184 qr kr x3 k acc⟩ (kk := kk) (Q := Q)
  iintro HI HK
  iapply h $$ [HI]
  · iexact HI
  iintro %acc Hinv
  iapply HK
  rw [← show inv2 c arg4 harg4 arg10 arg11 arg12 arg13 v175 v177 v181 v184 qr kr x3 k0_t2_loop.trips acc = inv2 c arg4 harg4 arg10 arg11 arg12 arg13 v175 v177 v181 v184 qr kr x3 32 acc from congrArg (fun n => inv2 c arg4 harg4 arg10 arg11 arg12 arg13 v175 v177 v181 v184 qr kr x3 n acc) trips2]
  iexact Hinv

/-- The loop, at the head of a program. -/
theorem loop3 (v44 v70 v96 v122 : IVec S1x256 1) (v175 : FVec F S256x256 .f32) (v179 : FVec F S1x256 .f32) (v181 : FVec F S128x1 .f32) (v187 : FVec F S1x256 .f32) (qr kr o : ℕ → Vec F S128x256 .f32) (x3 x4 : Vec F S4096x256 .f32) (x8 : Vec F S1x256 .f32) (d : Fin 4 → Vec F S1x128x128 .f32) {β : Type} {kk : PUnit.{1} → Prog (TpuEff nD τ sig (Elt F) Λ₀ .tc) β} {Q : β → sProp 𝕄} :
    inv3 c arg4 harg4 arg5 harg5 arg9 harg9 arg10 arg11 arg12 arg13 arg14 v44 v70 v96 v122 v175 v179 v181 v187 qr kr o x3 x4 x8 d 0 ⟨⟩ ⊢ iprop((∀ acc, inv3 c arg4 harg4 arg5 harg5 arg9 harg9 arg10 arg11 arg12 arg13 arg14 v44 v70 v96 v122 v175 v179 v181 v187 qr kr o x3 x4 x8 d 32 acc -∗ wp frame (wpE (defs₀ (F := F)) Variants.none (c : Thread nD τ) none) E (kk acc) Q)
      -∗ wp frame (wpE (defs₀ (F := F)) Variants.none (c : Thread nD τ) none) E
        (k0_t3_loop.for k0_t3_ok ⟨⟩ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v44 v70 v96 v122 v175 v179 v181 v187) >>= kk) Q) := by
  have h := exec_loop (M := 𝕄) Idealize.ShloMosaic.frame (wpE (defs₀ (F := F)) Variants.none (c : Thread nD τ) none) E
    k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v44 v70 v96 v122 v175 v179 v181 v187)
    ⟨inv3 c arg4 harg4 arg5 harg5 arg9 harg9 arg10 arg11 arg12 arg13 arg14 v44 v70 v96 v122 v175 v179 v181 v187 qr kr o x3 x4 x8 d, fun k acc => step3 c E i arg1 harg1 arg2 harg2 arg3 harg3 arg4 harg4 arg5 harg5 arg6 harg6 arg7 harg7 arg8 harg8 arg9 harg9 arg10 harg10 arg11 harg11 arg12 harg12 arg13 harg13 arg14 harg14 v44 v70 v96 v122 v175 v179 v181 v187 qr kr o x3 x4 x8 d k acc⟩ (kk := kk) (Q := Q)
  iintro HI HK
  iapply h $$ [HI]
  · iexact HI
  iintro %acc Hinv
  iapply HK
  rw [← show inv3 c arg4 harg4 arg5 harg5 arg9 harg9 arg10 arg11 arg12 arg13 arg14 v44 v70 v96 v122 v175 v179 v181 v187 qr kr o x3 x4 x8 d k0_t3_loop.trips acc = inv3 c arg4 harg4 arg5 harg5 arg9 harg9 arg10 arg11 arg12 arg13 arg14 v44 v70 v96 v122 v175 v179 v181 v187 qr kr o x3 x4 x8 d 32 acc from congrArg (fun n => inv3 c arg4 harg4 arg5 harg5 arg9 harg9 arg10 arg11 arg12 arg13 arg14 v44 v70 v96 v122 v175 v179 v181 v187 qr kr o x3 x4 x8 d n acc) trips3]
  iexact Hinv

end Cert.RetLoops

end
-- ==== Proof.RetBody.lean ====
/-
  The retention's body, run: from any scratch it leaves in the output block the array `result` of its inputs.
-/
module

public import proofs.«01_k».proof.Proof.RetLoops

@[expose] public section

set_option maxRecDepth 8192
set_option maxHeartbeats 1000000

noncomputable section

namespace Cert.RetBody

open Cert.Kernel5Ideal Cert.Kernel5Ideal.Gen Cert.RetLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values before the loops -/

/-- The lane's number. -/
abbrev lane : IVec S1x256 32 := iota .tc S1x256 32 [1] iota_S1x256_d1_w32
/-- The lanes of head 0, 1, 2, 3. -/
abbrev head0 : IVec S1x256 1 := k0_pay14 k0_pay12 k0_pay13
abbrev head1 : IVec S1x256 1 := k0_pay15 lane
abbrev head2 : IVec S1x256 1 := k0_pay20 (k0_pay16 lane) (k0_pay17 lane) (k0_pay18 lane) k0_pay19
abbrev head3 : IVec S1x256 1 := k0_pay21 lane
/-- One where both lanes belong to one head. -/
abbrev same : FVec F S256x256 .f32 :=
  k0_pay24 (F := F) (iota .tc S256x256 32 [0] iota_S256x256_d0_w32) 64#32 k0_pay22 k0_pay23 (Scalar.extui (Scalar.cmpi .sgt 64#32 0#32)) 0#32
/-- The two rows of log decays by lane. -/
def lgRow (x7 : Vec F S2x256 .f32) (r : Fin 2) : Vec F S1x256 .f32 := fun y => x7 (ix2 r (y 1))
abbrev gF (x7 : Vec F S2x256 .f32) : FVec F S1x256 .f32 := k0_pay25 (lgRow x7 0)
abbrev gB (x7 : Vec F S2x256 .f32) : FVec F S1x256 .f32 := k0_pay26 (lgRow x7 1)
/-- The four slabs of decays within a chunk. -/
def decays (x0 : Vec F S2x4 .f32) : Fin 4 → Vec F S1x128x128 .f32
  | 0 => k0_pay31 (x0 (ix2 0 0)) (x0 (ix2 1 0))
  | 1 => k0_pay34 k0_pay30 (k0_pay32 (F := F)) (k0_pay33 (x0 (ix2 0 1))) (x0 (ix2 1 1)) (Scalar.ofBits .f32 0x00000000#32)
  | 2 => k0_pay35 k0_pay30 (x0 (ix2 0 2)) (x0 (ix2 1 2))
  | 3 => k0_pay38 k0_pay30 (k0_pay36 (k0_pay30 (F := F))) (k0_pay37 k0_pay30 (x0 (ix2 0 3))) (x0 (ix2 1 3))

/-- The forward part of chunk `j`. -/
def part (x1 x2 x3 x5 x6 : Vec F S4096x256 .f32) (x7 : Vec F S2x256 .f32) (j : ℕ) : Vec F S128x256 .f32 :=
  k0_pay42 same (gF x7) k0_pay27 (turnedQ x1 x5 x6 j) (fwd (gF x7) k0_pay27 (k0_pay28 (gF x7)) (turnedK x2 x5 x6) x3 j)

/-- The finished chunk `j`. -/
def chunk (x0 : Vec F S2x4 .f32) (x1 x2 x3 x4 x5 x6 : Vec F S4096x256 .f32) (x7 : Vec F S2x256 .f32) (x8 : Vec F S1x256 .f32) (j : ℕ) : Vec F S128x256 .f32 :=
  finish head0 head1 head2 head3 same (gB x7) k0_pay27 (turnedQ x1 x5 x6 j) (turnedK x2 x5 x6 j) (rows x3 j) (rows x4 j)
    (bwd (gB x7) k0_pay27 (k0_pay29 (gB x7)) (turnedK x2 x5 x6) x3 (31 - j)) (part x1 x2 x3 x5 x6 x7 j)
    (decays x0 0) (decays x0 1) (decays x0 2) (decays x0 3) x8

/-- The body's output block. -/
def result (x0 : Vec F S2x4 .f32) (x1 x2 x3 x4 x5 x6 : Vec F S4096x256 .f32) (x7 : Vec F S2x256 .f32) (x8 : Vec F S1x256 .f32) : Vec F S4096x256 .f32 := ofRows (chunk x0 x1 x2 x3 x4 x5 x6 x7 x8)

/-- A word of the scalar memory. -/
theorem smem_read {sp : Space} (mr : Memref sig .tc sp S2x4 .f32) (h : mr.IsWhole) (x : Vec F S2x4 .f32) (a : Fin 2) (b : Fin 4)
    (inb : ∀ i, (![a.val, b.val] : Fin 2 → ℕ) i + S1x1.size i ≤ S2x4.size i) (z : S1x1.Idx) :
    mr.view.readAt (Elt F) (Rect.unit (s := S2x4) ![a.val, b.val] S1x1.size inb).toLoadRect (h.unread x) z = x (ix2 a b) := by
  have e : mr.view.read (Elt F) (h.unread x) = x := h.read_unread x
  refine (congrFun e _).trans (congrArg x (funext fun i => Fin.ext ?_))
  have h0 : (z 0).val < 1 := (z 0).isLt
  have h1 : (z 1).val < 1 := (z 1).isLt
  fin_cases i
  · show a.val + 1 * (z 0).val = a.val
    omega
  · show b.val + 1 * (z 1).val = b.val
    omega

/-- A row of log decays. -/
theorem row_read {sp : Space} (mr : Memref sig .tc sp S2x256 .f32) (h : mr.IsWhole) (x : Vec F S2x256 .f32) (r : Fin 2)
    (inb : ∀ i, (![r.val, 0] : Fin 2 → ℕ) i + S1x256.size i ≤ S2x256.size i) :
    mr.view.readAt (Elt F) (Rect.unit (s := S2x256) ![r.val, 0] S1x256.size inb).toLoadRect (h.unread x) = lgRow x r := by
  have e : mr.view.read (Elt F) (h.unread x) = x := h.read_unread x
  funext z
  refine (congrFun e _).trans (congrArg x (funext fun i => Fin.ext ?_))
  have h0 : (z 0).val < 1 := (z 0).isLt
  fin_cases i
  · show r.val + 1 * (z 0).val = r.val
    omega
  · show 0 + 1 * (z 1).val = (z 1).val
    omega

theorem run (c : Dev nD) (i : grid0.Coords) (arg1 : Memref sig .tc .smem S2x4 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S2x256 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (arg13 : Memref sig .tc .vmem S256x256 .f32) (harg13 : arg13.IsWhole) (arg14 : Memref sig .tc .vmem S4x128x128 .f32) (harg14 : arg14.IsWhole)
    (x0 : Vec F S2x4 .f32) (x1 x2 x3 x4 x5 x6 : Vec F S4096x256 .f32) (x7 : Vec F S2x256 .f32) (x8 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (result x0 x1 x2 x3 x4 x5 x6 x7 x8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_retention_eq_skeleton]; unfold cc0_retention_skel
  simp only [k0_part10_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  have hd : ∀ h, slab (arg14.view.read (Elt F) (arg14.view.writes (Elt F) arg14.view.junk (run.sl.HS3_4 c arg1 harg1 x0))) h = decays x0 h := by
    intro h
    unfold run.sl.HS3_4
    rw [slab_writes arg14.view _ 3 (off := ![3, 0, 0]) _ _ _ _ rfl, slab_writes arg14.view _ 2 (off := ![2, 0, 0]) _ _ _ _ rfl, slab_writes arg14.view _ 1 (off := ![1, 0, 0]) _ _ _ _ rfl, slab_writes arg14.view _ 0 (off := ![0, 0, 0]) _ _ _ _ rfl]
    match h with
    | 0 =>
      rw [if_neg (by decide : ¬((0 : Fin 4) = 3)), if_neg (by decide : ¬((0 : Fin 4) = 2)), if_neg (by decide : ¬((0 : Fin 4) = 1)), if_pos rfl]
      show _ = k0_pay31 (x0 (ix2 0 0)) (x0 (ix2 1 0))
      rw [← smem_read arg1 harg1 x0 0 0 inb_S2x4_S1x1_0_0 (Shape.Idx.first (Nat.pos_of_ne_zero (by decide))), ← smem_read arg1 harg1 x0 1 0 inb_S2x4_S1x1_1_0 (Shape.Idx.first (Nat.pos_of_ne_zero (by decide)))]; rfl
    | 1 =>
      rw [if_neg (by decide : ¬((1 : Fin 4) = 3)), if_neg (by decide : ¬((1 : Fin 4) = 2)), if_pos rfl]
      show _ = k0_pay34 k0_pay30 (k0_pay32 (F := F)) (k0_pay33 (x0 (ix2 0 1))) (x0 (ix2 1 1)) (Scalar.ofBits .f32 0x00000000#32)
      rw [← smem_read arg1 harg1 x0 0 1 inb_S2x4_S1x1_0_1 (Shape.Idx.first (Nat.pos_of_ne_zero (by decide))), ← smem_read arg1 harg1 x0 1 1 inb_S2x4_S1x1_1_1 (Shape.Idx.first (Nat.pos_of_ne_zero (by decide)))]; rfl
    | 2 =>
      rw [if_neg (by decide : ¬((2 : Fin 4) = 3)), if_pos rfl]
      show _ = k0_pay35 k0_pay30 (x0 (ix2 0 2)) (x0 (ix2 1 2))
      rw [← smem_read arg1 harg1 x0 0 2 inb_S2x4_S1x1_0_2 (Shape.Idx.first (Nat.pos_of_ne_zero (by decide))), ← smem_read arg1 harg1 x0 1 2 inb_S2x4_S1x1_1_2 (Shape.Idx.first (Nat.pos_of_ne_zero (by decide)))]; rfl
    | 3 =>
      rw [if_pos rfl]
      show _ = k0_pay38 k0_pay30 (k0_pay36 (k0_pay30 (F := F))) (k0_pay37 k0_pay30 (x0 (ix2 0 3))) (x0 (ix2 1 3))
      rw [← smem_read arg1 harg1 x0 0 3 inb_S2x4_S1x1_0_3 (Shape.Idx.first (Nat.pos_of_ne_zero (by decide))), ← smem_read arg1 harg1 x0 1 3 inb_S2x4_S1x1_1_3 (Shape.Idx.first (Nat.pos_of_ne_zero (by decide)))]; rfl
  have e1 : run.sl.r_1 c arg8 harg8 x7 = gF x7 := congrArg k0_pay25 (row_read arg8 harg8 x7 0 inb_S2x256_S1x256_0_0)
  have e2 : run.sl.r_2 c arg8 harg8 x7 = gB x7 := congrArg k0_pay26 (row_read arg8 harg8 x7 1 inb_S2x256_S1x256_1_0)
  have e3 : run.sl.r_7 c arg8 harg8 x7 = k0_pay28 (gF x7) := congrArg k0_pay28 e1
  have e4 : run.sl.r_8 c arg8 harg8 x7 = k0_pay29 (gB x7) := congrArg k0_pay29 e2
  rw [e1, e2, e3, e4, show (cmpi CmpIPredicate.slt run.sl.v16 run.sl.v17 : IVec S1x256 1) = k0_pay11 from rfl,
    show (cmpi CmpIPredicate.eq run.sl.v42 run.sl.v5 : IVec S1x256 1) = head0 from rfl,
    show (cmpi CmpIPredicate.eq run.sl.v42 run.sl.v33 : IVec S1x256 1) = head1 from rfl,
    show (cmpi CmpIPredicate.eq run.sl.v42 run.sl.v95 : IVec S1x256 1) = head2 from rfl,
    show (cmpi CmpIPredicate.eq run.sl.v42 run.sl.v121 : IVec S1x256 1) = head3 from rfl,
    show (run.sl.r : FVec F S256x256 .f32) = same from rfl]
  iapply (loop1 c E i arg1 harg1 arg2 harg2 arg3 harg3 arg4 harg4 arg5 harg5 arg6 harg6 arg7 harg7 arg8 harg8 arg9 harg9 arg10 harg10 arg11 harg11 arg12 harg12 arg13 harg13 arg14 harg14 x1 x2 x5 x6) $$ [H1 H2 H5 H6 HS0 HS1]
  · isplitl [H1]; · iexact H1
    isplitl [H2]; · iexact H2
    isplitl [H5]; · iexact H5
    isplitl [H6]; · iexact H6
    isplitl [HS0]
    · iexists _; isplitl [HS0]; · iexact HS0
      ipureintro; intro j hj; omega
    iexists _; isplitl [HS1]; · iexact HS1
    ipureintro; intro j hj; omega
  iintro %acc1 ⟨H1, H2, H5, H6, ⟨%g0, HS0, %hg0⟩, ⟨%g1, HS1, %hg1⟩⟩
  sl_exec
  iapply (loop2 c E i arg1 harg1 arg2 harg2 arg3 harg3 arg4 harg4 arg5 harg5 arg6 harg6 arg7 harg7 arg8 harg8 arg9 harg9 arg10 harg10 arg11 harg11 arg12 harg12 arg13 harg13 arg14 harg14 same (gF x7) k0_pay27 (k0_pay28 (gF x7)) (turnedQ x1 x5 x6) (turnedK x2 x5 x6) x3) $$ [H3 HS0 HS1 H9 HS2]
  · isplitl [H3]; · iexact H3
    isplitl [HS0]
    · iexists _; isplitl [HS0]; · iexact HS0
      ipureintro; exact hg0
    isplitl [HS1]
    · iexists _; isplitl [HS1]; · iexact HS1
      ipureintro; exact hg1
    isplitl [H9]
    · iexists _; isplitl [H9]; · iexact H9
      ipureintro; intro j hj; omega
    iexists _; isplitl [HS2]; · iexact HS2
    ipureintro; exact View.read_writes_full _ _ _ _ _
  iintro %acc2 ⟨H3, ⟨%g2, HS0, %hg2⟩, ⟨%g3, HS1, %hg3⟩, ⟨%g4, H9, %hg4⟩, ⟨%g5, HS2, %hg5⟩⟩
  sl_exec
  iapply (loop3 c E i arg1 harg1 arg2 harg2 arg3 harg3 arg4 harg4 arg5 harg5 arg6 harg6 arg7 harg7 arg8 harg8 arg9 harg9 arg10 harg10 arg11 harg11 arg12 harg12 arg13 harg13 arg14 harg14 head0 head1 head2 head3 same (gB x7) k0_pay27 (k0_pay29 (gB x7)) (turnedQ x1 x5 x6) (turnedK x2 x5 x6)
    (part x1 x2 x3 x5 x6 x7) x3 x4 x8 (decays x0)) $$ [H3 H4 H8 HS0 HS1 H9 HS2 HS3]
  · isplitl [H3]; · iexact H3
    isplitl [H4]; · iexact H4
    isplitl [H8]; · iexact H8
    isplitl [HS0]
    · iexists _; isplitl [HS0]; · iexact HS0
      ipureintro; exact hg2
    isplitl [HS1]
    · iexists _; isplitl [HS1]; · iexact HS1
      ipureintro; exact hg3
    isplitl [H9]
    · iexists _; isplitl [H9]; · iexact H9
      ipureintro
      intro j hj
      rw [if_pos (by omega)]
      exact hg4 j hj
    isplitl [HS2]
    · iexists _; isplitl [HS2]; · iexact HS2
      ipureintro; exact View.read_writes_full _ _ _ _ _
    iexists _; isplitl [HS3]; · iexact HS3
    ipureintro; exact hd
  iintro %acc3 ⟨H3, H4, H8, ⟨%g6, HS0, %hg6⟩, ⟨%g7, HS1, %hg7⟩, ⟨%g8, H9, %hg8⟩, ⟨%g9, HS2, %hg9⟩, ⟨%g10, HS3, %hg10⟩⟩
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine eq_of_rows _ _ fun j hj => ?_
    rw [hg8 j hj, if_neg (by omega)]
    exact (rows_ofRows (chunk x0 x1 x2 x3 x4 x5 x6 x7 x8) j hj).symm
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.RetBody

end
-- ==== Proof.RetFrame.lean ====
/-
  The frame of the retention's launch: every execution ends, the arguments are left as they were, and the output's block at
  each sequence is `result` of that sequence's blocks.
-/
module

public import proofs.«01_k».proof.Proof.Gen.Kernel5Ideal.Frame.Runs
public import proofs.«01_k».proof.Proof.RetBody
public import Idealize.ShloMosaic.Lib.Claim

@[expose] public section

set_option maxRecDepth 16384

noncomputable section

namespace Cert.RetFrame

open Cert.Kernel5Ideal Cert.Kernel5Ideal.Gen Cert.RetLoops Cert.RetBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block after the body at point `t`. -/
def outAt (c : Dev nD) (t : Fin cfg0.N) : Vec F S4096x256 .f32 :=
  result (iblk m c 0 t) (iblk m c 1 t) (iblk m c 2 t) (iblk m c 3 t) (iblk m c 4 t) (iblk m c 5 t) (iblk m c 6 t) (iblk m c 7 t) (iblk m c 8 t)

/-! ## The pipeline's proof data -/

/-- What each staging buffer holds after the body at a point: an input its block, the output the retention of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outAt m c t)
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outAt m c t) := by dsimp only [dats]

/-- What the body finds in each input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launched body is this body. -/
theorem defs₀_row (t : Fin cfg0.N) :
    defs₀ (F := F) .tc cfg0.body (cfg0.bodyArgs t (cfg0.slots t)) = bodyAt0 t := by
  unfold defs₀; rw [Defs.onTc_tc]

/-- The launch's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch runs, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch runs, and every array ends at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.RetFrame

end
-- ==== Proof.RetRef.lean ====
/-
  The reference of the retention at an index.
-/
module

public import proofs.«01_k».proof.Proof.Heads
public import proofs.«01_k».proof.Proof.Gen.Reference5Ideal.Read

@[expose] public section

set_option maxRecDepth 16384

noncomputable section

namespace Cert.RetRef

open Cert.Reference5Ideal Cert.Reference5Ideal.Gen Cert.Reference5Ideal.Read Idealize.ShloMosaic Cert.Heads

/-- Channel `d` of head `h` as a lane. -/
abbrev hlane (h : Fin 4) (d : Fin 64) : Fin 256 := ⟨h.val * 64 + d.val, by have := h.isLt; have := d.isLt; omega⟩

/-- A row's halves exchanged, the second with its sign changed. -/
def half (y : Fin 64 → EReal) (d : Fin 64) : EReal :=
  if h : d.val < 32 then -y ⟨d.val + 32, by omega⟩ else y ⟨d.val - 32, by have := d.isLt; omega⟩

/-- A row turned by its position's angles. -/
def spun (x cs sn : Fin 64 → EReal) (d : Fin 64) : EReal := x d * cs d + half x d * sn d

/-- What a token at `j` counts for at `s`. -/
def fade (a b : EReal) (s j : Fin 4096) : EReal :=
  if j.val ≤ s.val then Ideal.exp (a * (((s.val : ℝ) - (j.val : ℝ) : ℝ) : EReal)) else Ideal.exp (b * (((j.val : ℝ) - (s.val : ℝ) : ℝ) : EReal))

/-- The retention of one head at one position: the values' sum by score and decay. -/
def mixed (a b : EReal) (q : Fin 64 → EReal) (k v : Fin 4096 → Fin 64 → EReal) (s : Fin 4096) (d : Fin 64) : EReal :=
  ∑ j, v j d * ((∑ e, q e * k j e) * fade a b s j)

/-- A gate times its sigmoid. -/
def gate (x : EReal) : EReal := x * Ideal.div (Ideal.ofBits .f32 0x3F800000#32) (Ideal.ofBits .f32 0x3F800000#32 + Ideal.exp (-x))

variable (rq rk rv rg : FVec Ideal S32768x256 .f32) (cs sn : FVec Ideal S4096x64 .f32) (ld : FVec Ideal S2x4 .f32) (gw : FVec Ideal S256 .f32)

/-- The queries' halves exchanged. -/
theorem qhalf (b : Fin 8) (s : Fin 4096) (h : Fin 4) (d : Fin 64) :
    val_main_v10 (F := Ideal) rq (ix4 b s h d) = half (fun e => rq (ix2 (tok b s) (hlane h e))) d := by
  have hd := d.isLt; have hb := b.isLt; have hs := s.isLt; have hh := h.isLt
  pointwise [val_main_v0, val_main_v7, val_main_v8, val_main_v9, val_main_v10, half]
  by_cases h0 : d.val < 32
  · rw [dif_pos h0, dif_pos h0]
    refine congrArg (fun i => -rq (ix2 (tok b s) i)) (Fin.ext ?_)
    simp only []
    omega
  · rw [dif_neg h0, dif_neg h0]

/-- The keys' halves exchanged. -/
theorem khalf (b : Fin 8) (s : Fin 4096) (h : Fin 4) (d : Fin 64) :
    val_main_v23 (F := Ideal) rk (ix4 b s h d) = half (fun e => rk (ix2 (tok b s) (hlane h e))) d := by
  have hd := d.isLt; have hb := b.isLt; have hs := s.isLt; have hh := h.isLt
  pointwise [val_main_v1, val_main_v20, val_main_v21, val_main_v22, val_main_v23, half]
  by_cases h0 : d.val < 32
  · rw [dif_pos h0, dif_pos h0]
    refine congrArg (fun i => -rk (ix2 (tok b s) i)) (Fin.ext ?_)
    simp only []
    omega
  · rw [dif_neg h0, dif_neg h0]

/-- The row a query scores with. -/
theorem qspun (b : Fin 8) (s : Fin 4096) (h : Fin 4) (d : Fin 64) :
    val_main_v15 (F := Ideal) rq cs sn (ix4 b s h d)
      = spun (fun e => rq (ix2 (tok b s) (hlane h e))) (fun e => cs (ix2 s e)) (fun e => sn (ix2 s e)) d := by
  pointwise [val_main_v0, val_main_v3, val_main_v4, val_main_v5, val_main_v6, val_main_v11, val_main_v12, val_main_v13, val_main_v14,
    val_main_v15, spun, qhalf]

/-- The row a key scores with, scaled. -/
theorem kspun (b : Fin 8) (s : Fin 4096) (h : Fin 4) (d : Fin 64) :
    val_main_v30 (F := Ideal) rk cs sn (ix4 b s h d)
      = spun (fun e => rk (ix2 (tok b s) (hlane h e))) (fun e => cs (ix2 s e)) (fun e => sn (ix2 s e)) d * Ideal.ofBits .f32 0x3E000000#32 := by
  pointwise [val_main_v1, val_main_v16, val_main_v17, val_main_v18, val_main_v19, val_main_v24, val_main_v25, val_main_v26, val_main_v27,
    val_main_v28, val_main_v29, val_main_v30, val_main_cst, spun, khalf]

/-- A position as a number. -/
theorem position (s : Fin 4096) : val_main_v31 (F := Ideal) (ix1 s) = ((s.val : ℝ) : EReal) := by
  have h : (BitVec.ofNat 32 s.val).toInt = (s.val : ℤ) := by
    have := s.isLt
    rw [BitVec.toInt_eq_toNat_of_lt (by rw [BitVec.toNat_ofNat]; omega), BitVec.toNat_ofNat]
    omega
  show (((BitVec.ofNat 32 s.val).toInt : ℝ) : EReal) = _
  rw [h]
  norm_cast

/-- The distance from one position to another. -/
theorem distance (s j : Fin 4096) : val_main_v36 (F := Ideal) (ix2 s j) = (((s.val : ℝ) - (j.val : ℝ) : ℝ) : EReal) := by
  pointwise [val_main_v32, val_main_v33, val_main_v34, val_main_v35, val_main_v36, position]
  rw [← EReal.coe_sub]

/-- Whether it is at least zero. -/
theorem ahead (s j : Fin 4096) : val_main_v38 (F := Ideal) (ix2 s j) = BitVec.ofBool (decide (j.val ≤ s.val)) := by
  pointwise [val_main_v37, val_main_v38, val_main_cst_0, distance]
  show Ideal.cmp .oge _ _ = _
  have hz : Ideal.ofBits .f32 0#32 = ((0 : ℝ) : EReal) := by simp [Ideal.ofBits, Ideal.ieee]
  simp only [Ideal.cmp, hz]
  congr 1
  rw [decide_eq_decide, EReal.coe_nonneg, sub_nonneg, Nat.cast_le]

/-- The decays. -/
theorem fades (h : Fin 4) (s j : Fin 4096) :
    val_main_v56 (F := Ideal) ld (ix3 h s j) = fade (ld (ix2 0 h)) (ld (ix2 1 h)) s j := by
  have hh := h.isLt
  pointwise [val_main_v39, val_main_v40, val_main_v41, val_main_v42, val_main_v43, val_main_v44, val_main_v45, val_main_v46, val_main_v47,
    val_main_v48, val_main_v49, val_main_v50, val_main_v51, val_main_v52, val_main_v53, val_main_v54, val_main_v55, val_main_v56,
    val_main_call0_v0, ahead, distance, fade]
  rw [← EReal.coe_neg, neg_sub]

/-- The mixed values. -/
theorem mixes (b : Fin 8) (s : Fin 4096) (h : Fin 4) (d : Fin 64) :
    val_main_v62 (F := Ideal) rq rk rv cs sn ld (ix4 b s h d)
      = mixed (ld (ix2 0 h)) (ld (ix2 1 h)) (spun (fun e => rq (ix2 (tok b s) (hlane h e))) (fun e => cs (ix2 s e)) (fun e => sn (ix2 s e)))
          (fun j e => spun (fun e => rk (ix2 (tok b j) (hlane h e))) (fun e => cs (ix2 j e)) (fun e => sn (ix2 j e)) e * Ideal.ofBits .f32 0x3E000000#32)
          (fun j e => rv (ix2 (tok b j) (hlane h e))) s d := by
  pointwise [val_main_v2, val_main_v57, val_main_v58, val_main_v59, val_main_v60, val_main_v61, val_main_v62, mixed, fades, qspun, kspun]

/-- The reference's result. -/
theorem result (b : Fin 8) (s : Fin 4096) (h : Fin 4) (d : Fin 64) :
    val_main_v78 (F := Ideal) rq rk rv rg cs sn ld gw (ix2 (tok b s) (hlane h d))
      = gate (rg (ix2 (tok b s) (hlane h d)))
        * headNorm (fun e => val_main_v62 (F := Ideal) rq rk rv cs sn ld (ix4 b s h e)) (fun e => gw (ix1 (hlane h e))) d := by
  have hb := b.isLt; have hs := s.isLt; have hh := h.isLt; have hd := d.isLt
  pointwise [val_main_v63, val_main_v64, val_main_v65, val_main_v66, val_main_v67, val_main_v68, val_main_v69, val_main_v70, val_main_v71,
    val_main_v72, val_main_v73, val_main_v74, val_main_v75, val_main_v76, val_main_v77, val_main_v78, val_main_cst_1, val_main_cst_2,
    val_main_cst_3, val_main_call1_v0, val_main_call1_v1, val_main_call1_v2, val_main_call1_v3, val_main_call1_v4, val_main_call1_v5,
    val_main_call1_cst, val_main_call1_cst_0, gate, headNorm]
  have e0 : (⟨(b.val * 4096 + s.val) / 4096, by omega⟩ : Fin 8) = b := Fin.ext (by simp only []; omega)
  have e1 : (⟨(b.val * 4096 + s.val) % 4096, by omega⟩ : Fin 4096) = s := Fin.ext (by simp only []; omega)
  have e2 : (⟨(h.val * 64 + d.val) / 64, by omega⟩ : Fin 4) = h := Fin.ext (by simp only []; omega)
  have e3 : (⟨(h.val * 64 + d.val) % 64, by omega⟩ : Fin 64) = d := Fin.ext (by simp only []; omega)
  simp only [e0, e1, e2, e3]

end Cert.RetRef

end
-- ==== Proof.RetPay.lean ====
/-
  The retention's payloads at an index.
-/
module

public import proofs.«01_k».proof.Proof.RetBody
public import proofs.«01_k».proof.Proof.RetRef
public import proofs.«01_k».proof.Proof.FlashBlock

@[expose] public section

set_option maxRecDepth 16384

noncomputable section

namespace Cert.RetPay

open Cert.Kernel5Ideal Cert.Kernel5Ideal.Gen Cert.RetLoops Cert.RetBody Idealize.ShloMosaic Cert.Heads Cert.Lanes
open Cert.PrepBlock (select_ofBool grp pos grp_pos grp_congr norm_of_sums)
open Cert.FlashBlock (word_head)
open Cert.RetRef (half spun gate)

/-! ## The masks -/

theorem head0_apply (l : Fin 256) : head0 (ix2 0 l) = BitVec.ofBool (decide (l.val / 64 = 0)) := by
  have hl := l.isLt
  pointwise [head0, k0_pay14, k0_pay12, k0_pay13]
  rw [word_div64 l.val (by omega), word_head (l.val / 64) 0 (by omega) (by omega)]
theorem head1_apply (l : Fin 256) : head1 (ix2 0 l) = BitVec.ofBool (decide (l.val / 64 = 1)) := by
  have hl := l.isLt
  pointwise [head1, k0_pay15, lane]
  rw [word_div64 l.val (by omega), word_head (l.val / 64) 1 (by omega) (by omega)]
theorem head2_apply (l : Fin 256) : head2 (ix2 0 l) = BitVec.ofBool (decide (l.val / 64 = 2)) := by
  have hl := l.isLt
  pointwise [head2, k0_pay20, k0_pay16, k0_pay17, k0_pay18, k0_pay19, lane]
  rw [word_div64 l.val (by omega), word_head (l.val / 64) 2 (by omega) (by omega)]
theorem head3_apply (l : Fin 256) : head3 (ix2 0 l) = BitVec.ofBool (decide (l.val / 64 = 3)) := by
  have hl := l.isLt
  pointwise [head3, k0_pay21, lane]
  rw [word_div64 l.val (by omega), word_head (l.val / 64) 3 (by omega) (by omega)]

/-- One where both lanes belong to one head, zero elsewhere. -/
theorem same_apply (a b : Fin 256) : same (F := Ideal) (ix2 a b) = if a.val / 64 = b.val / 64 then 1 else 0 := by
  have ha := a.isLt
  have hb := b.isLt
  pointwise [same, k0_pay24, k0_pay22, k0_pay23]
  rw [word_div64 a.val (by omega), word_div64 b.val (by omega)]
  exact mask_entry _ _ (by omega) (by omega)

/-- Whether a lane lies in the first half of its head. -/
theorem word_first32 : ∀ l : Fin 256, IntOp.cmpi .slt
      (Scalar.select
        (IntOp.andi
          (IntOp.xori
            (IntOp.cmpi .slt (IntOp.remsi .vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi .vector (BitVec.ofNat 32 l.val) (Scalar.select (Scalar.cmpi .eq 64#32 0#32) 1#32 64#32)) 0#32))
        (IntOp.addi (IntOp.remsi .vector (BitVec.ofNat 32 l.val) (Scalar.select (Scalar.cmpi .eq 64#32 0#32) 1#32 64#32))
          (Scalar.select (Scalar.cmpi .eq 64#32 0#32) 1#32 64#32))
        (IntOp.remsi .vector (BitVec.ofNat 32 l.val) (Scalar.select (Scalar.cmpi .eq 64#32 0#32) 1#32 64#32)))
      32#32 = BitVec.ofBool (decide (l.val % 64 < 32)) := by decide +kernel

theorem pay11_apply (l : Fin 256) : k0_pay11 (ix2 0 l) = BitVec.ofBool (decide (l.val % 64 < 32)) := by
  pointwise [k0_pay11]
  exact word_first32 l

/-! ## Positions and decays -/

/-- A small word as a number. -/
theorem word_value (n : ℕ) (hn : n < 4096) : (FloatOps.sitofp (F := Ideal) .f32 (BitVec.ofNat 32 n) : EReal) = ((n : ℝ) : EReal) := by
  have h : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [h]
  norm_cast

theorem pay27_apply (i : Fin 128) : k0_pay27 (F := Ideal) (ix2 i 0) = ((i.val : ℝ) : EReal) := by
  have hi := i.isLt
  pointwise [k0_pay27]
  exact word_value i.val (by omega)

theorem pay28_apply (g : FVec Ideal S1x256 .f32) (l : Fin 256) :
    k0_pay28 g (ix2 0 l) = Ideal.exp (g (ix2 0 l) * Ideal.ofBits .f32 0x43000000#32) := by
  pointwise [k0_pay28]
theorem pay29_apply (g : FVec Ideal S1x256 .f32) (l : Fin 256) :
    k0_pay29 g (ix2 0 l) = Ideal.exp (g (ix2 0 l) * Ideal.ofBits .f32 0x43000000#32) := by
  pointwise [k0_pay29]

theorem pay30_apply (i n : Fin 128) : k0_pay30 (F := Ideal) (ix2 i n) = (((i.val : ℝ) - (n.val : ℝ) : ℝ) : EReal) := by
  have hi := i.isLt
  have hn := n.isLt
  pointwise [k0_pay30]
  have hw : ∀ k : ℕ, k < 128 → (BitVec.ofNat 32 k).toInt = (k : ℤ) := fun k hk => by
    rw [BitVec.toInt_eq_toNat_of_lt (by rw [BitVec.toNat_ofNat]; omega), BitVec.toNat_ofNat]
    omega
  have h : (BitVec.ofNat 32 i.val - BitVec.ofNat 32 n.val).toInt = (i.val : ℤ) - (n.val : ℤ) := by
    rw [BitVec.toInt_sub, hw _ hi, hw _ hn, Int.bmod_def]
    split <;> omega
  show (((BitVec.ofNat 32 i.val - BitVec.ofNat 32 n.val).toInt : ℝ) : EReal) = _
  rw [h]
  norm_cast

/-- A decay within a chunk, as the body writes it. -/
def decay (a b : EReal) (i n : Fin 128) : EReal :=
  Scalar.select (Ideal.cmp .oge (((i.val : ℝ) - (n.val : ℝ) : ℝ) : EReal) 0)
    (Ideal.exp (a * max (((i.val : ℝ) - (n.val : ℝ) : ℝ) : EReal) 0)) (Ideal.exp (b * max (0 - (((i.val : ℝ) - (n.val : ℝ) : ℝ) : EReal)) 0))

theorem decays_apply (x0 : Vec Ideal S2x4 .f32) (h : Fin 4) (i n : Fin 128) :
    decays x0 h (ix3 0 i n) = decay (x0 (ix2 0 h)) (x0 (ix2 1 h)) i n := by
  match h with
  | 0 =>
    show k0_pay31 _ _ (ix3 0 i n) = _
    pointwise [k0_pay31, pay30_apply, decay]
  | 1 =>
    show k0_pay34 _ _ _ _ _ (ix3 0 i n) = _
    pointwise [k0_pay34, k0_pay32, k0_pay33, pay30_apply, decay]
  | 2 =>
    show k0_pay35 _ _ _ (ix3 0 i n) = _
    pointwise [k0_pay35, pay30_apply, decay]
  | 3 =>
    show k0_pay38 _ _ _ _ (ix3 0 i n) = _
    pointwise [k0_pay38, k0_pay36, k0_pay37, pay30_apply, decay]

/-! ## Products -/

theorem pay42_apply (g : FVec Ideal S1x256 .f32) (q : Vec Ideal S128x256 .f32) (st : Vec Ideal S256x256 .f32) (i : Fin 128) (l : Fin 256) :
    k0_pay42 (same (F := Ideal)) g k0_pay27 q st (ix2 i l)
      = ∑ a : Fin 256, q (ix2 i a) * Ideal.exp (g (ix2 0 a) * (((i.val : ℝ) : EReal) + Ideal.ofBits .f32 0x3F800000#32)) * (st (ix2 a l) * (same (F := Ideal) (ix2 a l) : EReal)) := by
  generalize same (F := Ideal) = e
  pointwise [k0_pay42, pay27_apply]

theorem pay43_apply (g w : FVec Ideal S1x256 .f32) (k v : Vec Ideal S128x256 .f32) (st : Vec Ideal S256x256 .f32) (a l : Fin 256) :
    k0_pay43 g k0_pay27 w k v st (ix2 a l)
      = st (ix2 a l) * w (ix2 0 l) + ∑ i : Fin 128, k (ix2 i a) * Ideal.exp (g (ix2 0 a) * (Ideal.ofBits .f32 0x42FE0000#32 - ((i.val : ℝ) : EReal))) * v (ix2 i l) := by
  pointwise [k0_pay43, pay27_apply]

theorem pay4_apply (g w : FVec Ideal S1x256 .f32) (k v : Vec Ideal S128x256 .f32) (st : Vec Ideal S256x256 .f32) (a l : Fin 256) :
    k0_pay4 g k0_pay27 w k v st (ix2 a l)
      = st (ix2 a l) * w (ix2 0 l) + ∑ i : Fin 128, k (ix2 i a) * Ideal.exp (g (ix2 0 a) * ((i.val : ℝ) : EReal)) * v (ix2 i l) := by
  pointwise [k0_pay4, k0_pay1, pay27_apply]

theorem pay3_apply (g : FVec Ideal S1x256 .f32) (q o : Vec Ideal S128x256 .f32) (st : Vec Ideal S256x256 .f32) (i : Fin 128) (l : Fin 256) :
    k0_pay3 (same (F := Ideal)) g k0_pay27 q st o (ix2 i l)
      = o (ix2 i l) + ∑ a : Fin 256, q (ix2 i a) * Ideal.exp (g (ix2 0 a) * (Ideal.ofBits .f32 0x43000000#32 - ((i.val : ℝ) : EReal))) * (st (ix2 a l) * (same (F := Ideal) (ix2 a l) : EReal)) := by
  generalize same (F := Ideal) = e
  pointwise [k0_pay3, pay27_apply]

/-- One head's part within a chunk. -/
def within (msk : IVec S1x256 1) (q k v : Vec Ideal S128x256 .f32) (d : Vec Ideal S1x128x128 .f32) (i : Fin 128) (l : Fin 256) : EReal :=
  Scalar.select (msk (ix2 0 l))
    (∑ n : Fin 128, (∑ a : Fin 256, Scalar.select (msk (ix2 0 a)) (q (ix2 i a)) (Ideal.ofBits .f32 0#32) * k (ix2 n a)) * d (ix3 0 i n) * v (ix2 n l))
    (Ideal.ofBits .f32 0#32)

theorem pay6_apply (m0 m1 : IVec S1x256 1) (q k v o : Vec Ideal S128x256 .f32) (d0 d1 : Vec Ideal S1x128x128 .f32) (i : Fin 128) (l : Fin 256) :
    k0_pay6 m0 m1 q (k0_pay1 v) (k0_pay2 k) o (k0_pay5 m0 q) d0 d1 (ix2 i l)
      = o (ix2 i l) + within m0 q k v d0 i l + within m1 q k v d1 i l := by
  pointwise [k0_pay6, k0_pay5, k0_pay1, k0_pay2, within]

theorem pay7_apply (m2 : IVec S1x256 1) (q k v : Vec Ideal S128x256 .f32) (d2 : Vec Ideal S1x128x128 .f32) (i : Fin 128) (l : Fin 256) :
    k0_pay7 m2 q (k0_pay1 v) (k0_pay2 k) d2 (ix2 i l)
      = ∑ n : Fin 128, (∑ a : Fin 256, Scalar.select (m2 (ix2 0 a)) (q (ix2 i a)) (Ideal.ofBits .f32 0#32) * k (ix2 n a)) * d2 (ix3 0 i n) * v (ix2 n l) := by
  pointwise [k0_pay7, k0_pay1, k0_pay2]

/-- The whole chunk before its norm. -/
def total (m2 m3 : IVec S1x256 1) (q k v o : Vec Ideal S128x256 .f32) (d2 d3 : Vec Ideal S1x128x128 .f32) (i : Fin 128) (l : Fin 256) : EReal :=
  o (ix2 i l) + within m2 q k v d2 i l + within m3 q k v d3 i l

theorem pay9_apply (m2 m3 : IVec S1x256 1) (q k v o : Vec Ideal S128x256 .f32) (d2 d3 : Vec Ideal S1x128x128 .f32) (w : Vec Ideal S1x256 .f32) (i : Fin 128) (l : Fin 256) :
    k0_pay9 m3 (same (F := Ideal)) q (k0_pay1 v) (k0_pay2 k) o (k0_pay7 m2 q (k0_pay1 v) (k0_pay2 k) d2) (Scalar.ofBits .f32 0x00000000#32) (k0_pay8 m2) d3 w (ix2 i l)
      = total m2 m3 q k v o d2 d3 i l * Ideal.rsqrt (((∑ a, total m2 m3 q k v o d2 d3 i a * total m2 m3 q k v o d2 d3 i a * (same (F := Ideal) (ix2 a l) : EReal))
          + ∑ a, (total m2 m3 q k v o d2 d3 i a * total m2 m3 q k v o d2 d3 i a - total m2 m3 q k v o d2 d3 i a * total m2 m3 q k v o d2 d3 i a) * (same (F := Ideal) (ix2 a l) : EReal))
            * Ideal.ofBits .f32 1015021568#32 + Ideal.ofBits .f32 897988541#32) * w (ix2 0 l) := by
  have hP := fun i l => pay7_apply m2 q k v d2 i l
  generalize same (F := Ideal) = e
  generalize k0_pay7 m2 q (k0_pay1 v) (k0_pay2 k) d2 = P at hP
  pointwise [k0_pay9, k0_pay8, hP, k0_pay1, k0_pay2, within, total]

theorem pay45_apply (x g : Vec Ideal S128x256 .f32) (i : Fin 128) (l : Fin 256) :
    k0_pay45 x g (k0_pay10 g) (Scalar.ofBits .f32 0x3F800000#32) (ix2 i l) = gate (g (ix2 i l)) * x (ix2 i l) := by
  pointwise [k0_pay45, k0_pay10, gate]
  rw [zero_sub]

/-! ## The turned rows -/

theorem pay39_apply (c s x : Vec Ideal S128x256 .f32) (i : Fin 128) (l : Fin 256) :
    k0_pay39 k0_pay11 c s x (ix2 i l)
      = spun (fun e => x (ix2 i (grp rfl l e))) (fun e => c (ix2 i (grp rfl l e))) (fun e => s (ix2 i (grp rfl l e))) (pos l) := by
  have hl := l.isLt
  pointwise [k0_pay39, pay11_apply, spun, half]
  rw [grp_pos]
  refine congrArg (fun y : EReal => (x (ix2 i l) * c (ix2 i l) : EReal) + y * (s (ix2 i l) : EReal)) ?_
  by_cases h : l.val % 64 < 32
  · rw [if_pos h, dif_pos h, zero_sub]
    refine congrArg (fun a => -x (ix2 i a)) (Fin.ext ?_)
    simp only []
    omega
  · rw [if_neg h, dif_neg h]
    refine congrArg (fun a => x (ix2 i a)) (Fin.ext ?_)
    simp only []
    omega

theorem pay40_apply (c s x : Vec Ideal S128x256 .f32) (i : Fin 128) (l : Fin 256) :
    k0_pay40 k0_pay11 c s x (ix2 i l)
      = spun (fun e => x (ix2 i (grp rfl l e))) (fun e => c (ix2 i (grp rfl l e))) (fun e => s (ix2 i (grp rfl l e))) (pos l)
        * Ideal.ofBits .f32 0x3E000000#32 := by
  have hl := l.isLt
  pointwise [k0_pay40, pay11_apply, spun, half]
  rw [grp_pos]
  refine congrArg (fun y : EReal => ((x (ix2 i l) * c (ix2 i l) : EReal) + y * (s (ix2 i l) : EReal)) * Ideal.ofBits .f32 1040187392#32) ?_
  by_cases h : l.val % 64 < 32
  · rw [if_pos h, dif_pos h, zero_sub]
    refine congrArg (fun a => -x (ix2 i a)) (Fin.ext ?_)
    simp only []
    omega
  · rw [if_neg h, dif_neg h]
    refine congrArg (fun a => x (ix2 i a)) (Fin.ext ?_)
    simp only []
    omega

end Cert.RetPay

end
-- ==== Proof.RetSums.lean ====
/-
  The retention over the real numbers: the two running states of a chunked evaluation as sums over the tokens before and after the
  chunk, and the three parts of a chunk's row as one sum over all tokens.
-/
module

public import proofs.«01_k».proof.Proof.Softmax

@[expose] public section

noncomputable section

namespace Cert.RetSums

/-- What a token at `j` counts for at `s`. -/
def fade (a b : ℝ) (s j : ℕ) : ℝ := if j ≤ s then Real.exp (a * ((s : ℝ) - j)) else Real.exp (b * ((j : ℝ) - s))

/-- The state before chunk `c`: the tokens before it, faded to the last of them. -/
def before (a : ℝ) (p : ℕ → ℝ) (c : ℕ) : ℝ := ∑ j ∈ Finset.range (128 * c), Real.exp (a * (128 * (c : ℝ) - 1 - j)) * p j

/-- The state after a chunk: the last `128 * t` of the tokens, faded to the first of them. -/
def after (b : ℝ) (p : ℕ → ℝ) (t : ℕ) : ℝ := ∑ n ∈ Finset.range (128 * t), Real.exp (b * n) * p (4096 - 128 * t + n)

theorem before_zero (a : ℝ) (p : ℕ → ℝ) : before a p 0 = 0 := by simp [before]

theorem after_zero (b : ℝ) (p : ℕ → ℝ) : after b p 0 = 0 := by simp [after]

/-- The first state's step over a chunk. -/
theorem before_succ (a : ℝ) (p : ℕ → ℝ) (c : ℕ) :
    before a p (c + 1) = before a p c * Real.exp (a * 128) + ∑ i : Fin 128, Real.exp (a * (127 - (i.val : ℝ))) * p (128 * c + i.val) := by
  unfold before
  rw [show 128 * (c + 1) = 128 * c + 128 by ring, Finset.sum_range_add, Finset.sum_mul, Finset.sum_range (n := 128)]
  refine congrArg₂ (· + ·) (Finset.sum_congr rfl fun j _ => ?_) (Finset.sum_congr rfl fun i _ => ?_)
  · rw [mul_right_comm, ← Real.exp_add]
    refine congrArg (Real.exp · * _) ?_
    push_cast
    ring
  · refine congrArg (Real.exp · * _) ?_
    push_cast
    ring

/-- The second state's step over a chunk. -/
theorem after_succ (b : ℝ) (p : ℕ → ℝ) (t : ℕ) (ht : t < 32) :
    after b p (t + 1) = after b p t * Real.exp (b * 128) + ∑ i : Fin 128, Real.exp (b * (i.val : ℝ)) * p (128 * (31 - t) + i.val) := by
  unfold after
  rw [show 128 * (t + 1) = 128 + 128 * t by ring, Finset.sum_range_add, add_comm, Finset.sum_mul, Finset.sum_range (n := 128)]
  refine congrArg₂ (· + ·) (Finset.sum_congr rfl fun j _ => ?_) (Finset.sum_congr rfl fun i _ => ?_)
  · rw [mul_right_comm, ← Real.exp_add]
    refine congrArg₂ (fun x y => Real.exp x * p y) ?_ (by omega)
    push_cast
    ring
  · refine congrArg (fun y => _ * p y) (by omega)

/-- The three parts of row `i` of chunk `c` are the sum over all tokens. -/
theorem parts (a b : ℝ) (q : Fin 64 → ℝ) (K : ℕ → Fin 64 → ℝ) (V : ℕ → ℝ) (c i : ℕ) (hc : c < 32) (hi : i < 128) :
    (∑ e, q e * Real.exp (a * ((i : ℝ) + 1)) * before a (fun j => K j e * V j) c)
      + (∑ e, q e * Real.exp (b * (128 - (i : ℝ))) * after b (fun j => K j e * V j) (31 - c))
      + (∑ n : Fin 128, (∑ e, q e * K (128 * c + n.val) e) * fade a b i n.val * V (128 * c + n.val))
      = ∑ j : Fin 4096, V j.val * ((∑ e, q e * K j.val e) * fade a b (128 * c + i) j.val) := by
  rw [← Finset.sum_range (n := 4096) (fun j => V j * ((∑ e, q e * K j e) * fade a b (128 * c + i) j)),
    show 4096 = 128 * c + (128 + 128 * (31 - c)) by omega, Finset.sum_range_add, Finset.sum_range_add, Finset.sum_range (n := 128),
    add_assoc, add_comm (∑ e, q e * Real.exp (b * (128 - (i : ℝ))) * after b (fun j => K j e * V j) (31 - c))]
  refine congrArg₂ (· + ·) ?_ (congrArg₂ (· + ·) ?_ ?_)
  · simp only [before, Finset.mul_sum]
    rw [Finset.sum_comm]
    refine Finset.sum_congr rfl fun j hj => ?_
    have hj' : j < 128 * c := Finset.mem_range.mp hj
    rw [fade, if_pos (by omega), Finset.sum_mul, Finset.mul_sum]
    refine Finset.sum_congr rfl fun e _ => ?_
    have : Real.exp (a * (((128 * c + i : ℕ) : ℝ) - j)) = Real.exp (a * ((i : ℝ) + 1)) * Real.exp (a * (128 * (c : ℝ) - 1 - j)) := by
      rw [← Real.exp_add]
      refine congrArg Real.exp ?_
      push_cast
      ring
    rw [this]
    ring
  · refine Finset.sum_congr rfl fun n _ => ?_
    have : fade a b (128 * c + i) (128 * c + n.val) = fade a b i n.val := by
      unfold fade
      by_cases h : n.val ≤ i
      · rw [if_pos h, if_pos (by omega)]
        refine congrArg Real.exp ?_
        push_cast
        ring
      · rw [if_neg h, if_neg (by omega)]
        refine congrArg Real.exp ?_
        push_cast
        ring
    rw [this]
    ring
  · simp only [after, Finset.mul_sum]
    rw [Finset.sum_comm]
    refine Finset.sum_congr rfl fun n hn => ?_
    rw [show 4096 - 128 * (31 - c) + n = 128 * c + (128 + n) by omega, fade, if_neg (by omega), Finset.sum_mul, Finset.mul_sum]
    refine Finset.sum_congr rfl fun e _ => ?_
    have : Real.exp (b * (((128 * c + (128 + n) : ℕ) : ℝ) - ((128 * c + i : ℕ) : ℝ))) = Real.exp (b * (128 - (i : ℝ))) * Real.exp (b * n) := by
      rw [← Real.exp_add]
      refine congrArg Real.exp ?_
      push_cast
      ring
    rw [this]
    ring

end Cert.RetSums

end
-- ==== Proof.RetBlock.lean ====
/-
  The retention's block at an index: over real numbers each chunk's row is the whole sequence's sum, divided by its head's root mean
  square and gated.
-/
module

public import proofs.«01_k».proof.Proof.RetPay
public import proofs.«01_k».proof.Proof.RetSums

@[expose] public section

set_option maxRecDepth 16384

noncomputable section

namespace Cert.RetBlock

open Cert.Kernel5Ideal Cert.Kernel5Ideal.Gen Cert.RetLoops Cert.RetBody Cert.RetPay Idealize.ShloMosaic Cert.Heads Cert.Lanes
open Cert.PrepBlock (select_ofBool grp pos grp_pos grp_congr norm_of_sums)
open Cert.RetRef (half spun gate hlane mixed)
open Cert.Softmax (coe_sum)

/-! ## Constants and decays -/

theorem ofBits_128 : Ideal.ofBits .f32 0x43000000#32 = ((128 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_8th : Ideal.ofBits .f32 0x3E000000#32 = ((1 / 8 : ℝ) : EReal) := by
  simp [Ideal.ofBits, Ideal.ieee, -EReal.coe_mul]; norm_num

/-- A decay within a chunk of real log decays. -/
theorem decay_real (a b : ℝ) (i n : Fin 128) : decay a b i n = (RetSums.fade a b i.val n.val : EReal) := by
  unfold decay RetSums.fade
  rw [← EReal.coe_zero, ← EReal.coe_sub]
  simp only [Ideal.cmp, EReal.coe_le_coe_iff, ge_iff_le]
  rw [select_ofBool]
  by_cases h : n.val ≤ i.val
  · have h' : (0 : ℝ) ≤ (i.val : ℝ) - (n.val : ℝ) := by rw [sub_nonneg]; exact_mod_cast h
    rw [if_pos h', if_pos h, max_eq_left (EReal.coe_le_coe_iff.mpr h'), ← EReal.coe_mul, Ideal.exp_coe]
  · have h' : ¬ (0 : ℝ) ≤ (i.val : ℝ) - (n.val : ℝ) := by rw [sub_nonneg]; exact_mod_cast h
    have h'' : (0 : ℝ) ≤ 0 - ((i.val : ℝ) - (n.val : ℝ)) := by linarith [not_le.mp h']
    rw [if_neg h', if_neg h, max_eq_left (EReal.coe_le_coe_iff.mpr h''), ← EReal.coe_mul, Ideal.exp_coe]
    congr 3
    ring

/-- The reference's decay of real log decays. -/
theorem fade_real (a b : ℝ) (s j : Fin 4096) : RetRef.fade a b s j = (RetSums.fade a b s.val j.val : EReal) := by
  unfold RetRef.fade RetSums.fade
  split_ifs <;> rw [← EReal.coe_mul, Ideal.exp_coe]

/-! ## The two states -/

section States
variable (g : FVec Ideal S1x256 .f32) (al : ℝ) (a l : Fin 256) (kr : ℕ → Vec Ideal S128x256 .f32) (x3 : Vec Ideal S4096x256 .f32) (K V : ℕ → ℝ)

/-- The first state. -/
theorem fwd_apply (ha : g (ix2 0 a) = (al : EReal)) (hl : g (ix2 0 l) = (al : EReal)) (hK : ∀ j (i : Fin 128), kr j (ix2 i a) = (K (128 * j + i.val) : EReal))
    (hV : ∀ j (i : Fin 128), rows x3 j (ix2 i l) = (V (128 * j + i.val) : EReal)) (c : ℕ) :
    fwd g k0_pay27 (k0_pay28 g) kr x3 c (ix2 a l) = (RetSums.before al (fun p => K p * V p) c : EReal) := by
  induction c with
  | zero =>
    rw [RetSums.before_zero]
    show k0_pay41 (F := Ideal) (ix2 a l) = _
    pointwise [k0_pay41]
    exact EReal.coe_zero.symm
  | succ c ih =>
    rw [RetSums.before_succ]
    show k0_pay43 g k0_pay27 (k0_pay28 g) (kr c) (rows x3 c) (fwd g k0_pay27 (k0_pay28 g) kr x3 c) (ix2 a l) = _
    rw [pay43_apply, ih, pay28_apply, ha, hl, ofBits_128, ofBits_127, ← EReal.coe_mul, Ideal.exp_coe, ← EReal.coe_mul, EReal.coe_add, coe_sum]
    refine congrArg (_ + ·) (Finset.sum_congr rfl fun i _ => ?_)
    rw [hK, hV, ← EReal.coe_sub, ← EReal.coe_mul, Ideal.exp_coe, ← EReal.coe_mul, ← EReal.coe_mul]
    refine congrArg _ ?_
    ring

/-- The second state. -/
theorem bwd_apply (ha : g (ix2 0 a) = (al : EReal)) (hl : g (ix2 0 l) = (al : EReal)) (hK : ∀ j (i : Fin 128), kr j (ix2 i a) = (K (128 * j + i.val) : EReal))
    (hV : ∀ j (i : Fin 128), rows x3 j (ix2 i l) = (V (128 * j + i.val) : EReal)) (t : ℕ) (ht : t ≤ 32) :
    bwd g k0_pay27 (k0_pay29 g) kr x3 t (ix2 a l) = (RetSums.after al (fun p => K p * V p) t : EReal) := by
  induction t with
  | zero =>
    rw [RetSums.after_zero]
    show k0_pay44 (F := Ideal) (ix2 a l) = _
    pointwise [k0_pay44]
    exact EReal.coe_zero.symm
  | succ t ih =>
    rw [RetSums.after_succ _ _ _ (by omega)]
    show k0_pay4 g k0_pay27 (k0_pay29 g) (kr (31 - t)) (rows x3 (31 - t)) (bwd g k0_pay27 (k0_pay29 g) kr x3 t) (ix2 a l) = _
    rw [pay4_apply, ih (by omega), pay29_apply, ha, hl, ofBits_128, ← EReal.coe_mul, Ideal.exp_coe, ← EReal.coe_mul, EReal.coe_add, coe_sum]
    refine congrArg (_ + ·) (Finset.sum_congr rfl fun i _ => ?_)
    rw [hK, hV, ← EReal.coe_mul, Ideal.exp_coe, ← EReal.coe_mul, ← EReal.coe_mul]
    refine congrArg _ ?_
    ring

end States

/-! ## The parts of a row -/

/-- A sum over all lanes of which only one head's count. -/
theorem head_sum (f : Fin 256 → EReal) (h : Fin 4) (hf : ∀ a : Fin 256, a.val / 64 ≠ h.val → f a = 0) : ∑ a, f a = ∑ e : Fin 64, f (hlane h e) :=
  sum_group (a := 4) rfl f h hf

/-- Within a chunk only a lane's own head counts. -/
theorem within_apply (h h' : Fin 4) (msk : IVec S1x256 1) (hm : ∀ l : Fin 256, msk (ix2 0 l) = BitVec.ofBool (decide (l.val / 64 = h'.val)))
    (q k v : Vec Ideal S128x256 .f32) (d : Vec Ideal S1x128x128 .f32) (i : Fin 128) (e : Fin 64) :
    within msk q k v d i (hlane h e)
      = if h = h' then ∑ n : Fin 128, (∑ e', q (ix2 i (hlane h e')) * k (ix2 n (hlane h e'))) * d (ix3 0 i n) * v (ix2 n (hlane h e)) else 0 := by
  have he := e.isLt
  have hz : Ideal.ofBits .f32 0#32 = 0 := by simp [Ideal.ofBits, Ideal.ieee]
  have hp : ∀ (h : Fin 4) (e : Fin 64), (hlane h e).val / 64 = h.val := fun h e => by have := e.isLt; show (h.val * 64 + e.val) / 64 = h.val; omega
  unfold within
  simp only [hm, select_ofBool, hz]
  rw [hp]
  by_cases hh : h = h'
  · subst hh
    rw [if_pos rfl, if_pos rfl]
    refine Finset.sum_congr rfl fun n _ => ?_
    rw [head_sum _ h (fun a ha => by rw [if_neg ha, zero_mul])]
    refine congrArg (fun x => x * _ * _) (Finset.sum_congr rfl fun e' _ => ?_)
    rw [hp, if_pos rfl]
  · rw [if_neg hh, if_neg (fun h0 => hh (Fin.ext h0))]

theorem gF_apply (x7 : Vec Ideal S2x256 .f32) (l : Fin 256) : gF x7 (ix2 0 l) = x7 (ix2 0 l) := by
  unfold gF
  pointwise [k0_pay25, lgRow]
theorem gB_apply (x7 : Vec Ideal S2x256 .f32) (l : Fin 256) : gB x7 (ix2 0 l) = x7 (ix2 1 l) := by
  unfold gB
  pointwise [k0_pay26, lgRow]

theorem same_own (h : Fin 4) (d e : Fin 64) : same (F := Ideal) (ix2 (hlane h e) (hlane h d)) = 1 := by
  have hd := d.isLt
  have he := e.isLt
  rw [same_apply, if_pos]
  show (h.val * 64 + e.val) / 64 = (h.val * 64 + d.val) / 64
  omega

theorem same_other (h : Fin 4) (d : Fin 64) (a : Fin 256) (ha : a.val / 64 ≠ h.val) : same (F := Ideal) (ix2 a (hlane h d)) = 0 := by
  have hd := d.isLt
  rw [same_apply, if_neg]
  intro h0
  refine ha (h0.trans ?_)
  show (h.val * 64 + d.val) / 64 = h.val
  omega

section Row
variable (x0 : Vec Ideal S2x4 .f32) (x1 x2 x3 x4 x5 x6 : Vec Ideal S4096x256 .f32) (x7 : Vec Ideal S2x256 .f32) (x8 : Vec Ideal S1x256 .f32)
  (al be : Fin 4 → ℝ) (Q K V : Fin 4 → Fin 64 → ℕ → ℝ)

/-- The block's inputs as real numbers. -/
structure Reals : Prop where
  fst : ∀ h, x0 (ix2 0 h) = (al h : EReal)
  snd : ∀ h, x0 (ix2 1 h) = (be h : EReal)
  lg0 : ∀ h e, x7 (ix2 0 (hlane h e)) = x0 (ix2 0 h)
  lg1 : ∀ h e, x7 (ix2 1 (hlane h e)) = x0 (ix2 1 h)
  q : ∀ h e j (i : Fin 128), turnedQ x1 x5 x6 j (ix2 i (hlane h e)) = (Q h e (128 * j + i.val) : EReal)
  k : ∀ h e j (i : Fin 128), turnedK x2 x5 x6 j (ix2 i (hlane h e)) = (K h e (128 * j + i.val) : EReal)
  v : ∀ h e j (i : Fin 128), rows x3 j (ix2 i (hlane h e)) = (V h e (128 * j + i.val) : EReal)

variable {x0 x1 x2 x3 x5 x6 x7 al be Q K V}

/-- What the positions before a chunk give. -/
theorem part_apply (hr : Reals x0 x1 x2 x3 x5 x6 x7 al be Q K V) (c : ℕ) (i : Fin 128) (h : Fin 4) (d : Fin 64) :
    part x1 x2 x3 x5 x6 x7 c (ix2 i (hlane h d))
      = ((∑ e : Fin 64, Q h e (128 * c + i.val) * Real.exp (al h * ((i.val : ℝ) + 1)) * RetSums.before (al h) (fun p => K h e p * V h d p) c : ℝ) : EReal) := by
  show k0_pay42 (same (F := Ideal)) (gF x7) k0_pay27 (turnedQ x1 x5 x6 c) (fwd (gF x7) k0_pay27 (k0_pay28 (gF x7)) (turnedK x2 x5 x6) x3 c) (ix2 i (hlane h d)) = _
  rw [pay42_apply, head_sum _ h (fun a ha => by rw [same_other h d a ha, mul_zero, mul_zero]), coe_sum]
  refine Finset.sum_congr rfl fun e _ => ?_
  rw [same_own, mul_one, fwd_apply (gF x7) (al h) (hlane h e) (hlane h d) (turnedK x2 x5 x6) x3 (K h e) (V h d)
      (by rw [gF_apply, hr.lg0, hr.fst]) (by rw [gF_apply, hr.lg0, hr.fst]) (hr.k h e) (hr.v h d) c,
    hr.q, gF_apply, hr.lg0, hr.fst, ofBits_1, ← EReal.coe_add, ← EReal.coe_mul, Ideal.exp_coe, ← EReal.coe_mul, ← EReal.coe_mul]

/-- What the positions after a chunk add. -/
theorem later_apply (hr : Reals x0 x1 x2 x3 x5 x6 x7 al be Q K V) (c : ℕ) (i : Fin 128) (h : Fin 4) (d : Fin 64) (o : Vec Ideal S128x256 .f32) :
    k0_pay3 (same (F := Ideal)) (gB x7) k0_pay27 (turnedQ x1 x5 x6 c) (bwd (gB x7) k0_pay27 (k0_pay29 (gB x7)) (turnedK x2 x5 x6) x3 (31 - c)) o (ix2 i (hlane h d))
      = o (ix2 i (hlane h d))
        + ((∑ e : Fin 64, Q h e (128 * c + i.val) * Real.exp (be h * (128 - (i.val : ℝ))) * RetSums.after (be h) (fun p => K h e p * V h d p) (31 - c) : ℝ) : EReal) := by
  rw [pay3_apply, head_sum _ h (fun a ha => by rw [same_other h d a ha, mul_zero, mul_zero]), coe_sum]
  refine congrArg (_ + ·) (Finset.sum_congr rfl fun e _ => ?_)
  rw [same_own, mul_one, bwd_apply (gB x7) (be h) (hlane h e) (hlane h d) (turnedK x2 x5 x6) x3 (K h e) (V h d)
      (by rw [gB_apply, hr.lg1, hr.snd]) (by rw [gB_apply, hr.lg1, hr.snd]) (hr.k h e) (hr.v h d) (31 - c) (by omega),
    hr.q, gB_apply, hr.lg1, hr.snd, ofBits_128, ← EReal.coe_sub, ← EReal.coe_mul, Ideal.exp_coe, ← EReal.coe_mul, ← EReal.coe_mul]

/-- What the chunk's own positions add for a head. -/
theorem within_real (hr : Reals x0 x1 x2 x3 x5 x6 x7 al be Q K V) (c : ℕ) (i : Fin 128) (h : Fin 4) (d : Fin 64) :
    ∑ n : Fin 128, (∑ e, turnedQ x1 x5 x6 c (ix2 i (hlane h e)) * turnedK x2 x5 x6 c (ix2 n (hlane h e))) * decays x0 h (ix3 0 i n) * rows x3 c (ix2 n (hlane h d))
      = ((∑ n : Fin 128, (∑ e, Q h e (128 * c + i.val) * K h e (128 * c + n.val)) * RetSums.fade (al h) (be h) i.val n.val * V h d (128 * c + n.val) : ℝ) : EReal) := by
  rw [coe_sum]
  refine Finset.sum_congr rfl fun n _ => ?_
  rw [hr.v, decays_apply, hr.fst, hr.snd, decay_real, EReal.coe_mul, EReal.coe_mul, coe_sum]
  refine congrArg (fun x : EReal => x * (RetSums.fade (al h) (be h) i.val n.val : EReal) * (V h d (128 * c + n.val) : EReal)) (Finset.sum_congr rfl fun e _ => ?_)
  rw [hr.q, hr.k, EReal.coe_mul]

/-- A chunk before its norm. -/
def whole (x0 : Vec Ideal S2x4 .f32) (x1 x2 x3 x5 x6 : Vec Ideal S4096x256 .f32) (x7 : Vec Ideal S2x256 .f32) (c : ℕ) (i : Fin 128) (l : Fin 256) : EReal :=
  total head2 head3 (turnedQ x1 x5 x6 c) (turnedK x2 x5 x6 c) (rows x3 c)
    (k0_pay6 head0 head1 (turnedQ x1 x5 x6 c) (k0_pay1 (rows x3 c)) (k0_pay2 (turnedK x2 x5 x6 c))
      (k0_pay3 (same (F := Ideal)) (gB x7) k0_pay27 (turnedQ x1 x5 x6 c) (bwd (gB x7) k0_pay27 (k0_pay29 (gB x7)) (turnedK x2 x5 x6) x3 (31 - c)) (part x1 x2 x3 x5 x6 x7 c))
      (k0_pay5 head0 (turnedQ x1 x5 x6 c)) (decays x0 0) (decays x0 1))
    (decays x0 2) (decays x0 3) i l

/-- Before its norm a chunk's row is the sum over all positions. -/
theorem whole_apply (hr : Reals x0 x1 x2 x3 x5 x6 x7 al be Q K V) (c : ℕ) (hc : c < 32) (i : Fin 128) (h : Fin 4) (d : Fin 64) :
    whole x0 x1 x2 x3 x5 x6 x7 c i (hlane h d)
      = ((∑ j : Fin 4096, V h d j.val * ((∑ e, Q h e (128 * c + i.val) * K h e j.val) * RetSums.fade (al h) (be h) (128 * c + i.val) j.val) : ℝ) : EReal) := by
  unfold whole total
  rw [pay6_apply, later_apply hr, part_apply hr, within_apply h 0 head0 head0_apply, within_apply h 1 head1 head1_apply,
    within_apply h 2 head2 head2_apply, within_apply h 3 head3 head3_apply,
    ← RetSums.parts (al h) (be h) (fun e => Q h e (128 * c + i.val)) (fun j e => K h e j) (fun j => V h d j) c i.val hc i.isLt, EReal.coe_add, EReal.coe_add,
    ← within_real hr c i h d]
  match h with
  | 0 => simp
  | 1 => simp
  | 2 => simp
  | 3 => simp

theorem grp_hlane (h : Fin 4) (d e : Fin 64) : grp (n := 256) rfl (hlane h d) e = hlane h e := by
  have hd := d.isLt
  refine Fin.ext ?_
  show (h.val * 64 + d.val) / 64 * 64 + e.val = h.val * 64 + e.val
  omega
theorem pos_hlane (h : Fin 4) (d : Fin 64) : pos (hlane h d) = d := by
  have hd := d.isLt
  refine Fin.ext ?_
  show (h.val * 64 + d.val) % 64 = d.val
  omega
theorem lane_hlane (l : Fin 256) : ∃ h d, l = hlane h d := by
  have hl := l.isLt
  refine ⟨⟨l.val / 64, by omega⟩, ⟨l.val % 64, by omega⟩, Fin.ext ?_⟩
  show l.val = l.val / 64 * 64 + l.val % 64
  omega

/-- A chunk's row. -/
theorem chunk_apply (hr : Reals x0 x1 x2 x3 x5 x6 x7 al be Q K V) (c : ℕ) (hc : c < 32) (i : Fin 128) (h : Fin 4) (d : Fin 64) :
    chunk x0 x1 x2 x3 x4 x5 x6 x7 x8 c (ix2 i (hlane h d))
      = gate (rows x4 c (ix2 i (hlane h d)))
        * headNorm (fun e => ((∑ j : Fin 4096, V h e j.val * ((∑ e', Q h e' (128 * c + i.val) * K h e' j.val) * RetSums.fade (al h) (be h) (128 * c + i.val) j.val) : ℝ) : EReal))
            (fun e => x8 (ix2 0 (hlane h e))) d := by
  unfold chunk finish
  rw [pay45_apply, pay9_apply]
  refine congrArg (fun y : EReal => gate (rows x4 c (ix2 i (hlane h d))) * y) ?_
  change whole x0 x1 x2 x3 x5 x6 x7 c i (hlane h d) * Ideal.rsqrt (((∑ a, whole x0 x1 x2 x3 x5 x6 x7 c i a * whole x0 x1 x2 x3 x5 x6 x7 c i a * (same (F := Ideal) (ix2 a (hlane h d)) : EReal))
          + ∑ a, (whole x0 x1 x2 x3 x5 x6 x7 c i a * whole x0 x1 x2 x3 x5 x6 x7 c i a - whole x0 x1 x2 x3 x5 x6 x7 c i a * whole x0 x1 x2 x3 x5 x6 x7 c i a) * (same (F := Ideal) (ix2 a (hlane h d)) : EReal))
            * Ideal.ofBits .f32 1015021568#32 + Ideal.ofBits .f32 897988541#32) * x8 (ix2 0 (hlane h d)) = _
  simp only [same_apply]
  have hn := norm_of_sums (n := 256) (a := 4) rfl rfl (fun l => whole x0 x1 x2 x3 x5 x6 x7 c i l) (fun l => x8 (ix2 0 l))
    (fun l => by obtain ⟨h', d', rfl⟩ := lane_hlane l; exact ⟨_, whole_apply hr c hc i h' d'⟩) (hlane h d)
  refine hn.trans ?_
  simp only [grp_hlane, pos_hlane, whole_apply hr c hc i]

end Row

end Cert.RetBlock

end
-- ==== Proof.RetArray.lean ====
/-
  The retention's array: what the host prepares, the blocks' places, the reference's term at every token and lane, and the run.
-/
module

public import proofs.«01_k».proof.Pre_finite5
public import proofs.«01_k».proof.Defs
public import proofs.«01_k».proof.Proof.Attention
public import proofs.«01_k».proof.Proof.RetFrame
public import proofs.«01_k».proof.Proof.RetBlock

@[expose] public section

set_option maxRecDepth 16384

noncomputable section

namespace Cert.RetArray

open Cert.Kernel5Ideal Cert.Kernel5Ideal.Gen Cert.RetLoops Cert.RetBody Cert.RetFrame Cert.RetPay Cert.RetBlock Cert.Heads Cert.Lanes
open Cert.RetRef (half spun gate hlane mixed)
open Cert.Softmax (coe_sum)
open Idealize.ShloMosaic Idealize.ShloMosaic.TcCoe Idealize.SL.Sem
open Idealize.ShloMosaic.Pipeline (Dat)

/-! ## The host's arrays -/

section Stretch
variable (W : Valuation τ sig (Elt Ideal))

/-- The cosines, one copy for each head, -/
theorem cos_apply (p : Fin 4096) (l : Fin 256) :
    StableHlo.after hostOps0 W (Proc.devRef .tc main_v2) (ix2 p l) = W (Proc.devRef .tc main_arg4) (ix2 p ⟨l.val % 64, by omega⟩) := by
  unfold hostOps0
  after_results
  generalize W (Proc.devRef .tc main_arg4) = x
  pointwise
/-- the sines, -/
theorem sin_apply (p : Fin 4096) (l : Fin 256) :
    StableHlo.after hostOps0 W (Proc.devRef .tc main_v5) (ix2 p l) = W (Proc.devRef .tc main_arg5) (ix2 p ⟨l.val % 64, by omega⟩) := by
  unfold hostOps0
  after_results
  generalize W (Proc.devRef .tc main_arg5) = x
  pointwise
/-- the norm's weights -/
theorem gw_apply (l : Fin 256) : StableHlo.after hostOps0 W (Proc.devRef .tc main_v6) (ix2 0 l) = W (Proc.devRef .tc main_arg7) (ix1 l) := by
  unfold hostOps0
  after_results
  generalize W (Proc.devRef .tc main_arg7) = x
  pointwise
/-- and the log decays, one copy for each lane of the head. -/
theorem lg_apply (r : Fin 2) (l : Fin 256) :
    StableHlo.after hostOps0 W (Proc.devRef .tc main_v8) (ix2 r l) = W (Proc.devRef .tc main_arg6) (ix2 r ⟨l.val / 64, by omega⟩) := by
  unfold hostOps0
  after_results
  generalize W (Proc.devRef .tc main_arg6) = x
  have hl := l.isLt
  pointwise

end Stretch

/-! ## The blocks' places -/

variable (m : (ℓ : Loc nD τ sig) → Buf (Elt Ideal) ℓ) (ρ : Dev nD → PrngReg) (c : Dev nD)

/-- The grid's points are the sequences. -/
abbrev sq (t : Fin cfg0.N) : Fin 8 := ⟨t.val, t.isLt⟩

theorem at0 : ∀ t : Fin cfg0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) :=
  (by decide +kernel : ∀ t : Fin grid0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0))

theorem in0 (t : Fin cfg0.N) (r : Fin 2) (h : Fin 4) : iblk m c 0 t (ix2 r h) = m ((c : Thread nD τ).loc main_arg6) (ix2 r h) := by
  show V m c main_arg6 ((win0_0.rect t).emb (ix2 r h)) = _
  have e : (win0_0.rect t).emb (ix2 r h) = (ix2 r h : S2x4.Idx) := by
    refine Shape.idx_ext₂ ?_ ?_
    · rw [win0_0.rect_emb_val, (at0 t).1.1]; simp
    · rw [win0_0.rect_emb_val, (at0 t).1.2]; simp
  rw [e]
  exact congrFun (V_main_arg6 m c) _
theorem in1 (t : Fin cfg0.N) (r : Fin 4096) (l : Fin 256) : iblk m c 1 t (ix2 r l) = m ((c : Thread nD τ).loc main_arg0) (ix2 (tok (sq t) r) l) := by
  show V m c main_arg0 ((win0_1.rect t).emb (ix2 r l)) = _
  have e : (win0_1.rect t).emb (ix2 r l) = (ix2 (tok (sq t) r) l : S32768x256.Idx) := by
    refine Shape.idx_ext₂ ?_ ?_
    · rw [win0_1.rect_emb_val, (at0 t).2.1.1]; rfl
    · rw [win0_1.rect_emb_val, (at0 t).2.1.2]; simp
  rw [e]
  exact congrFun (V_main_arg0 m c) _
theorem in2 (t : Fin cfg0.N) (r : Fin 4096) (l : Fin 256) : iblk m c 2 t (ix2 r l) = m ((c : Thread nD τ).loc main_arg1) (ix2 (tok (sq t) r) l) := by
  show V m c main_arg1 ((win0_2.rect t).emb (ix2 r l)) = _
  have e : (win0_2.rect t).emb (ix2 r l) = (ix2 (tok (sq t) r) l : S32768x256.Idx) := by
    refine Shape.idx_ext₂ ?_ ?_
    · rw [win0_2.rect_emb_val, (at0 t).2.2.1.1]; rfl
    · rw [win0_2.rect_emb_val, (at0 t).2.2.1.2]; simp
  rw [e]
  exact congrFun (V_main_arg1 m c) _
theorem in3 (t : Fin cfg0.N) (r : Fin 4096) (l : Fin 256) : iblk m c 3 t (ix2 r l) = m ((c : Thread nD τ).loc main_arg2) (ix2 (tok (sq t) r) l) := by
  show V m c main_arg2 ((win0_3.rect t).emb (ix2 r l)) = _
  have e : (win0_3.rect t).emb (ix2 r l) = (ix2 (tok (sq t) r) l : S32768x256.Idx) := by
    refine Shape.idx_ext₂ ?_ ?_
    · rw [win0_3.rect_emb_val, (at0 t).2.2.2.1.1]; rfl
    · rw [win0_3.rect_emb_val, (at0 t).2.2.2.1.2]; simp
  rw [e]
  exact congrFun (V_main_arg2 m c) _
theorem in4 (t : Fin cfg0.N) (r : Fin 4096) (l : Fin 256) : iblk m c 4 t (ix2 r l) = m ((c : Thread nD τ).loc main_arg3) (ix2 (tok (sq t) r) l) := by
  show V m c main_arg3 ((win0_4.rect t).emb (ix2 r l)) = _
  have e : (win0_4.rect t).emb (ix2 r l) = (ix2 (tok (sq t) r) l : S32768x256.Idx) := by
    refine Shape.idx_ext₂ ?_ ?_
    · rw [win0_4.rect_emb_val, (at0 t).2.2.2.2.1.1]; rfl
    · rw [win0_4.rect_emb_val, (at0 t).2.2.2.2.1.2]; simp
  rw [e]
  exact congrFun (V_main_arg3 m c) _
theorem in5 (t : Fin cfg0.N) (r : Fin 4096) (l : Fin 256) : iblk m c 5 t (ix2 r l) = m ((c : Thread nD τ).loc main_arg4) (ix2 r ⟨l.val % 64, by omega⟩) := by
  show V m c main_v2 ((win0_5.rect t).emb (ix2 r l)) = _
  have e : (win0_5.rect t).emb (ix2 r l) = (ix2 r l : S4096x256.Idx) := by
    refine Shape.idx_ext₂ ?_ ?_
    · rw [win0_5.rect_emb_val, (at0 t).2.2.2.2.2.1.1]; simp
    · rw [win0_5.rect_emb_val, (at0 t).2.2.2.2.2.1.2]; simp
  rw [e]
  exact cos_apply (fun b => m (c, b)) r l
theorem in6 (t : Fin cfg0.N) (r : Fin 4096) (l : Fin 256) : iblk m c 6 t (ix2 r l) = m ((c : Thread nD τ).loc main_arg5) (ix2 r ⟨l.val % 64, by omega⟩) := by
  show V m c main_v5 ((win0_6.rect t).emb (ix2 r l)) = _
  have e : (win0_6.rect t).emb (ix2 r l) = (ix2 r l : S4096x256.Idx) := by
    refine Shape.idx_ext₂ ?_ ?_
    · rw [win0_6.rect_emb_val, (at0 t).2.2.2.2.2.2.1.1]; simp
    · rw [win0_6.rect_emb_val, (at0 t).2.2.2.2.2.2.1.2]; simp
  rw [e]
  exact sin_apply (fun b => m (c, b)) r l
theorem in7 (t : Fin cfg0.N) (r : Fin 2) (l : Fin 256) : iblk m c 7 t (ix2 r l) = m ((c : Thread nD τ).loc main_arg6) (ix2 r ⟨l.val / 64, by omega⟩) := by
  show V m c main_v8 ((win0_7.rect t).emb (ix2 r l)) = _
  have e : (win0_7.rect t).emb (ix2 r l) = (ix2 r l : S2x256.Idx) := by
    refine Shape.idx_ext₂ ?_ ?_
    · rw [win0_7.rect_emb_val, (at0 t).2.2.2.2.2.2.2.1.1]; simp
    · rw [win0_7.rect_emb_val, (at0 t).2.2.2.2.2.2.2.1.2]; simp
  rw [e]
  exact lg_apply (fun b => m (c, b)) r l
theorem in8 (t : Fin cfg0.N) (l : Fin 256) : iblk m c 8 t (ix2 0 l) = m ((c : Thread nD τ).loc main_arg7) (ix1 l) := by
  show V m c main_v6 ((win0_8.rect t).emb (ix2 0 l)) = _
  have e : (win0_8.rect t).emb (ix2 0 l) = (ix2 0 l : S1x256.Idx) := by
    refine Shape.idx_ext₂ ?_ ?_
    · rw [win0_8.rect_emb_val, (at0 t).2.2.2.2.2.2.2.2.1.1]; simp
    · rw [win0_8.rect_emb_val, (at0 t).2.2.2.2.2.2.2.2.1.2]; simp
  rw [e]
  exact gw_apply (fun b => m (c, b)) l

/-- Where the result's block sits. -/
theorem emb9 (t : Fin cfg0.N) (r : Fin 4096) (l : Fin 256) : ((cfg0.win 9).blk t).view.emb (ix2 r l) = (ix2 (tok (sq t) r) l : S32768x256.Idx) := by
  show (win0_9.rect t).emb (ix2 r l) = _
  refine Shape.idx_ext₂ ?_ ?_
  · rw [win0_9.rect_emb_val, (at0 t).2.2.2.2.2.2.2.2.2.1]; rfl
  · rw [win0_9.rect_emb_val, (at0 t).2.2.2.2.2.2.2.2.2.2]; simp

/-- The blocks tile the array. -/
theorem cover9 (i : S32768x256.Idx) : ∃ t : Fin cfg0.N, (cfg0.win 9).flush t = true ∧ i ∈ ((cfg0.win 9).blk t).view.set := by
  obtain ⟨a, b, rfl⟩ : ∃ (a : Fin 32768) (b : Fin 256), i = ix2 a b := ⟨i 0, i 1, eq_ix2 i⟩
  have ha := a.isLt
  have hN : cfg0.N = 8 := N_0
  have hq : a.val / 4096 < cfg0.N := by rw [hN]; omega
  refine ⟨⟨a.val / 4096, hq⟩, flush0_9 _, ?_⟩
  have h := ((cfg0.win 9).blk ⟨a.val / 4096, hq⟩).view.emb_mem_set (ix2 (⟨a.val % 4096, by omega⟩ : Fin 4096) b)
  rw [emb9] at h
  have e : tok (sq ⟨a.val / 4096, hq⟩) ⟨a.val % 4096, by omega⟩ = a := Fin.ext (by show a.val / 4096 * 4096 + a.val % 4096 = a.val; omega)
  rwa [e] at h

/-! ## The equation -/

/-- A turned row of real numbers is real. -/
theorem spun_real {x cs sn : Fin 64 → EReal} (hx : ∀ e, IsReal (x e)) (hc : ∀ e, IsReal (cs e)) (hs : ∀ e, IsReal (sn e)) (d : Fin 64) :
    IsReal (spun x cs sn d) := by
  refine ((hx d).mul (hc d)).add (IsReal.mul ?_ (hs d))
  unfold half
  split_ifs
  · exact (hx _).neg
  · exact hx _

/-- A block's row: the gate times the norm of the reference's sum. -/
theorem block_eq (h0 : ∀ i, IsReal (m ((c : Thread nD τ).loc main_arg0) i)) (h1 : ∀ i, IsReal (m ((c : Thread nD τ).loc main_arg1) i))
    (h2 : ∀ i, IsReal (m ((c : Thread nD τ).loc main_arg2) i)) (h4 : ∀ i, IsReal (m ((c : Thread nD τ).loc main_arg4) i))
    (h5 : ∀ i, IsReal (m ((c : Thread nD τ).loc main_arg5) i)) (h6 : ∀ i, IsReal (m ((c : Thread nD τ).loc main_arg6) i))
    (t : Fin cfg0.N) (s : Fin 4096) (h : Fin 4) (d : Fin 64) :
    outAt m c t (ix2 s (hlane h d))
      = gate (m ((c : Thread nD τ).loc main_arg3) (ix2 (tok (sq t) s) (hlane h d)))
        * headNorm (fun e => mixed (m ((c : Thread nD τ).loc main_arg6) (ix2 0 h)) (m ((c : Thread nD τ).loc main_arg6) (ix2 1 h))
            (spun (fun e => m ((c : Thread nD τ).loc main_arg0) (ix2 (tok (sq t) s) (hlane h e))) (fun e => m ((c : Thread nD τ).loc main_arg4) (ix2 s e))
              (fun e => m ((c : Thread nD τ).loc main_arg5) (ix2 s e)))
            (fun j e => spun (fun e => m ((c : Thread nD τ).loc main_arg1) (ix2 (tok (sq t) j) (hlane h e))) (fun e => m ((c : Thread nD τ).loc main_arg4) (ix2 j e))
              (fun e => m ((c : Thread nD τ).loc main_arg5) (ix2 j e)) e * Ideal.ofBits .f32 0x3E000000#32)
            (fun j e => m ((c : Thread nD τ).loc main_arg2) (ix2 (tok (sq t) j) (hlane h e))) s e)
          (fun e => m ((c : Thread nD τ).loc main_arg7) (ix1 (hlane h e))) d := by
  have hs := s.isLt
  choose al hal using fun h : Fin 4 => h6 (ix2 0 h)
  choose be hbe using fun h : Fin 4 => h6 (ix2 1 h)
  choose Q hQ using fun (h : Fin 4) (e : Fin 64) (n : ℕ) => spun_real
    (x := fun e => m ((c : Thread nD τ).loc main_arg0) (ix2 (tok (sq t) ⟨n % 4096, Nat.mod_lt _ (by omega)⟩) (hlane h e)))
    (cs := fun e => m ((c : Thread nD τ).loc main_arg4) (ix2 ⟨n % 4096, Nat.mod_lt _ (by omega)⟩ e))
    (sn := fun e => m ((c : Thread nD τ).loc main_arg5) (ix2 ⟨n % 4096, Nat.mod_lt _ (by omega)⟩ e)) (fun _ => h0 _) (fun _ => h4 _) (fun _ => h5 _) e
  choose K hK using fun (h : Fin 4) (e : Fin 64) (n : ℕ) => (spun_real
    (x := fun e => m ((c : Thread nD τ).loc main_arg1) (ix2 (tok (sq t) ⟨n % 4096, Nat.mod_lt _ (by omega)⟩) (hlane h e)))
    (cs := fun e => m ((c : Thread nD τ).loc main_arg4) (ix2 ⟨n % 4096, Nat.mod_lt _ (by omega)⟩ e))
    (sn := fun e => m ((c : Thread nD τ).loc main_arg5) (ix2 ⟨n % 4096, Nat.mod_lt _ (by omega)⟩ e)) (fun _ => h1 _) (fun _ => h4 _) (fun _ => h5 _) e).mul
      (⟨1 / 8, ofBits_8th⟩ : IsReal (Ideal.ofBits .f32 0x3E000000#32))
  choose Vl hV using fun (h : Fin 4) (e : Fin 64) (n : ℕ) => h2 (ix2 (tok (sq t) ⟨n % 4096, Nat.mod_lt _ (by omega)⟩) (hlane h e))
  have hdiv : ∀ (h : Fin 4) (e : Fin 64), (⟨(hlane h e).val / 64, by omega⟩ : Fin 4) = h := fun h e => Fin.ext (by
    have := e.isLt; show (h.val * 64 + e.val) / 64 = h.val; omega)
  have hmod : ∀ (h : Fin 4) (e : Fin 64), (⟨(hlane h e).val % 64, by omega⟩ : Fin 64) = e := fun h e => Fin.ext (by
    have := e.isLt; show (h.val * 64 + e.val) % 64 = e.val; omega)
  have hr : Reals (iblk m c 0 t) (iblk m c 1 t) (iblk m c 2 t) (iblk m c 3 t) (iblk m c 5 t) (iblk m c 6 t) (iblk m c 7 t) al be Q K Vl :=
    { fst := fun h => by rw [in0]; exact hal h
      snd := fun h => by rw [in0]; exact hbe h
      lg0 := fun h e => by rw [in7, in0, hdiv]
      lg1 := fun h e => by rw [in7, in0, hdiv]
      q := fun h e j i => by
        unfold turnedQ
        rw [pay39_apply]
        simp only [grp_hlane, pos_hlane, rows]
        refine Eq.trans ?_ (hQ h e (128 * j + i.val))
        congr 1 <;> funext e'
        · exact in1 m c t _ _
        · exact (in5 m c t _ _).trans (congrArg (fun a : Fin 64 => m ((c : Thread nD τ).loc main_arg4) (ix2 ⟨(128 * j + i.val) % 4096, Nat.mod_lt _ (by omega)⟩ a)) (hmod h e'))
        · exact (in6 m c t _ _).trans (congrArg (fun a : Fin 64 => m ((c : Thread nD τ).loc main_arg5) (ix2 ⟨(128 * j + i.val) % 4096, Nat.mod_lt _ (by omega)⟩ a)) (hmod h e'))
      k := fun h e j i => by
        unfold turnedK
        rw [pay40_apply]
        simp only [grp_hlane, pos_hlane, rows]
        refine Eq.trans ?_ (hK h e (128 * j + i.val))
        refine congrArg (fun y : EReal => y * Ideal.ofBits .f32 0x3E000000#32) ?_
        congr 1 <;> funext e'
        · exact in2 m c t _ _
        · exact (in5 m c t _ _).trans (congrArg (fun a : Fin 64 => m ((c : Thread nD τ).loc main_arg4) (ix2 ⟨(128 * j + i.val) % 4096, Nat.mod_lt _ (by omega)⟩ a)) (hmod h e'))
        · exact (in6 m c t _ _).trans (congrArg (fun a : Fin 64 => m ((c : Thread nD τ).loc main_arg5) (ix2 ⟨(128 * j + i.val) % 4096, Nat.mod_lt _ (by omega)⟩ a)) (hmod h e'))
      v := fun h e j i => (in3 m c t _ _).trans (hV h e (128 * j + i.val)) }
  show chunk (iblk m c 0 t) (iblk m c 1 t) (iblk m c 2 t) (iblk m c 3 t) (iblk m c 4 t) (iblk m c 5 t) (iblk m c 6 t) (iblk m c 7 t) (iblk m c 8 t)
    (s.val / 128) (ix2 ⟨s.val % 128, Nat.mod_lt _ (by omega)⟩ (hlane h d)) = _
  rw [chunk_apply _ _ hr (s.val / 128) (by omega) ⟨s.val % 128, Nat.mod_lt _ (by omega)⟩ h d]
  have hsum : 128 * (s.val / 128) + s.val % 128 = s.val := by omega
  have hpos : ∀ j : Fin 4096, (⟨j.val % 4096, Nat.mod_lt _ (by omega)⟩ : Fin 4096) = j := fun j => Fin.ext (Nat.mod_eq_of_lt j.isLt)
  have hrow : rows (iblk m c 4 t) (s.val / 128) (ix2 ⟨s.val % 128, Nat.mod_lt _ (by omega)⟩ (hlane h d))
      = m ((c : Thread nD τ).loc main_arg3) (ix2 (tok (sq t) s) (hlane h d)) := by
    refine (in4 m c t _ _).trans (congrArg (fun p => m ((c : Thread nD τ).loc main_arg3) (ix2 (tok (sq t) p) (hlane h d))) (Fin.ext ?_))
    show (128 * (s.val / 128) + s.val % 128) % 4096 = s.val
    omega
  rw [hrow]
  refine congrArg (fun y : EReal => gate (m ((c : Thread nD τ).loc main_arg3) (ix2 (tok (sq t) s) (hlane h d))) * y) ?_
  refine congrArg₂ (fun x w => headNorm x w d) (funext fun e => ?_) (funext fun e => in8 m c t _)
  simp only [hsum]
  unfold mixed
  rw [coe_sum]
  refine Finset.sum_congr rfl fun j _ => ?_
  have q' := fun e' => hQ h e' s.val
  have k' := fun e' => hK h e' j.val
  have v' := hV h e j.val
  simp only [hpos] at q' k' v'
  beta_reduce
  rw [hal, hbe, fade_real, v', EReal.coe_mul, EReal.coe_mul, coe_sum]
  refine congrArg (fun y : EReal => (Vl h e j.val : EReal) * (y * (RetSums.fade (al h) (be h) s.val j.val : EReal))) (Finset.sum_congr rfl fun e' _ => ?_)
  rw [q', k', EReal.coe_mul]

/-- The array after the run is the reference's, where the entries the sums are made of are real numbers. -/
theorem final (h0 : ∀ i, IsReal (m ((c : Thread nD τ).loc main_arg0) i)) (h1 : ∀ i, IsReal (m ((c : Thread nD τ).loc main_arg1) i))
    (h2 : ∀ i, IsReal (m ((c : Thread nD τ).loc main_arg2) i)) (h4 : ∀ i, IsReal (m ((c : Thread nD τ).loc main_arg4) i))
    (h5 : ∀ i, IsReal (m ((c : Thread nD τ).loc main_arg5) i)) (h6 : ∀ i, IsReal (m ((c : Thread nD τ).loc main_arg6) i)) :
    (dats m 0 c).arrAt 9 cfg0.N
      = Cert.Reference5Ideal.Read.val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  refine (dats m 0 c).arrAt_forall_of_cover 9 (fun i v => v = Cert.Reference5Ideal.Read.val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) i) ?_ cover9 i
  intro t _ y
  obtain ⟨r, l, rfl⟩ : ∃ (r : Fin 4096) (l : Fin 256), y = ix2 r l := ⟨y 0, y 1, eq_ix2 y⟩
  obtain ⟨h, d, rfl⟩ := lane_hlane l
  rw [emb9]
  refine Eq.trans ?_ (RetRef.result _ _ _ _ _ _ _ _ _ _ _ _).symm
  simp only [RetRef.mixes]
  show (dats m 0 c).after 9 t (ix2 r _) = _
  rw [after0_9]
  exact block_eq m c h0 h1 h2 h4 h5 h6 t r h d

/-! ## The precondition and the run -/

/-- The side conditions of the printed precondition. -/
instance finite5_facts : Cert.Pre_finite5.Facts where
  bcast_S_S32768x256 := by decide
  bcast_S_S4096x64 := by decide
  bcast_S_S2x4 := by decide

/-- The run under the precondition: the result is the reference's term. -/
theorem run (hpre : Cert.Pre_Kernel5Ideal_finite5 m) : θ_run defs (onTc (τ := τ) (main (F := Ideal))) ⟨m, fun _ => 0, ρ⟩ (fun r => ∀ c : Dev nD,
      r.2.mem ((c.tc : Thread nD τ).loc main_v9)
        = Cert.Reference5Ideal.Read.val_main_v78 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.2 c).1 9).trans (final m c
      (fun i => Cert.Attention.real_of_test (congrFun (hpre c).1 i)) (fun i => Cert.Attention.real_of_test (congrFun (hpre c).2.1 i))
      (fun i => Cert.Attention.real_of_test (congrFun (hpre c).2.2.1 i)) (fun i => Cert.Attention.real_of_test (congrFun (hpre c).2.2.2.1 i))
      (fun i => Cert.Attention.real_of_test (congrFun (hpre c).2.2.2.2.1 i)) (fun i => Cert.Attention.real_of_test (congrFun (hpre c).2.2.2.2.2 i))), h.1 c⟩)
    (θ_run_and (unchanged m ρ) (run_main m ρ))

end Cert.RetArray

end
-- ==== Proof.InProj.lean ====
/-
  The input projection: the nine arrays the kernel leaves, element by element.  Every row block of the activations is
  normalised and multiplied by nine slices of the weight's columns; the reference multiplies the normalised rows by the
  whole weight and slices the product.
-/
module

public import proofs.«01_k».proof.Proof.Rows
public import proofs.«01_k».proof.Proof.Gen.Kernel2Ideal.Value
public import proofs.«01_k».proof.Proof.Gen.Reference2Ideal.Read

@[expose] public section

set_option maxRecDepth 16384

noncomputable section

namespace Cert.InProj

open Cert.Kernel2Ideal Cert.Kernel2Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The grid has one axis, whose points are the row blocks. -/
theorem coord (t : Fin cfg0.N) : t.val < 64 := t.isLt

/-- Row `r` of block `t` is row `512 t + r` of the array. -/
abbrev row (t : Fin cfg0.N) (r : Fin 512) : Fin 32768 := ⟨t.val * 512 + r.val, by have := coord t; omega⟩

/-- A row is some row of some block. -/
theorem exists_row (a : Fin 32768) : ∃ (t : Fin cfg0.N) (r : Fin 512), row t r = a := by
  have ha := a.isLt
  have hN : cfg0.N = 64 := N_0
  have hq : a.val / 512 < cfg0.N := by rw [hN]; omega
  have hr : a.val % 512 < 512 := by omega
  exact ⟨⟨a.val / 512, hq⟩, ⟨a.val % 512, hr⟩, Fin.ext (by show a.val / 512 * 512 + a.val % 512 = a.val; omega)⟩

/-- Where the input windows' blocks sit. -/
theorem at_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = 0 ∧ win0_2.index t 1 = 0))

/-- The activations' block at an index. -/
theorem x_apply (c : Dev nD) (t : Fin cfg0.N) (r : Fin 512) (l : Fin 1024) :
    iblk m c 0 t (ix2 r l) = m ((c : Thread nD τ).loc main_arg0) (ix2 (row t r) l) := by
  show V m c main_arg0 ((win0_0.rect t).emb (ix2 r l)) = _
  rw [V_main_arg0]
  refine congrArg _ (Shape.idx_ext₂ ?_ ?_)
  · rw [win0_0.rect_emb_val, (at_in t).1.1]; rfl
  · rw [win0_0.rect_emb_val, (at_in t).1.2]; simp

/-- The norm's weight row, reshaped on the way in. -/
theorem ln_apply (c : Dev nD) (t : Fin cfg0.N) (r : Fin 1) (l : Fin 1024) :
    iblk m c 1 t (ix2 r l) = m ((c : Thread nD τ).loc main_arg1) (ix1 l) := by
  show V m c main_v0 ((win0_1.rect t).emb (ix2 r l)) = _
  have e : V m c main_v0 = shapeCast S1x1024 (m ((c : Thread nD τ).loc main_arg1)) Facts₀.shapeCasts_S1024_S1x1024 := by
    unfold V hostOps0
    after_results
    rfl
  have e2 : (win0_1.rect t).emb (ix2 r l) = (ix2 0 l : S1x1024.Idx) := by
    refine Shape.idx_ext₂ ?_ ?_
    · rw [win0_1.rect_emb_val, (at_in t).2.1.1]; simp
    · rw [win0_1.rect_emb_val, (at_in t).2.1.2]; simp
  rw [e, e2]
  pointwise

/-- The projection's weight: the whole of it at every point. -/
theorem w_apply (c : Dev nD) (t : Fin cfg0.N) (k : Fin 1024) (l : Fin 2304) :
    iblk m c 2 t (ix2 k l) = m ((c : Thread nD τ).loc main_arg2) (ix2 k l) := by
  show V m c main_v1 ((win0_2.rect t).emb (ix2 k l)) = _
  have e : V m c main_v1 = m ((c : Thread nD τ).loc main_arg2) := by
    unfold V hostOps0
    after_results
    rfl
  have e2 : (win0_2.rect t).emb (ix2 k l) = (ix2 k l : S1024x2304.Idx) := by
    refine Shape.idx_ext₂ ?_ ?_
    · rw [win0_2.rect_emb_val, (at_in t).2.2.1]; simp
    · rw [win0_2.rect_emb_val, (at_in t).2.2.2]; simp
  rw [e, e2]

/-- The body loads its block of activations whole, -/
theorem ld_x (x : Vec Ideal S512x1024 .f32) : View.ld x r0_0 = x := View.ld_unit_zero (S := S512x1024) zero2 _ x
/-- and the norm's weight row. -/
theorem ld_w (w : Vec Ideal S1x1024 .f32) : View.ld w r0_1 = w := View.ld_unit_zero (S := S1x1024) zero2 _ w

/-- The normalised block at an index. -/
theorem pay6_apply (x : FVec Ideal S512x1024 .f32) (w : FVec Ideal S1x1024 .f32) (r : Fin 512) (k : Fin 1024) :
    k0_pay6 (F := Ideal) x w (ix2 r k) = normed (fun i => x (ix2 r i)) (fun i => w (ix2 0 i)) k := by
  pointwise [k0_pay6, normed]

/-- The reference's normalised rows. -/
theorem ref_norm (x : FVec Ideal S32768x1024 .f32) (w : FVec Ideal S1024 .f32) (r : Fin 32768) (k : Fin 1024) :
    Cert.Reference2Ideal.Read.val_main_v12 (F := Ideal) x w (ix2 r k) = normed (fun i => x (ix2 r i)) (fun i => w (ix1 i)) k := by
  pointwise [Cert.Reference2Ideal.Read.val_main_v12, Cert.Reference2Ideal.Read.val_main_v11, Cert.Reference2Ideal.Read.val_main_v10,
    Cert.Reference2Ideal.Read.val_main_v9, Cert.Reference2Ideal.Read.val_main_v8, Cert.Reference2Ideal.Read.val_main_v7,
    Cert.Reference2Ideal.Read.val_main_v6, Cert.Reference2Ideal.Read.val_main_v5, Cert.Reference2Ideal.Read.val_main_v4,
    Cert.Reference2Ideal.Read.val_main_v3, Cert.Reference2Ideal.Read.val_main_v2, Cert.Reference2Ideal.Read.val_main_v1,
    Cert.Reference2Ideal.Read.val_main_v0, Cert.Reference2Ideal.Read.val_main_cst, Cert.Reference2Ideal.Read.val_main_cst_0,
    Cert.Reference2Ideal.Read.val_main_cst_1, normed]

/-- The reference's product at an index. -/
theorem ref_dot (x : FVec Ideal S32768x1024 .f32) (w : FVec Ideal S1024 .f32) (wi : FVec Ideal S1024x2304 .f32) (r : Fin 32768) (l : Fin 2304) :
    Cert.Reference2Ideal.Read.val_main_v13 (F := Ideal) x w wi (ix2 r l)
      = dot (normed (fun i => x (ix2 r i)) (fun i => w (ix1 i))) (fun k => wi (ix2 k l)) := by
  rw [Cert.Reference2Ideal.Read.val_main_v13_apply]
  refine Finset.sum_congr rfl fun k _ => ?_
  refine congrArg₂ _ ?_ ?_
  · rw [← ref_norm]
    exact congrArg _ (Shape.idx_ext₂ rfl rfl)
  · exact congrArg _ (Shape.idx_ext₂ rfl rfl)

/-! ## Result 0: columns 0 to 256 -/

theorem at3 : ∀ t : Fin cfg0.N, win0_3.index t 0 = t.val ∧ win0_3.index t 1 = 0 :=
  (by decide +kernel : ∀ t : Fin grid0.N, win0_3.index t 0 = t.val ∧ win0_3.index t 1 = 0)

/-- Where its block sits. -/
theorem emb3 (t : Fin cfg0.N) (r : Fin 512) (l : Fin 256) :
    ((cfg0.win 3).blk t).view.emb (ix2 r l) = ix2 (row t r) l := by
  show (win0_3.rect t).emb (ix2 r l) = _
  refine Shape.idx_ext₂ ?_ ?_
  · rw [win0_3.rect_emb_val, (at3 t).1]; rfl
  · rw [win0_3.rect_emb_val, (at3 t).2]; simp

/-- Its blocks tile the array. -/
theorem cover3 (i : S32768x256.Idx) : ∃ t : Fin cfg0.N, (cfg0.win 3).flush t = true ∧ i ∈ ((cfg0.win 3).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_3 _, ?_⟩
  have h := ((cfg0.win 3).blk t).view.emb_mem_set (ix2 r b)
  rwa [emb3] at h

/-- One element of what the body leaves. -/
theorem out3 (x : FVec Ideal S512x1024 .f32) (w : FVec Ideal S1x1024 .f32) (wi : FVec Ideal S1024x2304 .bf16) (r : Fin 512) (l : Fin 256) :
    out0_3 (F := Ideal) x w wi (ix2 r l)
      = dot (normed (fun i => x (ix2 r i)) (fun i => w (ix2 0 i))) (fun k => wi (ix2 k ⟨0 + l.val, by omega⟩)) := by
  unfold out0_3
  rw [View.canon_unit_zero zero2, ld_x, ld_w]
  pointwise [k0_pay7, pay6_apply, dot]

/-- The array after the run is the reference's slice. -/
theorem final3 (c : Dev nD) : (dats m 0 c).arrAt 3 cfg0.N
    = Cert.Reference2Ideal.Read.val_main_v14 (F := Ideal) (m ((c : Thread nD τ).loc main_arg0)) (m ((c : Thread nD τ).loc main_arg1))
        (m ((c : Thread nD τ).loc main_arg2)) := by
  funext i
  refine (dats m 0 c).arrAt_forall_of_cover 3 (fun i v => v = Cert.Reference2Ideal.Read.val_main_v14 (F := Ideal)
    (m ((c : Thread nD τ).loc main_arg0)) (m ((c : Thread nD τ).loc main_arg1)) (m ((c : Thread nD τ).loc main_arg2)) i) ?_ cover3 i
  intro t _ y
  obtain ⟨r, l, rfl⟩ : ∃ (r : Fin 512) (l : Fin 256), y = ix2 r l := ⟨y 0, y 1, eq_ix2 y⟩
  rw [emb3, Cert.Reference2Ideal.Read.val_main_v14_apply]
  show (dats m 0 c).flushed 3 t (ix2 r l) = _
  rw [Cert.Kernel2Ideal.Value.flushed3]
  refine (out3 _ _ _ r l).trans ?_
  simp only [x_apply, ln_apply, w_apply]
  refine (ref_dot _ _ _ (row t r) ⟨0 + l.val, by omega⟩).symm.trans ?_
  exact congrArg _ (Shape.idx_ext₂ rfl (by simp))

/-! ## Result 1: columns 256 to 512 -/

theorem at4 : ∀ t : Fin cfg0.N, win0_4.index t 0 = t.val ∧ win0_4.index t 1 = 0 :=
  (by decide +kernel : ∀ t : Fin grid0.N, win0_4.index t 0 = t.val ∧ win0_4.index t 1 = 0)

/-- Where its block sits. -/
theorem emb4 (t : Fin cfg0.N) (r : Fin 512) (l : Fin 256) :
    ((cfg0.win 4).blk t).view.emb (ix2 r l) = ix2 (row t r) l := by
  show (win0_4.rect t).emb (ix2 r l) = _
  refine Shape.idx_ext₂ ?_ ?_
  · rw [win0_4.rect_emb_val, (at4 t).1]; rfl
  · rw [win0_4.rect_emb_val, (at4 t).2]; simp

/-- Its blocks tile the array. -/
theorem cover4 (i : S32768x256.Idx) : ∃ t : Fin cfg0.N, (cfg0.win 4).flush t = true ∧ i ∈ ((cfg0.win 4).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_4 _, ?_⟩
  have h := ((cfg0.win 4).blk t).view.emb_mem_set (ix2 r b)
  rwa [emb4] at h

/-- One element of what the body leaves. -/
theorem out4 (x : FVec Ideal S512x1024 .f32) (w : FVec Ideal S1x1024 .f32) (wi : FVec Ideal S1024x2304 .bf16) (r : Fin 512) (l : Fin 256) :
    out0_4 (F := Ideal) x w wi (ix2 r l)
      = dot (normed (fun i => x (ix2 r i)) (fun i => w (ix2 0 i))) (fun k => wi (ix2 k ⟨256 + l.val, by omega⟩)) := by
  unfold out0_4
  rw [View.canon_unit_zero zero2, ld_x, ld_w]
  pointwise [k0_pay8, pay6_apply, dot]

/-- The array after the run is the reference's slice. -/
theorem final4 (c : Dev nD) : (dats m 0 c).arrAt 4 cfg0.N
    = Cert.Reference2Ideal.Read.val_main_v15 (F := Ideal) (m ((c : Thread nD τ).loc main_arg0)) (m ((c : Thread nD τ).loc main_arg1))
        (m ((c : Thread nD τ).loc main_arg2)) := by
  funext i
  refine (dats m 0 c).arrAt_forall_of_cover 4 (fun i v => v = Cert.Reference2Ideal.Read.val_main_v15 (F := Ideal)
    (m ((c : Thread nD τ).loc main_arg0)) (m ((c : Thread nD τ).loc main_arg1)) (m ((c : Thread nD τ).loc main_arg2)) i) ?_ cover4 i
  intro t _ y
  obtain ⟨r, l, rfl⟩ : ∃ (r : Fin 512) (l : Fin 256), y = ix2 r l := ⟨y 0, y 1, eq_ix2 y⟩
  rw [emb4, Cert.Reference2Ideal.Read.val_main_v15_apply]
  show (dats m 0 c).flushed 4 t (ix2 r l) = _
  rw [Cert.Kernel2Ideal.Value.flushed4]
  refine (out4 _ _ _ r l).trans ?_
  simp only [x_apply, ln_apply, w_apply]
  refine (ref_dot _ _ _ (row t r) ⟨256 + l.val, by omega⟩).symm.trans ?_
  exact congrArg _ (Shape.idx_ext₂ rfl (rfl))

/-! ## Result 2: columns 512 to 768 -/

theorem at5 : ∀ t : Fin cfg0.N, win0_5.index t 0 = t.val ∧ win0_5.index t 1 = 0 :=
  (by decide +kernel : ∀ t : Fin grid0.N, win0_5.index t 0 = t.val ∧ win0_5.index t 1 = 0)

/-- Where its block sits. -/
theorem emb5 (t : Fin cfg0.N) (r : Fin 512) (l : Fin 256) :
    ((cfg0.win 5).blk t).view.emb (ix2 r l) = ix2 (row t r) l := by
  show (win0_5.rect t).emb (ix2 r l) = _
  refine Shape.idx_ext₂ ?_ ?_
  · rw [win0_5.rect_emb_val, (at5 t).1]; rfl
  · rw [win0_5.rect_emb_val, (at5 t).2]; simp

/-- Its blocks tile the array. -/
theorem cover5 (i : S32768x256.Idx) : ∃ t : Fin cfg0.N, (cfg0.win 5).flush t = true ∧ i ∈ ((cfg0.win 5).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_5 _, ?_⟩
  have h := ((cfg0.win 5).blk t).view.emb_mem_set (ix2 r b)
  rwa [emb5] at h

/-- One element of what the body leaves. -/
theorem out5 (x : FVec Ideal S512x1024 .f32) (w : FVec Ideal S1x1024 .f32) (wi : FVec Ideal S1024x2304 .bf16) (r : Fin 512) (l : Fin 256) :
    out0_5 (F := Ideal) x w wi (ix2 r l)
      = dot (normed (fun i => x (ix2 r i)) (fun i => w (ix2 0 i))) (fun k => wi (ix2 k ⟨512 + l.val, by omega⟩)) := by
  unfold out0_5
  rw [View.canon_unit_zero zero2, ld_x, ld_w]
  pointwise [k0_pay9, pay6_apply, dot]

/-- The array after the run is the reference's slice. -/
theorem final5 (c : Dev nD) : (dats m 0 c).arrAt 5 cfg0.N
    = Cert.Reference2Ideal.Read.val_main_v16 (F := Ideal) (m ((c : Thread nD τ).loc main_arg0)) (m ((c : Thread nD τ).loc main_arg1))
        (m ((c : Thread nD τ).loc main_arg2)) := by
  funext i
  refine (dats m 0 c).arrAt_forall_of_cover 5 (fun i v => v = Cert.Reference2Ideal.Read.val_main_v16 (F := Ideal)
    (m ((c : Thread nD τ).loc main_arg0)) (m ((c : Thread nD τ).loc main_arg1)) (m ((c : Thread nD τ).loc main_arg2)) i) ?_ cover5 i
  intro t _ y
  obtain ⟨r, l, rfl⟩ : ∃ (r : Fin 512) (l : Fin 256), y = ix2 r l := ⟨y 0, y 1, eq_ix2 y⟩
  rw [emb5, Cert.Reference2Ideal.Read.val_main_v16_apply]
  show (dats m 0 c).flushed 5 t (ix2 r l) = _
  rw [Cert.Kernel2Ideal.Value.flushed5]
  refine (out5 _ _ _ r l).trans ?_
  simp only [x_apply, ln_apply, w_apply]
  refine (ref_dot _ _ _ (row t r) ⟨512 + l.val, by omega⟩).symm.trans ?_
  exact congrArg _ (Shape.idx_ext₂ rfl (rfl))

/-! ## Result 3: columns 768 to 1024 -/

theorem at6 : ∀ t : Fin cfg0.N, win0_6.index t 0 = t.val ∧ win0_6.index t 1 = 0 :=
  (by decide +kernel : ∀ t : Fin grid0.N, win0_6.index t 0 = t.val ∧ win0_6.index t 1 = 0)

/-- Where its block sits. -/
theorem emb6 (t : Fin cfg0.N) (r : Fin 512) (l : Fin 256) :
    ((cfg0.win 6).blk t).view.emb (ix2 r l) = ix2 (row t r) l := by
  show (win0_6.rect t).emb (ix2 r l) = _
  refine Shape.idx_ext₂ ?_ ?_
  · rw [win0_6.rect_emb_val, (at6 t).1]; rfl
  · rw [win0_6.rect_emb_val, (at6 t).2]; simp

/-- Its blocks tile the array. -/
theorem cover6 (i : S32768x256.Idx) : ∃ t : Fin cfg0.N, (cfg0.win 6).flush t = true ∧ i ∈ ((cfg0.win 6).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_6 _, ?_⟩
  have h := ((cfg0.win 6).blk t).view.emb_mem_set (ix2 r b)
  rwa [emb6] at h

/-- One element of what the body leaves. -/
theorem out6 (x : FVec Ideal S512x1024 .f32) (w : FVec Ideal S1x1024 .f32) (wi : FVec Ideal S1024x2304 .bf16) (r : Fin 512) (l : Fin 256) :
    out0_6 (F := Ideal) x w wi (ix2 r l)
      = dot (normed (fun i => x (ix2 r i)) (fun i => w (ix2 0 i))) (fun k => wi (ix2 k ⟨768 + l.val, by omega⟩)) := by
  unfold out0_6
  rw [View.canon_unit_zero zero2, ld_x, ld_w]
  pointwise [k0_pay10, pay6_apply, dot]

/-- The array after the run is the reference's slice. -/
theorem final6 (c : Dev nD) : (dats m 0 c).arrAt 6 cfg0.N
    = Cert.Reference2Ideal.Read.val_main_v17 (F := Ideal) (m ((c : Thread nD τ).loc main_arg0)) (m ((c : Thread nD τ).loc main_arg1))
        (m ((c : Thread nD τ).loc main_arg2)) := by
  funext i
  refine (dats m 0 c).arrAt_forall_of_cover 6 (fun i v => v = Cert.Reference2Ideal.Read.val_main_v17 (F := Ideal)
    (m ((c : Thread nD τ).loc main_arg0)) (m ((c : Thread nD τ).loc main_arg1)) (m ((c : Thread nD τ).loc main_arg2)) i) ?_ cover6 i
  intro t _ y
  obtain ⟨r, l, rfl⟩ : ∃ (r : Fin 512) (l : Fin 256), y = ix2 r l := ⟨y 0, y 1, eq_ix2 y⟩
  rw [emb6, Cert.Reference2Ideal.Read.val_main_v17_apply]
  show (dats m 0 c).flushed 6 t (ix2 r l) = _
  rw [Cert.Kernel2Ideal.Value.flushed6]
  refine (out6 _ _ _ r l).trans ?_
  simp only [x_apply, ln_apply, w_apply]
  refine (ref_dot _ _ _ (row t r) ⟨768 + l.val, by omega⟩).symm.trans ?_
  exact congrArg _ (Shape.idx_ext₂ rfl (rfl))

/-! ## Result 4: columns 1024 to 1280 -/

theorem at7 : ∀ t : Fin cfg0.N, win0_7.index t 0 = t.val ∧ win0_7.index t 1 = 0 :=
  (by decide +kernel : ∀ t : Fin grid0.N, win0_7.index t 0 = t.val ∧ win0_7.index t 1 = 0)

/-- Where its block sits. -/
theorem emb7 (t : Fin cfg0.N) (r : Fin 512) (l : Fin 256) :
    ((cfg0.win 7).blk t).view.emb (ix2 r l) = ix2 (row t r) l := by
  show (win0_7.rect t).emb (ix2 r l) = _
  refine Shape.idx_ext₂ ?_ ?_
  · rw [win0_7.rect_emb_val, (at7 t).1]; rfl
  · rw [win0_7.rect_emb_val, (at7 t).2]; simp

/-- Its blocks tile the array. -/
theorem cover7 (i : S32768x256.Idx) : ∃ t : Fin cfg0.N, (cfg0.win 7).flush t = true ∧ i ∈ ((cfg0.win 7).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_7 _, ?_⟩
  have h := ((cfg0.win 7).blk t).view.emb_mem_set (ix2 r b)
  rwa [emb7] at h

/-- One element of what the body leaves. -/
theorem out7 (x : FVec Ideal S512x1024 .f32) (w : FVec Ideal S1x1024 .f32) (wi : FVec Ideal S1024x2304 .bf16) (r : Fin 512) (l : Fin 256) :
    out0_7 (F := Ideal) x w wi (ix2 r l)
      = dot (normed (fun i => x (ix2 r i)) (fun i => w (ix2 0 i))) (fun k => wi (ix2 k ⟨1024 + l.val, by omega⟩)) := by
  unfold out0_7 k0_pay11
  rw [View.canon_unit_zero zero2]
  simp only [ld_x, ld_w]
  pointwise [k0_pay1, pay6_apply, dot]

/-- The array after the run is the reference's slice. -/
theorem final7 (c : Dev nD) : (dats m 0 c).arrAt 7 cfg0.N
    = Cert.Reference2Ideal.Read.val_main_v18 (F := Ideal) (m ((c : Thread nD τ).loc main_arg0)) (m ((c : Thread nD τ).loc main_arg1))
        (m ((c : Thread nD τ).loc main_arg2)) := by
  funext i
  refine (dats m 0 c).arrAt_forall_of_cover 7 (fun i v => v = Cert.Reference2Ideal.Read.val_main_v18 (F := Ideal)
    (m ((c : Thread nD τ).loc main_arg0)) (m ((c : Thread nD τ).loc main_arg1)) (m ((c : Thread nD τ).loc main_arg2)) i) ?_ cover7 i
  intro t _ y
  obtain ⟨r, l, rfl⟩ : ∃ (r : Fin 512) (l : Fin 256), y = ix2 r l := ⟨y 0, y 1, eq_ix2 y⟩
  rw [emb7, Cert.Reference2Ideal.Read.val_main_v18_apply]
  show (dats m 0 c).flushed 7 t (ix2 r l) = _
  rw [Cert.Kernel2Ideal.Value.flushed7]
  refine (out7 _ _ _ r l).trans ?_
  simp only [x_apply, ln_apply, w_apply]
  refine (ref_dot _ _ _ (row t r) ⟨1024 + l.val, by omega⟩).symm.trans ?_
  exact congrArg _ (Shape.idx_ext₂ rfl (rfl))

/-! ## Result 5: columns 1280 to 1536 -/

theorem at8 : ∀ t : Fin cfg0.N, win0_8.index t 0 = t.val ∧ win0_8.index t 1 = 0 :=
  (by decide +kernel : ∀ t : Fin grid0.N, win0_8.index t 0 = t.val ∧ win0_8.index t 1 = 0)

/-- Where its block sits. -/
theorem emb8 (t : Fin cfg0.N) (r : Fin 512) (l : Fin 256) :
    ((cfg0.win 8).blk t).view.emb (ix2 r l) = ix2 (row t r) l := by
  show (win0_8.rect t).emb (ix2 r l) = _
  refine Shape.idx_ext₂ ?_ ?_
  · rw [win0_8.rect_emb_val, (at8 t).1]; rfl
  · rw [win0_8.rect_emb_val, (at8 t).2]; simp

/-- Its blocks tile the array. -/
theorem cover8 (i : S32768x256.Idx) : ∃ t : Fin cfg0.N, (cfg0.win 8).flush t = true ∧ i ∈ ((cfg0.win 8).blk t).view.set := by
  obtain ⟨a, b, rfl⟩ : ∃ (a : Fin 32768) (b : Fin 256), i = ix2 a b := ⟨i 0, i 1, eq_ix2 i⟩
  obtain ⟨t, r, rfl⟩ := exists_row a
  refine ⟨t, flush0_8 _, ?_⟩
  have h := ((cfg0.win 8).blk t).view.emb_mem_set (ix2 r b)
  rwa [emb8] at h

/-- One element of what the body leaves. -/
theorem out8 (x : FVec Ideal S512x1024 .f32) (w : FVec Ideal S1x1024 .f32) (wi : FVec Ideal S1024x2304 .bf16) (r : Fin 512) (l : Fin 256) :
    out0_8 (F := Ideal) x w wi (ix2 r l)
      = dot (normed (fun i => x (ix2 r i)) (fun i => w (ix2 0 i))) (fun k => wi (ix2 k ⟨1280 + l.val, by omega⟩)) := by
  unfold out0_8 k0_pay11
  rw [View.canon_unit_zero zero2]
  simp only [ld_x, ld_w]
  pointwise [k0_pay2, pay6_apply, dot]

/-- The array after the run is the reference's slice. -/
theorem final8 (c : Dev nD) : (dats m 0 c).arrAt 8 cfg0.N
    = Cert.Reference2Ideal.Read.val_main_v19 (F := Ideal) (m ((c : Thread nD τ).loc main_arg0)) (m ((c : Thread nD τ).loc main_arg1))
        (m ((c : Thread nD τ).loc main_arg2)) := by
  funext i
  refine (dats m 0 c).arrAt_forall_of_cover 8 (fun i v => v = Cert.Reference2Ideal.Read.val_main_v19 (F := Ideal)
    (m ((c : Thread nD τ).loc main_arg0)) (m ((c : Thread nD τ).loc main_arg1)) (m ((c : Thread nD τ).loc main_arg2)) i) ?_ cover8 i
  intro t _ y
  obtain ⟨r, l, rfl⟩ : ∃ (r : Fin 512) (l : Fin 256), y = ix2 r l := ⟨y 0, y 1, eq_ix2 y⟩
  rw [emb8, Cert.Reference2Ideal.Read.val_main_v19_apply]
  show (dats m 0 c).flushed 8 t (ix2 r l) = _
  rw [Cert.Kernel2Ideal.Value.flushed8]
  refine (out8 _ _ _ r l).trans ?_
  simp only [x_apply, ln_apply, w_apply]
  refine (ref_dot _ _ _ (row t r) ⟨1280 + l.val, by omega⟩).symm.trans ?_
  exact congrArg _ (Shape.idx_ext₂ rfl (rfl))

/-! ## Result 6: columns 1536 to 2048 -/

theorem at9 : ∀ t : Fin cfg0.N, win0_9.index t 0 = t.val ∧ win0_9.index t 1 = 0 :=
  (by decide +kernel : ∀ t : Fin grid0.N, win0_9.index t 0 = t.val ∧ win0_9.index t 1 = 0)

/-- Where its block sits. -/
theorem emb9 (t : Fin cfg0.N) (r : Fin 512) (l : Fin 512) :
    ((cfg0.win 9).blk t).view.emb (ix2 r l) = ix2 (row t r) l := by
  show (win0_9.rect t).emb (ix2 r l) = _
  refine Shape.idx_ext₂ ?_ ?_
  · rw [win0_9.rect_emb_val, (at9 t).1]; rfl
  · rw [win0_9.rect_emb_val, (at9 t).2]; simp

/-- Its blocks tile the array. -/
theorem cover9 (i : S32768x512.Idx) : ∃ t : Fin cfg0.N, (cfg0.win 9).flush t = true ∧ i ∈ ((cfg0.win 9).blk t).view.set := by
  obtain ⟨a, b, rfl⟩ : ∃ (a : Fin 32768) (b : Fin 512), i = ix2 a b := ⟨i 0, i 1, eq_ix2 i⟩
  obtain ⟨t, r, rfl⟩ := exists_row a
  refine ⟨t, flush0_9 _, ?_⟩
  have h := ((cfg0.win 9).blk t).view.emb_mem_set (ix2 r b)
  rwa [emb9] at h

/-- One element of what the body leaves. -/
theorem out9 (x : FVec Ideal S512x1024 .f32) (w : FVec Ideal S1x1024 .f32) (wi : FVec Ideal S1024x2304 .bf16) (r : Fin 512) (l : Fin 512) :
    out0_9 (F := Ideal) x w wi (ix2 r l)
      = dot (normed (fun i => x (ix2 r i)) (fun i => w (ix2 0 i))) (fun k => wi (ix2 k ⟨1536 + l.val, by omega⟩)) := by
  unfold out0_9 k0_pay11
  rw [View.canon_unit_zero zero2]
  simp only [ld_x, ld_w]
  pointwise [k0_pay3, pay6_apply, dot]

/-- The array after the run is the reference's slice. -/
theorem final9 (c : Dev nD) : (dats m 0 c).arrAt 9 cfg0.N
    = Cert.Reference2Ideal.Read.val_main_v20 (F := Ideal) (m ((c : Thread nD τ).loc main_arg0)) (m ((c : Thread nD τ).loc main_arg1))
        (m ((c : Thread nD τ).loc main_arg2)) := by
  funext i
  refine (dats m 0 c).arrAt_forall_of_cover 9 (fun i v => v = Cert.Reference2Ideal.Read.val_main_v20 (F := Ideal)
    (m ((c : Thread nD τ).loc main_arg0)) (m ((c : Thread nD τ).loc main_arg1)) (m ((c : Thread nD τ).loc main_arg2)) i) ?_ cover9 i
  intro t _ y
  obtain ⟨r, l, rfl⟩ : ∃ (r : Fin 512) (l : Fin 512), y = ix2 r l := ⟨y 0, y 1, eq_ix2 y⟩
  rw [emb9, Cert.Reference2Ideal.Read.val_main_v20_apply]
  show (dats m 0 c).flushed 9 t (ix2 r l) = _
  rw [Cert.Kernel2Ideal.Value.flushed9]
  refine (out9 _ _ _ r l).trans ?_
  simp only [x_apply, ln_apply, w_apply]
  refine (ref_dot _ _ _ (row t r) ⟨1536 + l.val, by omega⟩).symm.trans ?_
  exact congrArg _ (Shape.idx_ext₂ rfl (rfl))

/-! ## Result 7: columns 2048 to 2176 -/

theorem at10 : ∀ t : Fin cfg0.N, win0_10.index t 0 = t.val ∧ win0_10.index t 1 = 0 :=
  (by decide +kernel : ∀ t : Fin grid0.N, win0_10.index t 0 = t.val ∧ win0_10.index t 1 = 0)

/-- Where its block sits. -/
theorem emb10 (t : Fin cfg0.N) (r : Fin 512) (l : Fin 128) :
    ((cfg0.win 10).blk t).view.emb (ix2 r l) = ix2 (row t r) l := by
  show (win0_10.rect t).emb (ix2 r l) = _
  refine Shape.idx_ext₂ ?_ ?_
  · rw [win0_10.rect_emb_val, (at10 t).1]; rfl
  · rw [win0_10.rect_emb_val, (at10 t).2]; simp

/-- Its blocks tile the array. -/
theorem cover10 (i : S32768x128.Idx) : ∃ t : Fin cfg0.N, (cfg0.win 10).flush t = true ∧ i ∈ ((cfg0.win 10).blk t).view.set := by
  obtain ⟨a, b, rfl⟩ : ∃ (a : Fin 32768) (b : Fin 128), i = ix2 a b := ⟨i 0, i 1, eq_ix2 i⟩
  obtain ⟨t, r, rfl⟩ := exists_row a
  refine ⟨t, flush0_10 _, ?_⟩
  have h := ((cfg0.win 10).blk t).view.emb_mem_set (ix2 r b)
  rwa [emb10] at h

/-- One element of what the body leaves. -/
theorem out10 (x : FVec Ideal S512x1024 .f32) (w : FVec Ideal S1x1024 .f32) (wi : FVec Ideal S1024x2304 .bf16) (r : Fin 512) (l : Fin 128) :
    out0_10 (F := Ideal) x w wi (ix2 r l)
      = dot (normed (fun i => x (ix2 r i)) (fun i => w (ix2 0 i))) (fun k => wi (ix2 k ⟨2048 + l.val, by omega⟩)) := by
  unfold out0_10 k0_pay11
  rw [View.canon_unit_zero zero2]
  simp only [ld_x, ld_w]
  pointwise [k0_pay4, pay6_apply, dot]

/-- The array after the run is the reference's slice. -/
theorem final10 (c : Dev nD) : (dats m 0 c).arrAt 10 cfg0.N
    = Cert.Reference2Ideal.Read.val_main_v21 (F := Ideal) (m ((c : Thread nD τ).loc main_arg0)) (m ((c : Thread nD τ).loc main_arg1))
        (m ((c : Thread nD τ).loc main_arg2)) := by
  funext i
  refine (dats m 0 c).arrAt_forall_of_cover 10 (fun i v => v = Cert.Reference2Ideal.Read.val_main_v21 (F := Ideal)
    (m ((c : Thread nD τ).loc main_arg0)) (m ((c : Thread nD τ).loc main_arg1)) (m ((c : Thread nD τ).loc main_arg2)) i) ?_ cover10 i
  intro t _ y
  obtain ⟨r, l, rfl⟩ : ∃ (r : Fin 512) (l : Fin 128), y = ix2 r l := ⟨y 0, y 1, eq_ix2 y⟩
  rw [emb10, Cert.Reference2Ideal.Read.val_main_v21_apply]
  show (dats m 0 c).flushed 10 t (ix2 r l) = _
  rw [Cert.Kernel2Ideal.Value.flushed10]
  refine (out10 _ _ _ r l).trans ?_
  simp only [x_apply, ln_apply, w_apply]
  refine (ref_dot _ _ _ (row t r) ⟨2048 + l.val, by omega⟩).symm.trans ?_
  exact congrArg _ (Shape.idx_ext₂ rfl (rfl))

/-! ## Result 8: columns 2176 to 2304 -/

theorem at11 : ∀ t : Fin cfg0.N, win0_11.index t 0 = t.val ∧ win0_11.index t 1 = 0 :=
  (by decide +kernel : ∀ t : Fin grid0.N, win0_11.index t 0 = t.val ∧ win0_11.index t 1 = 0)

/-- Where its block sits. -/
theorem emb11 (t : Fin cfg0.N) (r : Fin 512) (l : Fin 128) :
    ((cfg0.win 11).blk t).view.emb (ix2 r l) = ix2 (row t r) l := by
  show (win0_11.rect t).emb (ix2 r l) = _
  refine Shape.idx_ext₂ ?_ ?_
  · rw [win0_11.rect_emb_val, (at11 t).1]; rfl
  · rw [win0_11.rect_emb_val, (at11 t).2]; simp

/-- Its blocks tile the array. -/
theorem cover11 (i : S32768x128.Idx) : ∃ t : Fin cfg0.N, (cfg0.win 11).flush t = true ∧ i ∈ ((cfg0.win 11).blk t).view.set := by
  obtain ⟨a, b, rfl⟩ : ∃ (a : Fin 32768) (b : Fin 128), i = ix2 a b := ⟨i 0, i 1, eq_ix2 i⟩
  obtain ⟨t, r, rfl⟩ := exists_row a
  refine ⟨t, flush0_11 _, ?_⟩
  have h := ((cfg0.win 11).blk t).view.emb_mem_set (ix2 r b)
  rwa [emb11] at h

/-- One element of what the body leaves. -/
theorem out11 (x : FVec Ideal S512x1024 .f32) (w : FVec Ideal S1x1024 .f32) (wi : FVec Ideal S1024x2304 .bf16) (r : Fin 512) (l : Fin 128) :
    out0_11 (F := Ideal) x w wi (ix2 r l)
      = dot (normed (fun i => x (ix2 r i)) (fun i => w (ix2 0 i))) (fun k => wi (ix2 k ⟨2176 + l.val, by omega⟩)) := by
  unfold out0_11 k0_pay11
  rw [View.canon_unit_zero zero2]
  simp only [ld_x, ld_w]
  pointwise [k0_pay5, pay6_apply, dot]

/-- The array after the run is the reference's slice. -/
theorem final11 (c : Dev nD) : (dats m 0 c).arrAt 11 cfg0.N
    = Cert.Reference2Ideal.Read.val_main_v22 (F := Ideal) (m ((c : Thread nD τ).loc main_arg0)) (m ((c : Thread nD τ).loc main_arg1))
        (m ((c : Thread nD τ).loc main_arg2)) := by
  funext i
  refine (dats m 0 c).arrAt_forall_of_cover 11 (fun i v => v = Cert.Reference2Ideal.Read.val_main_v22 (F := Ideal)
    (m ((c : Thread nD τ).loc main_arg0)) (m ((c : Thread nD τ).loc main_arg1)) (m ((c : Thread nD τ).loc main_arg2)) i) ?_ cover11 i
  intro t _ y
  obtain ⟨r, l, rfl⟩ : ∃ (r : Fin 512) (l : Fin 128), y = ix2 r l := ⟨y 0, y 1, eq_ix2 y⟩
  rw [emb11, Cert.Reference2Ideal.Read.val_main_v22_apply]
  show (dats m 0 c).flushed 11 t (ix2 r l) = _
  rw [Cert.Kernel2Ideal.Value.flushed11]
  refine (out11 _ _ _ r l).trans ?_
  simp only [x_apply, ln_apply, w_apply]
  refine (ref_dot _ _ _ (row t r) ⟨2176 + l.val, by omega⟩).symm.trans ?_
  exact congrArg _ (Shape.idx_ext₂ rfl (rfl))

/-- The run of the kernel, its nine results the reference's terms. -/
theorem run (ρ : Dev nD → PrngReg) : θ_run defs (onTc (τ := τ) (main (F := Ideal))) ⟨m, fun _ => 0, ρ⟩ fun r => ∀ c : Dev nD,
      r.2.mem ((c : Thread nD τ).loc main_v2_0) = Cert.Reference2Ideal.Read.val_main_v14 (F := Ideal) (m ((c : Thread nD τ).loc main_arg0)) (m ((c : Thread nD τ).loc main_arg1)) (m ((c : Thread nD τ).loc main_arg2))
      ∧ r.2.mem ((c : Thread nD τ).loc main_v2_1) = Cert.Reference2Ideal.Read.val_main_v15 (F := Ideal) (m ((c : Thread nD τ).loc main_arg0)) (m ((c : Thread nD τ).loc main_arg1)) (m ((c : Thread nD τ).loc main_arg2))
      ∧ r.2.mem ((c : Thread nD τ).loc main_v2_2) = Cert.Reference2Ideal.Read.val_main_v16 (F := Ideal) (m ((c : Thread nD τ).loc main_arg0)) (m ((c : Thread nD τ).loc main_arg1)) (m ((c : Thread nD τ).loc main_arg2))
      ∧ r.2.mem ((c : Thread nD τ).loc main_v2_3) = Cert.Reference2Ideal.Read.val_main_v17 (F := Ideal) (m ((c : Thread nD τ).loc main_arg0)) (m ((c : Thread nD τ).loc main_arg1)) (m ((c : Thread nD τ).loc main_arg2))
      ∧ r.2.mem ((c : Thread nD τ).loc main_v2_4) = Cert.Reference2Ideal.Read.val_main_v18 (F := Ideal) (m ((c : Thread nD τ).loc main_arg0)) (m ((c : Thread nD τ).loc main_arg1)) (m ((c : Thread nD τ).loc main_arg2))
      ∧ r.2.mem ((c : Thread nD τ).loc main_v2_5) = Cert.Reference2Ideal.Read.val_main_v19 (F := Ideal) (m ((c : Thread nD τ).loc main_arg0)) (m ((c : Thread nD τ).loc main_arg1)) (m ((c : Thread nD τ).loc main_arg2))
      ∧ r.2.mem ((c : Thread nD τ).loc main_v2_6) = Cert.Reference2Ideal.Read.val_main_v20 (F := Ideal) (m ((c : Thread nD τ).loc main_arg0)) (m ((c : Thread nD τ).loc main_arg1)) (m ((c : Thread nD τ).loc main_arg2))
      ∧ r.2.mem ((c : Thread nD τ).loc main_v2_7) = Cert.Reference2Ideal.Read.val_main_v21 (F := Ideal) (m ((c : Thread nD τ).loc main_arg0)) (m ((c : Thread nD τ).loc main_arg1)) (m ((c : Thread nD τ).loc main_arg2))
      ∧ r.2.mem ((c : Thread nD τ).loc main_v2_8) = Cert.Reference2Ideal.Read.val_main_v22 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h4, h5, h6, h7, h8, h9⟩ := h c
    exact ⟨h0.trans (final3 m c), h1.trans (final4 m c), h2.trans (final5 m c), h3.trans (final6 m c), h4.trans (final7 m c),
      h5.trans (final8 m c), h6.trans (final9 m c), h7.trans (final10 m c), h8.trans (final11 m c), h9⟩)
    (Cert.Kernel2Ideal.Value.run_blocks m ρ)

end Cert.InProj

end
-- ==== Proof.OutProj.lean ====
/-
  The output projection: the three arrays the kernel leaves, element by element.  Every row block of the three mixers'
  outputs is multiplied by its own rows of the weight and the three products are added to the activations; the reference
  joins the mixers' outputs and multiplies once.  The sum is normalised and leaves transposed, and as PEER's queries.
-/
module

public import proofs.«01_k».proof.Proof.Rows
public import proofs.«01_k».proof.Proof.Gen.Kernel3Ideal.Value
public import proofs.«01_k».proof.Proof.Gen.Reference3Ideal.Read

@[expose] public section

set_option maxRecDepth 16384

noncomputable section

namespace Cert.OutProj

open Cert.Kernel3Ideal Cert.Kernel3Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The grid has one axis, whose points are the row blocks. -/
theorem coord (t : Fin cfg0.N) : t.val < 64 := t.isLt

/-- Row `r` of block `t` is row `512 t + r` of the array. -/
abbrev row (t : Fin cfg0.N) (r : Fin 512) : Fin 32768 := ⟨t.val * 512 + r.val, by have := coord t; omega⟩

/-- A row is some row of some block. -/
theorem exists_row (a : Fin 32768) : ∃ (t : Fin cfg0.N) (r : Fin 512), row t r = a := by
  have ha := a.isLt
  have hN : cfg0.N = 64 := N_0
  have hq : a.val / 512 < cfg0.N := by rw [hN]; omega
  have hr : a.val % 512 < 512 := by omega
  exact ⟨⟨a.val / 512, hq⟩, ⟨a.val % 512, hr⟩, Fin.ext (by show a.val / 512 * 512 + a.val % 512 = a.val; omega)⟩

/-- Column `l` of the sum's row: the activation plus three partial dots with the weight's column. -/
def resid (x : Fin 1024 → EReal) (a b : Fin 256 → EReal) (d : Fin 512 → EReal) (w : Fin 1024 → Fin 1024 → EReal) (l : Fin 1024) : EReal :=
  x l + (dot a (fun k => w ⟨k.val, by omega⟩ l) + dot b (fun k => w ⟨256 + k.val, by omega⟩ l)
    + dot d (fun k => w ⟨512 + k.val, by omega⟩ l))

/-- Where the block sits. -/
theorem at0 : ∀ t : Fin cfg0.N, win0_0.index t 0 = t.val ∧ win0_0.index t 1 = 0 :=
  (by decide +kernel : ∀ t : Fin grid0.N, win0_0.index t 0 = t.val ∧ win0_0.index t 1 = 0)
/-- The input's block at an index. -/
theorem x_apply (c : Dev nD) (t : Fin cfg0.N) (r : Fin 512) (l : Fin 1024) :
    iblk m c 0 t (ix2 r l) = m ((c : Thread nD τ).loc main_arg0) (ix2 (row t r) l) := by
  show V m c main_arg0 ((win0_0.rect t).emb (ix2 r l)) = _
  rw [V_main_arg0]
  refine congrArg _ (Shape.idx_ext₂ ?_ ?_)
  · rw [win0_0.rect_emb_val, (at0 t).1]; rfl
  · rw [win0_0.rect_emb_val, (at0 t).2]; simp

/-- Where the block sits. -/
theorem at1 : ∀ t : Fin cfg0.N, win0_1.index t 0 = t.val ∧ win0_1.index t 1 = 0 :=
  (by decide +kernel : ∀ t : Fin grid0.N, win0_1.index t 0 = t.val ∧ win0_1.index t 1 = 0)
/-- The input's block at an index. -/
theorem a_apply (c : Dev nD) (t : Fin cfg0.N) (r : Fin 512) (l : Fin 256) :
    iblk m c 1 t (ix2 r l) = m ((c : Thread nD τ).loc main_arg1) (ix2 (row t r) l) := by
  show V m c main_arg1 ((win0_1.rect t).emb (ix2 r l)) = _
  rw [V_main_arg1]
  refine congrArg _ (Shape.idx_ext₂ ?_ ?_)
  · rw [win0_1.rect_emb_val, (at1 t).1]; rfl
  · rw [win0_1.rect_emb_val, (at1 t).2]; simp

/-- Where the block sits. -/
theorem at2 : ∀ t : Fin cfg0.N, win0_2.index t 0 = t.val ∧ win0_2.index t 1 = 0 :=
  (by decide +kernel : ∀ t : Fin grid0.N, win0_2.index t 0 = t.val ∧ win0_2.index t 1 = 0)
/-- The input's block at an index. -/
theorem b_apply (c : Dev nD) (t : Fin cfg0.N) (r : Fin 512) (l : Fin 256) :
    iblk m c 2 t (ix2 r l) = m ((c : Thread nD τ).loc main_arg2) (ix2 (row t r) l) := by
  show V m c main_arg2 ((win0_2.rect t).emb (ix2 r l)) = _
  rw [V_main_arg2]
  refine congrArg _ (Shape.idx_ext₂ ?_ ?_)
  · rw [win0_2.rect_emb_val, (at2 t).1]; rfl
  · rw [win0_2.rect_emb_val, (at2 t).2]; simp

/-- Where the block sits. -/
theorem at3 : ∀ t : Fin cfg0.N, win0_3.index t 0 = t.val ∧ win0_3.index t 1 = 0 :=
  (by decide +kernel : ∀ t : Fin grid0.N, win0_3.index t 0 = t.val ∧ win0_3.index t 1 = 0)
/-- The input's block at an index. -/
theorem d_apply (c : Dev nD) (t : Fin cfg0.N) (r : Fin 512) (l : Fin 512) :
    iblk m c 3 t (ix2 r l) = m ((c : Thread nD τ).loc main_arg3) (ix2 (row t r) l) := by
  show V m c main_arg3 ((win0_3.rect t).emb (ix2 r l)) = _
  rw [V_main_arg3]
  refine congrArg _ (Shape.idx_ext₂ ?_ ?_)
  · rw [win0_3.rect_emb_val, (at3 t).1]; rfl
  · rw [win0_3.rect_emb_val, (at3 t).2]; simp

/-- Where the weights' blocks sit: each is its whole array. -/
theorem at_w : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, (win0_4.index t 0 = 0 ∧ win0_4.index t 1 = 0)
    ∧ (win0_5.index t 0 = 0 ∧ win0_5.index t 1 = 0) ∧ (win0_6.index t 0 = 0 ∧ win0_6.index t 1 = 0))

/-- A weight, the whole of it at every point. -/
theorem wo_apply (c : Dev nD) (t : Fin cfg0.N) (k : Fin 1024) (l : Fin 1024) :
    iblk m c 4 t (ix2 k l) = m ((c : Thread nD τ).loc main_arg4) (ix2 k l) := by
  show V m c main_v0 ((win0_4.rect t).emb (ix2 k l)) = _
  have e : V m c main_v0 = m ((c : Thread nD τ).loc main_arg4) := by
    unfold V hostOps0
    after_results
    rfl
  have e2 : (win0_4.rect t).emb (ix2 k l) = (ix2 k l : S1024x1024.Idx) := by
    refine Shape.idx_ext₂ ?_ ?_
    · rw [win0_4.rect_emb_val, (at_w t).1.1]; simp
    · rw [win0_4.rect_emb_val, (at_w t).1.2]; simp
  rw [e, e2]

/-- A weight, the whole of it at every point. -/
theorem wq_apply (c : Dev nD) (t : Fin cfg0.N) (k : Fin 1024) (l : Fin 2048) :
    iblk m c 6 t (ix2 k l) = m ((c : Thread nD τ).loc main_arg6) (ix2 k l) := by
  show V m c main_v2 ((win0_6.rect t).emb (ix2 k l)) = _
  have e : V m c main_v2 = m ((c : Thread nD τ).loc main_arg6) := by
    unfold V hostOps0
    after_results
    rfl
  have e2 : (win0_6.rect t).emb (ix2 k l) = (ix2 k l : S1024x2048.Idx) := by
    refine Shape.idx_ext₂ ?_ ?_
    · rw [win0_6.rect_emb_val, (at_w t).2.2.1]; simp
    · rw [win0_6.rect_emb_val, (at_w t).2.2.2]; simp
  rw [e, e2]

/-- The norm's weight row, reshaped on the way in. -/
theorem ln_apply (c : Dev nD) (t : Fin cfg0.N) (r : Fin 1) (l : Fin 1024) :
    iblk m c 5 t (ix2 r l) = m ((c : Thread nD τ).loc main_arg5) (ix1 l) := by
  show V m c main_v1 ((win0_5.rect t).emb (ix2 r l)) = _
  have e : V m c main_v1 = shapeCast S1x1024 (m ((c : Thread nD τ).loc main_arg5)) Facts₀.shapeCasts_S1024_S1x1024 := by
    unfold V hostOps0
    after_results
    rfl
  have e2 : (win0_5.rect t).emb (ix2 r l) = (ix2 0 l : S1x1024.Idx) := by
    refine Shape.idx_ext₂ ?_ ?_
    · rw [win0_5.rect_emb_val, (at_w t).2.1.1]; simp
    · rw [win0_5.rect_emb_val, (at_w t).2.1.2]; simp
  rw [e, e2]
  pointwise

/-! ## One block's body -/

section Body
variable (x : Vec Ideal S512x1024 .f32) (a b : Vec Ideal S512x256 .f32) (d : Vec Ideal S512x512 .f32) (w : Vec Ideal S1024x1024 .bf16)
  (ln : Vec Ideal S1x1024 .f32) (wq : Vec Ideal S1024x2048 .bf16)

theorem ld_x : View.ld x r0_5 = x := View.ld_unit_zero (S := S512x1024) zero2 _ x
theorem ld_a : View.ld a r0_0 = a := View.ld_unit_zero (S := S512x256) zero2 _ a
theorem ld_d : View.ld d r0_3 = d := View.ld_unit_zero (S := S512x512) zero2 _ d
theorem ld_ln : View.ld ln r0_6 = ln := View.ld_unit_zero (S := S1x1024) zero2 _ ln
theorem ld_wq : View.ld wq r0_8 = wq := View.ld_unit_zero (S := S1024x2048) zero2 _ wq

/-- The sum's block at an index. -/
theorem pay4_apply (r : Fin 512) (l : Fin 1024) :
    k0_pay4 (F := Ideal) a (View.ld w r0_1) b (View.ld w r0_2) d (View.ld w r0_4) x (ix2 r l)
      = resid (fun i => x (ix2 r i)) (fun k => a (ix2 r k)) (fun k => b (ix2 r k)) (fun k => d (ix2 r k)) (fun k i => w (ix2 k i)) l := by
  pointwise [k0_pay4, resid, dot]

/-- The normalised block at an index. -/
theorem pay6_apply (r : Fin 512) (l : Fin 1024) :
    k0_pay6 (F := Ideal) x a b d w ln wq (ix2 r l)
      = normed (resid (fun i => x (ix2 r i)) (fun k => a (ix2 r k)) (fun k => b (ix2 r k)) (fun k => d (ix2 r k)) (fun k i => w (ix2 k i)))
          (fun i => ln (ix2 0 i)) l := by
  unfold k0_pay6
  rw [ld_x, ld_a, ld_a, ld_d, ld_ln]
  pointwise [k0_pay5, pay4_apply, normed]

/-- One element of the sum the body leaves, -/
theorem out7 (r : Fin 512) (l : Fin 1024) : out0_7 (F := Ideal) x a b d w ln wq (ix2 r l)
      = resid (fun i => x (ix2 r i)) (fun k => a (ix2 r k)) (fun k => b (ix2 r k)) (fun k => d (ix2 r k)) (fun k i => w (ix2 k i)) l := by
  unfold out0_7
  rw [View.canon_unit_zero zero2, ld_x, ld_a, ld_a, ld_d, pay4_apply]

/-- of its normalised rows, transposed, -/
theorem out8 (l : Fin 1024) (r : Fin 512) : out0_8 (F := Ideal) x a b d w ln wq (ix2 l r)
      = normed (resid (fun i => x (ix2 r i)) (fun k => a (ix2 r k)) (fun k => b (ix2 r k)) (fun k => d (ix2 r k)) (fun k i => w (ix2 k i)))
          (fun i => ln (ix2 0 i)) l := by
  unfold out0_8
  rw [View.canon_unit_zero zero2]
  pointwise [k0_pay2, k0_pay1, pay6_apply]

/-- and of the queries. -/
theorem out9 (r : Fin 512) (l : Fin 2048) : out0_9 (F := Ideal) x a b d w ln wq (ix2 r l)
      = dot (normed (resid (fun i => x (ix2 r i)) (fun k => a (ix2 r k)) (fun k => b (ix2 r k)) (fun k => d (ix2 r k)) (fun k i => w (ix2 k i)))
          (fun i => ln (ix2 0 i))) (fun k => wq (ix2 k l)) := by
  unfold out0_9
  rw [View.canon_unit_zero zero2, ld_wq]
  pointwise [k0_pay3, k0_pay1, pay6_apply, dot]

end Body

/-! ## The reference -/

section Ref
variable (x : FVec Ideal S32768x1024 .f32) (a b : FVec Ideal S32768x256 .f32) (d : FVec Ideal S32768x512 .f32) (w : FVec Ideal S1024x1024 .f32)
  (ln : FVec Ideal S1024 .f32) (wq : FVec Ideal S1024x2048 .f32)

open Cert.Reference3Ideal.Read

/-- The reference's sum: the one dot over the joined row, cut where the pieces meet. -/
theorem ref_sum (r : Fin 32768) (l : Fin 1024) :
    val_main_v2 (F := Ideal) x a b d w (ix2 r l)
      = resid (fun i => x (ix2 r i)) (fun k => a (ix2 r k)) (fun k => b (ix2 r k)) (fun k => d (ix2 r k)) (fun k i => w (ix2 k i)) l := by
  pointwise [val_main_v2, val_main_v1, val_main_v0, resid, dot]
  congr 1
  rw [Fin.sum_univ_two_halves 512 512 rfl, Fin.sum_univ_two_halves 256 256 rfl]
  refine congrArg₂ _ (congrArg₂ _ ?_ ?_) ?_
  · refine Finset.sum_congr rfl fun k _ => ?_
    have hk := k.isLt
    rw [dif_pos (by show k.val < 256; omega)]
  · refine Finset.sum_congr rfl fun k _ => ?_
    have hk := k.isLt
    rw [dif_neg (by show ¬ 256 + k.val < 256; omega), dif_pos (by show 256 + k.val - 256 < 256; omega)]
    exact congrArg (· * _) (congrArg b (Shape.idx_ext₂ rfl (by show 256 + k.val - 256 = k.val; omega)))
  · refine Finset.sum_congr rfl fun k _ => ?_
    have hk := k.isLt
    rw [dif_neg (by show ¬ 512 + k.val < 256; omega), dif_neg (by show ¬ 512 + k.val - 256 < 256; omega)]
    exact congrArg (· * _) (congrArg d (Shape.idx_ext₂ rfl (by show 512 + k.val - 256 - 256 = k.val; omega)))

/-- The reference's normalised rows. -/
theorem ref_norm (r : Fin 32768) (l : Fin 1024) :
    val_main_v15 (F := Ideal) x a b d w ln (ix2 r l)
      = normed (resid (fun i => x (ix2 r i)) (fun k => a (ix2 r k)) (fun k => b (ix2 r k)) (fun k => d (ix2 r k)) (fun k i => w (ix2 k i)))
          (fun i => ln (ix1 i)) l := by
  pointwise [val_main_v15, val_main_v14, val_main_v13, val_main_v12, val_main_v11, val_main_v10, val_main_v9, val_main_v8, val_main_v7,
    val_main_v6, val_main_v5, val_main_v4, val_main_v3, val_main_cst, val_main_cst_0, val_main_cst_1, ref_sum, normed]

/-- The reference's second result. -/
theorem ref_xn (l : Fin 1024) (r : Fin 32768) :
    val_main_v17 (F := Ideal) x a b d w ln (ix2 l r)
      = normed (resid (fun i => x (ix2 r i)) (fun k => a (ix2 r k)) (fun k => b (ix2 r k)) (fun k => d (ix2 r k)) (fun k i => w (ix2 k i)))
          (fun i => ln (ix1 i)) l := by
  pointwise [val_main_v17, val_main_v16, ref_norm]

/-- The reference's queries. -/
theorem ref_q (r : Fin 32768) (l : Fin 2048) :
    val_main_v18 (F := Ideal) x a b d w ln wq (ix2 r l)
      = dot (normed (resid (fun i => x (ix2 r i)) (fun k => a (ix2 r k)) (fun k => b (ix2 r k)) (fun k => d (ix2 r k)) (fun k i => w (ix2 k i)))
          (fun i => ln (ix1 i))) (fun k => wq (ix2 k l)) := by
  rw [val_main_v18_apply]
  refine Finset.sum_congr rfl fun k _ => congrArg₂ _ ?_ ?_
  · rw [← ref_norm]
    exact congrArg _ (Shape.idx_ext₂ rfl rfl)
  · exact congrArg _ (Shape.idx_ext₂ rfl rfl)

end Ref

/-! ## The array of window 7 -/

theorem at7 : ∀ t : Fin cfg0.N, win0_7.index t 0 = t.val ∧ win0_7.index t 1 = 0 :=
  (by decide +kernel : ∀ t : Fin grid0.N, win0_7.index t 0 = t.val ∧ win0_7.index t 1 = 0)

/-- Where its block sits. -/
theorem emb7 (t : Fin cfg0.N) (r : Fin 512) (l : Fin 1024) :
    ((cfg0.win 7).blk t).view.emb (ix2 r l) = ix2 (row t r) l := by
  show (win0_7.rect t).emb (ix2 r l) = _
  refine Shape.idx_ext₂ ?_ ?_
  · rw [win0_7.rect_emb_val, (at7 t).1]; rfl
  · rw [win0_7.rect_emb_val, (at7 t).2]; simp

/-- Its blocks tile the array. -/
theorem cover7 (i : S32768x1024.Idx) : ∃ t : Fin cfg0.N, (cfg0.win 7).flush t = true ∧ i ∈ ((cfg0.win 7).blk t).view.set := by
  obtain ⟨a, b, rfl⟩ : ∃ (a : Fin 32768) (b : Fin 1024), i = ix2 a b := ⟨i 0, i 1, eq_ix2 i⟩
  obtain ⟨t, r, rfl⟩ := exists_row a
  refine ⟨t, flush0_7 _, ?_⟩
  have h := ((cfg0.win 7).blk t).view.emb_mem_set (ix2 r b)
  rwa [emb7] at h

/-- The array after the run is the reference's. -/
theorem final7 (c : Dev nD) : (dats m 0 c).arrAt 7 cfg0.N = Cert.Reference3Ideal.Read.val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  refine (dats m 0 c).arrAt_forall_of_cover 7 (fun i v => v = Cert.Reference3Ideal.Read.val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i) ?_ cover7 i
  intro t _ y
  obtain ⟨r, l, rfl⟩ : ∃ (r : Fin 512) (l : Fin 1024), y = ix2 r l := ⟨y 0, y 1, eq_ix2 y⟩
  rw [emb7]
  refine Eq.trans ?_ (ref_sum _ _ _ _ _ (row t r) l).symm
  show (dats m 0 c).flushed 7 t (ix2 r l) = _
  rw [Cert.Kernel3Ideal.Value.flushed7]
  refine (out7 _ _ _ _ _ _ _ r l).trans ?_
  simp only [x_apply, a_apply, b_apply, d_apply, wo_apply, ln_apply, wq_apply]

/-! ## The array of window 9 -/

theorem at9 : ∀ t : Fin cfg0.N, win0_9.index t 0 = t.val ∧ win0_9.index t 1 = 0 :=
  (by decide +kernel : ∀ t : Fin grid0.N, win0_9.index t 0 = t.val ∧ win0_9.index t 1 = 0)

/-- Where its block sits. -/
theorem emb9 (t : Fin cfg0.N) (r : Fin 512) (l : Fin 2048) :
    ((cfg0.win 9).blk t).view.emb (ix2 r l) = ix2 (row t r) l := by
  show (win0_9.rect t).emb (ix2 r l) = _
  refine Shape.idx_ext₂ ?_ ?_
  · rw [win0_9.rect_emb_val, (at9 t).1]; rfl
  · rw [win0_9.rect_emb_val, (at9 t).2]; simp

/-- Its blocks tile the array. -/
theorem cover9 (i : S32768x2048.Idx) : ∃ t : Fin cfg0.N, (cfg0.win 9).flush t = true ∧ i ∈ ((cfg0.win 9).blk t).view.set := by
  obtain ⟨a, b, rfl⟩ : ∃ (a : Fin 32768) (b : Fin 2048), i = ix2 a b := ⟨i 0, i 1, eq_ix2 i⟩
  obtain ⟨t, r, rfl⟩ := exists_row a
  refine ⟨t, flush0_9 _, ?_⟩
  have h := ((cfg0.win 9).blk t).view.emb_mem_set (ix2 r b)
  rwa [emb9] at h

/-- The array after the run is the reference's. -/
theorem final9 (c : Dev nD) : (dats m 0 c).arrAt 9 cfg0.N = Cert.Reference3Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine (dats m 0 c).arrAt_forall_of_cover 9 (fun i v => v = Cert.Reference3Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i) ?_ cover9 i
  intro t _ y
  obtain ⟨r, l, rfl⟩ : ∃ (r : Fin 512) (l : Fin 2048), y = ix2 r l := ⟨y 0, y 1, eq_ix2 y⟩
  rw [emb9]
  refine Eq.trans ?_ (ref_q _ _ _ _ _ _ _ (row t r) l).symm
  show (dats m 0 c).flushed 9 t (ix2 r l) = _
  rw [Cert.Kernel3Ideal.Value.flushed9]
  refine (out9 _ _ _ _ _ _ _ r l).trans ?_
  simp only [x_apply, a_apply, b_apply, d_apply, wo_apply, ln_apply, wq_apply]

/-! ## The array of window 8, one column block per point -/

theorem at8 : ∀ t : Fin cfg0.N, win0_8.index t 0 = 0 ∧ win0_8.index t 1 = t.val :=
  (by decide +kernel : ∀ t : Fin grid0.N, win0_8.index t 0 = 0 ∧ win0_8.index t 1 = t.val)

/-- Where its block sits. -/
theorem emb8 (t : Fin cfg0.N) (l : Fin 1024) (r : Fin 512) :
    ((cfg0.win 8).blk t).view.emb (ix2 l r) = ix2 l (row t r) := by
  show (win0_8.rect t).emb (ix2 l r) = _
  refine Shape.idx_ext₂ ?_ ?_
  · rw [win0_8.rect_emb_val, (at8 t).1]; simp
  · rw [win0_8.rect_emb_val, (at8 t).2]; rfl

/-- Its blocks tile the array. -/
theorem cover8 (i : S1024x32768.Idx) : ∃ t : Fin cfg0.N, (cfg0.win 8).flush t = true ∧ i ∈ ((cfg0.win 8).blk t).view.set := by
  obtain ⟨b, a, rfl⟩ : ∃ (b : Fin 1024) (a : Fin 32768), i = ix2 b a := ⟨i 0, i 1, eq_ix2 i⟩
  obtain ⟨t, r, rfl⟩ := exists_row a
  refine ⟨t, flush0_8 _, ?_⟩
  have h := ((cfg0.win 8).blk t).view.emb_mem_set (ix2 b r)
  rwa [emb8] at h

/-- The array after the run is the reference's. -/
theorem final8 (c : Dev nD) : (dats m 0 c).arrAt 8 cfg0.N = Cert.Reference3Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  refine (dats m 0 c).arrAt_forall_of_cover 8 (fun i v => v = Cert.Reference3Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) ?_ cover8 i
  intro t _ y
  obtain ⟨l, r, rfl⟩ : ∃ (l : Fin 1024) (r : Fin 512), y = ix2 l r := ⟨y 0, y 1, eq_ix2 y⟩
  rw [emb8]
  refine Eq.trans ?_ (ref_xn _ _ _ _ _ _ l (row t r)).symm
  show (dats m 0 c).flushed 8 t (ix2 l r) = _
  rw [Cert.Kernel3Ideal.Value.flushed8]
  refine (out8 _ _ _ _ _ _ _ l r).trans ?_
  simp only [x_apply, a_apply, b_apply, d_apply, wo_apply, ln_apply]

/-- The run of the kernel, its three results the reference's terms. -/
theorem run (ρ : Dev nD → PrngReg) : θ_run defs (onTc (τ := τ) (main (F := Ideal))) ⟨m, fun _ => 0, ρ⟩ fun r => ∀ c : Dev nD,
      r.2.mem ((c : Thread nD τ).loc main_v3_0) = Cert.Reference3Ideal.Read.val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = Cert.Reference3Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_2) = Cert.Reference3Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨h0, h1, h2, h3⟩ := h c
    exact ⟨h0.trans (final7 m c), h1.trans (final8 m c), h2.trans (final9 m c), h3⟩)
    (Cert.Kernel3Ideal.Value.run_blocks m ρ)

end Cert.OutProj

end
-- ==== Proof.FinalNorm.lean ====
/-
  The last normalisation: the array the kernel leaves, element by element.  Row block `t` of the result is the
  normalised row block `t` of the activations; the blocks tile the rows, so the whole result is the reference's.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.Value

@[expose] public section

set_option maxRecDepth 16384

noncomputable section

namespace Cert.FinalNorm

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The grid has one axis, whose points are the row blocks. -/
theorem coord (t : Fin cfg0.N) : t.val < 64 := t.isLt

/-- Where each window's block sits. -/
theorem at0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0
    ∧ win0_2.index t 0 = t.val ∧ win0_2.index t 1 = 0)

/-- Row `r` of block `t` is row `512 t + r` of the array. -/
abbrev row (t : Fin cfg0.N) (r : Fin 512) : Fin 32768 := ⟨t.val * 512 + r.val, by have := coord t; omega⟩

/-- The activations' block at an index. -/
theorem x_apply (c : Dev nD) (t : Fin cfg0.N) (r : Fin 512) (l : Fin 1024) :
    iblk m c 0 t (ix2 r l) = m ((c : Thread nD τ).loc main_arg0) (ix2 (row t r) l) := by
  show V m c main_arg0 ((win0_0.rect t).emb (ix2 r l)) = _
  rw [V_main_arg0]
  refine congrArg _ (Shape.idx_ext₂ ?_ ?_)
  · rw [win0_0.rect_emb_val, (at0 t).1]; rfl
  · rw [win0_0.rect_emb_val, (at0 t).2.1]; simp

/-- The weight row, reshaped on the way in. -/
theorem w_apply (c : Dev nD) (t : Fin cfg0.N) (r : Fin 1) (l : Fin 1024) :
    iblk m c 1 t (ix2 r l) = m ((c : Thread nD τ).loc main_arg1) (ix1 l) := by
  show V m c main_v0 ((win0_1.rect t).emb (ix2 r l)) = _
  have e : V m c main_v0 = shapeCast S1x1024 (m ((c : Thread nD τ).loc main_arg1)) Facts₀.shapeCasts_S1024_S1x1024 := by
    unfold V hostOps0
    after_results
    rfl
  have e2 : (win0_1.rect t).emb (ix2 r l) = (ix2 0 l : S1x1024.Idx) := by
    refine Shape.idx_ext₂ ?_ ?_
    · rw [win0_1.rect_emb_val, (at0 t).2.2.1]; simp
    · rw [win0_1.rect_emb_val, (at0 t).2.2.2.1]; simp
  rw [e, e2]
  pointwise

/-- The reference at an index. -/
theorem ref_apply (x : FVec Ideal S32768x1024 .f32) (w : FVec Ideal S1024 .f32) (r : Fin 32768) (l : Fin 1024) :
    Cert.Reference4Ideal.Read.val_main_v12 (F := Ideal) x w (ix2 r l)
      = x (ix2 r l) * Ideal.rsqrt (Ideal.div (∑ k : Fin 1024, x (ix2 r k) * x (ix2 r k)) (Ideal.ofBits .f32 0x44800000#32)
          + Ideal.ofBits .f32 0x358637BD#32) * w (ix1 l) := by
  rw [← Cert.Reference4Ideal.Read.val_main_v12_eq]
  pointwise

/-- One element of what a block's body leaves. -/
theorem out_apply (x : FVec Ideal S512x1024 .f32) (w : FVec Ideal S1x1024 .f32) (r : Fin 512) (l : Fin 1024) :
    out0_2 (F := Ideal) x w (ix2 r l)
      = x (ix2 r l) * Ideal.rsqrt (Ideal.div (∑ k : Fin 1024, x (ix2 r k) * x (ix2 r k)) (Ideal.ofBits .f32 0x44800000#32)
          + Ideal.ofBits .f32 0x358637BD#32) * w (ix2 0 l) := by
  unfold out0_2
  rw [View.canon_unit_zero (by funext a; fin_cases a <;> rfl), View.ld_unit_zero (by funext a; fin_cases a <;> rfl),
    View.ld_unit_zero (by funext a; fin_cases a <;> rfl)]
  pointwise [k0_pay1]

/-- Where the result's block sits. -/
theorem emb2 (t : Fin cfg0.N) (r : Fin 512) (l : Fin 1024) :
    ((cfg0.win 2).blk t).view.emb (ix2 r l) = ix2 (row t r) l := by
  show (win0_2.rect t).emb (ix2 r l) = _
  refine Shape.idx_ext₂ ?_ ?_
  · rw [win0_2.rect_emb_val, (at0 t).2.2.2.2.1]; rfl
  · rw [win0_2.rect_emb_val, (at0 t).2.2.2.2.2]; simp

/-- The rows' blocks tile the array. -/
theorem cover (i : S32768x1024.Idx) : ∃ t : Fin cfg0.N, (cfg0.win 2).flush t = true ∧ i ∈ ((cfg0.win 2).blk t).view.set := by
  obtain ⟨a, b, rfl⟩ : ∃ (a : Fin 32768) (b : Fin 1024), i = ix2 a b := ⟨i 0, i 1, eq_ix2 i⟩
  have ha := a.isLt
  have hN : cfg0.N = 64 := N_0
  have hq : a.val / 512 < cfg0.N := by rw [hN]; omega
  have hr : a.val % 512 < 512 := by omega
  refine ⟨⟨a.val / 512, hq⟩, flush0_2 _, ?_⟩
  have h := ((cfg0.win 2).blk ⟨a.val / 512, hq⟩).view.emb_mem_set (ix2 ⟨a.val % 512, hr⟩ b)
  rw [emb2] at h
  have e : row ⟨a.val / 512, hq⟩ ⟨a.val % 512, hr⟩ = a := Fin.ext (by show a.val / 512 * 512 + a.val % 512 = a.val; omega)
  rwa [e] at h

/-- THE RESULT: the reference's normalised rows. -/
theorem final (c : Dev nD) : (dats m 0 c).arrAt 2 cfg0.N
    = Cert.Reference4Ideal.Read.val_main_v12 (F := Ideal) (m ((c : Thread nD τ).loc main_arg0)) (m ((c : Thread nD τ).loc main_arg1)) := by
  funext i
  refine (dats m 0 c).arrAt_forall_of_cover 2 (fun i v => v = Cert.Reference4Ideal.Read.val_main_v12 (F := Ideal)
    (m ((c : Thread nD τ).loc main_arg0)) (m ((c : Thread nD τ).loc main_arg1)) i) ?_ cover i
  intro t _ y
  obtain ⟨r, l, rfl⟩ : ∃ (r : Fin 512) (l : Fin 1024), y = ix2 r l := ⟨y 0, y 1, eq_ix2 y⟩
  rw [emb2]
  refine Eq.trans ?_ (ref_apply _ _ _ _).symm
  show (dats m 0 c).flushed 2 t (ix2 r l) = _
  rw [Cert.Kernel4Ideal.Value.flushed2]
  refine (out_apply _ _ r l).trans ?_
  simp only [x_apply, w_apply]

/-- The run of the kernel, its result the reference's term. -/
theorem run (ρ : Dev nD → PrngReg) : θ_run defs (onTc (τ := τ) (main (F := Ideal))) ⟨m, fun _ => 0, ρ⟩ fun r => ∀ c : Dev nD,
      r.2.mem ((c : Thread nD τ).loc main_v1) = Cert.Reference4Ideal.Read.val_main_v12 (F := Ideal)
        (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel4Ideal.Value.run_blocks m ρ)

end Cert.FinalNorm

end
-- ==== Proof.Claims.lean ====
/-
  The claims: every program's frame, what the idealisation preserves, and for each pair the equation at `Ideal`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.LruFrameBits
public import proofs.«01_k».proof.Proof.LruFrame
public import proofs.«01_k».proof.Proof.LruArray
public import proofs.«01_k».proof.Proof.RetFrameBits
public import proofs.«01_k».proof.Proof.RetArray
public import proofs.«01_k».proof.Proof.Attention
public import proofs.«01_k».proof.Proof.InProj
public import proofs.«01_k».proof.Proof.OutProj
public import proofs.«01_k».proof.Proof.FinalNorm
public import Idealize.ShloMosaic.Lib.Quiescent

@[expose] public section

noncomputable section

namespace Cert.Proof.Claims

open Idealize.ShloMosaic Idealize.SL.Sem

/-! ## The frames -/

theorem frame_Kernel : Cert.quiescent_Kernel := fun m ρ _ => Cert.Kernel.Gen.frame m ρ
theorem frame_KernelIdeal : Cert.quiescent_KernelIdeal := fun m ρ _ => Cert.KernelIdeal.Gen.frame m ρ
theorem frame_KernelIdeal_pre : Cert.quiescent_KernelIdeal_pre_finite := fun m ρ _ => Cert.KernelIdeal.Gen.frame m ρ
theorem frame_ReferenceIdeal : Cert.quiescent_ReferenceIdeal := fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ)
theorem frame_ReferenceIdeal_pre : Cert.quiescent_ReferenceIdeal_pre_finite := fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ)
theorem frame_Kernel2 : Cert.quiescent_Kernel2 := fun m ρ _ => Cert.Kernel2.Gen.frame m ρ
theorem frame_Kernel2Ideal : Cert.quiescent_Kernel2Ideal := fun m ρ _ => Cert.Kernel2Ideal.Gen.frame m ρ
theorem frame_Reference2Ideal : Cert.quiescent_Reference2Ideal := fun m ρ _ => (θ_run Cert.Reference2Ideal.defs _ _).mono (fun r h => ⟨fun c => (h c).2.2.2.2.2.2.2.2.2,
      Idealize.ShloMosaic.sem_eq_zero_of_no_sems (by decide) r.2⟩) (Cert.Reference2Ideal.Value.run (F := Ideal) m ρ)
theorem frame_Kernel3 : Cert.quiescent_Kernel3 := fun m ρ _ => Cert.Kernel3.Gen.frame m ρ
theorem frame_Kernel3Ideal : Cert.quiescent_Kernel3Ideal := fun m ρ _ => Cert.Kernel3Ideal.Gen.frame m ρ
theorem frame_Reference3Ideal : Cert.quiescent_Reference3Ideal := fun m ρ _ => (θ_run Cert.Reference3Ideal.defs _ _).mono (fun r h => ⟨fun c => (h c).2.2.2,
      Idealize.ShloMosaic.sem_eq_zero_of_no_sems (by decide) r.2⟩) (Cert.Reference3Ideal.Value.run (F := Ideal) m ρ)
theorem frame_Kernel4 : Cert.quiescent_Kernel4 := fun m ρ _ => Cert.Kernel4.Gen.frame m ρ
theorem frame_Kernel4Ideal : Cert.quiescent_Kernel4Ideal := fun m ρ _ => Cert.Kernel4Ideal.Gen.frame m ρ
theorem frame_Reference4Ideal : Cert.quiescent_Reference4Ideal := fun m ρ _ => (θ_run Cert.Reference4Ideal.defs _ _).mono (fun r h => ⟨fun c => (h c).2,
      Idealize.ShloMosaic.sem_eq_zero_of_no_sems (by decide) r.2⟩) (Cert.Reference4Ideal.Value.run (F := Ideal) m ρ)
theorem frame_Kernel5 : Cert.quiescent_Kernel5 := fun m ρ _ => Cert.RetFrameBits.frame m ρ
theorem frame_Kernel5Ideal : Cert.quiescent_Kernel5Ideal := fun m ρ _ => Cert.RetFrame.frame m ρ
theorem frame_Kernel5Ideal_pre : Cert.quiescent_Kernel5Ideal_pre_finite5 := fun m ρ _ => Cert.RetFrame.frame m ρ
theorem frame_Reference5Ideal : Cert.quiescent_Reference5Ideal := fun m ρ _ => (θ_run Cert.Reference5Ideal.defs _ _).mono (fun r h => ⟨fun c => (h c).2,
      Idealize.ShloMosaic.sem_eq_zero_of_no_sems (by decide) r.2⟩) (Cert.Reference5Ideal.Value.run (F := Ideal) m ρ)
theorem frame_Reference5Ideal_pre : Cert.quiescent_Reference5Ideal_pre_finite5 := fun m ρ _ => (θ_run Cert.Reference5Ideal.defs _ _).mono (fun r h => ⟨fun c => (h c).2,
      Idealize.ShloMosaic.sem_eq_zero_of_no_sems (by decide) r.2⟩) (Cert.Reference5Ideal.Value.run (F := Ideal) m ρ)
theorem frame_Kernel6 : Cert.quiescent_Kernel6 := fun m ρ _ => Cert.LruFrameBits.frame m ρ
theorem frame_Kernel6Ideal : Cert.quiescent_Kernel6Ideal := fun m ρ _ => Cert.LruFrame.frame m ρ
theorem frame_Reference6Ideal : Cert.quiescent_Reference6Ideal := fun m ρ _ => (θ_run Cert.Reference6Ideal.defs _ _).mono (fun r h => ⟨fun c => (h c).2,
      Idealize.ShloMosaic.sem_eq_zero_of_no_sems (by decide) r.2⟩) (Cert.Reference6Ideal.Value.run (F := Ideal) m ρ)

/-! ## What the idealisation preserves -/

theorem preserves : Cert.preserves_Kernel_KernelIdeal :=
  IdealRules.named_const.statement Cert.KernelIdeal.κ "qscale" .f32 0x3E38AA3B#32 (((8 * (Real.log 2))⁻¹ : ℝ) : EReal) rfl
theorem preserves2 : Cert.preserves_Kernel2_Kernel2Ideal := trivial
theorem preserves3 : Cert.preserves_Kernel3_Kernel3Ideal := trivial
theorem preserves4 : Cert.preserves_Kernel4_Kernel4Ideal := trivial
theorem preserves5 : Cert.preserves_Kernel5_Kernel5Ideal := trivial
theorem preserves6 : Cert.preserves_Kernel6_Kernel6Ideal := trivial

/-! ## The equations -/

/-- The input projection: the kernel's run and the reference's end at the same terms of arguments that agree. -/
theorem algebraic2 : Cert.algebraic_Kernel2Ideal_Reference2Ideal := by
  intro m ρ m' ρ' _ hagree
  refine ⟨fun c => Cert.Reference2Ideal.Read.val_main_v14 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v15 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v16 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v17 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v18 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v19 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v20 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v21 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Reference2Ideal.Read.val_main_v22 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    Cert.InProj.run m ρ, (θ_run Cert.Reference2Ideal.defs _ _).mono (fun _ h c => ?_) (Cert.Reference2Ideal.Value.run (F := Ideal) m' ρ')⟩
  have ha := hagree c
  have hc := h c
  refine ⟨hc.1.trans ((Cert.Reference2Ideal.Read.val_main_v14_eq _ _ _).trans ?_), hc.2.1.trans ((Cert.Reference2Ideal.Read.val_main_v15_eq _ _ _).trans ?_), hc.2.2.1.trans ((Cert.Reference2Ideal.Read.val_main_v16_eq _ _ _).trans ?_), hc.2.2.2.1.trans ((Cert.Reference2Ideal.Read.val_main_v17_eq _ _ _).trans ?_), hc.2.2.2.2.1.trans ((Cert.Reference2Ideal.Read.val_main_v18_eq _ _ _).trans ?_), hc.2.2.2.2.2.1.trans ((Cert.Reference2Ideal.Read.val_main_v19_eq _ _ _).trans ?_), hc.2.2.2.2.2.2.1.trans ((Cert.Reference2Ideal.Read.val_main_v20_eq _ _ _).trans ?_), hc.2.2.2.2.2.2.2.1.trans ((Cert.Reference2Ideal.Read.val_main_v21_eq _ _ _).trans ?_), hc.2.2.2.2.2.2.2.2.1.trans ((Cert.Reference2Ideal.Read.val_main_v22_eq _ _ _).trans ?_), hc.2.2.2.2.2.2.2.2.2⟩
  · rw [ha.1, ha.2.1, ha.2.2]
  · rw [ha.1, ha.2.1, ha.2.2]
  · rw [ha.1, ha.2.1, ha.2.2]
  · rw [ha.1, ha.2.1, ha.2.2]
  · rw [ha.1, ha.2.1, ha.2.2]
  · rw [ha.1, ha.2.1, ha.2.2]
  · rw [ha.1, ha.2.1, ha.2.2]
  · rw [ha.1, ha.2.1, ha.2.2]
  · rw [ha.1, ha.2.1, ha.2.2]

/-- The output projection: the kernel's run and the reference's end at the same terms of arguments that agree. -/
theorem algebraic3 : Cert.algebraic_Kernel3Ideal_Reference3Ideal := by
  intro m ρ m' ρ' _ hagree
  refine ⟨fun c => Cert.Reference3Ideal.Read.val_main_v2 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), fun c => Cert.Reference3Ideal.Read.val_main_v17 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)), fun c => Cert.Reference3Ideal.Read.val_main_v18 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    Cert.OutProj.run m ρ, (θ_run Cert.Reference3Ideal.defs _ _).mono (fun _ h c => ?_) (Cert.Reference3Ideal.Value.run (F := Ideal) m' ρ')⟩
  have ha := hagree c
  have hc := h c
  refine ⟨hc.1.trans ((Cert.Reference3Ideal.Read.val_main_v2_eq _ _ _ _ _).trans ?_), hc.2.1.trans ((Cert.Reference3Ideal.Read.val_main_v17_eq _ _ _ _ _ _).trans ?_), hc.2.2.1.trans ((Cert.Reference3Ideal.Read.val_main_v18_eq _ _ _ _ _ _ _).trans ?_), hc.2.2.2⟩
  · rw [ha.1, ha.2.1, ha.2.2.1, ha.2.2.2.1, ha.2.2.2.2.1]
  · rw [ha.1, ha.2.1, ha.2.2.1, ha.2.2.2.1, ha.2.2.2.2.1, ha.2.2.2.2.2.1]
  · rw [ha.1, ha.2.1, ha.2.2.1, ha.2.2.2.1, ha.2.2.2.2.1, ha.2.2.2.2.2.1, ha.2.2.2.2.2.2]

/-- The final norm: the kernel's run and the reference's end at the same terms of arguments that agree. -/
theorem algebraic4 : Cert.algebraic_Kernel4Ideal_Reference4Ideal := by
  intro m ρ m' ρ' _ hagree
  refine ⟨fun c => Cert.Reference4Ideal.Read.val_main_v12 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.FinalNorm.run m ρ, (θ_run Cert.Reference4Ideal.defs _ _).mono (fun _ h c => ?_) (Cert.Reference4Ideal.Value.run (F := Ideal) m' ρ')⟩
  have ha := hagree c
  have hc := h c
  refine ⟨hc.1.trans ((Cert.Reference4Ideal.Read.val_main_v12_eq _ _).trans ?_), hc.2⟩
  · rw [ha.1, ha.2]

/-- The attention, where the entries the scores are made of are finite: the kernel's run and the reference's end at the same term of
    arguments that agree. -/
theorem algebraic : Cert.algebraic_KernelIdeal_ReferenceIdeal_pre_finite := by
  intro m ρ m' ρ' hpre hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Attention.run m ρ hpre, (θ_run Cert.ReferenceIdeal.defs _ _).mono (fun _ h c => ?_) (Cert.ReferenceIdeal.Value.run (F := Ideal) m' ρ')⟩
  have ha := hagree c
  have hc := h c
  refine ⟨hc.1.trans ((Cert.ReferenceIdeal.Read.val_main_v86_eq _ _).trans ?_), hc.2⟩
  rw [ha.1, ha.2.1, ha.2.2.1, ha.2.2.2.1, ha.2.2.2.2.1, ha.2.2.2.2.2.1, ha.2.2.2.2.2.2]

/-- The retention, where the entries its sums are made of are finite: the kernel's run and the reference's end at the same term of
    arguments that agree. -/
theorem algebraic5 : Cert.algebraic_Kernel5Ideal_Reference5Ideal_pre_finite5 := by
  intro m ρ m' ρ' hpre hagree
  refine ⟨fun c => Cert.Reference5Ideal.Read.val_main_v78 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)),
    Cert.RetArray.run m ρ hpre, (θ_run Cert.Reference5Ideal.defs _ _).mono (fun _ h c => ?_) (Cert.Reference5Ideal.Value.run (F := Ideal) m' ρ')⟩
  have ha := hagree c
  have hc := h c
  refine ⟨hc.1.trans ((Cert.Reference5Ideal.Read.val_main_v78_eq _ _).trans ?_), hc.2⟩
  rw [ha.1, ha.2.1, ha.2.2.1, ha.2.2.2.1, ha.2.2.2.2.1, ha.2.2.2.2.2.1, ha.2.2.2.2.2.2.1, ha.2.2.2.2.2.2.2]

/-- The RG-LRU: the kernel's run and the reference's end at the same term of arguments that agree. -/
theorem algebraic6 : Cert.algebraic_Kernel6Ideal_Reference6Ideal := by
  intro m ρ m' ρ' _ hagree
  refine ⟨fun c => Cert.Reference6Ideal.Read.val_main_v148 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)),
    Cert.LruArray.run m ρ, (θ_run Cert.Reference6Ideal.defs _ _).mono (fun _ h c => ?_) (Cert.Reference6Ideal.Value.run (F := Ideal) m' ρ')⟩
  have ha := hagree c
  have hc := h c
  refine ⟨hc.1.trans ((Cert.Reference6Ideal.Read.val_main_v148_eq _).trans ?_), hc.2⟩
  show Cert.Reference6Ideal.Read.val_main_v148 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = Cert.Reference6Ideal.Read.val_main_v148 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))
  rw [ha.1, ha.2.1, ha.2.2.1, ha.2.2.2.1, ha.2.2.2.2.1, ha.2.2.2.2.2.1, ha.2.2.2.2.2.2]

end Cert.Proof.Claims

end
-- ==== Proof.lean ====
/-
  The proof of `Cert.Claim`: the facts the programs state, then the claims in their order (Proof/Claims.lean).
-/
module

public import proofs.«01_k».proof.Defs
public import proofs.«01_k».proof.Proof.Claims

@[expose] public section

noncomputable section

namespace Cert.Proof

open Cert.Proof.Claims

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Attention.finite_facts,
    Cert.RetArray.finite5_facts,
    frame_Kernel,
    frame_KernelIdeal,
    frame_KernelIdeal_pre,
    frame_ReferenceIdeal,
    frame_ReferenceIdeal_pre,
    frame_Kernel2,
    frame_Kernel2Ideal,
    frame_Reference2Ideal,
    frame_Kernel3,
    frame_Kernel3Ideal,
    frame_Reference3Ideal,
    frame_Kernel4,
    frame_Kernel4Ideal,
    frame_Reference4Ideal,
    frame_Kernel5,
    frame_Kernel5Ideal,
    frame_Kernel5Ideal_pre,
    frame_Reference5Ideal,
    frame_Reference5Ideal_pre,
    frame_Kernel6,
    frame_Kernel6Ideal,
    frame_Reference6Ideal,
    preserves,
    algebraic,
    preserves2,
    algebraic2,
    preserves3,
    algebraic3,
    preserves4,
    algebraic4,
    preserves5,
    algebraic5,
    preserves6,
    algebraic6⟩

end Cert.Proof

end
